-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v193)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v193) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v193) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v64)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v64) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v193)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v193) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v193) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v93)) (v1 : (c : Dev Cert.Kernel6Ideal.nD) → Buf (Elt Ideal) ((c.tc : Thread Cert.Kernel6Ideal.nD Cert.Kernel6Ideal.τ).loc Cert.Kernel6Ideal.main_v94)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v93) = v0 c
          ∧ r.2.mem ((c.tc : Thread Cert.Kernel6Ideal.nD Cert.Kernel6Ideal.τ).loc Cert.Kernel6Ideal.main_v94) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v94) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v152)) (v1 : (c : Dev Cert.Kernel7Ideal.nD) → Buf (Elt Ideal) ((c.tc : Thread Cert.Kernel7Ideal.nD Cert.Kernel7Ideal.τ).loc Cert.Kernel7Ideal.main_v153)) (v2 : (c : Dev Cert.Kernel7Ideal.nD) → Buf (Elt Ideal) ((c.tc : Thread Cert.Kernel7Ideal.nD Cert.Kernel7Ideal.τ).loc Cert.Kernel7Ideal.main_v154)) (v3 : (c : Dev Cert.Kernel7Ideal.nD) → Buf (Elt Ideal) ((c.tc : Thread Cert.Kernel7Ideal.nD Cert.Kernel7Ideal.τ).loc Cert.Kernel7Ideal.main_v155)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v152) = v0 c
          ∧ r.2.mem ((c.tc : Thread Cert.Kernel7Ideal.nD Cert.Kernel7Ideal.τ).loc Cert.Kernel7Ideal.main_v153) = v1 c
          ∧ r.2.mem ((c.tc : Thread Cert.Kernel7Ideal.nD Cert.Kernel7Ideal.τ).loc Cert.Kernel7Ideal.main_v154) = v2 c
          ∧ r.2.mem ((c.tc : Thread Cert.Kernel7Ideal.nD Cert.Kernel7Ideal.τ).loc Cert.Kernel7Ideal.main_v155) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v152) = v0 c
          ∧ r.2.mem ((c.tc : Thread Cert.Reference7Ideal.nD Cert.Reference7Ideal.τ).loc Cert.Reference7Ideal.main_v153) = v1 c
          ∧ r.2.mem ((c.tc : Thread Cert.Reference7Ideal.nD Cert.Reference7Ideal.τ).loc Cert.Reference7Ideal.main_v154) = v2 c
          ∧ r.2.mem ((c.tc : Thread Cert.Reference7Ideal.nD Cert.Reference7Ideal.τ).loc Cert.Reference7Ideal.main_v155) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S8192x1024 : Shape := ⟨2, ![8192, 1024]⟩
abbrev S8192x2816 : Shape := ⟨2, ![8192, 2816]⟩
abbrev S512x1024 : Shape := ⟨2, ![512, 1024]⟩
abbrev S1024x256 : Shape := ⟨2, ![1024, 256]⟩
abbrev S512x256 : Shape := ⟨2, ![512, 256]⟩
abbrev S512x1408 : Shape := ⟨2, ![512, 1408]⟩
abbrev S1408x512 : Shape := ⟨2, ![1408, 512]⟩
abbrev S512x512 : Shape := ⟨2, ![512, 512]⟩
abbrev S32x256 : Shape := ⟨2, ![32, 256]⟩
abbrev S32x256x1 : Shape := ⟨3, ![32, 256, 1]⟩
abbrev S1x1x1024 : Shape := ⟨3, ![1, 1, 1024]⟩

abbrev nBuf : Space → Nat
  | .hbm => 86
  | .vmem => 18
  | .smem => 0
  | _ => 0

abbrev bufTy : (tb : Table) → Fin (tcTables nBuf tb) → BufTy
  | .hbm, ⟨0, _⟩ => ⟨S32x256x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S32x6144, .f32⟩
  | .hbm, ⟨19, _⟩ => ⟨S1x6144, .f32⟩
  | .hbm, ⟨20, _⟩ => ⟨S32x6144, .f32⟩
  | .hbm, ⟨21, _⟩ => ⟨S32x6144, .f32⟩
  | .hbm, ⟨22, _⟩ => ⟨S32x1x6144, .f32⟩
  | .hbm, ⟨23, _⟩ => ⟨S32x1x1024, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S32x256x1024, .f32⟩
  | .hbm, ⟨51, _⟩ => ⟨S_, .f32⟩
  | .hbm, ⟨52, _⟩ => ⟨S32x256x1024, .f32⟩
  | .hbm, ⟨53, _⟩ => ⟨S32x256x1024, .f32⟩
  | .hbm, ⟨54, _⟩ => ⟨S32x256x1024, .f32⟩
  | .hbm, ⟨55, _⟩ => ⟨S32x256x1024, .f32⟩
  | .hbm, ⟨56, _⟩ => ⟨S32x256x1024, .f32⟩
  | .hbm, ⟨57, _⟩ => ⟨S_, .f32⟩
  | .hbm, ⟨58, _⟩ => ⟨S32x256, .f32⟩
  | .hbm, ⟨59, _⟩ => ⟨S32x256x1, .f32⟩
  | .hbm, ⟨60, _⟩ => ⟨S_, .f32⟩
  | .hbm, ⟨61, _⟩ => ⟨S32x256x1, .f32⟩
  | .hbm, ⟨62, _⟩ => ⟨S32x256x1, .f32⟩
  | .hbm, ⟨63, _⟩ => ⟨S32x256x1024, .f32⟩
  | .hbm, ⟨64, _⟩ => ⟨S32x256x1024, .f32⟩
  | .hbm, ⟨65, _⟩ => ⟨S32x256x1024, .f32⟩
  | .hbm, ⟨66, _⟩ => ⟨S_, .f32⟩
  | .hbm, ⟨67, _⟩ => ⟨S32x256, .f32⟩
  | .hbm, ⟨68, _⟩ => ⟨S32x256x1, .f32⟩
  | .hbm, ⟨69, _⟩ => ⟨S_, .f32⟩
  | .hbm, ⟨70, _⟩ => ⟨S32x256x1, .f32⟩
  | .hbm, ⟨71, _⟩ => ⟨S32x256x1, .f32⟩
  | .hbm, ⟨72, _⟩ => ⟨S32x256x1024, .f32⟩
  | .hbm, ⟨73, _⟩ => ⟨S32x256x1024, .f32⟩
  | .hbm, ⟨74, _⟩ => ⟨S_, .f32⟩
  | .hbm, ⟨75, _⟩ => ⟨S32x256x1, .f32⟩
  | .hbm, ⟨76, _⟩ => ⟨S32x256x1, .f32⟩
  | .hbm, ⟨77, _⟩ => ⟨S32x256x1, .f32⟩
  | .hbm, ⟨78, _⟩ => ⟨S32x256x1024, .f32⟩
  | .hbm, ⟨79, _⟩ => ⟨S32x256x1024, .f32⟩
  | .hbm, ⟨80, _⟩ => ⟨S1x1x1024, .f32⟩
  | .hbm, ⟨81, _⟩ => ⟨S32x256x1024, .f32⟩
  | .hbm, ⟨82, _⟩ => ⟨S32x256x1024, .f32⟩
  | .hbm, ⟨83, _⟩ => ⟨S1x1x1024, .f32⟩
  | .hbm, ⟨84, _⟩ => ⟨S32x256x1024, .f32⟩
  | .hbm, ⟨85, _⟩ => ⟨S32x256x1024, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1024x256, .f32⟩
  | .local _ .vmem, ⟨9, _⟩ => ⟨S1024x256, .f32⟩
  | .local _ .vmem, ⟨10, _⟩ => ⟨S512x256, .f32⟩
  | .local _ .vmem, ⟨11, _⟩ => ⟨S512x256, .f32⟩
  | .local _ .vmem, ⟨12, _⟩ => ⟨S512x1408, .f32⟩
  | .local _ .vmem, ⟨13, _⟩ => ⟨S512x1408, .f32⟩
  | .local _ .vmem, ⟨14, _⟩ => ⟨S1408x512, .f32⟩
  | .local _ .vmem, ⟨15, _⟩ => ⟨S1408x512, .f32⟩
  | .local _ .vmem, ⟨16, _⟩ => ⟨S512x512, .f32⟩
  | .local _ .vmem, ⟨17, _⟩ => ⟨S512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_1 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![16, 11, 1], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 11, 1], ![false, false, false]⟩

def k1_cond1 (i : grid1.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k1_cond2 (i : grid1.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 2, 2], ![false, false, false]⟩

def k2_cond1 (i : grid2.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k2_cond2 (i : grid2.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1408x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ReferenceIdeal.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S32x256x2816 : Shape := ⟨3, ![32, 256, 2816]⟩
abbrev S32x256 : Shape := ⟨2, ![32, 256]⟩
abbrev S32x256x1 : Shape := ⟨3, ![32, 256, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S32x6144, .f32⟩
  | .hbm, ⟨19, _⟩ => ⟨S1x6144, .f32⟩
  | .hbm, ⟨20, _⟩ => ⟨S32x6144, .f32⟩
  | .hbm, ⟨21, _⟩ => ⟨S32x6144, .f32⟩
  | .hbm, ⟨22, _⟩ => ⟨S32x1x6144, .f32⟩
  | .hbm, ⟨23, _⟩ => ⟨S32x1x1024, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x2816, .f32⟩
  | .hbm, ⟨37, _⟩ => ⟨S32x256x2816, .f32⟩
  | .hbm, ⟨38, _⟩ => ⟨S32x256x2816, .f32⟩
  | .hbm, ⟨39, _⟩ => ⟨S_, .f32⟩
  | .hbm, ⟨40, _⟩ => ⟨S32x256x2816, .f32⟩
  | .hbm, ⟨41, _⟩ => ⟨S32x256x2816, .f32⟩
  | .hbm, ⟨42, _⟩ => ⟨S_, .f32⟩
  | .hbm, ⟨43, _⟩ => ⟨S32x256x2816, .f32⟩
  | .hbm, ⟨44, _⟩ => ⟨S32x256x2816, .f32⟩
  | .hbm, ⟨45, _⟩ => ⟨S32x256x2816, .f32⟩
  | .hbm, ⟨46, _⟩ => ⟨S32x256x2816, .f32⟩
  | .hbm, ⟨47, _⟩ => ⟨S32x256x2816, .f32⟩
  | .hbm, ⟨48, _⟩ => ⟨S32x256x1024, .f32⟩
  | .hbm, ⟨49, _⟩ => ⟨S_, .f32⟩
  | .hbm, ⟨50, _⟩ => ⟨S32x256x1024, .f32⟩
  | .hbm, ⟨51, _⟩ => ⟨S32x256x1024, .f32⟩
  | .hbm, ⟨52, _⟩ => ⟨S32x256x1024, .f32⟩
  | .hbm, ⟨53, _⟩ => ⟨S32x256x1024, .f32⟩
  | .hbm, ⟨54, _⟩ => ⟨S32x256x1024, .f32⟩
  | .hbm, ⟨55, _⟩ => ⟨S_, .f32⟩
  | .hbm, ⟨56, _⟩ => ⟨S32x256, .f32⟩
  | .hbm, ⟨57, _⟩ => ⟨S32x256x1, .f32⟩
  | .hbm, ⟨58, _⟩ => ⟨S_, .f32⟩
  | .hbm, ⟨59, _⟩ => ⟨S32x256x1, .f32⟩
  | .hbm, ⟨60, _⟩ => ⟨S32x256x1, .f32⟩
  | .hbm, ⟨61, _⟩ => ⟨S32x256x1024, .f32⟩
  | .hbm, ⟨62, _⟩ => ⟨S32x256x1024, .f32⟩
  | .hbm, ⟨63, _⟩ => ⟨S32x256x1024, .f32⟩
  | .hbm, ⟨64, _⟩ => ⟨S_, .f32⟩
  | .hbm, ⟨65, _⟩ => ⟨S32x256, .f32⟩
  | .hbm, ⟨66, _⟩ => ⟨S32x256x1, .f32⟩
  | .hbm, ⟨67, _⟩ => ⟨S_, .f32⟩
  | .hbm, ⟨68, _⟩ => ⟨S32x256x1, .f32⟩
  | .hbm, ⟨69, _⟩ => ⟨S32x256x1, .f32⟩
  | .hbm, ⟨70, _⟩ => ⟨S32x256x1024, .f32⟩
  | .hbm, ⟨71, _⟩ => ⟨S32x256x1024, .f32⟩
  | .hbm, ⟨72, _⟩ => ⟨S_, .f32⟩
  | .hbm, ⟨73, _⟩ => ⟨S32x256x1, .f32⟩
  | .hbm, ⟨74, _⟩ => ⟨S32x256x1, .f32⟩
  | .hbm, ⟨75, _⟩ => ⟨S32x256x1, .f32⟩
  | .hbm, ⟨76, _⟩ => ⟨S32x256x1024, .f32⟩
  | .hbm, ⟨77, _⟩ => ⟨S32x256x1024, .f32⟩
  | .hbm, ⟨78, _⟩ => ⟨S1x1x1024, .f32⟩
  | .hbm, ⟨79, _⟩ => ⟨S32x256x1024, .f32⟩
  | .hbm, ⟨80, _⟩ => ⟨S32x256x1024, .f32⟩
  | .hbm, ⟨81, _⟩ => ⟨S1x1x1024, .f32⟩
  | .hbm, ⟨82, _⟩ => ⟨S32x256x1024, .f32⟩
  | .hbm, ⟨83, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_1 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩

abbrev nD : Nat := 1
abbrev τ : Topo := Topo.v7x

variable {F : FTy → Type} [FloatOps F]
-- ==== Kernel2.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x8 : Shape := ⟨2, ![1024, 8]⟩
abbrev S8 : Shape := ⟨1, ![8]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S8192x1024 : Shape := ⟨2, ![8192, 1024]⟩
abbrev S8192x8 : Shape := ⟨2, ![8192, 8]⟩
abbrev S1x8 : Shape := ⟨2, ![1, 8]⟩
abbrev S8192 : Shape := ⟨1, ![8192]⟩
abbrev S8192x1 : Shape := ⟨2, ![8192, 1]⟩
abbrev S8192x2 : Shape := ⟨2, ![8192, 2]⟩
abbrev S8192x2x1 : Shape := ⟨3, ![8192, 2, 1]⟩
abbrev S1x1x8 : Shape := ⟨3, ![1, 1, 8]⟩
abbrev S8192x2x8 : Shape := ⟨3, ![8192, 2, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8192x2816 : Shape := ⟨2, ![8192, 2816]⟩
abbrev S512x1024 : Shape := ⟨2, ![512, 1024]⟩
abbrev S1024x256 : Shape := ⟨2, ![1024, 256]⟩
abbrev S512x256 : Shape := ⟨2, ![512, 256]⟩
abbrev S512x1408 : Shape := ⟨2, ![512, 1408]⟩
abbrev S1408x512 : Shape := ⟨2, ![1408, 512]⟩
abbrev S512x512 : Shape := ⟨2, ![512, 512]⟩
abbrev S32x256 : Shape := ⟨2, ![32, 256]⟩
abbrev S32x256x1 : Shape := ⟨3, ![32, 256, 1]⟩
abbrev S1x1x1024 : Shape := ⟨3, ![1, 1, 1024]⟩

abbrev nBuf : Space → Nat
  | .hbm => 297
  | .vmem => 144
  | .smem => 0
  | _ => 0

abbrev hbmTy0_0 (i : Nat) : BufTy := match i % 128 with
  | 0 => ⟨S32x256x1024, .f32⟩
  | 1 => ⟨S32x1024, .f32⟩
  | 2 => ⟨S1024x6144, .f32⟩
  | 3 => ⟨S6144, .f32⟩
  | 4 => ⟨S1024x8, .f32⟩
  | 5 => ⟨S8, .f32⟩
  | 6 => ⟨S8x1024x2816, .f32⟩
  | 7 => ⟨S8x1024x2816, .f32⟩
  | 8 => ⟨S8x2816x1024, .f32⟩
  | 9 => ⟨S1024, .f32⟩
  | 10 => ⟨S1024, .f32⟩
  | 11 => ⟨S32x1024, .f32⟩
  | 12 => ⟨S32x1024, .f32⟩
  | 13 => ⟨S_, .f32⟩
  | 14 => ⟨S32x1024, .f32⟩
  | 15 => ⟨S32x1024, .f32⟩
  | 16 => ⟨S_, .f32⟩
  | 17 => ⟨S32x1024, .f32⟩
  | 18 => ⟨S32x1024, .f32⟩
  | 19 => ⟨S32x1024, .f32⟩
  | 20 => ⟨S32x6144, .f32⟩
  | 21 => ⟨S1x6144, .f32⟩
  | 22 => ⟨S32x6144, .f32⟩
  | 23 => ⟨S32x6144, .f32⟩
  | 24 => ⟨S32x1x6144, .f32⟩
  | 25 => ⟨S32x1x1024, .f32⟩
  | 26 => ⟨S32x1x1024, .f32⟩
  | 27 => ⟨S32x1x1024, .f32⟩
  | 28 => ⟨S32x1x1024, .f32⟩
  | 29 => ⟨S32x1x1024, .f32⟩
  | 30 => ⟨S32x1x1024, .f32⟩
  | 31 => ⟨S_, .f32⟩
  | 32 => ⟨S32x1x1024, .f32⟩
  | 33 => ⟨S32x1x1024, .f32⟩
  | 34 => ⟨S32x256x1024, .f32⟩
  | 35 => ⟨S32x256x1024, .f32⟩
  | 36 => ⟨S32x256x1024, .f32⟩
  | 37 => ⟨S32x256x1024, .f32⟩
  | 38 => ⟨S8192x1024, .f32⟩
  | 39 => ⟨S8192x8, .f32⟩
  | 40 => ⟨S1x8, .f32⟩
  | 41 => ⟨S8192x8, .f32⟩
  | 42 => ⟨S8192x8, .f32⟩
  | 43 => ⟨S_, .f32⟩
  | 44 => ⟨S8192, .f32⟩
  | 45 => ⟨S_, .f32⟩
  | 46 => ⟨S8192, .f32⟩
  | 47 => ⟨S8192, .f32⟩
  | 48 => ⟨S8192x1, .f32⟩
  | 49 => ⟨S8192x8, .f32⟩
  | 50 => ⟨S8192x8, .f32⟩
  | 51 => ⟨S8192x8, .f32⟩
  | 52 => ⟨S_, .f32⟩
  | 53 => ⟨S8192, .f32⟩
  | 54 => ⟨S8192x1, .f32⟩
  | 55 => ⟨S8192x8, .f32⟩
  | 56 => ⟨S8192x8, .f32⟩
  | 57 => ⟨S8192x2, .f32⟩
  | 58 => ⟨S8192x2, .i32⟩
  | 59 => ⟨S_, .f32⟩
  | 60 => ⟨S8192, .f32⟩
  | 61 => ⟨S8192x1, .f32⟩
  | 62 => ⟨S8192x2, .f32⟩
  | 63 => ⟨S8192x2, .f32⟩
  | 64 => ⟨S8192x2x1, .i32⟩
  | 65 => ⟨S1x1x8, .i32⟩
  | 66 => ⟨S8192x2x8, .i32⟩
  | 67 => ⟨S8192x2x8, .i32⟩
  | 68 => ⟨S8192x2x8, .i1⟩
  | 69 => ⟨S8192x2x8, .f32⟩
  | 70 => ⟨S8192x2x1, .f32⟩
  | 71 => ⟨S8192x2x8, .f32⟩
  | 72 => ⟨S8192x2x8, .f32⟩
  | 73 => ⟨S_, .f32⟩
  | 74 => ⟨S8192x8, .f32⟩
  | 75 => ⟨S_, .f32⟩
  | 76 => ⟨S8192x1024, .f32⟩
  | 77 => ⟨S1x1024x2816, .f32⟩
  | 78 => ⟨S1024x2816, .f32⟩
  | 79 => ⟨S1x1024x2816, .f32⟩
  | 80 => ⟨S1024x2816, .f32⟩
  | 81 => ⟨S1x2816x1024, .f32⟩
  | 82 => ⟨S2816x1024, .f32⟩
  | 83 => ⟨S8192x2816, .f32⟩
  | 84 => ⟨S8192x2816, .f32⟩
  | 85 => ⟨S8192x2816, .f32⟩
  | 86 => ⟨S8192x2816, .f32⟩
  | 87 => ⟨S_, .f32⟩
  | 88 => ⟨S8192x2816, .f32⟩
  | 89 => ⟨S8192x2816, .f32⟩
  | 90 => ⟨S_, .f32⟩
  | 91 => ⟨S8192x2816, .f32⟩
  | 92 => ⟨S8192x2816, .f32⟩
  | 93 => ⟨S8192x2816, .f32⟩
  | 94 => ⟨S8192x2816, .f32⟩
  | 95 => ⟨S8192x1024, .f32⟩
  | 96 => ⟨S8192x1, .f32⟩
  | 97 => ⟨S8192x1024, .f32⟩
  | 98 => ⟨S8192x1024, .f32⟩
  | 99 => ⟨S8192x1024, .f32⟩
  | 100 => ⟨S1x1024x2816, .f32⟩
  | 101 => ⟨S1024x2816, .f32⟩
  | 102 => ⟨S1x1024x2816, .f32⟩
  | 103 => ⟨S1024x2816, .f32⟩
  | 104 => ⟨S1x2816x1024, .f32⟩
  | 105 => ⟨S2816x1024, .f32⟩
  | 106 => ⟨S8192x2816, .f32⟩
  | 107 => ⟨S8192x2816, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x1024, .f32⟩
  | 119 => ⟨S8192x1, .f32⟩
  | 120 => ⟨S8192x1024, .f32⟩
  | 121 => ⟨S8192x1024, .f32⟩
  | 122 => ⟨S8192x1024, .f32⟩
  | 123 => ⟨S1x1024x2816, .f32⟩
  | 124 => ⟨S1024x2816, .f32⟩
  | 125 => ⟨S1x1024x2816, .f32⟩
  | 126 => ⟨S1024x2816, .f32⟩
  | 127 => ⟨S1x2816x1024, .f32⟩
  | _ => ⟨S32x256x1024, .f32⟩

abbrev hbmTy0_1 (i : Nat) : BufTy := match i % 128 with
  | 0 => ⟨S2816x1024, .f32⟩
  | 1 => ⟨S8192x2816, .f32⟩
  | 2 => ⟨S8192x2816, .f32⟩
  | 3 => ⟨S8192x2816, .f32⟩
  | 4 => ⟨S8192x2816, .f32⟩
  | 5 => ⟨S_, .f32⟩
  | 6 => ⟨S8192x2816, .f32⟩
  | 7 => ⟨S8192x2816, .f32⟩
  | 8 => ⟨S_, .f32⟩
  | 9 => ⟨S8192x2816, .f32⟩
  | 10 => ⟨S8192x2816, .f32⟩
  | 11 => ⟨S8192x2816, .f32⟩
  | 12 => ⟨S8192x2816, .f32⟩
  | 13 => ⟨S8192x1024, .f32⟩
  | 14 => ⟨S8192x1, .f32⟩
  | 15 => ⟨S8192x1024, .f32⟩
  | 16 => ⟨S8192x1024, .f32⟩
  | 17 => ⟨S8192x1024, .f32⟩
  | 18 => ⟨S1x1024x2816, .f32⟩
  | 19 => ⟨S1024x2816, .f32⟩
  | 20 => ⟨S1x1024x2816, .f32⟩
  | 21 => ⟨S1024x2816, .f32⟩
  | 22 => ⟨S1x2816x1024, .f32⟩
  | 23 => ⟨S2816x1024, .f32⟩
  | 24 => ⟨S8192x2816, .f32⟩
  | 25 => ⟨S8192x2816, .f32⟩
  | 26 => ⟨S8192x2816, .f32⟩
  | 27 => ⟨S8192x2816, .f32⟩
  | 28 => ⟨S_, .f32⟩
  | 29 => ⟨S8192x2816, .f32⟩
  | 30 => ⟨S8192x2816, .f32⟩
  | 31 => ⟨S_, .f32⟩
  | 32 => ⟨S8192x2816, .f32⟩
  | 33 => ⟨S8192x2816, .f32⟩
  | 34 => ⟨S8192x2816, .f32⟩
  | 35 => ⟨S8192x2816, .f32⟩
  | 36 => ⟨S8192x1024, .f32⟩
  | 37 => ⟨S8192x1, .f32⟩
  | 38 => ⟨S8192x1024, .f32⟩
  | 39 => ⟨S8192x1024, .f32⟩
  | 40 => ⟨S8192x1024, .f32⟩
  | 41 => ⟨S1x1024x2816, .f32⟩
  | 42 => ⟨S1024x2816, .f32⟩
  | 43 => ⟨S1x1024x2816, .f32⟩
  | 44 => ⟨S1024x2816, .f32⟩
  | 45 => ⟨S1x2816x1024, .f32⟩
  | 46 => ⟨S2816x1024, .f32⟩
  | 47 => ⟨S8192x2816, .f32⟩
  | 48 => ⟨S8192x2816, .f32⟩
  | 49 => ⟨S8192x2816, .f32⟩
  | 50 => ⟨S8192x2816, .f32⟩
  | 51 => ⟨S_, .f32⟩
  | 52 => ⟨S8192x2816, .f32⟩
  | 53 => ⟨S8192x2816, .f32⟩
  | 54 => ⟨S_, .f32⟩
  | 55 => ⟨S8192x2816, .f32⟩
  | 56 => ⟨S8192x2816, .f32⟩
  | 57 => ⟨S8192x2816, .f32⟩
  | 58 => ⟨S8192x2816, .f32⟩
  | 59 => ⟨S8192x1024, .f32⟩
  | 60 => ⟨S8192x1, .f32⟩
  | 61 => ⟨S8192x1024, .f32⟩
  | 62 => ⟨S8192x1024, .f32⟩
  | 63 => ⟨S8192x1024, .f32⟩
  | 64 => ⟨S1x1024x2816, .f32⟩
  | 65 => ⟨S1024x2816, .f32⟩
  | 66 => ⟨S1x1024x2816, .f32⟩
  | 67 => ⟨S1024x2816, .f32⟩
  | 68 => ⟨S1x2816x1024, .f32⟩
  | 69 => ⟨S2816x1024, .f32⟩
  | 70 => ⟨S8192x2816, .f32⟩
  | 71 => ⟨S8192x2816, .f32⟩
  | 72 => ⟨S8192x2816, .f32⟩
  | 73 => ⟨S8192x2816, .f32⟩
  | 74 => ⟨S_, .f32⟩
  | 75 => ⟨S8192x2816, .f32⟩
  | 76 => ⟨S8192x2816, .f32⟩
  | 77 => ⟨S_, .f32⟩
  | 78 => ⟨S8192x2816, .f32⟩
  | 79 => ⟨S8192x2816, .f32⟩
  | 80 => ⟨S8192x2816, .f32⟩
  | 81 => ⟨S8192x2816, .f32⟩
  | 82 => ⟨S8192x1024, .f32⟩
  | 83 => ⟨S8192x1, .f32⟩
  | 84 => ⟨S8192x1024, .f32⟩
  | 85 => ⟨S8192x1024, .f32⟩
  | 86 => ⟨S8192x1024, .f32⟩
  | 87 => ⟨S1x1024x2816, .f32⟩
  | 88 => ⟨S1024x2816, .f32⟩
  | 89 => ⟨S1x1024x2816, .f32⟩
  | 90 => ⟨S1024x2816, .f32⟩
  | 91 => ⟨S1x2816x1024, .f32⟩
  | 92 => ⟨S2816x1024, .f32⟩
  | 93 => ⟨S8192x2816, .f32⟩
  | 94 => ⟨S8192x2816, .f32⟩
  | 95 => ⟨S8192x2816, .f32⟩
  | 96 => ⟨S8192x2816, .f32⟩
  | 97 => ⟨S_, .f32⟩
  | 98 => ⟨S8192x2816, .f32⟩
  | 99 => ⟨S8192x2816, .f32⟩
  | 100 => ⟨S_, .f32⟩
  | 101 => ⟨S8192x2816, .f32⟩
  | 102 => ⟨S8192x2816, .f32⟩
  | 103 => ⟨S8192x2816, .f32⟩
  | 104 => ⟨S8192x2816, .f32⟩
  | 105 => ⟨S8192x1024, .f32⟩
  | 106 => ⟨S8192x1, .f32⟩
  | 107 => ⟨S8192x1024, .f32⟩
  | 108 => ⟨S8192x1024, .f32⟩
  | 109 => ⟨S8192x1024, .f32⟩
  | 110 => ⟨S1x1024x2816, .f32⟩
  | 111 => ⟨S1024x2816, .f32⟩
  | 112 => ⟨S1x1024x2816, .f32⟩
  | 113 => ⟨S1024x2816, .f32⟩
  | 114 => ⟨S1x2816x1024, .f32⟩
  | 115 => ⟨S2816x1024, .f32⟩
  | 116 => ⟨S8192x2816, .f32⟩
  | 117 => ⟨S8192x2816, .f32⟩
  | 118 => ⟨S8192x2816, .f32⟩
  | 119 => ⟨S8192x2816, .f32⟩
  | 120 => ⟨S_, .f32⟩
  | 121 => ⟨S8192x2816, .f32⟩
  | 122 => ⟨S8192x2816, .f32⟩
  | 123 => ⟨S_, .f32⟩
  | 124 => ⟨S8192x2816, .f32⟩
  | 125 => ⟨S8192x2816, .f32⟩
  | 126 => ⟨S8192x2816, .f32⟩
  | 127 => ⟨S8192x2816, .f32⟩
  | _ => ⟨S32x256x1024, .f32⟩

abbrev hbmTy0_2 (i : Nat) : BufTy := match i % 128 with
  | 0 => ⟨S8192x1024, .f32⟩
  | 1 => ⟨S8192x1, .f32⟩
  | 2 => ⟨S8192x1024, .f32⟩
  | 3 => ⟨S8192x1024, .f32⟩
  | 4 => ⟨S8192x1024, .f32⟩
  | 5 => ⟨S32x256x1024, .f32⟩
  | 6 => ⟨S_, .f32⟩
  | 7 => ⟨S32x256x1024, .f32⟩
  | 8 => ⟨S32x256x1024, .f32⟩
  | 9 => ⟨S32x256x1024, .f32⟩
  | 10 => ⟨S32x256x1024, .f32⟩
  | 11 => ⟨S32x256x1024, .f32⟩
  | 12 => ⟨S_, .f32⟩
  | 13 => ⟨S32x256, .f32⟩
  | 14 => ⟨S32x256x1, .f32⟩
  | 15 => ⟨S_, .f32⟩
  | 16 => ⟨S32x256x1, .f32⟩
  | 17 => ⟨S32x256x1, .f32⟩
  | 18 => ⟨S32x256x1024, .f32⟩
  | 19 => ⟨S32x256x1024, .f32⟩
  | 20 => ⟨S32x256x1024, .f32⟩
  | 21 => ⟨S_, .f32⟩
  | 22 => ⟨S32x256, .f32⟩
  | 23 => ⟨S32x256x1, .f32⟩
  | 24 => ⟨S_, .f32⟩
  | 25 => ⟨S32x256x1, .f32⟩
  | 26 => ⟨S32x256x1, .f32⟩
  | 27 => ⟨S32x256x1024, .f32⟩
  | 28 => ⟨S32x256x1024, .f32⟩
  | 29 => ⟨S_, .f32⟩
  | 30 => ⟨S32x256x1, .f32⟩
  | 31 => ⟨S32x256x1, .f32⟩
  | 32 => ⟨S32x256x1, .f32⟩
  | 33 => ⟨S32x256x1024, .f32⟩
  | 34 => ⟨S32x256x1024, .f32⟩
  | 35 => ⟨S1x1x1024, .f32⟩
  | 36 => ⟨S32x256x1024, .f32⟩
  | 37 => ⟨S32x256x1024, .f32⟩
  | 38 => ⟨S1x1x1024, .f32⟩
  | 39 => ⟨S32x256x1024, .f32⟩
  | 40 => ⟨S32x256x1024, .f32⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev vmemTy0_0 (i : Nat) : BufTy := match i % 128 with
  | 0 => ⟨S512x1024, .f32⟩
  | 1 => ⟨S512x1024, .f32⟩
  | 2 => ⟨S1024x256, .f32⟩
  | 3 => ⟨S1024x256, .f32⟩
  | 4 => ⟨S512x256, .f32⟩
  | 5 => ⟨S512x256, .f32⟩
  | 6 => ⟨S512x1024, .f32⟩
  | 7 => ⟨S512x1024, .f32⟩
  | 8 => ⟨S1024x256, .f32⟩
  | 9 => ⟨S1024x256, .f32⟩
  | 10 => ⟨S512x256, .f32⟩
  | 11 => ⟨S512x256, .f32⟩
  | 12 => ⟨S512x1408, .f32⟩
  | 13 => ⟨S512x1408, .f32⟩
  | 14 => ⟨S1408x512, .f32⟩
  | 15 => ⟨S1408x512, .f32⟩
  | 16 => ⟨S512x512, .f32⟩
  | 17 => ⟨S512x512, .f32⟩
  | 18 => ⟨S512x1024, .f32⟩
  | 19 => ⟨S512x1024, .f32⟩
  | 20 => ⟨S1024x256, .f32⟩
  | 21 => ⟨S1024x256, .f32⟩
  | 22 => ⟨S512x256, .f32⟩
  | 23 => ⟨S512x256, .f32⟩
  | 24 => ⟨S512x1024, .f32⟩
  | 25 => ⟨S512x1024, .f32⟩
  | 26 => ⟨S1024x256, .f32⟩
  | 27 => ⟨S1024x256, .f32⟩
  | 28 => ⟨S512x256, .f32⟩
  | 29 => ⟨S512x256, .f32⟩
  | 30 => ⟨S512x1408, .f32⟩
  | 31 => ⟨S512x1408, .f32⟩
  | 32 => ⟨S1408x512, .f32⟩
  | 33 => ⟨S1408x512, .f32⟩
  | 34 => ⟨S512x512, .f32⟩
  | 35 => ⟨S512x512, .f32⟩
  | 36 => ⟨S512x1024, .f32⟩
  | 37 => ⟨S512x1024, .f32⟩
  | 38 => ⟨S1024x256, .f32⟩
  | 39 => ⟨S1024x256, .f32⟩
  | 40 => ⟨S512x256, .f32⟩
  | 41 => ⟨S512x256, .f32⟩
  | 42 => ⟨S512x1024, .f32⟩
  | 43 => ⟨S512x1024, .f32⟩
  | 44 => ⟨S1024x256, .f32⟩
  | 45 => ⟨S1024x256, .f32⟩
  | 46 => ⟨S512x256, .f32⟩
  | 47 => ⟨S512x256, .f32⟩
  | 48 => ⟨S512x1408, .f32⟩
  | 49 => ⟨S512x1408, .f32⟩
  | 50 => ⟨S1408x512, .f32⟩
  | 51 => ⟨S1408x512, .f32⟩
  | 52 => ⟨S512x512, .f32⟩
  | 53 => ⟨S512x512, .f32⟩
  | 54 => ⟨S512x1024, .f32⟩
  | 55 => ⟨S512x1024, .f32⟩
  | 56 => ⟨S1024x256, .f32⟩
  | 57 => ⟨S1024x256, .f32⟩
  | 58 => ⟨S512x256, .f32⟩
  | 59 => ⟨S512x256, .f32⟩
  | 60 => ⟨S512x1024, .f32⟩
  | 61 => ⟨S512x1024, .f32⟩
  | 62 => ⟨S1024x256, .f32⟩
  | 63 => ⟨S1024x256, .f32⟩
  | 64 => ⟨S512x256, .f32⟩
  | 65 => ⟨S512x256, .f32⟩
  | 66 => ⟨S512x1408, .f32⟩
  | 67 => ⟨S512x1408, .f32⟩
  | 68 => ⟨S1408x512, .f32⟩
  | 69 => ⟨S1408x512, .f32⟩
  | 70 => ⟨S512x512, .f32⟩
  | 71 => ⟨S512x512, .f32⟩
  | 72 => ⟨S512x1024, .f32⟩
  | 73 => ⟨S512x1024, .f32⟩
  | 74 => ⟨S1024x256, .f32⟩
  | 75 => ⟨S1024x256, .f32⟩
  | 76 => ⟨S512x256, .f32⟩
  | 77 => ⟨S512x256, .f32⟩
  | 78 => ⟨S512x1024, .f32⟩
  | 79 => ⟨S512x1024, .f32⟩
  | 80 => ⟨S1024x256, .f32⟩
  | 81 => ⟨S1024x256, .f32⟩
  | 82 => ⟨S512x256, .f32⟩
  | 83 => ⟨S512x256, .f32⟩
  | 84 => ⟨S512x1408, .f32⟩
  | 85 => ⟨S512x1408, .f32⟩
  | 86 => ⟨S1408x512, .f32⟩
  | 87 => ⟨S1408x512, .f32⟩
  | 88 => ⟨S512x512, .f32⟩
  | 89 => ⟨S512x512, .f32⟩
  | 90 => ⟨S512x1024, .f32⟩
  | 91 => ⟨S512x1024, .f32⟩
  | 92 => ⟨S1024x256, .f32⟩
  | 93 => ⟨S1024x256, .f32⟩
  | 94 => ⟨S512x256, .f32⟩
  | 95 => ⟨S512x256, .f32⟩
  | 96 => ⟨S512x1024, .f32⟩
  | 97 => ⟨S512x1024, .f32⟩
  | 98 => ⟨S1024x256, .f32⟩
  | 99 => ⟨S1024x256, .f32⟩
  | 100 => ⟨S512x256, .f32⟩
  | 101 => ⟨S512x256, .f32⟩
  | 102 => ⟨S512x1408, .f32⟩
  | 103 => ⟨S512x1408, .f32⟩
  | 104 => ⟨S1408x512, .f32⟩
  | 105 => ⟨S1408x512, .f32⟩
  | 106 => ⟨S512x512, .f32⟩
  | 107 => ⟨S512x512, .f32⟩
  | 108 => ⟨S512x1024, .f32⟩
  | 109 => ⟨S512x1024, .f32⟩
  | 110 => ⟨S1024x256, .f32⟩
  | 111 => ⟨S1024x256, .f32⟩
  | 112 => ⟨S512x256, .f32⟩
  | 113 => ⟨S512x256, .f32⟩
  | 114 => ⟨S512x1024, .f32⟩
  | 115 => ⟨S512x1024, .f32⟩
  | 116 => ⟨S1024x256, .f32⟩
  | 117 => ⟨S1024x256, .f32⟩
  | 118 => ⟨S512x256, .f32⟩
  | 119 => ⟨S512x256, .f32⟩
  | 120 => ⟨S512x1408, .f32⟩
  | 121 => ⟨S512x1408, .f32⟩
  | 122 => ⟨S1408x512, .f32⟩
  | 123 => ⟨S1408x512, .f32⟩
  | 124 => ⟨S512x512, .f32⟩
  | 125 => ⟨S512x512, .f32⟩
  | 126 => ⟨S512x1024, .f32⟩
  | 127 => ⟨S512x1024, .f32⟩
  | _ => ⟨S32x256x1024, .f32⟩

abbrev vmemTy0_1 (i : Nat) : BufTy := match i % 128 with
  | 0 => ⟨S1024x256, .f32⟩
  | 1 => ⟨S1024x256, .f32⟩
  | 2 => ⟨S512x256, .f32⟩
  | 3 => ⟨S512x256, .f32⟩
  | 4 => ⟨S512x1024, .f32⟩
  | 5 => ⟨S512x1024, .f32⟩
  | 6 => ⟨S1024x256, .f32⟩
  | 7 => ⟨S1024x256, .f32⟩
  | 8 => ⟨S512x256, .f32⟩
  | 9 => ⟨S512x256, .f32⟩
  | 10 => ⟨S512x1408, .f32⟩
  | 11 => ⟨S512x1408, .f32⟩
  | 12 => ⟨S1408x512, .f32⟩
  | 13 => ⟨S1408x512, .f32⟩
  | 14 => ⟨S512x512, .f32⟩
  | 15 => ⟨S512x512, .f32⟩
  | _ => ⟨S32x256x1024, .f32⟩

abbrev vmemTy (i : Nat) : BufTy := match i / 128 with
  | 0 => vmemTy0_0 i
  | 1 => vmemTy0_1 i
  | _ => ⟨S32x256x1024, .f32⟩

abbrev bufTy : (tb : Table) → Fin (tcTables nBuf tb) → BufTy
  | .hbm, ⟨i, _⟩ => hbmTy i
  | .local _ .vmem, ⟨i, _⟩ => vmemTy i
  | _, _ => ⟨S32x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 144 → Bool
  | ⟨i, _⟩ => dmaSemScopedAt i

abbrev sig : RefSig :=
  ofTc nBuf bufTy 0 144 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_values : Ref sig .tc := ⟨.hbm, 57, rfl⟩
abbrev main_indices : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_call8_v0 : Ref sig .tc := ⟨.hbm, 223, rfl⟩
abbrev main_call8_v1 : Ref sig .tc := ⟨.hbm, 224, rfl⟩
abbrev main_call8_cst : Ref sig .tc := ⟨.hbm, 225, rfl⟩
abbrev main_call8_v2 : Ref sig .tc := ⟨.hbm, 226, rfl⟩
abbrev main_call8_v3 : Ref sig .tc := ⟨.hbm, 227, rfl⟩
abbrev main_call8_cst_0 : Ref sig .tc := ⟨.hbm, 228, rfl⟩
abbrev main_call8_v4 : Ref sig .tc := ⟨.hbm, 229, rfl⟩
abbrev main_call8_v5 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_call9_v0 : Ref sig .tc := ⟨.hbm, 246, rfl⟩
abbrev main_call9_v1 : Ref sig .tc := ⟨.hbm, 247, rfl⟩
abbrev main_call9_cst : Ref sig .tc := ⟨.hbm, 248, rfl⟩
abbrev main_call9_v2 : Ref sig .tc := ⟨.hbm, 249, rfl⟩
abbrev main_call9_v3 : Ref sig .tc := ⟨.hbm, 250, rfl⟩
abbrev main_call9_cst_0 : Ref sig .tc := ⟨.hbm, 251, rfl⟩
abbrev main_call9_v4 : Ref sig .tc := ⟨.hbm, 252, rfl⟩
abbrev main_call9_v5 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_cst_6 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_7 : Ref sig .tc := ⟨.hbm, 268, rfl⟩
abbrev main_v170 : Ref sig .tc := ⟨.hbm, 269, rfl⟩
abbrev main_v171 : Ref sig .tc := ⟨.hbm, 270, rfl⟩
abbrev main_cst_8 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_cst_9 : Ref sig .tc := ⟨.hbm, 277, rfl⟩
abbrev main_v177 : Ref sig .tc := ⟨.hbm, 278, rfl⟩
abbrev main_v178 : Ref sig .tc := ⟨.hbm, 279, rfl⟩
abbrev main_cst_10 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_cst_11 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg1_1 : Ref sig .tc := ⟨.vmem, 75, rfl⟩
abbrev cc12_stg2_0 : Ref sig .tc := ⟨.vmem, 76, rfl⟩
abbrev cc12_stg2_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg1_1 : Ref sig .tc := ⟨.vmem, 87, rfl⟩
abbrev cc14_stg2_0 : Ref sig .tc := ⟨.vmem, 88, rfl⟩
abbrev cc14_stg2_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg1_1 : Ref sig .tc := ⟨.vmem, 99, rfl⟩
abbrev cc16_stg2_0 : Ref sig .tc := ⟨.vmem, 100, rfl⟩
abbrev cc16_stg2_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg1_1 : Ref sig .tc := ⟨.vmem, 105, rfl⟩
abbrev cc17_stg2_0 : Ref sig .tc := ⟨.vmem, 106, rfl⟩
abbrev cc17_stg2_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg1_1 : Ref sig .tc := ⟨.vmem, 111, rfl⟩
abbrev cc18_stg2_0 : Ref sig .tc := ⟨.vmem, 112, rfl⟩
abbrev cc18_stg2_1 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg1_1 : Ref sig .tc := ⟨.vmem, 117, rfl⟩
abbrev cc19_stg2_0 : Ref sig .tc := ⟨.vmem, 118, rfl⟩
abbrev cc19_stg2_1 : Ref sig .tc := ⟨.vmem, 119, rfl⟩
abbrev cc20_stg0_0 : Ref sig .tc := ⟨.vmem, 120, rfl⟩
abbrev cc20_stg0_1 : Ref sig .tc := ⟨.vmem, 121, rfl⟩
abbrev cc20_stg1_0 : Ref sig .tc := ⟨.vmem, 122, rfl⟩
abbrev cc20_stg1_1 : Ref sig .tc := ⟨.vmem, 123, rfl⟩
abbrev cc20_stg2_0 : Ref sig .tc := ⟨.vmem, 124, rfl⟩
abbrev cc20_stg2_1 : Ref sig .tc := ⟨.vmem, 125, rfl⟩
abbrev cc21_stg0_0 : Ref sig .tc := ⟨.vmem, 126, rfl⟩
abbrev cc21_stg0_1 : Ref sig .tc := ⟨.vmem, 127, rfl⟩
abbrev cc21_stg1_0 : Ref sig .tc := ⟨.vmem, 128, rfl⟩
abbrev cc21_stg1_1 : Ref sig .tc := ⟨.vmem, 129, rfl⟩
abbrev cc21_stg2_0 : Ref sig .tc := ⟨.vmem, 130, rfl⟩
abbrev cc21_stg2_1 : Ref sig .tc := ⟨.vmem, 131, rfl⟩
abbrev cc22_stg0_0 : Ref sig .tc := ⟨.vmem, 132, rfl⟩
abbrev cc22_stg0_1 : Ref sig .tc := ⟨.vmem, 133, rfl⟩
abbrev cc22_stg1_0 : Ref sig .tc := ⟨.vmem, 134, rfl⟩
abbrev cc22_stg1_1 : Ref sig .tc := ⟨.vmem, 135, rfl⟩
abbrev cc22_stg2_0 : Ref sig .tc := ⟨.vmem, 136, rfl⟩
abbrev cc22_stg2_1 : Ref sig .tc := ⟨.vmem, 137, rfl⟩
abbrev cc23_stg0_0 : Ref sig .tc := ⟨.vmem, 138, rfl⟩
abbrev cc23_stg0_1 : Ref sig .tc := ⟨.vmem, 139, rfl⟩
abbrev cc23_stg1_0 : Ref sig .tc := ⟨.vmem, 140, rfl⟩
abbrev cc23_stg1_1 : Ref sig .tc := ⟨.vmem, 141, rfl⟩
abbrev cc23_stg2_0 : Ref sig .tc := ⟨.vmem, 142, rfl⟩
abbrev cc23_stg2_1 : Ref sig .tc := ⟨.vmem, 143, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71
abbrev cc12_sem0_0 : DmaSem sig := 72
abbrev cc12_sem0_1 : DmaSem sig := 73
abbrev cc12_sem1_0 : DmaSem sig := 74
abbrev cc12_sem1_1 : DmaSem sig := 75
abbrev cc12_sem2_0 : DmaSem sig := 76
abbrev cc12_sem2_1 : DmaSem sig := 77
abbrev cc13_sem0_0 : DmaSem sig := 78
abbrev cc13_sem0_1 : DmaSem sig := 79
abbrev cc13_sem1_0 : DmaSem sig := 80
abbrev cc13_sem1_1 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem1_1 : DmaSem sig := 87
abbrev cc14_sem2_0 : DmaSem sig := 88
abbrev cc14_sem2_1 : DmaSem sig := 89
abbrev cc15_sem0_0 : DmaSem sig := 90
abbrev cc15_sem0_1 : DmaSem sig := 91
abbrev cc15_sem1_0 : DmaSem sig := 92
abbrev cc15_sem1_1 : DmaSem sig := 93
abbrev cc15_sem2_0 : DmaSem sig := 94
abbrev cc15_sem2_1 : DmaSem sig := 95
abbrev cc16_sem0_0 : DmaSem sig := 96
abbrev cc16_sem0_1 : DmaSem sig := 97
abbrev cc16_sem1_0 : DmaSem sig := 98
abbrev cc16_sem1_1 : DmaSem sig := 99
abbrev cc16_sem2_0 : DmaSem sig := 100
abbrev cc16_sem2_1 : DmaSem sig := 101
abbrev cc17_sem0_0 : DmaSem sig := 102
abbrev cc17_sem0_1 : DmaSem sig := 103
abbrev cc17_sem1_0 : DmaSem sig := 104
abbrev cc17_sem1_1 : DmaSem sig := 105
abbrev cc17_sem2_0 : DmaSem sig := 106
abbrev cc17_sem2_1 : DmaSem sig := 107
abbrev cc18_sem0_0 : DmaSem sig := 108
abbrev cc18_sem0_1 : DmaSem sig := 109
abbrev cc18_sem1_0 : DmaSem sig := 110
abbrev cc18_sem1_1 : DmaSem sig := 111
abbrev cc18_sem2_0 : DmaSem sig := 112
abbrev cc18_sem2_1 : DmaSem sig := 113
abbrev cc19_sem0_0 : DmaSem sig := 114
abbrev cc19_sem0_1 : DmaSem sig := 115
abbrev cc19_sem1_0 : DmaSem sig := 116
abbrev cc19_sem1_1 : DmaSem sig := 117
abbrev cc19_sem2_0 : DmaSem sig := 118
abbrev cc19_sem2_1 : DmaSem sig := 119
abbrev cc20_sem0_0 : DmaSem sig := 120
abbrev cc20_sem0_1 : DmaSem sig := 121
abbrev cc20_sem1_0 : DmaSem sig := 122
abbrev cc20_sem1_1 : DmaSem sig := 123
abbrev cc20_sem2_0 : DmaSem sig := 124
abbrev cc20_sem2_1 : DmaSem sig := 125
abbrev cc21_sem0_0 : DmaSem sig := 126
abbrev cc21_sem0_1 : DmaSem sig := 127
abbrev cc21_sem1_0 : DmaSem sig := 128
abbrev cc21_sem1_1 : DmaSem sig := 129
abbrev cc21_sem2_0 : DmaSem sig := 130
abbrev cc21_sem2_1 : DmaSem sig := 131
abbrev cc22_sem0_0 : DmaSem sig := 132
abbrev cc22_sem0_1 : DmaSem sig := 133
abbrev cc22_sem1_0 : DmaSem sig := 134
abbrev cc22_sem1_1 : DmaSem sig := 135
abbrev cc22_sem2_0 : DmaSem sig := 136
abbrev cc22_sem2_1 : DmaSem sig := 137
abbrev cc23_sem0_0 : DmaSem sig := 138
abbrev cc23_sem0_1 : DmaSem sig := 139
abbrev cc23_sem1_0 : DmaSem sig := 140
abbrev cc23_sem1_1 : DmaSem sig := 141
abbrev cc23_sem2_0 : DmaSem sig := 142
abbrev cc23_sem2_1 : DmaSem sig := 143

abbrev nD : Nat := 1
abbrev τ : Topo := Topo.v7x

variable {F : FTy → Type} [FloatOps F]

abbrev grid0 : Pipeline.Grid := ⟨3, ![16, 11, 1], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k0_cond2 (i : grid0.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 11, 1], ![false, false, false]⟩

def k1_cond1 (i : grid1.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k1_cond2 (i : grid1.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 2, 2], ![false, false, false]⟩

def k2_cond1 (i : grid2.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k2_cond2 (i : grid2.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1408x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![16, 11, 1], ![false, false, false]⟩

def k3_cond1 (i : grid3.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k3_cond2 (i : grid3.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![16, 11, 1], ![false, false, false]⟩

def k4_cond1 (i : grid4.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k4_cond2 (i : grid4.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![16, 2, 2], ![false, false, false]⟩

def k5_cond1 (i : grid5.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k5_cond2 (i : grid5.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x1408 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1408x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![16, 11, 1], ![false, false, false]⟩

def k6_cond1 (i : grid6.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k6_cond2 (i : grid6.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![16, 11, 1], ![false, false, false]⟩

def k7_cond1 (i : grid7.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k7_cond2 (i : grid7.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![16, 2, 2], ![false, false, false]⟩

def k8_cond1 (i : grid8.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k8_cond2 (i : grid8.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S512x1408 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1408x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![16, 11, 1], ![false, false, false]⟩

def k9_cond1 (i : grid9.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k9_cond2 (i : grid9.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S512x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![16, 11, 1], ![false, false, false]⟩

def k10_cond1 (i : grid10.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k10_cond2 (i : grid10.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S512x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![16, 2, 2], ![false, false, false]⟩

def k11_cond1 (i : grid11.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k11_cond2 (i : grid11.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S512x1408 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S1408x512 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S512x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![16, 11, 1], ![false, false, false]⟩

def k12_cond1 (i : grid12.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k12_cond2 (i : grid12.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S512x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 2 → Memref sig .tc .vmem S1024x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S512x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev grid13 : Pipeline.Grid := ⟨3, ![16, 11, 1], ![false, false, false]⟩

def k13_cond1 (i : grid13.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k13_cond2 (i : grid13.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 2 → Memref sig .tc .vmem S512x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false, true]

abbrev stage13_1 : Fin 2 → Memref sig .tc .vmem S1024x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true, true]

abbrev stage13_2 : Fin 2 → Memref sig .tc .vmem S512x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true, false]

abbrev grid14 : Pipeline.Grid := ⟨3, ![16, 2, 2], ![false, false, false]⟩

def k14_cond1 (i : grid14.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k14_cond2 (i : grid14.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 2 → Memref sig .tc .vmem S512x1408 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false, true]

abbrev stage14_1 : Fin 2 → Memref sig .tc .vmem S1408x512 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true, true]

abbrev stage14_2 : Fin 2 → Memref sig .tc .vmem S512x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true, false]

abbrev grid15 : Pipeline.Grid := ⟨3, ![16, 11, 1], ![false, false, false]⟩

def k15_cond1 (i : grid15.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k15_cond2 (i : grid15.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc15_transform_0 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc15_transform_1 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc15_transform_2 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage15_0 : Fin 2 → Memref sig .tc .vmem S512x1024 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false, true]

abbrev stage15_1 : Fin 2 → Memref sig .tc .vmem S1024x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true, true]

abbrev stage15_2 : Fin 2 → Memref sig .tc .vmem S512x256 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true, false]

abbrev grid16 : Pipeline.Grid := ⟨3, ![16, 11, 1], ![false, false, false]⟩

def k16_cond1 (i : grid16.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k16_cond2 (i : grid16.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc16_transform_0 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc16_transform_1 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc16_transform_2 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage16_0 : Fin 2 → Memref sig .tc .vmem S512x1024 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false, true]

abbrev stage16_1 : Fin 2 → Memref sig .tc .vmem S1024x256 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true, true]

abbrev stage16_2 : Fin 2 → Memref sig .tc .vmem S512x256 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, true, false]

abbrev grid17 : Pipeline.Grid := ⟨3, ![16, 2, 2], ![false, false, false]⟩

def k17_cond1 (i : grid17.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k17_cond2 (i : grid17.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc17_transform_0 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc17_transform_1 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc17_transform_2 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage17_0 : Fin 2 → Memref sig .tc .vmem S512x1408 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, false, true]

abbrev stage17_1 : Fin 2 → Memref sig .tc .vmem S1408x512 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![false, true, true]

abbrev stage17_2 : Fin 2 → Memref sig .tc .vmem S512x512 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, true, false]

abbrev grid18 : Pipeline.Grid := ⟨3, ![16, 11, 1], ![false, false, false]⟩

def k18_cond1 (i : grid18.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k18_cond2 (i : grid18.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc18_transform_0 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc18_transform_1 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc18_transform_2 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage18_0 : Fin 2 → Memref sig .tc .vmem S512x1024 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, false, true]

abbrev stage18_1 : Fin 2 → Memref sig .tc .vmem S1024x256 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true, true]

abbrev stage18_2 : Fin 2 → Memref sig .tc .vmem S512x256 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, true, false]

abbrev grid19 : Pipeline.Grid := ⟨3, ![16, 11, 1], ![false, false, false]⟩

def k19_cond1 (i : grid19.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k19_cond2 (i : grid19.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc19_transform_0 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc19_transform_1 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc19_transform_2 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage19_0 : Fin 2 → Memref sig .tc .vmem S512x1024 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, false, true]

abbrev stage19_1 : Fin 2 → Memref sig .tc .vmem S1024x256 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![false, true, true]

abbrev stage19_2 : Fin 2 → Memref sig .tc .vmem S512x256 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true, true, false]

abbrev grid20 : Pipeline.Grid := ⟨3, ![16, 2, 2], ![false, false, false]⟩

def k20_cond1 (i : grid20.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k20_cond2 (i : grid20.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc20_transform_0 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc20_transform_1 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc20_transform_2 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage20_0 : Fin 2 → Memref sig .tc .vmem S512x1408 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, false, true]

abbrev stage20_1 : Fin 2 → Memref sig .tc .vmem S1408x512 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![false, true, true]

abbrev stage20_2 : Fin 2 → Memref sig .tc .vmem S512x512 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true, true, false]

abbrev grid21 : Pipeline.Grid := ⟨3, ![16, 11, 1], ![false, false, false]⟩

def k21_cond1 (i : grid21.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k21_cond2 (i : grid21.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc21_transform_0 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc21_transform_1 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc21_transform_2 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage21_0 : Fin 2 → Memref sig .tc .vmem S512x1024 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, false, true]

abbrev stage21_1 : Fin 2 → Memref sig .tc .vmem S1024x256 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![false, true, true]

abbrev stage21_2 : Fin 2 → Memref sig .tc .vmem S512x256 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true, true, false]

abbrev grid22 : Pipeline.Grid := ⟨3, ![16, 11, 1], ![false, false, false]⟩

def k22_cond1 (i : grid22.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k22_cond2 (i : grid22.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc22_transform_0 (i : grid22.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc22_transform_1 (i : grid22.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc22_transform_2 (i : grid22.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage22_0 : Fin 2 → Memref sig .tc .vmem S512x1024 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true, false, true]

abbrev stage22_1 : Fin 2 → Memref sig .tc .vmem S1024x256 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![false, true, true]

abbrev stage22_2 : Fin 2 → Memref sig .tc .vmem S512x256 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true, true, false]

abbrev grid23 : Pipeline.Grid := ⟨3, ![16, 2, 2], ![false, false, false]⟩

def k23_cond1 (i : grid23.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k23_cond2 (i : grid23.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc23_transform_0 (i : grid23.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc23_transform_1 (i : grid23.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc23_transform_2 (i : grid23.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage23_0 : Fin 2 → Memref sig .tc .vmem S512x1408 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true, false, true]

abbrev stage23_1 : Fin 2 → Memref sig .tc .vmem S1408x512 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![false, true, true]

abbrev stage23_2 : Fin 2 → Memref sig .tc .vmem S512x512 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true, true, false]
-- ==== Reference2Ideal.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x8 : Shape := ⟨2, ![1024, 8]⟩
abbrev S8 : Shape := ⟨1, ![8]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S8192x1024 : Shape := ⟨2, ![8192, 1024]⟩
abbrev S8192x8 : Shape := ⟨2, ![8192, 8]⟩
abbrev S1x8 : Shape := ⟨2, ![1, 8]⟩
abbrev S8192 : Shape := ⟨1, ![8192]⟩
abbrev S8192x1 : Shape := ⟨2, ![8192, 1]⟩
abbrev S8192x2 : Shape := ⟨2, ![8192, 2]⟩
abbrev S8192x2x1 : Shape := ⟨3, ![8192, 2, 1]⟩
abbrev S1x1x8 : Shape := ⟨3, ![1, 1, 8]⟩
abbrev S8192x2x8 : Shape := ⟨3, ![8192, 2, 8]⟩
abbrev S1x1024x2816 : Shape := ⟨3, ![1, 1024, 2816]⟩
abbrev S1024x2816 : Shape := ⟨2, ![1024, 2816]⟩
abbrev S8192x2816 : Shape := ⟨2, ![8192, 2816]⟩
abbrev S1x2816x1024 : Shape := ⟨3, ![1, 2816, 1024]⟩
abbrev S2816x1024 : Shape := ⟨2, ![2816, 1024]⟩
abbrev S32x256 : Shape := ⟨2, ![32, 256]⟩
abbrev S32x256x1 : Shape := ⟨3, ![32, 256, 1]⟩
abbrev S1x1x1024 : Shape := ⟨3, ![1, 1, 1024]⟩

abbrev nBuf : Space → Nat
  | .hbm => 297
  | .vmem => 0
  | .smem => 0
  | _ => 0

abbrev hbmTy0_0 (i : Nat) : BufTy := match i % 128 with
  | 0 => ⟨S32x256x1024, .f32⟩
  | 1 => ⟨S32x1024, .f32⟩
  | 2 => ⟨S1024x6144, .f32⟩
  | 3 => ⟨S6144, .f32⟩
  | 4 => ⟨S1024x8, .f32⟩
  | 5 => ⟨S8, .f32⟩
  | 6 => ⟨S8x1024x2816, .f32⟩
  | 7 => ⟨S8x1024x2816, .f32⟩
  | 8 => ⟨S8x2816x1024, .f32⟩
  | 9 => ⟨S1024, .f32⟩
  | 10 => ⟨S1024, .f32⟩
  | 11 => ⟨S32x1024, .f32⟩
  | 12 => ⟨S32x1024, .f32⟩
  | 13 => ⟨S_, .f32⟩
  | 14 => ⟨S32x1024, .f32⟩
  | 15 => ⟨S32x1024, .f32⟩
  | 16 => ⟨S_, .f32⟩
  | 17 => ⟨S32x1024, .f32⟩
  | 18 => ⟨S32x1024, .f32⟩
  | 19 => ⟨S32x1024, .f32⟩
  | 20 => ⟨S32x6144, .f32⟩
  | 21 => ⟨S1x6144, .f32⟩
  | 22 => ⟨S32x6144, .f32⟩
  | 23 => ⟨S32x6144, .f32⟩
  | 24 => ⟨S32x1x6144, .f32⟩
  | 25 => ⟨S32x1x1024, .f32⟩
  | 26 => ⟨S32x1x1024, .f32⟩
  | 27 => ⟨S32x1x1024, .f32⟩
  | 28 => ⟨S32x1x1024, .f32⟩
  | 29 => ⟨S32x1x1024, .f32⟩
  | 30 => ⟨S32x1x1024, .f32⟩
  | 31 => ⟨S_, .f32⟩
  | 32 => ⟨S32x1x1024, .f32⟩
  | 33 => ⟨S32x1x1024, .f32⟩
  | 34 => ⟨S32x256x1024, .f32⟩
  | 35 => ⟨S32x256x1024, .f32⟩
  | 36 => ⟨S32x256x1024, .f32⟩
  | 37 => ⟨S32x256x1024, .f32⟩
  | 38 => ⟨S8192x1024, .f32⟩
  | 39 => ⟨S8192x8, .f32⟩
  | 40 => ⟨S1x8, .f32⟩
  | 41 => ⟨S8192x8, .f32⟩
  | 42 => ⟨S8192x8, .f32⟩
  | 43 => ⟨S_, .f32⟩
  | 44 => ⟨S8192, .f32⟩
  | 45 => ⟨S_, .f32⟩
  | 46 => ⟨S8192, .f32⟩
  | 47 => ⟨S8192, .f32⟩
  | 48 => ⟨S8192x1, .f32⟩
  | 49 => ⟨S8192x8, .f32⟩
  | 50 => ⟨S8192x8, .f32⟩
  | 51 => ⟨S8192x8, .f32⟩
  | 52 => ⟨S_, .f32⟩
  | 53 => ⟨S8192, .f32⟩
  | 54 => ⟨S8192x1, .f32⟩
  | 55 => ⟨S8192x8, .f32⟩
  | 56 => ⟨S8192x8, .f32⟩
  | 57 => ⟨S8192x2, .f32⟩
  | 58 => ⟨S8192x2, .i32⟩
  | 59 => ⟨S_, .f32⟩
  | 60 => ⟨S8192, .f32⟩
  | 61 => ⟨S8192x1, .f32⟩
  | 62 => ⟨S8192x2, .f32⟩
  | 63 => ⟨S8192x2, .f32⟩
  | 64 => ⟨S8192x2x1, .i32⟩
  | 65 => ⟨S1x1x8, .i32⟩
  | 66 => ⟨S8192x2x8, .i32⟩
  | 67 => ⟨S8192x2x8, .i32⟩
  | 68 => ⟨S8192x2x8, .i1⟩
  | 69 => ⟨S8192x2x8, .f32⟩
  | 70 => ⟨S8192x2x1, .f32⟩
  | 71 => ⟨S8192x2x8, .f32⟩
  | 72 => ⟨S8192x2x8, .f32⟩
  | 73 => ⟨S_, .f32⟩
  | 74 => ⟨S8192x8, .f32⟩
  | 75 => ⟨S_, .f32⟩
  | 76 => ⟨S8192x1024, .f32⟩
  | 77 => ⟨S1x1024x2816, .f32⟩
  | 78 => ⟨S1024x2816, .f32⟩
  | 79 => ⟨S8192x2816, .f32⟩
  | 80 => ⟨S8192x2816, .f32⟩
  | 81 => ⟨S8192x2816, .f32⟩
  | 82 => ⟨S_, .f32⟩
  | 83 => ⟨S8192x2816, .f32⟩
  | 84 => ⟨S8192x2816, .f32⟩
  | 85 => ⟨S_, .f32⟩
  | 86 => ⟨S8192x2816, .f32⟩
  | 87 => ⟨S8192x2816, .f32⟩
  | 88 => ⟨S8192x2816, .f32⟩
  | 89 => ⟨S1x1024x2816, .f32⟩
  | 90 => ⟨S1024x2816, .f32⟩
  | 91 => ⟨S8192x2816, .f32⟩
  | 92 => ⟨S8192x2816, .f32⟩
  | 93 => ⟨S1x2816x1024, .f32⟩
  | 94 => ⟨S2816x1024, .f32⟩
  | 95 => ⟨S8192x1024, .f32⟩
  | 96 => ⟨S8192x1, .f32⟩
  | 97 => ⟨S8192x1024, .f32⟩
  | 98 => ⟨S8192x1024, .f32⟩
  | 99 => ⟨S8192x1024, .f32⟩
  | 100 => ⟨S1x1024x2816, .f32⟩
  | 101 => ⟨S1024x2816, .f32⟩
  | 102 => ⟨S8192x2816, .f32⟩
  | 103 => ⟨S8192x2816, .f32⟩
  | 104 => ⟨S8192x2816, .f32⟩
  | 105 => ⟨S_, .f32⟩
  | 106 => ⟨S8192x2816, .f32⟩
  | 107 => ⟨S8192x2816, .f32⟩
  | 108 => ⟨S_, .f32⟩
  | 109 => ⟨S8192x2816, .f32⟩
  | 110 => ⟨S8192x2816, .f32⟩
  | 111 => ⟨S8192x2816, .f32⟩
  | 112 => ⟨S1x1024x2816, .f32⟩
  | 113 => ⟨S1024x2816, .f32⟩
  | 114 => ⟨S8192x2816, .f32⟩
  | 115 => ⟨S8192x2816, .f32⟩
  | 116 => ⟨S1x2816x1024, .f32⟩
  | 117 => ⟨S2816x1024, .f32⟩
  | 118 => ⟨S8192x1024, .f32⟩
  | 119 => ⟨S8192x1, .f32⟩
  | 120 => ⟨S8192x1024, .f32⟩
  | 121 => ⟨S8192x1024, .f32⟩
  | 122 => ⟨S8192x1024, .f32⟩
  | 123 => ⟨S1x1024x2816, .f32⟩
  | 124 => ⟨S1024x2816, .f32⟩
  | 125 => ⟨S8192x2816, .f32⟩
  | 126 => ⟨S8192x2816, .f32⟩
  | 127 => ⟨S8192x2816, .f32⟩
  | _ => ⟨S32x256x1024, .f32⟩

abbrev hbmTy0_1 (i : Nat) : BufTy := match i % 128 with
  | 0 => ⟨S_, .f32⟩
  | 1 => ⟨S8192x2816, .f32⟩
  | 2 => ⟨S8192x2816, .f32⟩
  | 3 => ⟨S_, .f32⟩
  | 4 => ⟨S8192x2816, .f32⟩
  | 5 => ⟨S8192x2816, .f32⟩
  | 6 => ⟨S8192x2816, .f32⟩
  | 7 => ⟨S1x1024x2816, .f32⟩
  | 8 => ⟨S1024x2816, .f32⟩
  | 9 => ⟨S8192x2816, .f32⟩
  | 10 => ⟨S8192x2816, .f32⟩
  | 11 => ⟨S1x2816x1024, .f32⟩
  | 12 => ⟨S2816x1024, .f32⟩
  | 13 => ⟨S8192x1024, .f32⟩
  | 14 => ⟨S8192x1, .f32⟩
  | 15 => ⟨S8192x1024, .f32⟩
  | 16 => ⟨S8192x1024, .f32⟩
  | 17 => ⟨S8192x1024, .f32⟩
  | 18 => ⟨S1x1024x2816, .f32⟩
  | 19 => ⟨S1024x2816, .f32⟩
  | 20 => ⟨S8192x2816, .f32⟩
  | 21 => ⟨S8192x2816, .f32⟩
  | 22 => ⟨S8192x2816, .f32⟩
  | 23 => ⟨S_, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S8192x2816, .f32⟩
  | 30 => ⟨S1x1024x2816, .f32⟩
  | 31 => ⟨S1024x2816, .f32⟩
  | 32 => ⟨S8192x2816, .f32⟩
  | 33 => ⟨S8192x2816, .f32⟩
  | 34 => ⟨S1x2816x1024, .f32⟩
  | 35 => ⟨S2816x1024, .f32⟩
  | 36 => ⟨S8192x1024, .f32⟩
  | 37 => ⟨S8192x1, .f32⟩
  | 38 => ⟨S8192x1024, .f32⟩
  | 39 => ⟨S8192x1024, .f32⟩
  | 40 => ⟨S8192x1024, .f32⟩
  | 41 => ⟨S1x1024x2816, .f32⟩
  | 42 => ⟨S1024x2816, .f32⟩
  | 43 => ⟨S8192x2816, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S1x1024x2816, .f32⟩
  | 54 => ⟨S1024x2816, .f32⟩
  | 55 => ⟨S8192x2816, .f32⟩
  | 56 => ⟨S8192x2816, .f32⟩
  | 57 => ⟨S1x2816x1024, .f32⟩
  | 58 => ⟨S2816x1024, .f32⟩
  | 59 => ⟨S8192x1024, .f32⟩
  | 60 => ⟨S8192x1, .f32⟩
  | 61 => ⟨S8192x1024, .f32⟩
  | 62 => ⟨S8192x1024, .f32⟩
  | 63 => ⟨S8192x1024, .f32⟩
  | 64 => ⟨S1x1024x2816, .f32⟩
  | 65 => ⟨S1024x2816, .f32⟩
  | 66 => ⟨S8192x2816, .f32⟩
  | 67 => ⟨S8192x2816, .f32⟩
  | 68 => ⟨S8192x2816, .f32⟩
  | 69 => ⟨S_, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S8192x2816, .f32⟩
  | 76 => ⟨S1x1024x2816, .f32⟩
  | 77 => ⟨S1024x2816, .f32⟩
  | 78 => ⟨S8192x2816, .f32⟩
  | 79 => ⟨S8192x2816, .f32⟩
  | 80 => ⟨S1x2816x1024, .f32⟩
  | 81 => ⟨S2816x1024, .f32⟩
  | 82 => ⟨S8192x1024, .f32⟩
  | 83 => ⟨S8192x1, .f32⟩
  | 84 => ⟨S8192x1024, .f32⟩
  | 85 => ⟨S8192x1024, .f32⟩
  | 86 => ⟨S8192x1024, .f32⟩
  | 87 => ⟨S1x1024x2816, .f32⟩
  | 88 => ⟨S1024x2816, .f32⟩
  | 89 => ⟨S8192x2816, .f32⟩
  | 90 => ⟨S8192x2816, .f32⟩
  | 91 => ⟨S8192x2816, .f32⟩
  | 92 => ⟨S_, .f32⟩
  | 93 => ⟨S8192x2816, .f32⟩
  | 94 => ⟨S8192x2816, .f32⟩
  | 95 => ⟨S_, .f32⟩
  | 96 => ⟨S8192x2816, .f32⟩
  | 97 => ⟨S8192x2816, .f32⟩
  | 98 => ⟨S8192x2816, .f32⟩
  | 99 => ⟨S1x1024x2816, .f32⟩
  | 100 => ⟨S1024x2816, .f32⟩
  | 101 => ⟨S8192x2816, .f32⟩
  | 102 => ⟨S8192x2816, .f32⟩
  | 103 => ⟨S1x2816x1024, .f32⟩
  | 104 => ⟨S2816x1024, .f32⟩
  | 105 => ⟨S8192x1024, .f32⟩
  | 106 => ⟨S8192x1, .f32⟩
  | 107 => ⟨S8192x1024, .f32⟩
  | 108 => ⟨S8192x1024, .f32⟩
  | 109 => ⟨S8192x1024, .f32⟩
  | 110 => ⟨S1x1024x2816, .f32⟩
  | 111 => ⟨S1024x2816, .f32⟩
  | 112 => ⟨S8192x2816, .f32⟩
  | 113 => ⟨S8192x2816, .f32⟩
  | 114 => ⟨S8192x2816, .f32⟩
  | 115 => ⟨S_, .f32⟩
  | 116 => ⟨S8192x2816, .f32⟩
  | 117 => ⟨S8192x2816, .f32⟩
  | 118 => ⟨S_, .f32⟩
  | 119 => ⟨S8192x2816, .f32⟩
  | 120 => ⟨S8192x2816, .f32⟩
  | 121 => ⟨S8192x2816, .f32⟩
  | 122 => ⟨S1x1024x2816, .f32⟩
  | 123 => ⟨S1024x2816, .f32⟩
  | 124 => ⟨S8192x2816, .f32⟩
  | 125 => ⟨S8192x2816, .f32⟩
  | 126 => ⟨S1x2816x1024, .f32⟩
  | 127 => ⟨S2816x1024, .f32⟩
  | _ => ⟨S32x256x1024, .f32⟩

abbrev hbmTy0_2 (i : Nat) : BufTy := match i % 128 with
  | 0 => ⟨S8192x1024, .f32⟩
  | 1 => ⟨S8192x1, .f32⟩
  | 2 => ⟨S8192x1024, .f32⟩
  | 3 => ⟨S8192x1024, .f32⟩
  | 4 => ⟨S8192x1024, .f32⟩
  | 5 => ⟨S_, .f32⟩
  | 6 => ⟨S32x256x1024, .f32⟩
  | 7 => ⟨S32x256x1024, .f32⟩
  | 8 => ⟨S32x256x1024, .f32⟩
  | 9 => ⟨S32x256x1024, .f32⟩
  | 10 => ⟨S32x256x1024, .f32⟩
  | 11 => ⟨S32x256x1024, .f32⟩
  | 12 => ⟨S_, .f32⟩
  | 13 => ⟨S32x256, .f32⟩
  | 14 => ⟨S32x256x1, .f32⟩
  | 15 => ⟨S_, .f32⟩
  | 16 => ⟨S32x256x1, .f32⟩
  | 17 => ⟨S32x256x1, .f32⟩
  | 18 => ⟨S32x256x1024, .f32⟩
  | 19 => ⟨S32x256x1024, .f32⟩
  | 20 => ⟨S32x256x1024, .f32⟩
  | 21 => ⟨S_, .f32⟩
  | 22 => ⟨S32x256, .f32⟩
  | 23 => ⟨S32x256x1, .f32⟩
  | 24 => ⟨S_, .f32⟩
  | 25 => ⟨S32x256x1, .f32⟩
  | 26 => ⟨S32x256x1, .f32⟩
  | 27 => ⟨S32x256x1024, .f32⟩
  | 28 => ⟨S32x256x1024, .f32⟩
  | 29 => ⟨S_, .f32⟩
  | 30 => ⟨S32x256x1, .f32⟩
  | 31 => ⟨S32x256x1, .f32⟩
  | 32 => ⟨S32x256x1, .f32⟩
  | 33 => ⟨S32x256x1024, .f32⟩
  | 34 => ⟨S32x256x1024, .f32⟩
  | 35 => ⟨S1x1x1024, .f32⟩
  | 36 => ⟨S32x256x1024, .f32⟩
  | 37 => ⟨S32x256x1024, .f32⟩
  | 38 => ⟨S1x1x1024, .f32⟩
  | 39 => ⟨S32x256x1024, .f32⟩
  | 40 => ⟨S32x256x1024, .f32⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_values : Ref sig .tc := ⟨.hbm, 57, rfl⟩
abbrev main_indices : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_call4_v0 : Ref sig .tc := ⟨.hbm, 126, rfl⟩
abbrev main_call4_v1 : Ref sig .tc := ⟨.hbm, 127, rfl⟩
abbrev main_call4_cst : Ref sig .tc := ⟨.hbm, 128, rfl⟩
abbrev main_call4_v2 : Ref sig .tc := ⟨.hbm, 129, rfl⟩
abbrev main_call4_v3 : Ref sig .tc := ⟨.hbm, 130, rfl⟩
abbrev main_call4_cst_0 : Ref sig .tc := ⟨.hbm, 131, rfl⟩
abbrev main_call4_v4 : Ref sig .tc := ⟨.hbm, 132, rfl⟩
abbrev main_call4_v5 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_call5_v0 : Ref sig .tc := ⟨.hbm, 149, rfl⟩
abbrev main_call5_v1 : Ref sig .tc := ⟨.hbm, 150, rfl⟩
abbrev main_call5_cst : Ref sig .tc := ⟨.hbm, 151, rfl⟩
abbrev main_call5_v2 : Ref sig .tc := ⟨.hbm, 152, rfl⟩
abbrev main_call5_v3 : Ref sig .tc := ⟨.hbm, 153, rfl⟩
abbrev main_call5_cst_0 : Ref sig .tc := ⟨.hbm, 154, rfl⟩
abbrev main_call5_v4 : Ref sig .tc := ⟨.hbm, 155, rfl⟩
abbrev main_call5_v5 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_call6_v0 : Ref sig .tc := ⟨.hbm, 172, rfl⟩
abbrev main_call6_v1 : Ref sig .tc := ⟨.hbm, 173, rfl⟩
abbrev main_call6_cst : Ref sig .tc := ⟨.hbm, 174, rfl⟩
abbrev main_call6_v2 : Ref sig .tc := ⟨.hbm, 175, rfl⟩
abbrev main_call6_v3 : Ref sig .tc := ⟨.hbm, 176, rfl⟩
abbrev main_call6_cst_0 : Ref sig .tc := ⟨.hbm, 177, rfl⟩
abbrev main_call6_v4 : Ref sig .tc := ⟨.hbm, 178, rfl⟩
abbrev main_call6_v5 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_call7_v0 : Ref sig .tc := ⟨.hbm, 195, rfl⟩
abbrev main_call7_v1 : Ref sig .tc := ⟨.hbm, 196, rfl⟩
abbrev main_call7_cst : Ref sig .tc := ⟨.hbm, 197, rfl⟩
abbrev main_call7_v2 : Ref sig .tc := ⟨.hbm, 198, rfl⟩
abbrev main_call7_v3 : Ref sig .tc := ⟨.hbm, 199, rfl⟩
abbrev main_call7_cst_0 : Ref sig .tc := ⟨.hbm, 200, rfl⟩
abbrev main_call7_v4 : Ref sig .tc := ⟨.hbm, 201, rfl⟩
abbrev main_call7_v5 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_call8_v0 : Ref sig .tc := ⟨.hbm, 218, rfl⟩
abbrev main_call8_v1 : Ref sig .tc := ⟨.hbm, 219, rfl⟩
abbrev main_call8_cst : Ref sig .tc := ⟨.hbm, 220, rfl⟩
abbrev main_call8_v2 : Ref sig .tc := ⟨.hbm, 221, rfl⟩
abbrev main_call8_v3 : Ref sig .tc := ⟨.hbm, 222, rfl⟩
abbrev main_call8_cst_0 : Ref sig .tc := ⟨.hbm, 223, rfl⟩
abbrev main_call8_v4 : Ref sig .tc := ⟨.hbm, 224, rfl⟩
abbrev main_call8_v5 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_call9_v0 : Ref sig .tc := ⟨.hbm, 241, rfl⟩
abbrev main_call9_v1 : Ref sig .tc := ⟨.hbm, 242, rfl⟩
abbrev main_call9_cst : Ref sig .tc := ⟨.hbm, 243, rfl⟩
abbrev main_call9_v2 : Ref sig .tc := ⟨.hbm, 244, rfl⟩
abbrev main_call9_v3 : Ref sig .tc := ⟨.hbm, 245, rfl⟩
abbrev main_call9_cst_0 : Ref sig .tc := ⟨.hbm, 246, rfl⟩
abbrev main_call9_v4 : Ref sig .tc := ⟨.hbm, 247, rfl⟩
abbrev main_call9_v5 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_cst_6 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_7 : Ref sig .tc := ⟨.hbm, 268, rfl⟩
abbrev main_v170 : Ref sig .tc := ⟨.hbm, 269, rfl⟩
abbrev main_v171 : Ref sig .tc := ⟨.hbm, 270, rfl⟩
abbrev main_cst_8 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_cst_9 : Ref sig .tc := ⟨.hbm, 277, rfl⟩
abbrev main_v177 : Ref sig .tc := ⟨.hbm, 278, rfl⟩
abbrev main_v178 : Ref sig .tc := ⟨.hbm, 279, rfl⟩
abbrev main_cst_10 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_cst_11 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩

abbrev nD : Nat := 1
abbrev τ : Topo := Topo.v7x

variable {F : FTy → Type} [FloatOps F]
-- ==== Kernel3.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x1024 : Shape := ⟨2, ![1024, 1024]⟩
abbrev S1024 : Shape := ⟨1, ![1024]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S8192x1024 : Shape := ⟨2, ![8192, 1024]⟩
abbrev S512x1024 : Shape := ⟨2, ![512, 1024]⟩
abbrev S1024x512 : Shape := ⟨2, ![1024, 512]⟩
abbrev S512x512 : Shape := ⟨2, ![512, 512]⟩
abbrev S32x256 : Shape := ⟨2, ![32, 256]⟩
abbrev S32x256x1 : Shape := ⟨3, ![32, 256, 1]⟩
abbrev S1x1x1024 : Shape := ⟨3, ![1, 1, 1024]⟩

abbrev nBuf : Space → Nat
  | .hbm => 96
  | .vmem => 18
  | .smem => 0
  | _ => 0

abbrev bufTy : (tb : Table) → Fin (tcTables nBuf tb) → BufTy
  | .hbm, ⟨0, _⟩ => ⟨S32x256x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S32x256x1024, .f32⟩
  | .hbm, ⟨5, _⟩ => ⟨S32x256x1024, .f32⟩
  | .hbm, ⟨6, _⟩ => ⟨S32x256x1024, .f32⟩
  | .hbm, ⟨7, _⟩ => ⟨S32x256x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S_, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x6144, .f32⟩
  | .hbm, ⟨23, _⟩ => ⟨S1x6144, .f32⟩
  | .hbm, ⟨24, _⟩ => ⟨S32x6144, .f32⟩
  | .hbm, ⟨25, _⟩ => ⟨S32x6144, .f32⟩
  | .hbm, ⟨26, _⟩ => ⟨S32x1x6144, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S32x1x1024, .f32⟩
  | .hbm, ⟨33, _⟩ => ⟨S8192x1024, .f32⟩
  | .hbm, ⟨34, _⟩ => ⟨S8192x1024, .f32⟩
  | .hbm, ⟨35, _⟩ => ⟨S32x256x1024, .f32⟩
  | .hbm, ⟨36, _⟩ => ⟨S8192x1024, .f32⟩
  | .hbm, ⟨37, _⟩ => ⟨S8192x1024, .f32⟩
  | .hbm, ⟨38, _⟩ => ⟨S32x256x1024, .f32⟩
  | .hbm, ⟨39, _⟩ => ⟨S32x256x1024, .f32⟩
  | .hbm, ⟨40, _⟩ => ⟨S32x256x1024, .f32⟩
  | .hbm, ⟨41, _⟩ => ⟨S_, .f32⟩
  | .hbm, ⟨42, _⟩ => ⟨S32x256x1024, .f32⟩
  | .hbm, ⟨43, _⟩ => ⟨S32x256x1024, .f32⟩
  | .hbm, ⟨44, _⟩ => ⟨S_, .f32⟩
  | .hbm, ⟨45, _⟩ => ⟨S32x256x1024, .f32⟩
  | .hbm, ⟨46, _⟩ => ⟨S32x256x1024, .f32⟩
  | .hbm, ⟨47, _⟩ => ⟨S32x256x1024, .f32⟩
  | .hbm, ⟨48, _⟩ => ⟨S32x256x1024, .f32⟩
  | .hbm, ⟨49, _⟩ => ⟨S32x256x1024, .f32⟩
  | .hbm, ⟨50, _⟩ => ⟨S_, .f32⟩
  | .hbm, ⟨51, _⟩ => ⟨S32x256x1024, .f32⟩
  | .hbm, ⟨52, _⟩ => ⟨S32x256x1024, .f32⟩
  | .hbm, ⟨53, _⟩ => ⟨S_, .f32⟩
  | .hbm, ⟨54, _⟩ => ⟨S32x256x1024, .f32⟩
  | .hbm, ⟨55, _⟩ => ⟨S32x256x1024, .f32⟩
  | .hbm, ⟨56, _⟩ => ⟨S32x256x1024, .f32⟩
  | .hbm, ⟨57, _⟩ => ⟨S32x256x1024, .f32⟩
  | .hbm, ⟨58, _⟩ => ⟨S8192x1024, .f32⟩
  | .hbm, ⟨59, _⟩ => ⟨S8192x1024, .f32⟩
  | .hbm, ⟨60, _⟩ => ⟨S32x256x1024, .f32⟩
  | .hbm, ⟨61, _⟩ => ⟨S_, .f32⟩
  | .hbm, ⟨62, _⟩ => ⟨S32x256x1024, .f32⟩
  | .hbm, ⟨63, _⟩ => ⟨S32x256x1024, .f32⟩
  | .hbm, ⟨64, _⟩ => ⟨S32x256x1024, .f32⟩
  | .hbm, ⟨65, _⟩ => ⟨S32x256x1024, .f32⟩
  | .hbm, ⟨66, _⟩ => ⟨S32x256x1024, .f32⟩
  | .hbm, ⟨67, _⟩ => ⟨S_, .f32⟩
  | .hbm, ⟨68, _⟩ => ⟨S32x256, .f32⟩
  | .hbm, ⟨69, _⟩ => ⟨S32x256x1, .f32⟩
  | .hbm, ⟨70, _⟩ => ⟨S_, .f32⟩
  | .hbm, ⟨71, _⟩ => ⟨S32x256x1, .f32⟩
  | .hbm, ⟨72, _⟩ => ⟨S32x256x1, .f32⟩
  | .hbm, ⟨73, _⟩ => ⟨S32x256x1024, .f32⟩
  | .hbm, ⟨74, _⟩ => ⟨S32x256x1024, .f32⟩
  | .hbm, ⟨75, _⟩ => ⟨S32x256x1024, .f32⟩
  | .hbm, ⟨76, _⟩ => ⟨S_, .f32⟩
  | .hbm, ⟨77, _⟩ => ⟨S32x256, .f32⟩
  | .hbm, ⟨78, _⟩ => ⟨S32x256x1, .f32⟩
  | .hbm, ⟨79, _⟩ => ⟨S_, .f32⟩
  | .hbm, ⟨80, _⟩ => ⟨S32x256x1, .f32⟩
  | .hbm, ⟨81, _⟩ => ⟨S32x256x1, .f32⟩
  | .hbm, ⟨82, _⟩ => ⟨S32x256x1024, .f32⟩
  | .hbm, ⟨83, _⟩ => ⟨S32x256x1024, .f32⟩
  | .hbm, ⟨84, _⟩ => ⟨S_, .f32⟩
  | .hbm, ⟨85, _⟩ => ⟨S32x256x1, .f32⟩
  | .hbm, ⟨86, _⟩ => ⟨S32x256x1, .f32⟩
  | .hbm, ⟨87, _⟩ => ⟨S32x256x1, .f32⟩
  | .hbm, ⟨88, _⟩ => ⟨S32x256x1024, .f32⟩
  | .hbm, ⟨89, _⟩ => ⟨S32x256x1024, .f32⟩
  | .hbm, ⟨90, _⟩ => ⟨S1x1x1024, .f32⟩
  | .hbm, ⟨91, _⟩ => ⟨S32x256x1024, .f32⟩
  | .hbm, ⟨92, _⟩ => ⟨S32x256x1024, .f32⟩
  | .hbm, ⟨93, _⟩ => ⟨S1x1x1024, .f32⟩
  | .hbm, ⟨94, _⟩ => ⟨S32x256x1024, .f32⟩
  | .hbm, ⟨95, _⟩ => ⟨S32x256x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1024x512, .f32⟩
  | .local _ .vmem, ⟨9, _⟩ => ⟨S1024x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S1024x512, .f32⟩
  | .local _ .vmem, ⟨15, _⟩ => ⟨S1024x512, .f32⟩
  | .local _ .vmem, ⟨16, _⟩ => ⟨S512x512, .f32⟩
  | .local _ .vmem, ⟨17, _⟩ => ⟨S512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![16, 2, 1], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 2, 1], ![false, false, false]⟩

def k1_cond1 (i : grid1.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k1_cond2 (i : grid1.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 2, 1], ![false, false, false]⟩

def k2_cond1 (i : grid2.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k2_cond2 (i : grid2.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference3Ideal.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x1024 : Shape := ⟨2, ![1024, 1024]⟩
abbrev S1024 : Shape := ⟨1, ![1024]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S32x256 : Shape := ⟨2, ![32, 256]⟩
abbrev S32x256x1 : Shape := ⟨3, ![32, 256, 1]⟩
abbrev S1x1x1024 : Shape := ⟨3, ![1, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S32x256x1024, .f32⟩
  | .hbm, ⟨5, _⟩ => ⟨S32x256x1024, .f32⟩
  | .hbm, ⟨6, _⟩ => ⟨S32x256x1024, .f32⟩
  | .hbm, ⟨7, _⟩ => ⟨S32x256x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S_, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x6144, .f32⟩
  | .hbm, ⟨23, _⟩ => ⟨S1x6144, .f32⟩
  | .hbm, ⟨24, _⟩ => ⟨S32x6144, .f32⟩
  | .hbm, ⟨25, _⟩ => ⟨S32x6144, .f32⟩
  | .hbm, ⟨26, _⟩ => ⟨S32x1x6144, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S32x1x1024, .f32⟩
  | .hbm, ⟨33, _⟩ => ⟨S32x256x1024, .f32⟩
  | .hbm, ⟨34, _⟩ => ⟨S32x256x1024, .f32⟩
  | .hbm, ⟨35, _⟩ => ⟨S_, .f32⟩
  | .hbm, ⟨36, _⟩ => ⟨S32x256x1024, .f32⟩
  | .hbm, ⟨37, _⟩ => ⟨S32x256x1024, .f32⟩
  | .hbm, ⟨38, _⟩ => ⟨S_, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S_, .f32⟩
  | .hbm, ⟨46, _⟩ => ⟨S32x256x1024, .f32⟩
  | .hbm, ⟨47, _⟩ => ⟨S32x256x1024, .f32⟩
  | .hbm, ⟨48, _⟩ => ⟨S_, .f32⟩
  | .hbm, ⟨49, _⟩ => ⟨S32x256x1024, .f32⟩
  | .hbm, ⟨50, _⟩ => ⟨S32x256x1024, .f32⟩
  | .hbm, ⟨51, _⟩ => ⟨S32x256x1024, .f32⟩
  | .hbm, ⟨52, _⟩ => ⟨S32x256x1024, .f32⟩
  | .hbm, ⟨53, _⟩ => ⟨S32x256x1024, .f32⟩
  | .hbm, ⟨54, _⟩ => ⟨S32x256x1024, .f32⟩
  | .hbm, ⟨55, _⟩ => ⟨S_, .f32⟩
  | .hbm, ⟨56, _⟩ => ⟨S32x256x1024, .f32⟩
  | .hbm, ⟨57, _⟩ => ⟨S32x256x1024, .f32⟩
  | .hbm, ⟨58, _⟩ => ⟨S32x256x1024, .f32⟩
  | .hbm, ⟨59, _⟩ => ⟨S32x256x1024, .f32⟩
  | .hbm, ⟨60, _⟩ => ⟨S32x256x1024, .f32⟩
  | .hbm, ⟨61, _⟩ => ⟨S_, .f32⟩
  | .hbm, ⟨62, _⟩ => ⟨S32x256, .f32⟩
  | .hbm, ⟨63, _⟩ => ⟨S32x256x1, .f32⟩
  | .hbm, ⟨64, _⟩ => ⟨S_, .f32⟩
  | .hbm, ⟨65, _⟩ => ⟨S32x256x1, .f32⟩
  | .hbm, ⟨66, _⟩ => ⟨S32x256x1, .f32⟩
  | .hbm, ⟨67, _⟩ => ⟨S32x256x1024, .f32⟩
  | .hbm, ⟨68, _⟩ => ⟨S32x256x1024, .f32⟩
  | .hbm, ⟨69, _⟩ => ⟨S32x256x1024, .f32⟩
  | .hbm, ⟨70, _⟩ => ⟨S_, .f32⟩
  | .hbm, ⟨71, _⟩ => ⟨S32x256, .f32⟩
  | .hbm, ⟨72, _⟩ => ⟨S32x256x1, .f32⟩
  | .hbm, ⟨73, _⟩ => ⟨S_, .f32⟩
  | .hbm, ⟨74, _⟩ => ⟨S32x256x1, .f32⟩
  | .hbm, ⟨75, _⟩ => ⟨S32x256x1, .f32⟩
  | .hbm, ⟨76, _⟩ => ⟨S32x256x1024, .f32⟩
  | .hbm, ⟨77, _⟩ => ⟨S32x256x1024, .f32⟩
  | .hbm, ⟨78, _⟩ => ⟨S_, .f32⟩
  | .hbm, ⟨79, _⟩ => ⟨S32x256x1, .f32⟩
  | .hbm, ⟨80, _⟩ => ⟨S32x256x1, .f32⟩
  | .hbm, ⟨81, _⟩ => ⟨S32x256x1, .f32⟩
  | .hbm, ⟨82, _⟩ => ⟨S32x256x1024, .f32⟩
  | .hbm, ⟨83, _⟩ => ⟨S32x256x1024, .f32⟩
  | .hbm, ⟨84, _⟩ => ⟨S1x1x1024, .f32⟩
  | .hbm, ⟨85, _⟩ => ⟨S32x256x1024, .f32⟩
  | .hbm, ⟨86, _⟩ => ⟨S32x256x1024, .f32⟩
  | .hbm, ⟨87, _⟩ => ⟨S1x1x1024, .f32⟩
  | .hbm, ⟨88, _⟩ => ⟨S32x256x1024, .f32⟩
  | .hbm, ⟨89, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Kernel4.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x10272 : Shape := ⟨2, ![1024, 10272]⟩
abbrev S10272 : Shape := ⟨1, ![10272]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S8192x1024 : Shape := ⟨2, ![8192, 1024]⟩
abbrev S1024x2080 : Shape := ⟨2, ![1024, 2080]⟩
abbrev S1024x2176 : Shape := ⟨2, ![1024, 2176]⟩
abbrev S8192x8192 : Shape := ⟨2, ![8192, 8192]⟩
abbrev S512x1024 : Shape := ⟨2, ![512, 1024]⟩
abbrev S1024x512 : Shape := ⟨2, ![1024, 512]⟩
abbrev S512x512 : Shape := ⟨2, ![512, 512]⟩
abbrev S8192x2176 : Shape := ⟨2, ![8192, 2176]⟩
abbrev S1024x128 : Shape := ⟨2, ![1024, 128]⟩
abbrev S512x128 : Shape := ⟨2, ![512, 128]⟩
abbrev S8192x2080 : Shape := ⟨2, ![8192, 2080]⟩
abbrev S8192x10272 : Shape := ⟨2, ![8192, 10272]⟩
abbrev S32x256x10272 : Shape := ⟨3, ![32, 256, 10272]⟩
abbrev S1x1x10272 : Shape := ⟨3, ![1, 1, 10272]⟩

abbrev nBuf : Space → Nat
  | .hbm => 46
  | .vmem => 12
  | .smem => 0
  | _ => 0

abbrev bufTy : (tb : Table) → Fin (tcTables nBuf tb) → BufTy
  | .hbm, ⟨0, _⟩ => ⟨S32x256x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S1024x10272, .f32⟩
  | .hbm, ⟨5, _⟩ => ⟨S10272, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x6144, .f32⟩
  | .hbm, ⟨16, _⟩ => ⟨S1x6144, .f32⟩
  | .hbm, ⟨17, _⟩ => ⟨S32x6144, .f32⟩
  | .hbm, ⟨18, _⟩ => ⟨S32x6144, .f32⟩
  | .hbm, ⟨19, _⟩ => ⟨S32x1x6144, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S32x1x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S8192x1024, .f32⟩
  | .hbm, ⟨34, _⟩ => ⟨S1024x2080, .f32⟩
  | .hbm, ⟨35, _⟩ => ⟨S_, .i32⟩
  | .hbm, ⟨36, _⟩ => ⟨S_, .f32⟩
  | .hbm, ⟨37, _⟩ => ⟨S1024x2176, .f32⟩
  | .hbm, ⟨38, _⟩ => ⟨S8192x8192, .f32⟩
  | .hbm, ⟨39, _⟩ => ⟨S8192x2176, .f32⟩
  | .hbm, ⟨40, _⟩ => ⟨S8192x2080, .f32⟩
  | .hbm, ⟨41, _⟩ => ⟨S8192x10272, .f32⟩
  | .hbm, ⟨42, _⟩ => ⟨S32x256x10272, .f32⟩
  | .hbm, ⟨43, _⟩ => ⟨S1x1x10272, .f32⟩
  | .hbm, ⟨44, _⟩ => ⟨S32x256x10272, .f32⟩
  | .hbm, ⟨45, _⟩ => ⟨S32x256x10272, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1024x128, .f32⟩
  | .local _ .vmem, ⟨9, _⟩ => ⟨S1024x128, .f32⟩
  | .local _ .vmem, ⟨10, _⟩ => ⟨S512x128, .f32⟩
  | .local _ .vmem, ⟨11, _⟩ => ⟨S512x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![16, 16, 1], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 17, 1], ![false, false, false]⟩

def k1_cond1 (i : grid1.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k1_cond2 (i : grid1.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference4Ideal.lean ====
abbrev S32x256x1024 : Shape := ⟨3, ![32, 256, 1024]⟩
abbrev S32x1024 : Shape := ⟨2, ![32, 1024]⟩
abbrev S1024x6144 : Shape := ⟨2, ![1024, 6144]⟩
abbrev S6144 : Shape := ⟨1, ![6144]⟩
abbrev S1024x10272 : Shape := ⟨2, ![1024, 10272]⟩
abbrev S10272 : Shape := ⟨1, ![10272]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S32x256x10272 : Shape := ⟨3, ![32, 256, 10272]⟩
abbrev S1x1x10272 : Shape := ⟨3, ![1, 1, 10272]⟩

abbrev nBuf : Space → Nat
  | .hbm => 37
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S1024x10272, .f32⟩
  | .hbm, ⟨5, _⟩ => ⟨S10272, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x6144, .f32⟩
  | .hbm, ⟨16, _⟩ => ⟨S1x6144, .f32⟩
  | .hbm, ⟨17, _⟩ => ⟨S32x6144, .f32⟩
  | .hbm, ⟨18, _⟩ => ⟨S32x6144, .f32⟩
  | .hbm, ⟨19, _⟩ => ⟨S32x1x6144, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S32x1x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x10272, .f32⟩
  | .hbm, ⟨34, _⟩ => ⟨S1x1x10272, .f32⟩
  | .hbm, ⟨35, _⟩ => ⟨S32x256x10272, .f32⟩
  | .hbm, ⟨36, _⟩ => ⟨S32x256x10272, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel5.lean ====
abbrev S2x1024x1024 : Shape := ⟨3, ![2, 1024, 1024]⟩
abbrev S2x1024 : Shape := ⟨2, ![2, 1024]⟩
abbrev S1024x6144 : Shape := ⟨2, ![1024, 6144]⟩
abbrev S6144 : Shape := ⟨1, ![6144]⟩
abbrev S1024x8 : Shape := ⟨2, ![1024, 8]⟩
abbrev S8 : Shape := ⟨1, ![8]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2048x1024 : Shape := ⟨2, ![2048, 1024]⟩
abbrev S2048x8 : Shape := ⟨2, ![2048, 8]⟩
abbrev S1x8 : Shape := ⟨2, ![1, 8]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2048x2816 : Shape := ⟨2, ![2048, 2816]⟩
abbrev S512x1024 : Shape := ⟨2, ![512, 1024]⟩
abbrev S1024x256 : Shape := ⟨2, ![1024, 256]⟩
abbrev S512x256 : Shape := ⟨2, ![512, 256]⟩
abbrev S512x1408 : Shape := ⟨2, ![512, 1408]⟩
abbrev S1408x512 : Shape := ⟨2, ![1408, 512]⟩
abbrev S512x512 : Shape := ⟨2, ![512, 512]⟩
abbrev S2x1024x1 : Shape := ⟨3, ![2, 1024, 1]⟩
abbrev S1x1x1024 : Shape := ⟨3, ![1, 1, 1024]⟩

abbrev nBuf : Space → Nat
  | .hbm => 297
  | .vmem => 144
  | .smem => 0
  | _ => 0

abbrev hbmTy0_0 (i : Nat) : BufTy := match i % 128 with
  | 0 => ⟨S2x1024x1024, .f32⟩
  | 1 => ⟨S2x1024, .f32⟩
  | 2 => ⟨S1024x6144, .f32⟩
  | 3 => ⟨S6144, .f32⟩
  | 4 => ⟨S1024x8, .f32⟩
  | 5 => ⟨S8, .f32⟩
  | 6 => ⟨S8x1024x2816, .f32⟩
  | 7 => ⟨S8x1024x2816, .f32⟩
  | 8 => ⟨S8x2816x1024, .f32⟩
  | 9 => ⟨S1024, .f32⟩
  | 10 => ⟨S1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S2x6144, .f32⟩
  | 21 => ⟨S1x6144, .f32⟩
  | 22 => ⟨S2x6144, .f32⟩
  | 23 => ⟨S2x6144, .f32⟩
  | 24 => ⟨S2x1x6144, .f32⟩
  | 25 => ⟨S2x1x1024, .f32⟩
  | 26 => ⟨S2x1x1024, .f32⟩
  | 27 => ⟨S2x1x1024, .f32⟩
  | 28 => ⟨S2x1x1024, .f32⟩
  | 29 => ⟨S2x1x1024, .f32⟩
  | 30 => ⟨S2x1x1024, .f32⟩
  | 31 => ⟨S_, .f32⟩
  | 32 => ⟨S2x1x1024, .f32⟩
  | 33 => ⟨S2x1x1024, .f32⟩
  | 34 => ⟨S2x1024x1024, .f32⟩
  | 35 => ⟨S2x1024x1024, .f32⟩
  | 36 => ⟨S2x1024x1024, .f32⟩
  | 37 => ⟨S2x1024x1024, .f32⟩
  | 38 => ⟨S2048x1024, .f32⟩
  | 39 => ⟨S2048x8, .f32⟩
  | 40 => ⟨S1x8, .f32⟩
  | 41 => ⟨S2048x8, .f32⟩
  | 42 => ⟨S2048x8, .f32⟩
  | 43 => ⟨S_, .f32⟩
  | 44 => ⟨S2048, .f32⟩
  | 45 => ⟨S_, .f32⟩
  | 46 => ⟨S2048, .f32⟩
  | 47 => ⟨S2048, .f32⟩
  | 48 => ⟨S2048x1, .f32⟩
  | 49 => ⟨S2048x8, .f32⟩
  | 50 => ⟨S2048x8, .f32⟩
  | 51 => ⟨S2048x8, .f32⟩
  | 52 => ⟨S_, .f32⟩
  | 53 => ⟨S2048, .f32⟩
  | 54 => ⟨S2048x1, .f32⟩
  | 55 => ⟨S2048x8, .f32⟩
  | 56 => ⟨S2048x8, .f32⟩
  | 57 => ⟨S2048x2, .f32⟩
  | 58 => ⟨S2048x2, .i32⟩
  | 59 => ⟨S_, .f32⟩
  | 60 => ⟨S2048, .f32⟩
  | 61 => ⟨S2048x1, .f32⟩
  | 62 => ⟨S2048x2, .f32⟩
  | 63 => ⟨S2048x2, .f32⟩
  | 64 => ⟨S2048x2x1, .i32⟩
  | 65 => ⟨S1x1x8, .i32⟩
  | 66 => ⟨S2048x2x8, .i32⟩
  | 67 => ⟨S2048x2x8, .i32⟩
  | 68 => ⟨S2048x2x8, .i1⟩
  | 69 => ⟨S2048x2x8, .f32⟩
  | 70 => ⟨S2048x2x1, .f32⟩
  | 71 => ⟨S2048x2x8, .f32⟩
  | 72 => ⟨S2048x2x8, .f32⟩
  | 73 => ⟨S_, .f32⟩
  | 74 => ⟨S2048x8, .f32⟩
  | 75 => ⟨S_, .f32⟩
  | 76 => ⟨S2048x1024, .f32⟩
  | 77 => ⟨S1x1024x2816, .f32⟩
  | 78 => ⟨S1024x2816, .f32⟩
  | 79 => ⟨S1x1024x2816, .f32⟩
  | 80 => ⟨S1024x2816, .f32⟩
  | 81 => ⟨S1x2816x1024, .f32⟩
  | 82 => ⟨S2816x1024, .f32⟩
  | 83 => ⟨S2048x2816, .f32⟩
  | 84 => ⟨S2048x2816, .f32⟩
  | 85 => ⟨S2048x2816, .f32⟩
  | 86 => ⟨S2048x2816, .f32⟩
  | 87 => ⟨S_, .f32⟩
  | 88 => ⟨S2048x2816, .f32⟩
  | 89 => ⟨S2048x2816, .f32⟩
  | 90 => ⟨S_, .f32⟩
  | 91 => ⟨S2048x2816, .f32⟩
  | 92 => ⟨S2048x2816, .f32⟩
  | 93 => ⟨S2048x2816, .f32⟩
  | 94 => ⟨S2048x2816, .f32⟩
  | 95 => ⟨S2048x1024, .f32⟩
  | 96 => ⟨S2048x1, .f32⟩
  | 97 => ⟨S2048x1024, .f32⟩
  | 98 => ⟨S2048x1024, .f32⟩
  | 99 => ⟨S2048x1024, .f32⟩
  | 100 => ⟨S1x1024x2816, .f32⟩
  | 101 => ⟨S1024x2816, .f32⟩
  | 102 => ⟨S1x1024x2816, .f32⟩
  | 103 => ⟨S1024x2816, .f32⟩
  | 104 => ⟨S1x2816x1024, .f32⟩
  | 105 => ⟨S2816x1024, .f32⟩
  | 106 => ⟨S2048x2816, .f32⟩
  | 107 => ⟨S2048x2816, .f32⟩
  | 108 => ⟨S2048x2816, .f32⟩
  | 109 => ⟨S2048x2816, .f32⟩
  | 110 => ⟨S_, .f32⟩
  | 111 => ⟨S2048x2816, .f32⟩
  | 112 => ⟨S2048x2816, .f32⟩
  | 113 => ⟨S_, .f32⟩
  | 114 => ⟨S2048x2816, .f32⟩
  | 115 => ⟨S2048x2816, .f32⟩
  | 116 => ⟨S2048x2816, .f32⟩
  | 117 => ⟨S2048x2816, .f32⟩
  | 118 => ⟨S2048x1024, .f32⟩
  | 119 => ⟨S2048x1, .f32⟩
  | 120 => ⟨S2048x1024, .f32⟩
  | 121 => ⟨S2048x1024, .f32⟩
  | 122 => ⟨S2048x1024, .f32⟩
  | 123 => ⟨S1x1024x2816, .f32⟩
  | 124 => ⟨S1024x2816, .f32⟩
  | 125 => ⟨S1x1024x2816, .f32⟩
  | 126 => ⟨S1024x2816, .f32⟩
  | 127 => ⟨S1x2816x1024, .f32⟩
  | _ => ⟨S2x1024x1024, .f32⟩

abbrev hbmTy0_1 (i : Nat) : BufTy := match i % 128 with
  | 0 => ⟨S2816x1024, .f32⟩
  | 1 => ⟨S2048x2816, .f32⟩
  | 2 => ⟨S2048x2816, .f32⟩
  | 3 => ⟨S2048x2816, .f32⟩
  | 4 => ⟨S2048x2816, .f32⟩
  | 5 => ⟨S_, .f32⟩
  | 6 => ⟨S2048x2816, .f32⟩
  | 7 => ⟨S2048x2816, .f32⟩
  | 8 => ⟨S_, .f32⟩
  | 9 => ⟨S2048x2816, .f32⟩
  | 10 => ⟨S2048x2816, .f32⟩
  | 11 => ⟨S2048x2816, .f32⟩
  | 12 => ⟨S2048x2816, .f32⟩
  | 13 => ⟨S2048x1024, .f32⟩
  | 14 => ⟨S2048x1, .f32⟩
  | 15 => ⟨S2048x1024, .f32⟩
  | 16 => ⟨S2048x1024, .f32⟩
  | 17 => ⟨S2048x1024, .f32⟩
  | 18 => ⟨S1x1024x2816, .f32⟩
  | 19 => ⟨S1024x2816, .f32⟩
  | 20 => ⟨S1x1024x2816, .f32⟩
  | 21 => ⟨S1024x2816, .f32⟩
  | 22 => ⟨S1x2816x1024, .f32⟩
  | 23 => ⟨S2816x1024, .f32⟩
  | 24 => ⟨S2048x2816, .f32⟩
  | 25 => ⟨S2048x2816, .f32⟩
  | 26 => ⟨S2048x2816, .f32⟩
  | 27 => ⟨S2048x2816, .f32⟩
  | 28 => ⟨S_, .f32⟩
  | 29 => ⟨S2048x2816, .f32⟩
  | 30 => ⟨S2048x2816, .f32⟩
  | 31 => ⟨S_, .f32⟩
  | 32 => ⟨S2048x2816, .f32⟩
  | 33 => ⟨S2048x2816, .f32⟩
  | 34 => ⟨S2048x2816, .f32⟩
  | 35 => ⟨S2048x2816, .f32⟩
  | 36 => ⟨S2048x1024, .f32⟩
  | 37 => ⟨S2048x1, .f32⟩
  | 38 => ⟨S2048x1024, .f32⟩
  | 39 => ⟨S2048x1024, .f32⟩
  | 40 => ⟨S2048x1024, .f32⟩
  | 41 => ⟨S1x1024x2816, .f32⟩
  | 42 => ⟨S1024x2816, .f32⟩
  | 43 => ⟨S1x1024x2816, .f32⟩
  | 44 => ⟨S1024x2816, .f32⟩
  | 45 => ⟨S1x2816x1024, .f32⟩
  | 46 => ⟨S2816x1024, .f32⟩
  | 47 => ⟨S2048x2816, .f32⟩
  | 48 => ⟨S2048x2816, .f32⟩
  | 49 => ⟨S2048x2816, .f32⟩
  | 50 => ⟨S2048x2816, .f32⟩
  | 51 => ⟨S_, .f32⟩
  | 52 => ⟨S2048x2816, .f32⟩
  | 53 => ⟨S2048x2816, .f32⟩
  | 54 => ⟨S_, .f32⟩
  | 55 => ⟨S2048x2816, .f32⟩
  | 56 => ⟨S2048x2816, .f32⟩
  | 57 => ⟨S2048x2816, .f32⟩
  | 58 => ⟨S2048x2816, .f32⟩
  | 59 => ⟨S2048x1024, .f32⟩
  | 60 => ⟨S2048x1, .f32⟩
  | 61 => ⟨S2048x1024, .f32⟩
  | 62 => ⟨S2048x1024, .f32⟩
  | 63 => ⟨S2048x1024, .f32⟩
  | 64 => ⟨S1x1024x2816, .f32⟩
  | 65 => ⟨S1024x2816, .f32⟩
  | 66 => ⟨S1x1024x2816, .f32⟩
  | 67 => ⟨S1024x2816, .f32⟩
  | 68 => ⟨S1x2816x1024, .f32⟩
  | 69 => ⟨S2816x1024, .f32⟩
  | 70 => ⟨S2048x2816, .f32⟩
  | 71 => ⟨S2048x2816, .f32⟩
  | 72 => ⟨S2048x2816, .f32⟩
  | 73 => ⟨S2048x2816, .f32⟩
  | 74 => ⟨S_, .f32⟩
  | 75 => ⟨S2048x2816, .f32⟩
  | 76 => ⟨S2048x2816, .f32⟩
  | 77 => ⟨S_, .f32⟩
  | 78 => ⟨S2048x2816, .f32⟩
  | 79 => ⟨S2048x2816, .f32⟩
  | 80 => ⟨S2048x2816, .f32⟩
  | 81 => ⟨S2048x2816, .f32⟩
  | 82 => ⟨S2048x1024, .f32⟩
  | 83 => ⟨S2048x1, .f32⟩
  | 84 => ⟨S2048x1024, .f32⟩
  | 85 => ⟨S2048x1024, .f32⟩
  | 86 => ⟨S2048x1024, .f32⟩
  | 87 => ⟨S1x1024x2816, .f32⟩
  | 88 => ⟨S1024x2816, .f32⟩
  | 89 => ⟨S1x1024x2816, .f32⟩
  | 90 => ⟨S1024x2816, .f32⟩
  | 91 => ⟨S1x2816x1024, .f32⟩
  | 92 => ⟨S2816x1024, .f32⟩
  | 93 => ⟨S2048x2816, .f32⟩
  | 94 => ⟨S2048x2816, .f32⟩
  | 95 => ⟨S2048x2816, .f32⟩
  | 96 => ⟨S2048x2816, .f32⟩
  | 97 => ⟨S_, .f32⟩
  | 98 => ⟨S2048x2816, .f32⟩
  | 99 => ⟨S2048x2816, .f32⟩
  | 100 => ⟨S_, .f32⟩
  | 101 => ⟨S2048x2816, .f32⟩
  | 102 => ⟨S2048x2816, .f32⟩
  | 103 => ⟨S2048x2816, .f32⟩
  | 104 => ⟨S2048x2816, .f32⟩
  | 105 => ⟨S2048x1024, .f32⟩
  | 106 => ⟨S2048x1, .f32⟩
  | 107 => ⟨S2048x1024, .f32⟩
  | 108 => ⟨S2048x1024, .f32⟩
  | 109 => ⟨S2048x1024, .f32⟩
  | 110 => ⟨S1x1024x2816, .f32⟩
  | 111 => ⟨S1024x2816, .f32⟩
  | 112 => ⟨S1x1024x2816, .f32⟩
  | 113 => ⟨S1024x2816, .f32⟩
  | 114 => ⟨S1x2816x1024, .f32⟩
  | 115 => ⟨S2816x1024, .f32⟩
  | 116 => ⟨S2048x2816, .f32⟩
  | 117 => ⟨S2048x2816, .f32⟩
  | 118 => ⟨S2048x2816, .f32⟩
  | 119 => ⟨S2048x2816, .f32⟩
  | 120 => ⟨S_, .f32⟩
  | 121 => ⟨S2048x2816, .f32⟩
  | 122 => ⟨S2048x2816, .f32⟩
  | 123 => ⟨S_, .f32⟩
  | 124 => ⟨S2048x2816, .f32⟩
  | 125 => ⟨S2048x2816, .f32⟩
  | 126 => ⟨S2048x2816, .f32⟩
  | 127 => ⟨S2048x2816, .f32⟩
  | _ => ⟨S2x1024x1024, .f32⟩

abbrev hbmTy0_2 (i : Nat) : BufTy := match i % 128 with
  | 0 => ⟨S2048x1024, .f32⟩
  | 1 => ⟨S2048x1, .f32⟩
  | 2 => ⟨S2048x1024, .f32⟩
  | 3 => ⟨S2048x1024, .f32⟩
  | 4 => ⟨S2048x1024, .f32⟩
  | 5 => ⟨S2x1024x1024, .f32⟩
  | 6 => ⟨S_, .f32⟩
  | 7 => ⟨S2x1024x1024, .f32⟩
  | 8 => ⟨S2x1024x1024, .f32⟩
  | 9 => ⟨S2x1024x1024, .f32⟩
  | 10 => ⟨S2x1024x1024, .f32⟩
  | 11 => ⟨S2x1024x1024, .f32⟩
  | 12 => ⟨S_, .f32⟩
  | 13 => ⟨S2x1024, .f32⟩
  | 14 => ⟨S2x1024x1, .f32⟩
  | 15 => ⟨S_, .f32⟩
  | 16 => ⟨S2x1024x1, .f32⟩
  | 17 => ⟨S2x1024x1, .f32⟩
  | 18 => ⟨S2x1024x1024, .f32⟩
  | 19 => ⟨S2x1024x1024, .f32⟩
  | 20 => ⟨S2x1024x1024, .f32⟩
  | 21 => ⟨S_, .f32⟩
  | 22 => ⟨S2x1024, .f32⟩
  | 23 => ⟨S2x1024x1, .f32⟩
  | 24 => ⟨S_, .f32⟩
  | 25 => ⟨S2x1024x1, .f32⟩
  | 26 => ⟨S2x1024x1, .f32⟩
  | 27 => ⟨S2x1024x1024, .f32⟩
  | 28 => ⟨S2x1024x1024, .f32⟩
  | 29 => ⟨S_, .f32⟩
  | 30 => ⟨S2x1024x1, .f32⟩
  | 31 => ⟨S2x1024x1, .f32⟩
  | 32 => ⟨S2x1024x1, .f32⟩
  | 33 => ⟨S2x1024x1024, .f32⟩
  | 34 => ⟨S2x1024x1024, .f32⟩
  | 35 => ⟨S1x1x1024, .f32⟩
  | 36 => ⟨S2x1024x1024, .f32⟩
  | 37 => ⟨S2x1024x1024, .f32⟩
  | 38 => ⟨S1x1x1024, .f32⟩
  | 39 => ⟨S2x1024x1024, .f32⟩
  | 40 => ⟨S2x1024x1024, .f32⟩
  | _ => ⟨S2x1024x1024, .f32⟩

abbrev hbmTy (i : Nat) : BufTy := match i / 128 with
  | 0 => hbmTy0_0 i
  | 1 => hbmTy0_1 i
  | 2 => hbmTy0_2 i
  | _ => ⟨S2x1024x1024, .f32⟩

abbrev vmemTy0_0 (i : Nat) : BufTy := match i % 128 with
  | 0 => ⟨S512x1024, .f32⟩
  | 1 => ⟨S512x1024, .f32⟩
  | 2 => ⟨S1024x256, .f32⟩
  | 3 => ⟨S1024x256, .f32⟩
  | 4 => ⟨S512x256, .f32⟩
  | 5 => ⟨S512x256, .f32⟩
  | 6 => ⟨S512x1024, .f32⟩
  | 7 => ⟨S512x1024, .f32⟩
  | 8 => ⟨S1024x256, .f32⟩
  | 9 => ⟨S1024x256, .f32⟩
  | 10 => ⟨S512x256, .f32⟩
  | 11 => ⟨S512x256, .f32⟩
  | 12 => ⟨S512x1408, .f32⟩
  | 13 => ⟨S512x1408, .f32⟩
  | 14 => ⟨S1408x512, .f32⟩
  | 15 => ⟨S1408x512, .f32⟩
  | 16 => ⟨S512x512, .f32⟩
  | 17 => ⟨S512x512, .f32⟩
  | 18 => ⟨S512x1024, .f32⟩
  | 19 => ⟨S512x1024, .f32⟩
  | 20 => ⟨S1024x256, .f32⟩
  | 21 => ⟨S1024x256, .f32⟩
  | 22 => ⟨S512x256, .f32⟩
  | 23 => ⟨S512x256, .f32⟩
  | 24 => ⟨S512x1024, .f32⟩
  | 25 => ⟨S512x1024, .f32⟩
  | 26 => ⟨S1024x256, .f32⟩
  | 27 => ⟨S1024x256, .f32⟩
  | 28 => ⟨S512x256, .f32⟩
  | 29 => ⟨S512x256, .f32⟩
  | 30 => ⟨S512x1408, .f32⟩
  | 31 => ⟨S512x1408, .f32⟩
  | 32 => ⟨S1408x512, .f32⟩
  | 33 => ⟨S1408x512, .f32⟩
  | 34 => ⟨S512x512, .f32⟩
  | 35 => ⟨S512x512, .f32⟩
  | 36 => ⟨S512x1024, .f32⟩
  | 37 => ⟨S512x1024, .f32⟩
  | 38 => ⟨S1024x256, .f32⟩
  | 39 => ⟨S1024x256, .f32⟩
  | 40 => ⟨S512x256, .f32⟩
  | 41 => ⟨S512x256, .f32⟩
  | 42 => ⟨S512x1024, .f32⟩
  | 43 => ⟨S512x1024, .f32⟩
  | 44 => ⟨S1024x256, .f32⟩
  | 45 => ⟨S1024x256, .f32⟩
  | 46 => ⟨S512x256, .f32⟩
  | 47 => ⟨S512x256, .f32⟩
  | 48 => ⟨S512x1408, .f32⟩
  | 49 => ⟨S512x1408, .f32⟩
  | 50 => ⟨S1408x512, .f32⟩
  | 51 => ⟨S1408x512, .f32⟩
  | 52 => ⟨S512x512, .f32⟩
  | 53 => ⟨S512x512, .f32⟩
  | 54 => ⟨S512x1024, .f32⟩
  | 55 => ⟨S512x1024, .f32⟩
  | 56 => ⟨S1024x256, .f32⟩
  | 57 => ⟨S1024x256, .f32⟩
  | 58 => ⟨S512x256, .f32⟩
  | 59 => ⟨S512x256, .f32⟩
  | 60 => ⟨S512x1024, .f32⟩
  | 61 => ⟨S512x1024, .f32⟩
  | 62 => ⟨S1024x256, .f32⟩
  | 63 => ⟨S1024x256, .f32⟩
  | 64 => ⟨S512x256, .f32⟩
  | 65 => ⟨S512x256, .f32⟩
  | 66 => ⟨S512x1408, .f32⟩
  | 67 => ⟨S512x1408, .f32⟩
  | 68 => ⟨S1408x512, .f32⟩
  | 69 => ⟨S1408x512, .f32⟩
  | 70 => ⟨S512x512, .f32⟩
  | 71 => ⟨S512x512, .f32⟩
  | 72 => ⟨S512x1024, .f32⟩
  | 73 => ⟨S512x1024, .f32⟩
  | 74 => ⟨S1024x256, .f32⟩
  | 75 => ⟨S1024x256, .f32⟩
  | 76 => ⟨S512x256, .f32⟩
  | 77 => ⟨S512x256, .f32⟩
  | 78 => ⟨S512x1024, .f32⟩
  | 79 => ⟨S512x1024, .f32⟩
  | 80 => ⟨S1024x256, .f32⟩
  | 81 => ⟨S1024x256, .f32⟩
  | 82 => ⟨S512x256, .f32⟩
  | 83 => ⟨S512x256, .f32⟩
  | 84 => ⟨S512x1408, .f32⟩
  | 85 => ⟨S512x1408, .f32⟩
  | 86 => ⟨S1408x512, .f32⟩
  | 87 => ⟨S1408x512, .f32⟩
  | 88 => ⟨S512x512, .f32⟩
  | 89 => ⟨S512x512, .f32⟩
  | 90 => ⟨S512x1024, .f32⟩
  | 91 => ⟨S512x1024, .f32⟩
  | 92 => ⟨S1024x256, .f32⟩
  | 93 => ⟨S1024x256, .f32⟩
  | 94 => ⟨S512x256, .f32⟩
  | 95 => ⟨S512x256, .f32⟩
  | 96 => ⟨S512x1024, .f32⟩
  | 97 => ⟨S512x1024, .f32⟩
  | 98 => ⟨S1024x256, .f32⟩
  | 99 => ⟨S1024x256, .f32⟩
  | 100 => ⟨S512x256, .f32⟩
  | 101 => ⟨S512x256, .f32⟩
  | 102 => ⟨S512x1408, .f32⟩
  | 103 => ⟨S512x1408, .f32⟩
  | 104 => ⟨S1408x512, .f32⟩
  | 105 => ⟨S1408x512, .f32⟩
  | 106 => ⟨S512x512, .f32⟩
  | 107 => ⟨S512x512, .f32⟩
  | 108 => ⟨S512x1024, .f32⟩
  | 109 => ⟨S512x1024, .f32⟩
  | 110 => ⟨S1024x256, .f32⟩
  | 111 => ⟨S1024x256, .f32⟩
  | 112 => ⟨S512x256, .f32⟩
  | 113 => ⟨S512x256, .f32⟩
  | 114 => ⟨S512x1024, .f32⟩
  | 115 => ⟨S512x1024, .f32⟩
  | 116 => ⟨S1024x256, .f32⟩
  | 117 => ⟨S1024x256, .f32⟩
  | 118 => ⟨S512x256, .f32⟩
  | 119 => ⟨S512x256, .f32⟩
  | 120 => ⟨S512x1408, .f32⟩
  | 121 => ⟨S512x1408, .f32⟩
  | 122 => ⟨S1408x512, .f32⟩
  | 123 => ⟨S1408x512, .f32⟩
  | 124 => ⟨S512x512, .f32⟩
  | 125 => ⟨S512x512, .f32⟩
  | 126 => ⟨S512x1024, .f32⟩
  | 127 => ⟨S512x1024, .f32⟩
  | _ => ⟨S2x1024x1024, .f32⟩

abbrev vmemTy0_1 (i : Nat) : BufTy := match i % 128 with
  | 0 => ⟨S1024x256, .f32⟩
  | 1 => ⟨S1024x256, .f32⟩
  | 2 => ⟨S512x256, .f32⟩
  | 3 => ⟨S512x256, .f32⟩
  | 4 => ⟨S512x1024, .f32⟩
  | 5 => ⟨S512x1024, .f32⟩
  | 6 => ⟨S1024x256, .f32⟩
  | 7 => ⟨S1024x256, .f32⟩
  | 8 => ⟨S512x256, .f32⟩
  | 9 => ⟨S512x256, .f32⟩
  | 10 => ⟨S512x1408, .f32⟩
  | 11 => ⟨S512x1408, .f32⟩
  | 12 => ⟨S1408x512, .f32⟩
  | 13 => ⟨S1408x512, .f32⟩
  | 14 => ⟨S512x512, .f32⟩
  | 15 => ⟨S512x512, .f32⟩
  | _ => ⟨S2x1024x1024, .f32⟩

abbrev vmemTy (i : Nat) : BufTy := match i / 128 with
  | 0 => vmemTy0_0 i
  | 1 => vmemTy0_1 i
  | _ => ⟨S2x1024x1024, .f32⟩

abbrev bufTy : (tb : Table) → Fin (tcTables nBuf tb) → BufTy
  | .hbm, ⟨i, _⟩ => hbmTy i
  | .local _ .vmem, ⟨i, _⟩ => vmemTy i
  | _, _ => ⟨S2x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 144 → Bool
  | ⟨i, _⟩ => dmaSemScopedAt i

abbrev sig : RefSig :=
  ofTc nBuf bufTy 0 144 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_values : Ref sig .tc := ⟨.hbm, 57, rfl⟩
abbrev main_indices : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_call8_v0 : Ref sig .tc := ⟨.hbm, 223, rfl⟩
abbrev main_call8_v1 : Ref sig .tc := ⟨.hbm, 224, rfl⟩
abbrev main_call8_cst : Ref sig .tc := ⟨.hbm, 225, rfl⟩
abbrev main_call8_v2 : Ref sig .tc := ⟨.hbm, 226, rfl⟩
abbrev main_call8_v3 : Ref sig .tc := ⟨.hbm, 227, rfl⟩
abbrev main_call8_cst_0 : Ref sig .tc := ⟨.hbm, 228, rfl⟩
abbrev main_call8_v4 : Ref sig .tc := ⟨.hbm, 229, rfl⟩
abbrev main_call8_v5 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_call9_v0 : Ref sig .tc := ⟨.hbm, 246, rfl⟩
abbrev main_call9_v1 : Ref sig .tc := ⟨.hbm, 247, rfl⟩
abbrev main_call9_cst : Ref sig .tc := ⟨.hbm, 248, rfl⟩
abbrev main_call9_v2 : Ref sig .tc := ⟨.hbm, 249, rfl⟩
abbrev main_call9_v3 : Ref sig .tc := ⟨.hbm, 250, rfl⟩
abbrev main_call9_cst_0 : Ref sig .tc := ⟨.hbm, 251, rfl⟩
abbrev main_call9_v4 : Ref sig .tc := ⟨.hbm, 252, rfl⟩
abbrev main_call9_v5 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_cst_6 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_7 : Ref sig .tc := ⟨.hbm, 268, rfl⟩
abbrev main_v170 : Ref sig .tc := ⟨.hbm, 269, rfl⟩
abbrev main_v171 : Ref sig .tc := ⟨.hbm, 270, rfl⟩
abbrev main_cst_8 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_cst_9 : Ref sig .tc := ⟨.hbm, 277, rfl⟩
abbrev main_v177 : Ref sig .tc := ⟨.hbm, 278, rfl⟩
abbrev main_v178 : Ref sig .tc := ⟨.hbm, 279, rfl⟩
abbrev main_cst_10 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_cst_11 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg1_1 : Ref sig .tc := ⟨.vmem, 75, rfl⟩
abbrev cc12_stg2_0 : Ref sig .tc := ⟨.vmem, 76, rfl⟩
abbrev cc12_stg2_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg1_1 : Ref sig .tc := ⟨.vmem, 87, rfl⟩
abbrev cc14_stg2_0 : Ref sig .tc := ⟨.vmem, 88, rfl⟩
abbrev cc14_stg2_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg1_1 : Ref sig .tc := ⟨.vmem, 99, rfl⟩
abbrev cc16_stg2_0 : Ref sig .tc := ⟨.vmem, 100, rfl⟩
abbrev cc16_stg2_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg1_1 : Ref sig .tc := ⟨.vmem, 105, rfl⟩
abbrev cc17_stg2_0 : Ref sig .tc := ⟨.vmem, 106, rfl⟩
abbrev cc17_stg2_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg1_1 : Ref sig .tc := ⟨.vmem, 111, rfl⟩
abbrev cc18_stg2_0 : Ref sig .tc := ⟨.vmem, 112, rfl⟩
abbrev cc18_stg2_1 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg1_1 : Ref sig .tc := ⟨.vmem, 117, rfl⟩
abbrev cc19_stg2_0 : Ref sig .tc := ⟨.vmem, 118, rfl⟩
abbrev cc19_stg2_1 : Ref sig .tc := ⟨.vmem, 119, rfl⟩
abbrev cc20_stg0_0 : Ref sig .tc := ⟨.vmem, 120, rfl⟩
abbrev cc20_stg0_1 : Ref sig .tc := ⟨.vmem, 121, rfl⟩
abbrev cc20_stg1_0 : Ref sig .tc := ⟨.vmem, 122, rfl⟩
abbrev cc20_stg1_1 : Ref sig .tc := ⟨.vmem, 123, rfl⟩
abbrev cc20_stg2_0 : Ref sig .tc := ⟨.vmem, 124, rfl⟩
abbrev cc20_stg2_1 : Ref sig .tc := ⟨.vmem, 125, rfl⟩
abbrev cc21_stg0_0 : Ref sig .tc := ⟨.vmem, 126, rfl⟩
abbrev cc21_stg0_1 : Ref sig .tc := ⟨.vmem, 127, rfl⟩
abbrev cc21_stg1_0 : Ref sig .tc := ⟨.vmem, 128, rfl⟩
abbrev cc21_stg1_1 : Ref sig .tc := ⟨.vmem, 129, rfl⟩
abbrev cc21_stg2_0 : Ref sig .tc := ⟨.vmem, 130, rfl⟩
abbrev cc21_stg2_1 : Ref sig .tc := ⟨.vmem, 131, rfl⟩
abbrev cc22_stg0_0 : Ref sig .tc := ⟨.vmem, 132, rfl⟩
abbrev cc22_stg0_1 : Ref sig .tc := ⟨.vmem, 133, rfl⟩
abbrev cc22_stg1_0 : Ref sig .tc := ⟨.vmem, 134, rfl⟩
abbrev cc22_stg1_1 : Ref sig .tc := ⟨.vmem, 135, rfl⟩
abbrev cc22_stg2_0 : Ref sig .tc := ⟨.vmem, 136, rfl⟩
abbrev cc22_stg2_1 : Ref sig .tc := ⟨.vmem, 137, rfl⟩
abbrev cc23_stg0_0 : Ref sig .tc := ⟨.vmem, 138, rfl⟩
abbrev cc23_stg0_1 : Ref sig .tc := ⟨.vmem, 139, rfl⟩
abbrev cc23_stg1_0 : Ref sig .tc := ⟨.vmem, 140, rfl⟩
abbrev cc23_stg1_1 : Ref sig .tc := ⟨.vmem, 141, rfl⟩
abbrev cc23_stg2_0 : Ref sig .tc := ⟨.vmem, 142, rfl⟩
abbrev cc23_stg2_1 : Ref sig .tc := ⟨.vmem, 143, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71
abbrev cc12_sem0_0 : DmaSem sig := 72
abbrev cc12_sem0_1 : DmaSem sig := 73
abbrev cc12_sem1_0 : DmaSem sig := 74
abbrev cc12_sem1_1 : DmaSem sig := 75
abbrev cc12_sem2_0 : DmaSem sig := 76
abbrev cc12_sem2_1 : DmaSem sig := 77
abbrev cc13_sem0_0 : DmaSem sig := 78
abbrev cc13_sem0_1 : DmaSem sig := 79
abbrev cc13_sem1_0 : DmaSem sig := 80
abbrev cc13_sem1_1 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem1_1 : DmaSem sig := 87
abbrev cc14_sem2_0 : DmaSem sig := 88
abbrev cc14_sem2_1 : DmaSem sig := 89
abbrev cc15_sem0_0 : DmaSem sig := 90
abbrev cc15_sem0_1 : DmaSem sig := 91
abbrev cc15_sem1_0 : DmaSem sig := 92
abbrev cc15_sem1_1 : DmaSem sig := 93
abbrev cc15_sem2_0 : DmaSem sig := 94
abbrev cc15_sem2_1 : DmaSem sig := 95
abbrev cc16_sem0_0 : DmaSem sig := 96
abbrev cc16_sem0_1 : DmaSem sig := 97
abbrev cc16_sem1_0 : DmaSem sig := 98
abbrev cc16_sem1_1 : DmaSem sig := 99
abbrev cc16_sem2_0 : DmaSem sig := 100
abbrev cc16_sem2_1 : DmaSem sig := 101
abbrev cc17_sem0_0 : DmaSem sig := 102
abbrev cc17_sem0_1 : DmaSem sig := 103
abbrev cc17_sem1_0 : DmaSem sig := 104
abbrev cc17_sem1_1 : DmaSem sig := 105
abbrev cc17_sem2_0 : DmaSem sig := 106
abbrev cc17_sem2_1 : DmaSem sig := 107
abbrev cc18_sem0_0 : DmaSem sig := 108
abbrev cc18_sem0_1 : DmaSem sig := 109
abbrev cc18_sem1_0 : DmaSem sig := 110
abbrev cc18_sem1_1 : DmaSem sig := 111
abbrev cc18_sem2_0 : DmaSem sig := 112
abbrev cc18_sem2_1 : DmaSem sig := 113
abbrev cc19_sem0_0 : DmaSem sig := 114
abbrev cc19_sem0_1 : DmaSem sig := 115
abbrev cc19_sem1_0 : DmaSem sig := 116
abbrev cc19_sem1_1 : DmaSem sig := 117
abbrev cc19_sem2_0 : DmaSem sig := 118
abbrev cc19_sem2_1 : DmaSem sig := 119
abbrev cc20_sem0_0 : DmaSem sig := 120
abbrev cc20_sem0_1 : DmaSem sig := 121
abbrev cc20_sem1_0 : DmaSem sig := 122
abbrev cc20_sem1_1 : DmaSem sig := 123
abbrev cc20_sem2_0 : DmaSem sig := 124
abbrev cc20_sem2_1 : DmaSem sig := 125
abbrev cc21_sem0_0 : DmaSem sig := 126
abbrev cc21_sem0_1 : DmaSem sig := 127
abbrev cc21_sem1_0 : DmaSem sig := 128
abbrev cc21_sem1_1 : DmaSem sig := 129
abbrev cc21_sem2_0 : DmaSem sig := 130
abbrev cc21_sem2_1 : DmaSem sig := 131
abbrev cc22_sem0_0 : DmaSem sig := 132
abbrev cc22_sem0_1 : DmaSem sig := 133
abbrev cc22_sem1_0 : DmaSem sig := 134
abbrev cc22_sem1_1 : DmaSem sig := 135
abbrev cc22_sem2_0 : DmaSem sig := 136
abbrev cc22_sem2_1 : DmaSem sig := 137
abbrev cc23_sem0_0 : DmaSem sig := 138
abbrev cc23_sem0_1 : DmaSem sig := 139
abbrev cc23_sem1_0 : DmaSem sig := 140
abbrev cc23_sem1_1 : DmaSem sig := 141
abbrev cc23_sem2_0 : DmaSem sig := 142
abbrev cc23_sem2_1 : DmaSem sig := 143

abbrev nD : Nat := 1
abbrev τ : Topo := Topo.v7x

variable {F : FTy → Type} [FloatOps F]

abbrev grid0 : Pipeline.Grid := ⟨3, ![4, 11, 1], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k0_cond2 (i : grid0.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 11, 1], ![false, false, false]⟩

def k1_cond1 (i : grid1.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k1_cond2 (i : grid1.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 2], ![false, false, false]⟩

def k2_cond1 (i : grid2.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k2_cond2 (i : grid2.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1408x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 11, 1], ![false, false, false]⟩

def k3_cond1 (i : grid3.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k3_cond2 (i : grid3.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 11, 1], ![false, false, false]⟩

def k4_cond1 (i : grid4.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k4_cond2 (i : grid4.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 2, 2], ![false, false, false]⟩

def k5_cond1 (i : grid5.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k5_cond2 (i : grid5.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x1408 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1408x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 11, 1], ![false, false, false]⟩

def k6_cond1 (i : grid6.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k6_cond2 (i : grid6.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 11, 1], ![false, false, false]⟩

def k7_cond1 (i : grid7.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k7_cond2 (i : grid7.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 2, 2], ![false, false, false]⟩

def k8_cond1 (i : grid8.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k8_cond2 (i : grid8.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S512x1408 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1408x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 11, 1], ![false, false, false]⟩

def k9_cond1 (i : grid9.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k9_cond2 (i : grid9.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S512x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 11, 1], ![false, false, false]⟩

def k10_cond1 (i : grid10.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k10_cond2 (i : grid10.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S512x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![4, 2, 2], ![false, false, false]⟩

def k11_cond1 (i : grid11.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k11_cond2 (i : grid11.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S512x1408 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S1408x512 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S512x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![4, 11, 1], ![false, false, false]⟩

def k12_cond1 (i : grid12.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k12_cond2 (i : grid12.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S512x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 2 → Memref sig .tc .vmem S1024x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S512x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev grid13 : Pipeline.Grid := ⟨3, ![4, 11, 1], ![false, false, false]⟩

def k13_cond1 (i : grid13.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k13_cond2 (i : grid13.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 2 → Memref sig .tc .vmem S512x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false, true]

abbrev stage13_1 : Fin 2 → Memref sig .tc .vmem S1024x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true, true]

abbrev stage13_2 : Fin 2 → Memref sig .tc .vmem S512x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true, false]

abbrev grid14 : Pipeline.Grid := ⟨3, ![4, 2, 2], ![false, false, false]⟩

def k14_cond1 (i : grid14.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k14_cond2 (i : grid14.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 2 → Memref sig .tc .vmem S512x1408 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false, true]

abbrev stage14_1 : Fin 2 → Memref sig .tc .vmem S1408x512 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true, true]

abbrev stage14_2 : Fin 2 → Memref sig .tc .vmem S512x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true, false]

abbrev grid15 : Pipeline.Grid := ⟨3, ![4, 11, 1], ![false, false, false]⟩

def k15_cond1 (i : grid15.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k15_cond2 (i : grid15.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc15_transform_0 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc15_transform_1 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc15_transform_2 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage15_0 : Fin 2 → Memref sig .tc .vmem S512x1024 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false, true]

abbrev stage15_1 : Fin 2 → Memref sig .tc .vmem S1024x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true, true]

abbrev stage15_2 : Fin 2 → Memref sig .tc .vmem S512x256 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true, false]

abbrev grid16 : Pipeline.Grid := ⟨3, ![4, 11, 1], ![false, false, false]⟩

def k16_cond1 (i : grid16.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k16_cond2 (i : grid16.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc16_transform_0 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc16_transform_1 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc16_transform_2 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage16_0 : Fin 2 → Memref sig .tc .vmem S512x1024 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false, true]

abbrev stage16_1 : Fin 2 → Memref sig .tc .vmem S1024x256 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true, true]

abbrev stage16_2 : Fin 2 → Memref sig .tc .vmem S512x256 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, true, false]

abbrev grid17 : Pipeline.Grid := ⟨3, ![4, 2, 2], ![false, false, false]⟩

def k17_cond1 (i : grid17.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k17_cond2 (i : grid17.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc17_transform_0 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc17_transform_1 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc17_transform_2 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage17_0 : Fin 2 → Memref sig .tc .vmem S512x1408 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, false, true]

abbrev stage17_1 : Fin 2 → Memref sig .tc .vmem S1408x512 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![false, true, true]

abbrev stage17_2 : Fin 2 → Memref sig .tc .vmem S512x512 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, true, false]

abbrev grid18 : Pipeline.Grid := ⟨3, ![4, 11, 1], ![false, false, false]⟩

def k18_cond1 (i : grid18.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k18_cond2 (i : grid18.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc18_transform_0 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc18_transform_1 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc18_transform_2 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage18_0 : Fin 2 → Memref sig .tc .vmem S512x1024 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, false, true]

abbrev stage18_1 : Fin 2 → Memref sig .tc .vmem S1024x256 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true, true]

abbrev stage18_2 : Fin 2 → Memref sig .tc .vmem S512x256 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, true, false]

abbrev grid19 : Pipeline.Grid := ⟨3, ![4, 11, 1], ![false, false, false]⟩

def k19_cond1 (i : grid19.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k19_cond2 (i : grid19.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc19_transform_0 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc19_transform_1 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc19_transform_2 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage19_0 : Fin 2 → Memref sig .tc .vmem S512x1024 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, false, true]

abbrev stage19_1 : Fin 2 → Memref sig .tc .vmem S1024x256 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![false, true, true]

abbrev stage19_2 : Fin 2 → Memref sig .tc .vmem S512x256 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true, true, false]

abbrev grid20 : Pipeline.Grid := ⟨3, ![4, 2, 2], ![false, false, false]⟩

def k20_cond1 (i : grid20.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k20_cond2 (i : grid20.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc20_transform_0 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc20_transform_1 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc20_transform_2 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage20_0 : Fin 2 → Memref sig .tc .vmem S512x1408 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, false, true]

abbrev stage20_1 : Fin 2 → Memref sig .tc .vmem S1408x512 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![false, true, true]

abbrev stage20_2 : Fin 2 → Memref sig .tc .vmem S512x512 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true, true, false]

abbrev grid21 : Pipeline.Grid := ⟨3, ![4, 11, 1], ![false, false, false]⟩

def k21_cond1 (i : grid21.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k21_cond2 (i : grid21.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc21_transform_0 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc21_transform_1 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc21_transform_2 (i : grid21.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage21_0 : Fin 2 → Memref sig .tc .vmem S512x1024 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, false, true]

abbrev stage21_1 : Fin 2 → Memref sig .tc .vmem S1024x256 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![false, true, true]

abbrev stage21_2 : Fin 2 → Memref sig .tc .vmem S512x256 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true, true, false]

abbrev grid22 : Pipeline.Grid := ⟨3, ![4, 11, 1], ![false, false, false]⟩

def k22_cond1 (i : grid22.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k22_cond2 (i : grid22.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc22_transform_0 (i : grid22.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc22_transform_1 (i : grid22.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc22_transform_2 (i : grid22.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage22_0 : Fin 2 → Memref sig .tc .vmem S512x1024 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true, false, true]

abbrev stage22_1 : Fin 2 → Memref sig .tc .vmem S1024x256 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![false, true, true]

abbrev stage22_2 : Fin 2 → Memref sig .tc .vmem S512x256 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true, true, false]

abbrev grid23 : Pipeline.Grid := ⟨3, ![4, 2, 2], ![false, false, false]⟩

def k23_cond1 (i : grid23.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k23_cond2 (i : grid23.Coords) : BitVec 1 :=
  let arg2 : BitVec 32 := BitVec.ofNat 32 (i 2).val
  let c0_i32_4 : BitVec 32 := 0#32
  let v10 : BitVec 1 := Scalar.cmpi .ne arg2 c0_i32_4
  let v11 : BitVec 32 := Scalar.extui v10
  let c0_i32_5 : BitVec 32 := 0#32
  let v12 : BitVec 1 := Scalar.cmpi .ne v11 c0_i32_5
  v12

def cc23_transform_0 (i : grid23.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc23_transform_1 (i : grid23.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc23_transform_2 (i : grid23.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage23_0 : Fin 2 → Memref sig .tc .vmem S512x1408 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true, false, true]

abbrev stage23_1 : Fin 2 → Memref sig .tc .vmem S1408x512 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![false, true, true]

abbrev stage23_2 : Fin 2 → Memref sig .tc .vmem S512x512 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true, true, false]
-- ==== Reference5Ideal.lean ====
abbrev S2x1024x1024 : Shape := ⟨3, ![2, 1024, 1024]⟩
abbrev S2x1024 : Shape := ⟨2, ![2, 1024]⟩
abbrev S1024x6144 : Shape := ⟨2, ![1024, 6144]⟩
abbrev S6144 : Shape := ⟨1, ![6144]⟩
abbrev S1024x8 : Shape := ⟨2, ![1024, 8]⟩
abbrev S8 : Shape := ⟨1, ![8]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2048x1024 : Shape := ⟨2, ![2048, 1024]⟩
abbrev S2048x8 : Shape := ⟨2, ![2048, 8]⟩
abbrev S1x8 : Shape := ⟨2, ![1, 8]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S1x1024x2816 : Shape := ⟨3, ![1, 1024, 2816]⟩
abbrev S1024x2816 : Shape := ⟨2, ![1024, 2816]⟩
abbrev S2048x2816 : Shape := ⟨2, ![2048, 2816]⟩
abbrev S1x2816x1024 : Shape := ⟨3, ![1, 2816, 1024]⟩
abbrev S2816x1024 : Shape := ⟨2, ![2816, 1024]⟩
abbrev S2x1024x1 : Shape := ⟨3, ![2, 1024, 1]⟩
abbrev S1x1x1024 : Shape := ⟨3, ![1, 1, 1024]⟩

abbrev nBuf : Space → Nat
  | .hbm => 297
  | .vmem => 0
  | .smem => 0
  | _ => 0

abbrev hbmTy0_0 (i : Nat) : BufTy := match i % 128 with
  | 0 => ⟨S2x1024x1024, .f32⟩
  | 1 => ⟨S2x1024, .f32⟩
  | 2 => ⟨S1024x6144, .f32⟩
  | 3 => ⟨S6144, .f32⟩
  | 4 => ⟨S1024x8, .f32⟩
  | 5 => ⟨S8, .f32⟩
  | 6 => ⟨S8x1024x2816, .f32⟩
  | 7 => ⟨S8x1024x2816, .f32⟩
  | 8 => ⟨S8x2816x1024, .f32⟩
  | 9 => ⟨S1024, .f32⟩
  | 10 => ⟨S1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S2x6144, .f32⟩
  | 21 => ⟨S1x6144, .f32⟩
  | 22 => ⟨S2x6144, .f32⟩
  | 23 => ⟨S2x6144, .f32⟩
  | 24 => ⟨S2x1x6144, .f32⟩
  | 25 => ⟨S2x1x1024, .f32⟩
  | 26 => ⟨S2x1x1024, .f32⟩
  | 27 => ⟨S2x1x1024, .f32⟩
  | 28 => ⟨S2x1x1024, .f32⟩
  | 29 => ⟨S2x1x1024, .f32⟩
  | 30 => ⟨S2x1x1024, .f32⟩
  | 31 => ⟨S_, .f32⟩
  | 32 => ⟨S2x1x1024, .f32⟩
  | 33 => ⟨S2x1x1024, .f32⟩
  | 34 => ⟨S2x1024x1024, .f32⟩
  | 35 => ⟨S2x1024x1024, .f32⟩
  | 36 => ⟨S2x1024x1024, .f32⟩
  | 37 => ⟨S2x1024x1024, .f32⟩
  | 38 => ⟨S2048x1024, .f32⟩
  | 39 => ⟨S2048x8, .f32⟩
  | 40 => ⟨S1x8, .f32⟩
  | 41 => ⟨S2048x8, .f32⟩
  | 42 => ⟨S2048x8, .f32⟩
  | 43 => ⟨S_, .f32⟩
  | 44 => ⟨S2048, .f32⟩
  | 45 => ⟨S_, .f32⟩
  | 46 => ⟨S2048, .f32⟩
  | 47 => ⟨S2048, .f32⟩
  | 48 => ⟨S2048x1, .f32⟩
  | 49 => ⟨S2048x8, .f32⟩
  | 50 => ⟨S2048x8, .f32⟩
  | 51 => ⟨S2048x8, .f32⟩
  | 52 => ⟨S_, .f32⟩
  | 53 => ⟨S2048, .f32⟩
  | 54 => ⟨S2048x1, .f32⟩
  | 55 => ⟨S2048x8, .f32⟩
  | 56 => ⟨S2048x8, .f32⟩
  | 57 => ⟨S2048x2, .f32⟩
  | 58 => ⟨S2048x2, .i32⟩
  | 59 => ⟨S_, .f32⟩
  | 60 => ⟨S2048, .f32⟩
  | 61 => ⟨S2048x1, .f32⟩
  | 62 => ⟨S2048x2, .f32⟩
  | 63 => ⟨S2048x2, .f32⟩
  | 64 => ⟨S2048x2x1, .i32⟩
  | 65 => ⟨S1x1x8, .i32⟩
  | 66 => ⟨S2048x2x8, .i32⟩
  | 67 => ⟨S2048x2x8, .i32⟩
  | 68 => ⟨S2048x2x8, .i1⟩
  | 69 => ⟨S2048x2x8, .f32⟩
  | 70 => ⟨S2048x2x1, .f32⟩
  | 71 => ⟨S2048x2x8, .f32⟩
  | 72 => ⟨S2048x2x8, .f32⟩
  | 73 => ⟨S_, .f32⟩
  | 74 => ⟨S2048x8, .f32⟩
  | 75 => ⟨S_, .f32⟩
  | 76 => ⟨S2048x1024, .f32⟩
  | 77 => ⟨S1x1024x2816, .f32⟩
  | 78 => ⟨S1024x2816, .f32⟩
  | 79 => ⟨S2048x2816, .f32⟩
  | 80 => ⟨S2048x2816, .f32⟩
  | 81 => ⟨S2048x2816, .f32⟩
  | 82 => ⟨S_, .f32⟩
  | 83 => ⟨S2048x2816, .f32⟩
  | 84 => ⟨S2048x2816, .f32⟩
  | 85 => ⟨S_, .f32⟩
  | 86 => ⟨S2048x2816, .f32⟩
  | 87 => ⟨S2048x2816, .f32⟩
  | 88 => ⟨S2048x2816, .f32⟩
  | 89 => ⟨S1x1024x2816, .f32⟩
  | 90 => ⟨S1024x2816, .f32⟩
  | 91 => ⟨S2048x2816, .f32⟩
  | 92 => ⟨S2048x2816, .f32⟩
  | 93 => ⟨S1x2816x1024, .f32⟩
  | 94 => ⟨S2816x1024, .f32⟩
  | 95 => ⟨S2048x1024, .f32⟩
  | 96 => ⟨S2048x1, .f32⟩
  | 97 => ⟨S2048x1024, .f32⟩
  | 98 => ⟨S2048x1024, .f32⟩
  | 99 => ⟨S2048x1024, .f32⟩
  | 100 => ⟨S1x1024x2816, .f32⟩
  | 101 => ⟨S1024x2816, .f32⟩
  | 102 => ⟨S2048x2816, .f32⟩
  | 103 => ⟨S2048x2816, .f32⟩
  | 104 => ⟨S2048x2816, .f32⟩
  | 105 => ⟨S_, .f32⟩
  | 106 => ⟨S2048x2816, .f32⟩
  | 107 => ⟨S2048x2816, .f32⟩
  | 108 => ⟨S_, .f32⟩
  | 109 => ⟨S2048x2816, .f32⟩
  | 110 => ⟨S2048x2816, .f32⟩
  | 111 => ⟨S2048x2816, .f32⟩
  | 112 => ⟨S1x1024x2816, .f32⟩
  | 113 => ⟨S1024x2816, .f32⟩
  | 114 => ⟨S2048x2816, .f32⟩
  | 115 => ⟨S2048x2816, .f32⟩
  | 116 => ⟨S1x2816x1024, .f32⟩
  | 117 => ⟨S2816x1024, .f32⟩
  | 118 => ⟨S2048x1024, .f32⟩
  | 119 => ⟨S2048x1, .f32⟩
  | 120 => ⟨S2048x1024, .f32⟩
  | 121 => ⟨S2048x1024, .f32⟩
  | 122 => ⟨S2048x1024, .f32⟩
  | 123 => ⟨S1x1024x2816, .f32⟩
  | 124 => ⟨S1024x2816, .f32⟩
  | 125 => ⟨S2048x2816, .f32⟩
  | 126 => ⟨S2048x2816, .f32⟩
  | 127 => ⟨S2048x2816, .f32⟩
  | _ => ⟨S2x1024x1024, .f32⟩

abbrev hbmTy0_1 (i : Nat) : BufTy := match i % 128 with
  | 0 => ⟨S_, .f32⟩
  | 1 => ⟨S2048x2816, .f32⟩
  | 2 => ⟨S2048x2816, .f32⟩
  | 3 => ⟨S_, .f32⟩
  | 4 => ⟨S2048x2816, .f32⟩
  | 5 => ⟨S2048x2816, .f32⟩
  | 6 => ⟨S2048x2816, .f32⟩
  | 7 => ⟨S1x1024x2816, .f32⟩
  | 8 => ⟨S1024x2816, .f32⟩
  | 9 => ⟨S2048x2816, .f32⟩
  | 10 => ⟨S2048x2816, .f32⟩
  | 11 => ⟨S1x2816x1024, .f32⟩
  | 12 => ⟨S2816x1024, .f32⟩
  | 13 => ⟨S2048x1024, .f32⟩
  | 14 => ⟨S2048x1, .f32⟩
  | 15 => ⟨S2048x1024, .f32⟩
  | 16 => ⟨S2048x1024, .f32⟩
  | 17 => ⟨S2048x1024, .f32⟩
  | 18 => ⟨S1x1024x2816, .f32⟩
  | 19 => ⟨S1024x2816, .f32⟩
  | 20 => ⟨S2048x2816, .f32⟩
  | 21 => ⟨S2048x2816, .f32⟩
  | 22 => ⟨S2048x2816, .f32⟩
  | 23 => ⟨S_, .f32⟩
  | 24 => ⟨S2048x2816, .f32⟩
  | 25 => ⟨S2048x2816, .f32⟩
  | 26 => ⟨S_, .f32⟩
  | 27 => ⟨S2048x2816, .f32⟩
  | 28 => ⟨S2048x2816, .f32⟩
  | 29 => ⟨S2048x2816, .f32⟩
  | 30 => ⟨S1x1024x2816, .f32⟩
  | 31 => ⟨S1024x2816, .f32⟩
  | 32 => ⟨S2048x2816, .f32⟩
  | 33 => ⟨S2048x2816, .f32⟩
  | 34 => ⟨S1x2816x1024, .f32⟩
  | 35 => ⟨S2816x1024, .f32⟩
  | 36 => ⟨S2048x1024, .f32⟩
  | 37 => ⟨S2048x1, .f32⟩
  | 38 => ⟨S2048x1024, .f32⟩
  | 39 => ⟨S2048x1024, .f32⟩
  | 40 => ⟨S2048x1024, .f32⟩
  | 41 => ⟨S1x1024x2816, .f32⟩
  | 42 => ⟨S1024x2816, .f32⟩
  | 43 => ⟨S2048x2816, .f32⟩
  | 44 => ⟨S2048x2816, .f32⟩
  | 45 => ⟨S2048x2816, .f32⟩
  | 46 => ⟨S_, .f32⟩
  | 47 => ⟨S2048x2816, .f32⟩
  | 48 => ⟨S2048x2816, .f32⟩
  | 49 => ⟨S_, .f32⟩
  | 50 => ⟨S2048x2816, .f32⟩
  | 51 => ⟨S2048x2816, .f32⟩
  | 52 => ⟨S2048x2816, .f32⟩
  | 53 => ⟨S1x1024x2816, .f32⟩
  | 54 => ⟨S1024x2816, .f32⟩
  | 55 => ⟨S2048x2816, .f32⟩
  | 56 => ⟨S2048x2816, .f32⟩
  | 57 => ⟨S1x2816x1024, .f32⟩
  | 58 => ⟨S2816x1024, .f32⟩
  | 59 => ⟨S2048x1024, .f32⟩
  | 60 => ⟨S2048x1, .f32⟩
  | 61 => ⟨S2048x1024, .f32⟩
  | 62 => ⟨S2048x1024, .f32⟩
  | 63 => ⟨S2048x1024, .f32⟩
  | 64 => ⟨S1x1024x2816, .f32⟩
  | 65 => ⟨S1024x2816, .f32⟩
  | 66 => ⟨S2048x2816, .f32⟩
  | 67 => ⟨S2048x2816, .f32⟩
  | 68 => ⟨S2048x2816, .f32⟩
  | 69 => ⟨S_, .f32⟩
  | 70 => ⟨S2048x2816, .f32⟩
  | 71 => ⟨S2048x2816, .f32⟩
  | 72 => ⟨S_, .f32⟩
  | 73 => ⟨S2048x2816, .f32⟩
  | 74 => ⟨S2048x2816, .f32⟩
  | 75 => ⟨S2048x2816, .f32⟩
  | 76 => ⟨S1x1024x2816, .f32⟩
  | 77 => ⟨S1024x2816, .f32⟩
  | 78 => ⟨S2048x2816, .f32⟩
  | 79 => ⟨S2048x2816, .f32⟩
  | 80 => ⟨S1x2816x1024, .f32⟩
  | 81 => ⟨S2816x1024, .f32⟩
  | 82 => ⟨S2048x1024, .f32⟩
  | 83 => ⟨S2048x1, .f32⟩
  | 84 => ⟨S2048x1024, .f32⟩
  | 85 => ⟨S2048x1024, .f32⟩
  | 86 => ⟨S2048x1024, .f32⟩
  | 87 => ⟨S1x1024x2816, .f32⟩
  | 88 => ⟨S1024x2816, .f32⟩
  | 89 => ⟨S2048x2816, .f32⟩
  | 90 => ⟨S2048x2816, .f32⟩
  | 91 => ⟨S2048x2816, .f32⟩
  | 92 => ⟨S_, .f32⟩
  | 93 => ⟨S2048x2816, .f32⟩
  | 94 => ⟨S2048x2816, .f32⟩
  | 95 => ⟨S_, .f32⟩
  | 96 => ⟨S2048x2816, .f32⟩
  | 97 => ⟨S2048x2816, .f32⟩
  | 98 => ⟨S2048x2816, .f32⟩
  | 99 => ⟨S1x1024x2816, .f32⟩
  | 100 => ⟨S1024x2816, .f32⟩
  | 101 => ⟨S2048x2816, .f32⟩
  | 102 => ⟨S2048x2816, .f32⟩
  | 103 => ⟨S1x2816x1024, .f32⟩
  | 104 => ⟨S2816x1024, .f32⟩
  | 105 => ⟨S2048x1024, .f32⟩
  | 106 => ⟨S2048x1, .f32⟩
  | 107 => ⟨S2048x1024, .f32⟩
  | 108 => ⟨S2048x1024, .f32⟩
  | 109 => ⟨S2048x1024, .f32⟩
  | 110 => ⟨S1x1024x2816, .f32⟩
  | 111 => ⟨S1024x2816, .f32⟩
  | 112 => ⟨S2048x2816, .f32⟩
  | 113 => ⟨S2048x2816, .f32⟩
  | 114 => ⟨S2048x2816, .f32⟩
  | 115 => ⟨S_, .f32⟩
  | 116 => ⟨S2048x2816, .f32⟩
  | 117 => ⟨S2048x2816, .f32⟩
  | 118 => ⟨S_, .f32⟩
  | 119 => ⟨S2048x2816, .f32⟩
  | 120 => ⟨S2048x2816, .f32⟩
  | 121 => ⟨S2048x2816, .f32⟩
  | 122 => ⟨S1x1024x2816, .f32⟩
  | 123 => ⟨S1024x2816, .f32⟩
  | 124 => ⟨S2048x2816, .f32⟩
  | 125 => ⟨S2048x2816, .f32⟩
  | 126 => ⟨S1x2816x1024, .f32⟩
  | 127 => ⟨S2816x1024, .f32⟩
  | _ => ⟨S2x1024x1024, .f32⟩

abbrev hbmTy0_2 (i : Nat) : BufTy := match i % 128 with
  | 0 => ⟨S2048x1024, .f32⟩
  | 1 => ⟨S2048x1, .f32⟩
  | 2 => ⟨S2048x1024, .f32⟩
  | 3 => ⟨S2048x1024, .f32⟩
  | 4 => ⟨S2048x1024, .f32⟩
  | 5 => ⟨S_, .f32⟩
  | 6 => ⟨S2x1024x1024, .f32⟩
  | 7 => ⟨S2x1024x1024, .f32⟩
  | 8 => ⟨S2x1024x1024, .f32⟩
  | 9 => ⟨S2x1024x1024, .f32⟩
  | 10 => ⟨S2x1024x1024, .f32⟩
  | 11 => ⟨S2x1024x1024, .f32⟩
  | 12 => ⟨S_, .f32⟩
  | 13 => ⟨S2x1024, .f32⟩
  | 14 => ⟨S2x1024x1, .f32⟩
  | 15 => ⟨S_, .f32⟩
  | 16 => ⟨S2x1024x1, .f32⟩
  | 17 => ⟨S2x1024x1, .f32⟩
  | 18 => ⟨S2x1024x1024, .f32⟩
  | 19 => ⟨S2x1024x1024, .f32⟩
  | 20 => ⟨S2x1024x1024, .f32⟩
  | 21 => ⟨S_, .f32⟩
  | 22 => ⟨S2x1024, .f32⟩
  | 23 => ⟨S2x1024x1, .f32⟩
  | 24 => ⟨S_, .f32⟩
  | 25 => ⟨S2x1024x1, .f32⟩
  | 26 => ⟨S2x1024x1, .f32⟩
  | 27 => ⟨S2x1024x1024, .f32⟩
  | 28 => ⟨S2x1024x1024, .f32⟩
  | 29 => ⟨S_, .f32⟩
  | 30 => ⟨S2x1024x1, .f32⟩
  | 31 => ⟨S2x1024x1, .f32⟩
  | 32 => ⟨S2x1024x1, .f32⟩
  | 33 => ⟨S2x1024x1024, .f32⟩
  | 34 => ⟨S2x1024x1024, .f32⟩
  | 35 => ⟨S1x1x1024, .f32⟩
  | 36 => ⟨S2x1024x1024, .f32⟩
  | 37 => ⟨S2x1024x1024, .f32⟩
  | 38 => ⟨S1x1x1024, .f32⟩
  | 39 => ⟨S2x1024x1024, .f32⟩
  | 40 => ⟨S2x1024x1024, .f32⟩
  | _ => ⟨S2x1024x1024, .f32⟩

abbrev hbmTy (i : Nat) : BufTy := match i / 128 with
  | 0 => hbmTy0_0 i
  | 1 => hbmTy0_1 i
  | 2 => hbmTy0_2 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_values : Ref sig .tc := ⟨.hbm, 57, rfl⟩
abbrev main_indices : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_call4_v0 : Ref sig .tc := ⟨.hbm, 126, rfl⟩
abbrev main_call4_v1 : Ref sig .tc := ⟨.hbm, 127, rfl⟩
abbrev main_call4_cst : Ref sig .tc := ⟨.hbm, 128, rfl⟩
abbrev main_call4_v2 : Ref sig .tc := ⟨.hbm, 129, rfl⟩
abbrev main_call4_v3 : Ref sig .tc := ⟨.hbm, 130, rfl⟩
abbrev main_call4_cst_0 : Ref sig .tc := ⟨.hbm, 131, rfl⟩
abbrev main_call4_v4 : Ref sig .tc := ⟨.hbm, 132, rfl⟩
abbrev main_call4_v5 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_call5_v0 : Ref sig .tc := ⟨.hbm, 149, rfl⟩
abbrev main_call5_v1 : Ref sig .tc := ⟨.hbm, 150, rfl⟩
abbrev main_call5_cst : Ref sig .tc := ⟨.hbm, 151, rfl⟩
abbrev main_call5_v2 : Ref sig .tc := ⟨.hbm, 152, rfl⟩
abbrev main_call5_v3 : Ref sig .tc := ⟨.hbm, 153, rfl⟩
abbrev main_call5_cst_0 : Ref sig .tc := ⟨.hbm, 154, rfl⟩
abbrev main_call5_v4 : Ref sig .tc := ⟨.hbm, 155, rfl⟩
abbrev main_call5_v5 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_call6_v0 : Ref sig .tc := ⟨.hbm, 172, rfl⟩
abbrev main_call6_v1 : Ref sig .tc := ⟨.hbm, 173, rfl⟩
abbrev main_call6_cst : Ref sig .tc := ⟨.hbm, 174, rfl⟩
abbrev main_call6_v2 : Ref sig .tc := ⟨.hbm, 175, rfl⟩
abbrev main_call6_v3 : Ref sig .tc := ⟨.hbm, 176, rfl⟩
abbrev main_call6_cst_0 : Ref sig .tc := ⟨.hbm, 177, rfl⟩
abbrev main_call6_v4 : Ref sig .tc := ⟨.hbm, 178, rfl⟩
abbrev main_call6_v5 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_call7_v0 : Ref sig .tc := ⟨.hbm, 195, rfl⟩
abbrev main_call7_v1 : Ref sig .tc := ⟨.hbm, 196, rfl⟩
abbrev main_call7_cst : Ref sig .tc := ⟨.hbm, 197, rfl⟩
abbrev main_call7_v2 : Ref sig .tc := ⟨.hbm, 198, rfl⟩
abbrev main_call7_v3 : Ref sig .tc := ⟨.hbm, 199, rfl⟩
abbrev main_call7_cst_0 : Ref sig .tc := ⟨.hbm, 200, rfl⟩
abbrev main_call7_v4 : Ref sig .tc := ⟨.hbm, 201, rfl⟩
abbrev main_call7_v5 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_call8_v0 : Ref sig .tc := ⟨.hbm, 218, rfl⟩
abbrev main_call8_v1 : Ref sig .tc := ⟨.hbm, 219, rfl⟩
abbrev main_call8_cst : Ref sig .tc := ⟨.hbm, 220, rfl⟩
abbrev main_call8_v2 : Ref sig .tc := ⟨.hbm, 221, rfl⟩
abbrev main_call8_v3 : Ref sig .tc := ⟨.hbm, 222, rfl⟩
abbrev main_call8_cst_0 : Ref sig .tc := ⟨.hbm, 223, rfl⟩
abbrev main_call8_v4 : Ref sig .tc := ⟨.hbm, 224, rfl⟩
abbrev main_call8_v5 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_call9_v0 : Ref sig .tc := ⟨.hbm, 241, rfl⟩
abbrev main_call9_v1 : Ref sig .tc := ⟨.hbm, 242, rfl⟩
abbrev main_call9_cst : Ref sig .tc := ⟨.hbm, 243, rfl⟩
abbrev main_call9_v2 : Ref sig .tc := ⟨.hbm, 244, rfl⟩
abbrev main_call9_v3 : Ref sig .tc := ⟨.hbm, 245, rfl⟩
abbrev main_call9_cst_0 : Ref sig .tc := ⟨.hbm, 246, rfl⟩
abbrev main_call9_v4 : Ref sig .tc := ⟨.hbm, 247, rfl⟩
abbrev main_call9_v5 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_cst_6 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_7 : Ref sig .tc := ⟨.hbm, 268, rfl⟩
abbrev main_v170 : Ref sig .tc := ⟨.hbm, 269, rfl⟩
abbrev main_v171 : Ref sig .tc := ⟨.hbm, 270, rfl⟩
abbrev main_cst_8 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_cst_9 : Ref sig .tc := ⟨.hbm, 277, rfl⟩
abbrev main_v177 : Ref sig .tc := ⟨.hbm, 278, rfl⟩
abbrev main_v178 : Ref sig .tc := ⟨.hbm, 279, rfl⟩
abbrev main_cst_10 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_cst_11 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩

abbrev nD : Nat := 1
abbrev τ : Topo := Topo.v7x

variable {F : FTy → Type} [FloatOps F]
-- ==== Kernel6.lean ====
abbrev S32x256x1024 : Shape := ⟨3, ![32, 256, 1024]⟩
abbrev S32x2x8x128x128 : Shape := ⟨5, ![32, 2, 8, 128, 128]⟩
abbrev S2x1024 : Shape := ⟨2, ![2, 1024]⟩
abbrev S128 : Shape := ⟨1, ![128]⟩
abbrev S1x32x256x1024 : Shape := ⟨4, ![1, 32, 256, 1024]⟩
abbrev S2x32x256x1024 : Shape := ⟨4, ![2, 32, 256, 1024]⟩
abbrev S2x1x1x1024 : Shape := ⟨4, ![2, 1, 1, 1024]⟩
abbrev S_ : Shape := ⟨0, ![]⟩
abbrev S32x256x8x128 : Shape := ⟨4, ![32, 256, 8, 128]⟩
abbrev S1x32x256x8x128 : Shape := ⟨5, ![1, 32, 256, 8, 128]⟩
abbrev S2x32x256x8x128 : Shape := ⟨5, ![2, 32, 256, 8, 128]⟩
abbrev S2x32x8x128x128 : Shape := ⟨5, ![2, 32, 8, 128, 128]⟩
abbrev S16x16 : Shape := ⟨2, ![16, 16]⟩
abbrev S2x32x16x16x8x128 : Shape := ⟨6, ![2, 32, 16, 16, 8, 128]⟩
abbrev S2x16x32x16x8x128 : Shape := ⟨6, ![2, 16, 32, 16, 8, 128]⟩
abbrev S2x16x32x8x16x128 : Shape := ⟨6, ![2, 16, 32, 8, 16, 128]⟩
abbrev S16x2x32x8x16x128 : Shape := ⟨6, ![16, 2, 32, 8, 16, 128]⟩
abbrev S1x2x32x8x16x128 : Shape := ⟨6, ![1, 2, 32, 8, 16, 128]⟩
abbrev S2x32x8x16x128 : Shape := ⟨5, ![2, 32, 8, 16, 128]⟩
abbrev S2x32x8x16x1x128 : Shape := ⟨6, ![2, 32, 8, 16, 1, 128]⟩
abbrev S2x32x8x1x16x128 : Shape := ⟨6, ![2, 32, 8, 1, 16, 128]⟩
abbrev S2x32x8x16x16x128 : Shape := ⟨6, ![2, 32, 8, 16, 16, 128]⟩
abbrev S16x16x1 : Shape := ⟨3, ![16, 16, 1]⟩
abbrev S32x8x16x16x128 : Shape := ⟨5, ![32, 8, 16, 16, 128]⟩
abbrev S2x32x8x16x16 : Shape := ⟨5, ![2, 32, 8, 16, 16]⟩
abbrev S2x32x8x16x128x1 : Shape := ⟨6, ![2, 32, 8, 16, 128, 1]⟩
abbrev S2x32x8x1x128x128 : Shape := ⟨6, ![2, 32, 8, 1, 128, 128]⟩
abbrev S2x32x8x16x128x128 : Shape := ⟨6, ![2, 32, 8, 16, 128, 128]⟩
abbrev S2x32x8x16x16x1 : Shape := ⟨6, ![2, 32, 8, 16, 16, 1]⟩
abbrev S2x32x8x1x128 : Shape := ⟨5, ![2, 32, 8, 1, 128]⟩
abbrev S2x32x8x128 : Shape := ⟨4, ![2, 32, 8, 128]⟩
abbrev S2x32x8x128x1 : Shape := ⟨5, ![2, 32, 8, 128, 1]⟩
abbrev S32x256x8 : Shape := ⟨3, ![32, 256, 8]⟩
abbrev S32x256x8x1 : Shape := ⟨4, ![32, 256, 8, 1]⟩
abbrev S1x1x1x128 : Shape := ⟨4, ![1, 1, 1, 128]⟩

abbrev nBuf : Space → Nat
  | .hbm => 249
  | .vmem => 0
  | .smem => 0
  | _ => 0

abbrev hbmTy0_0 (i : Nat) : BufTy := match i % 128 with
  | 0 => ⟨S32x256x1024, .f32⟩
  | 1 => ⟨S32x256x1024, .f32⟩
  | 2 => ⟨S32x256x1024, .f32⟩
  | 3 => ⟨S32x256x1024, .f32⟩
  | 4 => ⟨S32x256x1024, .f32⟩
  | 5 => ⟨S32x2x8x128x128, .f32⟩
  | 6 => ⟨S2x1024, .f32⟩
  | 7 => ⟨S128, .f32⟩
  | 8 => ⟨S32x256x1024, .f32⟩
  | 9 => ⟨S1x32x256x1024, .f32⟩
  | 10 => ⟨S1x32x256x1024, .f32⟩
  | 11 => ⟨S2x32x256x1024, .f32⟩
  | 12 => ⟨S2x1x1x1024, .f32⟩
  | 13 => ⟨S2x1x1x1024, .f32⟩
  | 14 => ⟨S2x1x1x1024, .f32⟩
  | 15 => ⟨S2x1x1x1024, .f32⟩
  | 16 => ⟨S2x32x256x1024, .f32⟩
  | 17 => ⟨S_, .f32⟩
  | 18 => ⟨S2x32x256x1024, .f32⟩
  | 19 => ⟨S2x32x256x1024, .f32⟩
  | 20 => ⟨S2x32x256x1024, .f32⟩
  | 21 => ⟨S2x32x256x1024, .f32⟩
  | 22 => ⟨S2x32x256x1024, .i1⟩
  | 23 => ⟨S2x32x256x1024, .f32⟩
  | 24 => ⟨S2x32x256x1024, .f32⟩
  | 25 => ⟨S2x32x256x1024, .f32⟩
  | 26 => ⟨S2x32x256x1024, .f32⟩
  | 27 => ⟨S2x32x256x1024, .f32⟩
  | 28 => ⟨S2x32x256x1024, .f32⟩
  | 29 => ⟨S2x32x256x1024, .f32⟩
  | 30 => ⟨S2x32x256x1024, .f32⟩
  | 31 => ⟨S2x32x256x1024, .f32⟩
  | 32 => ⟨S2x32x256x1024, .f32⟩
  | 33 => ⟨S2x32x256x1024, .f32⟩
  | 34 => ⟨S2x32x256x1024, .f32⟩
  | 35 => ⟨S2x32x256x1024, .f32⟩
  | 36 => ⟨S2x32x256x1024, .f32⟩
  | 37 => ⟨S2x32x256x1024, .f32⟩
  | 38 => ⟨S2x32x256x1024, .i1⟩
  | 39 => ⟨S2x32x256x1024, .f32⟩
  | 40 => ⟨S2x32x256x1024, .f32⟩
  | 41 => ⟨S2x32x256x1024, .f32⟩
  | 42 => ⟨S2x32x256x1024, .f32⟩
  | 43 => ⟨S2x32x256x1024, .f32⟩
  | 44 => ⟨S2x32x256x1024, .f32⟩
  | 45 => ⟨S2x32x256x1024, .f32⟩
  | 46 => ⟨S2x32x256x1024, .f32⟩
  | 47 => ⟨S_, .f32⟩
  | 48 => ⟨S2x1x1x1024, .f32⟩
  | 49 => ⟨S2x1x1x1024, .f32⟩
  | 50 => ⟨S2x32x256x1024, .f32⟩
  | 51 => ⟨S2x32x256x1024, .f32⟩
  | 52 => ⟨S2x32x256x1024, .f32⟩
  | 53 => ⟨S_, .f32⟩
  | 54 => ⟨S2x32x256x1024, .f32⟩
  | 55 => ⟨S2x32x256x1024, .f32⟩
  | 56 => ⟨S_, .f32⟩
  | 57 => ⟨S2x32x256x1024, .f32⟩
  | 58 => ⟨S2x32x256x1024, .f32⟩
  | 59 => ⟨S2x32x256x1024, .f32⟩
  | 60 => ⟨S2x32x256x1024, .f32⟩
  | 61 => ⟨S32x256x8x128, .f32⟩
  | 62 => ⟨S32x256x8x128, .f32⟩
  | 63 => ⟨S32x256x8x128, .f32⟩
  | 64 => ⟨S1x32x256x8x128, .f32⟩
  | 65 => ⟨S1x32x256x8x128, .f32⟩
  | 66 => ⟨S2x32x256x8x128, .f32⟩
  | 67 => ⟨S2x32x256x8x128, .f32⟩
  | 68 => ⟨S32x256x8x128, .f32⟩
  | 69 => ⟨S1x32x256x8x128, .f32⟩
  | 70 => ⟨S1x32x256x8x128, .f32⟩
  | 71 => ⟨S2x32x256x8x128, .f32⟩
  | 72 => ⟨S2x32x256x8x128, .f32⟩
  | 73 => ⟨S2x32x8x128x128, .f32⟩
  | 74 => ⟨S_, .i1⟩
  | 75 => ⟨S16x16, .i1⟩
  | 76 => ⟨S16x16, .i32⟩
  | 77 => ⟨S_, .i32⟩
  | 78 => ⟨S16x16, .i32⟩
  | 79 => ⟨S16x16, .i32⟩
  | 80 => ⟨S16x16, .i32⟩
  | 81 => ⟨S16x16, .i1⟩
  | 82 => ⟨S_, .i1⟩
  | 83 => ⟨S16x16, .i1⟩
  | 84 => ⟨S16x16, .i1⟩
  | 85 => ⟨S2x32x16x16x8x128, .f32⟩
  | 86 => ⟨S2x16x32x16x8x128, .f32⟩
  | 87 => ⟨S2x16x32x8x16x128, .f32⟩
  | 88 => ⟨S2x32x16x16x8x128, .f32⟩
  | 89 => ⟨S2x16x32x16x8x128, .f32⟩
  | 90 => ⟨S2x16x32x8x16x128, .f32⟩
  | 91 => ⟨S2x32x16x16x8x128, .f32⟩
  | 92 => ⟨S2x16x32x16x8x128, .f32⟩
  | 93 => ⟨S2x16x32x8x16x128, .f32⟩
  | 94 => ⟨S2x32x16x16x8x128, .f32⟩
  | 95 => ⟨S2x16x32x16x8x128, .f32⟩
  | 96 => ⟨S2x16x32x8x16x128, .f32⟩
  | 97 => ⟨S16x2x32x8x16x128, .f32⟩
  | 98 => ⟨S16x2x32x8x16x128, .f32⟩
  | 99 => ⟨S16x2x32x8x16x128, .f32⟩
  | 100 => ⟨S16x2x32x8x16x128, .f32⟩
  | 101 => ⟨S_, .f32⟩
  | 102 => ⟨S16x2x32x8x16x128, .f32⟩
  | 103 => ⟨S_, .i32⟩
  | 104 => ⟨S16x2x32x8x16x128, .f32⟩
  | 105 => ⟨S16x2x32x8x16x128, .f32⟩
  | 106 => ⟨S16x2x32x8x16x128, .f32⟩
  | 107 => ⟨S16x2x32x8x16x128, .f32⟩
  | 108 => ⟨S16x16, .i1⟩
  | 109 => ⟨S_, .i32⟩
  | 110 => ⟨S2x32x8x128x128, .f32⟩
  | 111 => ⟨S16x2x32x8x16x128, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x2x32x8x16x128, .f32⟩
  | 120 => ⟨S2x32x8x16x128, .f32⟩
  | 121 => ⟨S_, .i32⟩
  | 122 => ⟨S_, .i32⟩
  | 123 => ⟨S_, .i32⟩
  | 124 => ⟨S_, .i32⟩
  | 125 => ⟨S_, .i32⟩
  | 126 => ⟨S1x2x32x8x16x128, .f32⟩
  | 127 => ⟨S2x32x8x16x128, .f32⟩
  | _ => ⟨S32x256x1024, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x2x32x8x16x128, .f32⟩
  | 6 => ⟨S2x32x8x16x128, .f32⟩
  | 7 => ⟨S_, .i32⟩
  | 8 => ⟨S_, .i32⟩
  | 9 => ⟨S_, .i32⟩
  | 10 => ⟨S_, .i32⟩
  | 11 => ⟨S_, .i32⟩
  | 12 => ⟨S1x2x32x8x16x128, .f32⟩
  | 13 => ⟨S2x32x8x16x128, .f32⟩
  | 14 => ⟨S_, .f32⟩
  | 15 => ⟨S_, .f32⟩
  | 16 => ⟨S2x32x8x16x128, .f32⟩
  | 17 => ⟨S2x32x8x16x1x128, .f32⟩
  | 18 => ⟨S2x32x8x1x16x128, .f32⟩
  | 19 => ⟨S2x32x8x16x16x128, .f32⟩
  | 20 => ⟨S2x32x8x16x16x128, .f32⟩
  | 21 => ⟨S2x32x8x16x16x128, .f32⟩
  | 22 => ⟨S16x16x1, .i1⟩
  | 23 => ⟨S_, .f32⟩
  | 24 => ⟨S_, .f32⟩
  | 25 => ⟨S32x8x16x16x128, .i1⟩
  | 26 => ⟨S32x8x16x16x128, .f32⟩
  | 27 => ⟨S2x32x8x16x16x128, .i1⟩
  | 28 => ⟨S2x32x8x16x16x128, .f32⟩
  | 29 => ⟨S2x32x8x16x16x128, .f32⟩
  | 30 => ⟨S2x32x8x16x16x128, .f32⟩
  | 31 => ⟨S2x32x8x16x1x128, .f32⟩
  | 32 => ⟨S2x32x8x16x16x128, .f32⟩
  | 33 => ⟨S2x32x8x16x16x128, .f32⟩
  | 34 => ⟨S2x32x8x1x16x128, .f32⟩
  | 35 => ⟨S2x32x8x16x16x128, .f32⟩
  | 36 => ⟨S2x32x8x16x16x128, .f32⟩
  | 37 => ⟨S_, .f32⟩
  | 38 => ⟨S2x32x8x16x16, .f32⟩
  | 39 => ⟨S2x32x8x16x128, .f32⟩
  | 40 => ⟨S2x32x8x16x128, .f32⟩
  | 41 => ⟨S2x32x8x16x128x1, .f32⟩
  | 42 => ⟨S2x32x8x1x128x128, .f32⟩
  | 43 => ⟨S2x32x8x16x128x128, .f32⟩
  | 44 => ⟨S2x32x8x16x128x128, .f32⟩
  | 45 => ⟨S2x32x8x16x128x128, .f32⟩
  | 46 => ⟨S_, .f32⟩
  | 47 => ⟨S2x32x8x16x128, .f32⟩
  | 48 => ⟨S2x32x8x16x16x1, .f32⟩
  | 49 => ⟨S2x32x8x1x16x128, .f32⟩
  | 50 => ⟨S2x32x8x16x16x128, .f32⟩
  | 51 => ⟨S2x32x8x16x16x128, .f32⟩
  | 52 => ⟨S2x32x8x16x16x128, .f32⟩
  | 53 => ⟨S_, .f32⟩
  | 54 => ⟨S2x32x8x16x128, .f32⟩
  | 55 => ⟨S2x32x8x16x128, .f32⟩
  | 56 => ⟨S2x32x8x1x128, .f32⟩
  | 57 => ⟨S2x32x8x128, .f32⟩
  | 58 => ⟨S2x32x8x128, .f32⟩
  | 59 => ⟨S2x32x8x128x1, .f32⟩
  | 60 => ⟨S2x32x8x128x128, .f32⟩
  | 61 => ⟨S2x32x8x128x128, .f32⟩
  | 62 => ⟨S2x32x8x16x128, .f32⟩
  | 63 => ⟨S2x32x8x16x128, .f32⟩
  | 64 => ⟨S2x32x8x16x128, .f32⟩
  | 65 => ⟨S2x32x8x16x128, .f32⟩
  | 66 => ⟨S2x32x8x16x128x1, .f32⟩
  | 67 => ⟨S2x32x8x16x1x128, .f32⟩
  | 68 => ⟨S2x32x8x16x128x128, .f32⟩
  | 69 => ⟨S2x32x8x16x128x128, .f32⟩
  | 70 => ⟨S2x32x8x16x128x128, .f32⟩
  | 71 => ⟨S_, .f32⟩
  | 72 => ⟨S2x32x8x128x128, .f32⟩
  | 73 => ⟨S2x32x8x128x128, .f32⟩
  | 74 => ⟨S1x2x32x8x16x128, .f32⟩
  | 75 => ⟨S_, .i32⟩
  | 76 => ⟨S_, .i32⟩
  | 77 => ⟨S_, .i32⟩
  | 78 => ⟨S_, .i32⟩
  | 79 => ⟨S_, .i32⟩
  | 80 => ⟨S16x2x32x8x16x128, .f32⟩
  | 81 => ⟨S_, .i32⟩
  | 82 => ⟨S_, .i32⟩
  | 83 => ⟨S2x16x32x16x8x128, .f32⟩
  | 84 => ⟨S2x32x16x16x8x128, .f32⟩
  | 85 => ⟨S2x32x256x8x128, .f32⟩
  | 86 => ⟨S1x32x256x8x128, .f32⟩
  | 87 => ⟨S32x256x8x128, .f32⟩
  | 88 => ⟨S1x32x256x8x128, .f32⟩
  | 89 => ⟨S32x256x8x128, .f32⟩
  | 90 => ⟨S32x256x8x128, .f32⟩
  | 91 => ⟨S32x256x8x128, .f32⟩
  | 92 => ⟨S32x256x8x128, .f32⟩
  | 93 => ⟨S_, .f32⟩
  | 94 => ⟨S32x256x8, .f32⟩
  | 95 => ⟨S32x256x8x1, .f32⟩
  | 96 => ⟨S_, .f32⟩
  | 97 => ⟨S32x256x8x1, .f32⟩
  | 98 => ⟨S32x256x8x1, .f32⟩
  | 99 => ⟨S_, .f32⟩
  | 100 => ⟨S32x256x8x1, .f32⟩
  | 101 => ⟨S32x256x8x1, .f32⟩
  | 102 => ⟨S32x256x8x1, .f32⟩
  | 103 => ⟨S32x256x8x128, .f32⟩
  | 104 => ⟨S32x256x8x128, .f32⟩
  | 105 => ⟨S1x1x1x128, .f32⟩
  | 106 => ⟨S32x256x8x128, .f32⟩
  | 107 => ⟨S32x256x8x128, .f32⟩
  | 108 => ⟨S32x256x8x128, .f32⟩
  | 109 => ⟨S32x256x8x128, .f32⟩
  | 110 => ⟨S32x256x8x128, .f32⟩
  | 111 => ⟨S_, .f32⟩
  | 112 => ⟨S32x256x8x128, .f32⟩
  | 113 => ⟨S32x256x8x128, .f32⟩
  | 114 => ⟨S_, .f32⟩
  | 115 => ⟨S32x256x8x128, .f32⟩
  | 116 => ⟨S32x256x8x128, .f32⟩
  | 117 => ⟨S32x256x8x128, .f32⟩
  | 118 => ⟨S32x256x8x128, .f32⟩
  | 119 => ⟨S32x256x1024, .f32⟩
  | 120 => ⟨S32x2x8x128x128, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_call0_cst : Ref sig .tc := ⟨.hbm, 17, rfl⟩
abbrev main_call1_call0_v0 : Ref sig .tc := ⟨.hbm, 18, rfl⟩
abbrev main_call1_call0_v1 : Ref sig .tc := ⟨.hbm, 19, rfl⟩
abbrev main_call1_call0_v2 : Ref sig .tc := ⟨.hbm, 20, rfl⟩
abbrev main_call1_call0_v3 : Ref sig .tc := ⟨.hbm, 21, rfl⟩
abbrev main_call1_call0_v4 : Ref sig .tc := ⟨.hbm, 22, rfl⟩
abbrev main_call1_call0_v5 : Ref sig .tc := ⟨.hbm, 23, rfl⟩
abbrev main_call1_call0_v6 : Ref sig .tc := ⟨.hbm, 24, rfl⟩
abbrev main_call1_call0_v7 : Ref sig .tc := ⟨.hbm, 25, rfl⟩
abbrev main_call1_call0_v8 : Ref sig .tc := ⟨.hbm, 26, rfl⟩
abbrev main_call1_call0_v9 : Ref sig .tc := ⟨.hbm, 27, rfl⟩
abbrev main_call1_call0_v10 : Ref sig .tc := ⟨.hbm, 28, rfl⟩
abbrev main_call1_call0_v11 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_v48 : Ref sig .tc := ⟨.hbm, 75, rfl⟩
abbrev main_call4_v0 : Ref sig .tc := ⟨.hbm, 76, rfl⟩
abbrev main_call4_c : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_c_0 : Ref sig .tc := ⟨.hbm, 82, rfl⟩
abbrev main_call4_v5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_2 : Ref sig .tc := ⟨.hbm, 101, rfl⟩
abbrev main_v66 : Ref sig .tc := ⟨.hbm, 102, rfl⟩
abbrev main_c_3 : Ref sig .tc := ⟨.hbm, 103, rfl⟩
abbrev main_v67_0 : Ref sig .tc := ⟨.hbm, 104, rfl⟩
abbrev main_v67_1 : Ref sig .tc := ⟨.hbm, 105, rfl⟩
abbrev main_v67_2 : Ref sig .tc := ⟨.hbm, 106, rfl⟩
abbrev main_v67_3 : Ref sig .tc := ⟨.hbm, 107, rfl⟩
abbrev main_v67_4 : Ref sig .tc := ⟨.hbm, 108, rfl⟩
abbrev main_v67_5 : Ref sig .tc := ⟨.hbm, 109, rfl⟩
abbrev main_v67_6 : Ref sig .tc := ⟨.hbm, 110, rfl⟩
abbrev main_v67_7 : Ref sig .tc := ⟨.hbm, 111, rfl⟩
abbrev main_while0c_c_14 : Ref sig .tc := ⟨.hbm, 112, rfl⟩
abbrev main_while0c_v95 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_call5_c_2 : Ref sig .tc := ⟨.hbm, 117, rfl⟩
abbrev main_while0b_call5_c_3 : Ref sig .tc := ⟨.hbm, 118, rfl⟩
abbrev main_while0b_call5_v0 : Ref sig .tc := ⟨.hbm, 119, rfl⟩
abbrev main_while0b_v95 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_c_1 : Ref sig .tc := ⟨.hbm, 123, rfl⟩
abbrev main_while0b_call6_c_2 : Ref sig .tc := ⟨.hbm, 124, rfl⟩
abbrev main_while0b_call6_c_3 : Ref sig .tc := ⟨.hbm, 125, rfl⟩
abbrev main_while0b_call6_v0 : Ref sig .tc := ⟨.hbm, 126, rfl⟩
abbrev main_while0b_v96 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_c_2 : Ref sig .tc := ⟨.hbm, 131, rfl⟩
abbrev main_while0b_call7_c_3 : Ref sig .tc := ⟨.hbm, 132, rfl⟩
abbrev main_while0b_call7_v0 : Ref sig .tc := ⟨.hbm, 133, rfl⟩
abbrev main_while0b_v97 : Ref sig .tc := ⟨.hbm, 134, rfl⟩
abbrev main_while0b_call8_c : Ref sig .tc := ⟨.hbm, 135, rfl⟩
abbrev main_while0b_call8_c_0 : Ref sig .tc := ⟨.hbm, 136, rfl⟩
abbrev main_while0b_call8_c_1 : Ref sig .tc := ⟨.hbm, 137, rfl⟩
abbrev main_while0b_call8_c_2 : Ref sig .tc := ⟨.hbm, 138, rfl⟩
abbrev main_while0b_call8_c_3 : Ref sig .tc := ⟨.hbm, 139, rfl⟩
abbrev main_while0b_call8_v0 : Ref sig .tc := ⟨.hbm, 140, rfl⟩
abbrev main_while0b_v98 : Ref sig .tc := ⟨.hbm, 141, rfl⟩
abbrev main_while0b_call9_call0_cst : Ref sig .tc := ⟨.hbm, 142, rfl⟩
abbrev main_while0b_call9_call0_v0 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_cst_14 : Ref sig .tc := ⟨.hbm, 151, rfl⟩
abbrev main_while0b_call10_v0 : Ref sig .tc := ⟨.hbm, 152, rfl⟩
abbrev main_while0b_call10_v1 : Ref sig .tc := ⟨.hbm, 153, rfl⟩
abbrev main_while0b_call10_v2 : Ref sig .tc := ⟨.hbm, 154, rfl⟩
abbrev main_while0b_call10_v3 : Ref sig .tc := ⟨.hbm, 155, rfl⟩
abbrev main_while0b_call10_v4 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_cst_15 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_cst_16 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_v125 : Ref sig .tc := ⟨.hbm, 178, rfl⟩
abbrev main_while0b_v126 : Ref sig .tc := ⟨.hbm, 179, rfl⟩
abbrev main_while0b_v127 : Ref sig .tc := ⟨.hbm, 180, rfl⟩
abbrev main_while0b_cst_17 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_v141 : Ref sig .tc := ⟨.hbm, 195, rfl⟩
abbrev main_while0b_v142 : Ref sig .tc := ⟨.hbm, 196, rfl⟩
abbrev main_while0b_v143 : Ref sig .tc := ⟨.hbm, 197, rfl⟩
abbrev main_while0b_v144 : Ref sig .tc := ⟨.hbm, 198, rfl⟩
abbrev main_while0b_cst_18 : Ref sig .tc := ⟨.hbm, 199, rfl⟩
abbrev main_while0b_v145 : Ref sig .tc := ⟨.hbm, 200, rfl⟩
abbrev main_while0b_v146 : Ref sig .tc := ⟨.hbm, 201, rfl⟩
abbrev main_while0b_call11_v0 : Ref sig .tc := ⟨.hbm, 202, rfl⟩
abbrev main_while0b_call11_c : Ref sig .tc := ⟨.hbm, 203, rfl⟩
abbrev main_while0b_call11_c_0 : Ref sig .tc := ⟨.hbm, 204, rfl⟩
abbrev main_while0b_call11_c_1 : Ref sig .tc := ⟨.hbm, 205, rfl⟩
abbrev main_while0b_call11_c_2 : Ref sig .tc := ⟨.hbm, 206, rfl⟩
abbrev main_while0b_call11_c_3 : Ref sig .tc := ⟨.hbm, 207, rfl⟩
abbrev main_while0b_v147 : Ref sig .tc := ⟨.hbm, 208, rfl⟩
abbrev main_while0b_c_19 : Ref sig .tc := ⟨.hbm, 209, rfl⟩
abbrev main_while0b_v148 : Ref sig .tc := ⟨.hbm, 210, rfl⟩
abbrev main_v68 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_cst_4 : Ref sig .tc := ⟨.hbm, 221, rfl⟩
abbrev main_v78 : Ref sig .tc := ⟨.hbm, 222, rfl⟩
abbrev main_v79 : Ref sig .tc := ⟨.hbm, 223, rfl⟩
abbrev main_cst_5 : Ref sig .tc := ⟨.hbm, 224, rfl⟩
abbrev main_v80 : Ref sig .tc := ⟨.hbm, 225, rfl⟩
abbrev main_v81 : Ref sig .tc := ⟨.hbm, 226, rfl⟩
abbrev main_cst_6 : Ref sig .tc := ⟨.hbm, 227, rfl⟩
abbrev main_v82 : Ref sig .tc := ⟨.hbm, 228, rfl⟩
abbrev main_v83 : Ref sig .tc := ⟨.hbm, 229, rfl⟩
abbrev main_v84 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_call13_v0 : Ref sig .tc := ⟨.hbm, 237, rfl⟩
abbrev main_call13_v1 : Ref sig .tc := ⟨.hbm, 238, rfl⟩
abbrev main_call13_cst : Ref sig .tc := ⟨.hbm, 239, rfl⟩
abbrev main_call13_v2 : Ref sig .tc := ⟨.hbm, 240, rfl⟩
abbrev main_call13_v3 : Ref sig .tc := ⟨.hbm, 241, rfl⟩
abbrev main_call13_cst_0 : Ref sig .tc := ⟨.hbm, 242, rfl⟩
abbrev main_call13_v4 : Ref sig .tc := ⟨.hbm, 243, rfl⟩
abbrev main_call13_v5 : Ref sig .tc := ⟨.hbm, 244, rfl⟩
abbrev main_v91 : Ref sig .tc := ⟨.hbm, 245, rfl⟩
abbrev main_v92 : Ref sig .tc := ⟨.hbm, 246, rfl⟩
abbrev main_v93 : Ref sig .tc := ⟨.hbm, 247, rfl⟩
abbrev main_v94 : Ref sig .tc := ⟨.hbm, 248, rfl⟩

abbrev nD : Nat := 1
abbrev τ : Topo := Topo.v7x

variable {F : FTy → Type} [FloatOps F]

abbrev main_while0_count : Scf.Loop 32 := ⟨0#32, 16#32, 1#32⟩
-- ==== Reference6Ideal.lean ====
abbrev S32x256x1024 : Shape := ⟨3, ![32, 256, 1024]⟩
abbrev S32x2x8x128x128 : Shape := ⟨5, ![32, 2, 8, 128, 128]⟩
abbrev S2x1024 : Shape := ⟨2, ![2, 1024]⟩
abbrev S128 : Shape := ⟨1, ![128]⟩
abbrev S1x32x256x1024 : Shape := ⟨4, ![1, 32, 256, 1024]⟩
abbrev S2x32x256x1024 : Shape := ⟨4, ![2, 32, 256, 1024]⟩
abbrev S2x1x1x1024 : Shape := ⟨4, ![2, 1, 1, 1024]⟩
abbrev S_ : Shape := ⟨0, ![]⟩
abbrev S32x256x8x128 : Shape := ⟨4, ![32, 256, 8, 128]⟩
abbrev S1x32x256x8x128 : Shape := ⟨5, ![1, 32, 256, 8, 128]⟩
abbrev S2x32x256x8x128 : Shape := ⟨5, ![2, 32, 256, 8, 128]⟩
abbrev S2x32x8x128x128 : Shape := ⟨5, ![2, 32, 8, 128, 128]⟩
abbrev S16x16 : Shape := ⟨2, ![16, 16]⟩
abbrev S2x32x16x16x8x128 : Shape := ⟨6, ![2, 32, 16, 16, 8, 128]⟩
abbrev S2x16x32x16x8x128 : Shape := ⟨6, ![2, 16, 32, 16, 8, 128]⟩
abbrev S2x16x32x8x16x128 : Shape := ⟨6, ![2, 16, 32, 8, 16, 128]⟩
abbrev S16x2x32x8x16x128 : Shape := ⟨6, ![16, 2, 32, 8, 16, 128]⟩
abbrev S1x2x32x8x16x128 : Shape := ⟨6, ![1, 2, 32, 8, 16, 128]⟩
abbrev S2x32x8x16x128 : Shape := ⟨5, ![2, 32, 8, 16, 128]⟩
abbrev S2x32x8x16x1x128 : Shape := ⟨6, ![2, 32, 8, 16, 1, 128]⟩
abbrev S2x32x8x1x16x128 : Shape := ⟨6, ![2, 32, 8, 1, 16, 128]⟩
abbrev S2x32x8x16x16x128 : Shape := ⟨6, ![2, 32, 8, 16, 16, 128]⟩
abbrev S16x16x1 : Shape := ⟨3, ![16, 16, 1]⟩
abbrev S32x8x16x16x128 : Shape := ⟨5, ![32, 8, 16, 16, 128]⟩
abbrev S2x32x8x16x16 : Shape := ⟨5, ![2, 32, 8, 16, 16]⟩
abbrev S2x32x8x16x128x1 : Shape := ⟨6, ![2, 32, 8, 16, 128, 1]⟩
abbrev S2x32x8x1x128x128 : Shape := ⟨6, ![2, 32, 8, 1, 128, 128]⟩
abbrev S2x32x8x16x128x128 : Shape := ⟨6, ![2, 32, 8, 16, 128, 128]⟩
abbrev S2x32x8x16x16x1 : Shape := ⟨6, ![2, 32, 8, 16, 16, 1]⟩
abbrev S2x32x8x1x128 : Shape := ⟨5, ![2, 32, 8, 1, 128]⟩
abbrev S2x32x8x128 : Shape := ⟨4, ![2, 32, 8, 128]⟩
abbrev S2x32x8x128x1 : Shape := ⟨5, ![2, 32, 8, 128, 1]⟩
abbrev S32x256x8 : Shape := ⟨3, ![32, 256, 8]⟩
abbrev S32x256x8x1 : Shape := ⟨4, ![32, 256, 8, 1]⟩
abbrev S1x1x1x128 : Shape := ⟨4, ![1, 1, 1, 128]⟩

abbrev nBuf : Space → Nat
  | .hbm => 249
  | .vmem => 0
  | .smem => 0
  | _ => 0

abbrev hbmTy0_0 (i : Nat) : BufTy := match i % 128 with
  | 0 => ⟨S32x256x1024, .f32⟩
  | 1 => ⟨S32x256x1024, .f32⟩
  | 2 => ⟨S32x256x1024, .f32⟩
  | 3 => ⟨S32x256x1024, .f32⟩
  | 4 => ⟨S32x256x1024, .f32⟩
  | 5 => ⟨S32x2x8x128x128, .f32⟩
  | 6 => ⟨S2x1024, .f32⟩
  | 7 => ⟨S128, .f32⟩
  | 8 => ⟨S32x256x1024, .f32⟩
  | 9 => ⟨S1x32x256x1024, .f32⟩
  | 10 => ⟨S1x32x256x1024, .f32⟩
  | 11 => ⟨S2x32x256x1024, .f32⟩
  | 12 => ⟨S2x1x1x1024, .f32⟩
  | 13 => ⟨S2x1x1x1024, .f32⟩
  | 14 => ⟨S2x1x1x1024, .f32⟩
  | 15 => ⟨S2x1x1x1024, .f32⟩
  | 16 => ⟨S2x32x256x1024, .f32⟩
  | 17 => ⟨S_, .f32⟩
  | 18 => ⟨S2x32x256x1024, .f32⟩
  | 19 => ⟨S2x32x256x1024, .f32⟩
  | 20 => ⟨S2x32x256x1024, .f32⟩
  | 21 => ⟨S2x32x256x1024, .f32⟩
  | 22 => ⟨S2x32x256x1024, .i1⟩
  | 23 => ⟨S2x32x256x1024, .f32⟩
  | 24 => ⟨S2x32x256x1024, .f32⟩
  | 25 => ⟨S2x32x256x1024, .f32⟩
  | 26 => ⟨S2x32x256x1024, .f32⟩
  | 27 => ⟨S2x32x256x1024, .f32⟩
  | 28 => ⟨S2x32x256x1024, .f32⟩
  | 29 => ⟨S2x32x256x1024, .f32⟩
  | 30 => ⟨S2x32x256x1024, .f32⟩
  | 31 => ⟨S2x32x256x1024, .f32⟩
  | 32 => ⟨S2x32x256x1024, .f32⟩
  | 33 => ⟨S2x32x256x1024, .f32⟩
  | 34 => ⟨S2x32x256x1024, .f32⟩
  | 35 => ⟨S2x32x256x1024, .f32⟩
  | 36 => ⟨S2x32x256x1024, .f32⟩
  | 37 => ⟨S2x32x256x1024, .f32⟩
  | 38 => ⟨S2x32x256x1024, .i1⟩
  | 39 => ⟨S2x32x256x1024, .f32⟩
  | 40 => ⟨S2x32x256x1024, .f32⟩
  | 41 => ⟨S2x32x256x1024, .f32⟩
  | 42 => ⟨S2x32x256x1024, .f32⟩
  | 43 => ⟨S2x32x256x1024, .f32⟩
  | 44 => ⟨S2x32x256x1024, .f32⟩
  | 45 => ⟨S2x32x256x1024, .f32⟩
  | 46 => ⟨S2x32x256x1024, .f32⟩
  | 47 => ⟨S_, .f32⟩
  | 48 => ⟨S2x1x1x1024, .f32⟩
  | 49 => ⟨S2x1x1x1024, .f32⟩
  | 50 => ⟨S2x32x256x1024, .f32⟩
  | 51 => ⟨S2x32x256x1024, .f32⟩
  | 52 => ⟨S2x32x256x1024, .f32⟩
  | 53 => ⟨S_, .f32⟩
  | 54 => ⟨S2x32x256x1024, .f32⟩
  | 55 => ⟨S2x32x256x1024, .f32⟩
  | 56 => ⟨S_, .f32⟩
  | 57 => ⟨S2x32x256x1024, .f32⟩
  | 58 => ⟨S2x32x256x1024, .f32⟩
  | 59 => ⟨S2x32x256x1024, .f32⟩
  | 60 => ⟨S2x32x256x1024, .f32⟩
  | 61 => ⟨S32x256x8x128, .f32⟩
  | 62 => ⟨S32x256x8x128, .f32⟩
  | 63 => ⟨S32x256x8x128, .f32⟩
  | 64 => ⟨S1x32x256x8x128, .f32⟩
  | 65 => ⟨S1x32x256x8x128, .f32⟩
  | 66 => ⟨S2x32x256x8x128, .f32⟩
  | 67 => ⟨S2x32x256x8x128, .f32⟩
  | 68 => ⟨S32x256x8x128, .f32⟩
  | 69 => ⟨S1x32x256x8x128, .f32⟩
  | 70 => ⟨S1x32x256x8x128, .f32⟩
  | 71 => ⟨S2x32x256x8x128, .f32⟩
  | 72 => ⟨S2x32x256x8x128, .f32⟩
  | 73 => ⟨S2x32x8x128x128, .f32⟩
  | 74 => ⟨S_, .i1⟩
  | 75 => ⟨S16x16, .i1⟩
  | 76 => ⟨S16x16, .i32⟩
  | 77 => ⟨S_, .i32⟩
  | 78 => ⟨S16x16, .i32⟩
  | 79 => ⟨S16x16, .i32⟩
  | 80 => ⟨S16x16, .i32⟩
  | 81 => ⟨S16x16, .i1⟩
  | 82 => ⟨S_, .i1⟩
  | 83 => ⟨S16x16, .i1⟩
  | 84 => ⟨S16x16, .i1⟩
  | 85 => ⟨S2x32x16x16x8x128, .f32⟩
  | 86 => ⟨S2x16x32x16x8x128, .f32⟩
  | 87 => ⟨S2x16x32x8x16x128, .f32⟩
  | 88 => ⟨S2x32x16x16x8x128, .f32⟩
  | 89 => ⟨S2x16x32x16x8x128, .f32⟩
  | 90 => ⟨S2x16x32x8x16x128, .f32⟩
  | 91 => ⟨S2x32x16x16x8x128, .f32⟩
  | 92 => ⟨S2x16x32x16x8x128, .f32⟩
  | 93 => ⟨S2x16x32x8x16x128, .f32⟩
  | 94 => ⟨S2x32x16x16x8x128, .f32⟩
  | 95 => ⟨S2x16x32x16x8x128, .f32⟩
  | 96 => ⟨S2x16x32x8x16x128, .f32⟩
  | 97 => ⟨S16x2x32x8x16x128, .f32⟩
  | 98 => ⟨S16x2x32x8x16x128, .f32⟩
  | 99 => ⟨S16x2x32x8x16x128, .f32⟩
  | 100 => ⟨S16x2x32x8x16x128, .f32⟩
  | 101 => ⟨S_, .f32⟩
  | 102 => ⟨S16x2x32x8x16x128, .f32⟩
  | 103 => ⟨S_, .i32⟩
  | 104 => ⟨S16x2x32x8x16x128, .f32⟩
  | 105 => ⟨S16x2x32x8x16x128, .f32⟩
  | 106 => ⟨S16x2x32x8x16x128, .f32⟩
  | 107 => ⟨S16x2x32x8x16x128, .f32⟩
  | 108 => ⟨S16x16, .i1⟩
  | 109 => ⟨S_, .i32⟩
  | 110 => ⟨S2x32x8x128x128, .f32⟩
  | 111 => ⟨S16x2x32x8x16x128, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x2x32x8x16x128, .f32⟩
  | 120 => ⟨S2x32x8x16x128, .f32⟩
  | 121 => ⟨S_, .i32⟩
  | 122 => ⟨S_, .i32⟩
  | 123 => ⟨S_, .i32⟩
  | 124 => ⟨S_, .i32⟩
  | 125 => ⟨S_, .i32⟩
  | 126 => ⟨S1x2x32x8x16x128, .f32⟩
  | 127 => ⟨S2x32x8x16x128, .f32⟩
  | _ => ⟨S32x256x1024, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x2x32x8x16x128, .f32⟩
  | 6 => ⟨S2x32x8x16x128, .f32⟩
  | 7 => ⟨S_, .i32⟩
  | 8 => ⟨S_, .i32⟩
  | 9 => ⟨S_, .i32⟩
  | 10 => ⟨S_, .i32⟩
  | 11 => ⟨S_, .i32⟩
  | 12 => ⟨S1x2x32x8x16x128, .f32⟩
  | 13 => ⟨S2x32x8x16x128, .f32⟩
  | 14 => ⟨S_, .f32⟩
  | 15 => ⟨S_, .f32⟩
  | 16 => ⟨S2x32x8x16x128, .f32⟩
  | 17 => ⟨S2x32x8x16x1x128, .f32⟩
  | 18 => ⟨S2x32x8x1x16x128, .f32⟩
  | 19 => ⟨S2x32x8x16x16x128, .f32⟩
  | 20 => ⟨S2x32x8x16x16x128, .f32⟩
  | 21 => ⟨S2x32x8x16x16x128, .f32⟩
  | 22 => ⟨S16x16x1, .i1⟩
  | 23 => ⟨S_, .f32⟩
  | 24 => ⟨S_, .f32⟩
  | 25 => ⟨S32x8x16x16x128, .i1⟩
  | 26 => ⟨S32x8x16x16x128, .f32⟩
  | 27 => ⟨S2x32x8x16x16x128, .i1⟩
  | 28 => ⟨S2x32x8x16x16x128, .f32⟩
  | 29 => ⟨S2x32x8x16x16x128, .f32⟩
  | 30 => ⟨S2x32x8x16x16x128, .f32⟩
  | 31 => ⟨S2x32x8x16x1x128, .f32⟩
  | 32 => ⟨S2x32x8x16x16x128, .f32⟩
  | 33 => ⟨S2x32x8x16x16x128, .f32⟩
  | 34 => ⟨S2x32x8x1x16x128, .f32⟩
  | 35 => ⟨S2x32x8x16x16x128, .f32⟩
  | 36 => ⟨S2x32x8x16x16x128, .f32⟩
  | 37 => ⟨S_, .f32⟩
  | 38 => ⟨S2x32x8x16x16, .f32⟩
  | 39 => ⟨S2x32x8x16x128, .f32⟩
  | 40 => ⟨S2x32x8x16x128, .f32⟩
  | 41 => ⟨S2x32x8x16x128x1, .f32⟩
  | 42 => ⟨S2x32x8x1x128x128, .f32⟩
  | 43 => ⟨S2x32x8x16x128x128, .f32⟩
  | 44 => ⟨S2x32x8x16x128x128, .f32⟩
  | 45 => ⟨S2x32x8x16x128x128, .f32⟩
  | 46 => ⟨S_, .f32⟩
  | 47 => ⟨S2x32x8x16x128, .f32⟩
  | 48 => ⟨S2x32x8x16x16x1, .f32⟩
  | 49 => ⟨S2x32x8x1x16x128, .f32⟩
  | 50 => ⟨S2x32x8x16x16x128, .f32⟩
  | 51 => ⟨S2x32x8x16x16x128, .f32⟩
  | 52 => ⟨S2x32x8x16x16x128, .f32⟩
  | 53 => ⟨S_, .f32⟩
  | 54 => ⟨S2x32x8x16x128, .f32⟩
  | 55 => ⟨S2x32x8x16x128, .f32⟩
  | 56 => ⟨S2x32x8x1x128, .f32⟩
  | 57 => ⟨S2x32x8x128, .f32⟩
  | 58 => ⟨S2x32x8x128, .f32⟩
  | 59 => ⟨S2x32x8x128x1, .f32⟩
  | 60 => ⟨S2x32x8x128x128, .f32⟩
  | 61 => ⟨S2x32x8x128x128, .f32⟩
  | 62 => ⟨S2x32x8x16x128, .f32⟩
  | 63 => ⟨S2x32x8x16x128, .f32⟩
  | 64 => ⟨S2x32x8x16x128, .f32⟩
  | 65 => ⟨S2x32x8x16x128, .f32⟩
  | 66 => ⟨S2x32x8x16x128x1, .f32⟩
  | 67 => ⟨S2x32x8x16x1x128, .f32⟩
  | 68 => ⟨S2x32x8x16x128x128, .f32⟩
  | 69 => ⟨S2x32x8x16x128x128, .f32⟩
  | 70 => ⟨S2x32x8x16x128x128, .f32⟩
  | 71 => ⟨S_, .f32⟩
  | 72 => ⟨S2x32x8x128x128, .f32⟩
  | 73 => ⟨S2x32x8x128x128, .f32⟩
  | 74 => ⟨S1x2x32x8x16x128, .f32⟩
  | 75 => ⟨S_, .i32⟩
  | 76 => ⟨S_, .i32⟩
  | 77 => ⟨S_, .i32⟩
  | 78 => ⟨S_, .i32⟩
  | 79 => ⟨S_, .i32⟩
  | 80 => ⟨S16x2x32x8x16x128, .f32⟩
  | 81 => ⟨S_, .i32⟩
  | 82 => ⟨S_, .i32⟩
  | 83 => ⟨S2x16x32x16x8x128, .f32⟩
  | 84 => ⟨S2x32x16x16x8x128, .f32⟩
  | 85 => ⟨S2x32x256x8x128, .f32⟩
  | 86 => ⟨S1x32x256x8x128, .f32⟩
  | 87 => ⟨S32x256x8x128, .f32⟩
  | 88 => ⟨S1x32x256x8x128, .f32⟩
  | 89 => ⟨S32x256x8x128, .f32⟩
  | 90 => ⟨S32x256x8x128, .f32⟩
  | 91 => ⟨S32x256x8x128, .f32⟩
  | 92 => ⟨S32x256x8x128, .f32⟩
  | 93 => ⟨S_, .f32⟩
  | 94 => ⟨S32x256x8, .f32⟩
  | 95 => ⟨S32x256x8x1, .f32⟩
  | 96 => ⟨S_, .f32⟩
  | 97 => ⟨S32x256x8x1, .f32⟩
  | 98 => ⟨S32x256x8x1, .f32⟩
  | 99 => ⟨S_, .f32⟩
  | 100 => ⟨S32x256x8x1, .f32⟩
  | 101 => ⟨S32x256x8x1, .f32⟩
  | 102 => ⟨S32x256x8x1, .f32⟩
  | 103 => ⟨S32x256x8x128, .f32⟩
  | 104 => ⟨S32x256x8x128, .f32⟩
  | 105 => ⟨S1x1x1x128, .f32⟩
  | 106 => ⟨S32x256x8x128, .f32⟩
  | 107 => ⟨S32x256x8x128, .f32⟩
  | 108 => ⟨S32x256x8x128, .f32⟩
  | 109 => ⟨S32x256x8x128, .f32⟩
  | 110 => ⟨S32x256x8x128, .f32⟩
  | 111 => ⟨S_, .f32⟩
  | 112 => ⟨S32x256x8x128, .f32⟩
  | 113 => ⟨S32x256x8x128, .f32⟩
  | 114 => ⟨S_, .f32⟩
  | 115 => ⟨S32x256x8x128, .f32⟩
  | 116 => ⟨S32x256x8x128, .f32⟩
  | 117 => ⟨S32x256x8x128, .f32⟩
  | 118 => ⟨S32x256x8x128, .f32⟩
  | 119 => ⟨S32x256x1024, .f32⟩
  | 120 => ⟨S32x2x8x128x128, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_call0_cst : Ref sig .tc := ⟨.hbm, 17, rfl⟩
abbrev main_call1_call0_v0 : Ref sig .tc := ⟨.hbm, 18, rfl⟩
abbrev main_call1_call0_v1 : Ref sig .tc := ⟨.hbm, 19, rfl⟩
abbrev main_call1_call0_v2 : Ref sig .tc := ⟨.hbm, 20, rfl⟩
abbrev main_call1_call0_v3 : Ref sig .tc := ⟨.hbm, 21, rfl⟩
abbrev main_call1_call0_v4 : Ref sig .tc := ⟨.hbm, 22, rfl⟩
abbrev main_call1_call0_v5 : Ref sig .tc := ⟨.hbm, 23, rfl⟩
abbrev main_call1_call0_v6 : Ref sig .tc := ⟨.hbm, 24, rfl⟩
abbrev main_call1_call0_v7 : Ref sig .tc := ⟨.hbm, 25, rfl⟩
abbrev main_call1_call0_v8 : Ref sig .tc := ⟨.hbm, 26, rfl⟩
abbrev main_call1_call0_v9 : Ref sig .tc := ⟨.hbm, 27, rfl⟩
abbrev main_call1_call0_v10 : Ref sig .tc := ⟨.hbm, 28, rfl⟩
abbrev main_call1_call0_v11 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_v48 : Ref sig .tc := ⟨.hbm, 75, rfl⟩
abbrev main_call4_v0 : Ref sig .tc := ⟨.hbm, 76, rfl⟩
abbrev main_call4_c : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_c_0 : Ref sig .tc := ⟨.hbm, 82, rfl⟩
abbrev main_call4_v5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_2 : Ref sig .tc := ⟨.hbm, 101, rfl⟩
abbrev main_v66 : Ref sig .tc := ⟨.hbm, 102, rfl⟩
abbrev main_c_3 : Ref sig .tc := ⟨.hbm, 103, rfl⟩
abbrev main_v67_0 : Ref sig .tc := ⟨.hbm, 104, rfl⟩
abbrev main_v67_1 : Ref sig .tc := ⟨.hbm, 105, rfl⟩
abbrev main_v67_2 : Ref sig .tc := ⟨.hbm, 106, rfl⟩
abbrev main_v67_3 : Ref sig .tc := ⟨.hbm, 107, rfl⟩
abbrev main_v67_4 : Ref sig .tc := ⟨.hbm, 108, rfl⟩
abbrev main_v67_5 : Ref sig .tc := ⟨.hbm, 109, rfl⟩
abbrev main_v67_6 : Ref sig .tc := ⟨.hbm, 110, rfl⟩
abbrev main_v67_7 : Ref sig .tc := ⟨.hbm, 111, rfl⟩
abbrev main_while0c_c_14 : Ref sig .tc := ⟨.hbm, 112, rfl⟩
abbrev main_while0c_v95 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_call5_c_2 : Ref sig .tc := ⟨.hbm, 117, rfl⟩
abbrev main_while0b_call5_c_3 : Ref sig .tc := ⟨.hbm, 118, rfl⟩
abbrev main_while0b_call5_v0 : Ref sig .tc := ⟨.hbm, 119, rfl⟩
abbrev main_while0b_v95 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_c_1 : Ref sig .tc := ⟨.hbm, 123, rfl⟩
abbrev main_while0b_call6_c_2 : Ref sig .tc := ⟨.hbm, 124, rfl⟩
abbrev main_while0b_call6_c_3 : Ref sig .tc := ⟨.hbm, 125, rfl⟩
abbrev main_while0b_call6_v0 : Ref sig .tc := ⟨.hbm, 126, rfl⟩
abbrev main_while0b_v96 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_c_2 : Ref sig .tc := ⟨.hbm, 131, rfl⟩
abbrev main_while0b_call7_c_3 : Ref sig .tc := ⟨.hbm, 132, rfl⟩
abbrev main_while0b_call7_v0 : Ref sig .tc := ⟨.hbm, 133, rfl⟩
abbrev main_while0b_v97 : Ref sig .tc := ⟨.hbm, 134, rfl⟩
abbrev main_while0b_call8_c : Ref sig .tc := ⟨.hbm, 135, rfl⟩
abbrev main_while0b_call8_c_0 : Ref sig .tc := ⟨.hbm, 136, rfl⟩
abbrev main_while0b_call8_c_1 : Ref sig .tc := ⟨.hbm, 137, rfl⟩
abbrev main_while0b_call8_c_2 : Ref sig .tc := ⟨.hbm, 138, rfl⟩
abbrev main_while0b_call8_c_3 : Ref sig .tc := ⟨.hbm, 139, rfl⟩
abbrev main_while0b_call8_v0 : Ref sig .tc := ⟨.hbm, 140, rfl⟩
abbrev main_while0b_v98 : Ref sig .tc := ⟨.hbm, 141, rfl⟩
abbrev main_while0b_call9_call0_cst : Ref sig .tc := ⟨.hbm, 142, rfl⟩
abbrev main_while0b_call9_call0_v0 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_cst_14 : Ref sig .tc := ⟨.hbm, 151, rfl⟩
abbrev main_while0b_call10_v0 : Ref sig .tc := ⟨.hbm, 152, rfl⟩
abbrev main_while0b_call10_v1 : Ref sig .tc := ⟨.hbm, 153, rfl⟩
abbrev main_while0b_call10_v2 : Ref sig .tc := ⟨.hbm, 154, rfl⟩
abbrev main_while0b_call10_v3 : Ref sig .tc := ⟨.hbm, 155, rfl⟩
abbrev main_while0b_call10_v4 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_cst_15 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_cst_16 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_v125 : Ref sig .tc := ⟨.hbm, 178, rfl⟩
abbrev main_while0b_v126 : Ref sig .tc := ⟨.hbm, 179, rfl⟩
abbrev main_while0b_v127 : Ref sig .tc := ⟨.hbm, 180, rfl⟩
abbrev main_while0b_cst_17 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_v141 : Ref sig .tc := ⟨.hbm, 195, rfl⟩
abbrev main_while0b_v142 : Ref sig .tc := ⟨.hbm, 196, rfl⟩
abbrev main_while0b_v143 : Ref sig .tc := ⟨.hbm, 197, rfl⟩
abbrev main_while0b_v144 : Ref sig .tc := ⟨.hbm, 198, rfl⟩
abbrev main_while0b_cst_18 : Ref sig .tc := ⟨.hbm, 199, rfl⟩
abbrev main_while0b_v145 : Ref sig .tc := ⟨.hbm, 200, rfl⟩
abbrev main_while0b_v146 : Ref sig .tc := ⟨.hbm, 201, rfl⟩
abbrev main_while0b_call11_v0 : Ref sig .tc := ⟨.hbm, 202, rfl⟩
abbrev main_while0b_call11_c : Ref sig .tc := ⟨.hbm, 203, rfl⟩
abbrev main_while0b_call11_c_0 : Ref sig .tc := ⟨.hbm, 204, rfl⟩
abbrev main_while0b_call11_c_1 : Ref sig .tc := ⟨.hbm, 205, rfl⟩
abbrev main_while0b_call11_c_2 : Ref sig .tc := ⟨.hbm, 206, rfl⟩
abbrev main_while0b_call11_c_3 : Ref sig .tc := ⟨.hbm, 207, rfl⟩
abbrev main_while0b_v147 : Ref sig .tc := ⟨.hbm, 208, rfl⟩
abbrev main_while0b_c_19 : Ref sig .tc := ⟨.hbm, 209, rfl⟩
abbrev main_while0b_v148 : Ref sig .tc := ⟨.hbm, 210, rfl⟩
abbrev main_v68 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_cst_4 : Ref sig .tc := ⟨.hbm, 221, rfl⟩
abbrev main_v78 : Ref sig .tc := ⟨.hbm, 222, rfl⟩
abbrev main_v79 : Ref sig .tc := ⟨.hbm, 223, rfl⟩
abbrev main_cst_5 : Ref sig .tc := ⟨.hbm, 224, rfl⟩
abbrev main_v80 : Ref sig .tc := ⟨.hbm, 225, rfl⟩
abbrev main_v81 : Ref sig .tc := ⟨.hbm, 226, rfl⟩
abbrev main_cst_6 : Ref sig .tc := ⟨.hbm, 227, rfl⟩
abbrev main_v82 : Ref sig .tc := ⟨.hbm, 228, rfl⟩
abbrev main_v83 : Ref sig .tc := ⟨.hbm, 229, rfl⟩
abbrev main_v84 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_call13_v0 : Ref sig .tc := ⟨.hbm, 237, rfl⟩
abbrev main_call13_v1 : Ref sig .tc := ⟨.hbm, 238, rfl⟩
abbrev main_call13_cst : Ref sig .tc := ⟨.hbm, 239, rfl⟩
abbrev main_call13_v2 : Ref sig .tc := ⟨.hbm, 240, rfl⟩
abbrev main_call13_v3 : Ref sig .tc := ⟨.hbm, 241, rfl⟩
abbrev main_call13_cst_0 : Ref sig .tc := ⟨.hbm, 242, rfl⟩
abbrev main_call13_v4 : Ref sig .tc := ⟨.hbm, 243, rfl⟩
abbrev main_call13_v5 : Ref sig .tc := ⟨.hbm, 244, rfl⟩
abbrev main_v91 : Ref sig .tc := ⟨.hbm, 245, rfl⟩
abbrev main_v92 : Ref sig .tc := ⟨.hbm, 246, rfl⟩
abbrev main_v93 : Ref sig .tc := ⟨.hbm, 247, rfl⟩
abbrev main_v94 : Ref sig .tc := ⟨.hbm, 248, rfl⟩

abbrev nD : Nat := 1
abbrev τ : Topo := Topo.v7x

variable {F : FTy → Type} [FloatOps F]

abbrev main_while0_count : Scf.Loop 32 := ⟨0#32, 16#32, 1#32⟩
-- ==== Kernel7.lean ====
abbrev S32x256x1024 : Shape := ⟨3, ![32, 256, 1024]⟩
abbrev S32x256x32 : Shape := ⟨3, ![32, 256, 32]⟩
abbrev S32x2x8x128x128 : Shape := ⟨5, ![32, 2, 8, 128, 128]⟩
abbrev S32x2x8x128 : Shape := ⟨4, ![32, 2, 8, 128]⟩
abbrev S32x2x8 : Shape := ⟨3, ![32, 2, 8]⟩
abbrev S3x3x1024 : Shape := ⟨3, ![3, 3, 1024]⟩
abbrev S1024 : Shape := ⟨1, ![1024]⟩
abbrev S8x128x128 : Shape := ⟨3, ![8, 128, 128]⟩
abbrev S2x8 : Shape := ⟨2, ![2, 8]⟩
abbrev S128 : Shape := ⟨1, ![128]⟩
abbrev S32x1x256x1024 : Shape := ⟨4, ![32, 1, 256, 1024]⟩
abbrev S1x3x1024 : Shape := ⟨3, ![1, 3, 1024]⟩
abbrev S1x3x1x1024 : Shape := ⟨4, ![1, 3, 1, 1024]⟩
abbrev S_ : Shape := ⟨0, ![]⟩
abbrev S32x1x258x1024 : Shape := ⟨4, ![32, 1, 258, 1024]⟩
abbrev S1x1x1x1024 : Shape := ⟨4, ![1, 1, 1, 1024]⟩
abbrev S32x256x8x128 : Shape := ⟨4, ![32, 256, 8, 128]⟩
abbrev S32x256x8x128x1 : Shape := ⟨5, ![32, 256, 8, 128, 1]⟩
abbrev S1x1x8x128x128 : Shape := ⟨5, ![1, 1, 8, 128, 128]⟩
abbrev S32x256x8x128x128 : Shape := ⟨5, ![32, 256, 8, 128, 128]⟩
abbrev S32x256x4x8 : Shape := ⟨4, ![32, 256, 4, 8]⟩
abbrev S32x256x1x8 : Shape := ⟨4, ![32, 256, 1, 8]⟩
abbrev S32x256x8 : Shape := ⟨3, ![32, 256, 8]⟩
abbrev S1x32x256x8 : Shape := ⟨4, ![1, 32, 256, 8]⟩
abbrev S2x32x256x8 : Shape := ⟨4, ![2, 32, 256, 8]⟩
abbrev S1x8 : Shape := ⟨2, ![1, 8]⟩
abbrev S8 : Shape := ⟨1, ![8]⟩
abbrev S1x1x8 : Shape := ⟨3, ![1, 1, 8]⟩
abbrev S1x32x256x8x128 : Shape := ⟨5, ![1, 32, 256, 8, 128]⟩
abbrev S2x32x256x8x128 : Shape := ⟨5, ![2, 32, 256, 8, 128]⟩
abbrev S2x32x8x128x128 : Shape := ⟨5, ![2, 32, 8, 128, 128]⟩
abbrev S2x32x8x128 : Shape := ⟨4, ![2, 32, 8, 128]⟩
abbrev S2x32x8 : Shape := ⟨3, ![2, 32, 8]⟩
abbrev S64x64 : Shape := ⟨2, ![64, 64]⟩
abbrev S2x32x4x64x8x128 : Shape := ⟨6, ![2, 32, 4, 64, 8, 128]⟩
abbrev S2x4x32x64x8x128 : Shape := ⟨6, ![2, 4, 32, 64, 8, 128]⟩
abbrev S2x4x32x8x64x128 : Shape := ⟨6, ![2, 4, 32, 8, 64, 128]⟩
abbrev S2x32x4x64x8 : Shape := ⟨5, ![2, 32, 4, 64, 8]⟩
abbrev S2x4x32x64x8 : Shape := ⟨5, ![2, 4, 32, 64, 8]⟩
abbrev S2x4x32x8x64 : Shape := ⟨5, ![2, 4, 32, 8, 64]⟩
abbrev S4x2x32x8x64x128 : Shape := ⟨6, ![4, 2, 32, 8, 64, 128]⟩
abbrev S4x2x32x8x64 : Shape := ⟨5, ![4, 2, 32, 8, 64]⟩
abbrev S1x2x32x8x64x128 : Shape := ⟨6, ![1, 2, 32, 8, 64, 128]⟩
abbrev S2x32x8x64x128 : Shape := ⟨5, ![2, 32, 8, 64, 128]⟩
abbrev S1x2x32x8x64 : Shape := ⟨5, ![1, 2, 32, 8, 64]⟩
abbrev S2x32x8x64 : Shape := ⟨4, ![2, 32, 8, 64]⟩
abbrev S2x32x8x64x1 : Shape := ⟨5, ![2, 32, 8, 64, 1]⟩
abbrev S2x32x8x1x64 : Shape := ⟨5, ![2, 32, 8, 1, 64]⟩
abbrev S2x32x8x64x64 : Shape := ⟨5, ![2, 32, 8, 64, 64]⟩
abbrev S32x8x64x64 : Shape := ⟨4, ![32, 8, 64, 64]⟩
abbrev S2x32x8x1 : Shape := ⟨4, ![2, 32, 8, 1]⟩
abbrev S2x32x8x64x1x128 : Shape := ⟨6, ![2, 32, 8, 64, 1, 128]⟩
abbrev S2x32x8x1x64x128 : Shape := ⟨6, ![2, 32, 8, 1, 64, 128]⟩
abbrev S2x32x8x64x64x128 : Shape := ⟨6, ![2, 32, 8, 64, 64, 128]⟩
abbrev S2x32x8x64x128x1 : Shape := ⟨6, ![2, 32, 8, 64, 128, 1]⟩
abbrev S2x32x8x1x128x128 : Shape := ⟨6, ![2, 32, 8, 1, 128, 128]⟩
abbrev S2x32x8x64x128x128 : Shape := ⟨6, ![2, 32, 8, 64, 128, 128]⟩
abbrev S2x32x8x64x64x1 : Shape := ⟨6, ![2, 32, 8, 64, 64, 1]⟩
abbrev S2x32x8x1x128 : Shape := ⟨5, ![2, 32, 8, 1, 128]⟩
abbrev S2x32x8x1x1 : Shape := ⟨5, ![2, 32, 8, 1, 1]⟩
abbrev S32x256x8x1 : Shape := ⟨4, ![32, 256, 8, 1]⟩
abbrev S1x1x1x128 : Shape := ⟨4, ![1, 1, 1, 128]⟩

abbrev nBuf : Space → Nat
  | .hbm => 382
  | .vmem => 0
  | .smem => 0
  | _ => 0

abbrev hbmTy0_0 (i : Nat) : BufTy := match i % 128 with
  | 0 => ⟨S32x256x1024, .f32⟩
  | 1 => ⟨S32x256x1024, .f32⟩
  | 2 => ⟨S32x256x1024, .f32⟩
  | 3 => ⟨S32x256x32, .f32⟩
  | 4 => ⟨S32x2x8x128x128, .f32⟩
  | 5 => ⟨S32x2x8x128, .f32⟩
  | 6 => ⟨S32x2x8, .f32⟩
  | 7 => ⟨S3x3x1024, .f32⟩
  | 8 => ⟨S1024, .f32⟩
  | 9 => ⟨S8x128x128, .f32⟩
  | 10 => ⟨S8x128x128, .f32⟩
  | 11 => ⟨S2x8, .f32⟩
  | 12 => ⟨S128, .f32⟩
  | 13 => ⟨S32x1x256x1024, .f32⟩
  | 14 => ⟨S1x3x1024, .f32⟩
  | 15 => ⟨S1x3x1x1024, .f32⟩
  | 16 => ⟨S_, .i32⟩
  | 17 => ⟨S_, .f32⟩
  | 18 => ⟨S32x1x258x1024, .f32⟩
  | 19 => ⟨S32x1x256x1024, .f32⟩
  | 20 => ⟨S1x1x1x1024, .f32⟩
  | 21 => ⟨S1024, .f32⟩
  | 22 => ⟨S1x1x1x1024, .f32⟩
  | 23 => ⟨S32x1x256x1024, .f32⟩
  | 24 => ⟨S32x1x256x1024, .f32⟩
  | 25 => ⟨S_, .f32⟩
  | 26 => ⟨S32x1x256x1024, .f32⟩
  | 27 => ⟨S32x1x256x1024, .f32⟩
  | 28 => ⟨S32x1x256x1024, .f32⟩
  | 29 => ⟨S1x1x1x1024, .f32⟩
  | 30 => ⟨S1024, .f32⟩
  | 31 => ⟨S1x1x1x1024, .f32⟩
  | 32 => ⟨S32x1x256x1024, .f32⟩
  | 33 => ⟨S32x1x256x1024, .f32⟩
  | 34 => ⟨S32x1x256x1024, .f32⟩
  | 35 => ⟨S32x1x256x1024, .f32⟩
  | 36 => ⟨S1x1x1x1024, .f32⟩
  | 37 => ⟨S1024, .f32⟩
  | 38 => ⟨S1x1x1x1024, .f32⟩
  | 39 => ⟨S32x1x256x1024, .f32⟩
  | 40 => ⟨S32x1x256x1024, .f32⟩
  | 41 => ⟨S32x1x256x1024, .f32⟩
  | 42 => ⟨S1x1x1x1024, .f32⟩
  | 43 => ⟨S32x1x256x1024, .f32⟩
  | 44 => ⟨S32x1x256x1024, .f32⟩
  | 45 => ⟨S32x256x1024, .f32⟩
  | 46 => ⟨S32x256x1024, .f32⟩
  | 47 => ⟨S32x256x1024, .f32⟩
  | 48 => ⟨S_, .f32⟩
  | 49 => ⟨S32x256x1024, .f32⟩
  | 50 => ⟨S32x256x1024, .f32⟩
  | 51 => ⟨S_, .f32⟩
  | 52 => ⟨S32x256x1024, .f32⟩
  | 53 => ⟨S32x256x1024, .f32⟩
  | 54 => ⟨S32x256x1024, .f32⟩
  | 55 => ⟨S32x256x8x128, .f32⟩
  | 56 => ⟨S32x256x8x128x1, .f32⟩
  | 57 => ⟨S1x1x8x128x128, .f32⟩
  | 58 => ⟨S32x256x8x128x128, .f32⟩
  | 59 => ⟨S32x256x8x128x128, .f32⟩
  | 60 => ⟨S32x256x8x128x128, .f32⟩
  | 61 => ⟨S_, .f32⟩
  | 62 => ⟨S32x256x8x128, .f32⟩
  | 63 => ⟨S32x256x8x128x1, .f32⟩
  | 64 => ⟨S1x1x8x128x128, .f32⟩
  | 65 => ⟨S32x256x8x128x128, .f32⟩
  | 66 => ⟨S32x256x8x128x128, .f32⟩
  | 67 => ⟨S32x256x8x128x128, .f32⟩
  | 68 => ⟨S_, .f32⟩
  | 69 => ⟨S32x256x8x128, .f32⟩
  | 70 => ⟨S_, .f32⟩
  | 71 => ⟨S32x256x8x128, .f32⟩
  | 72 => ⟨S32x256x8x128, .f32⟩
  | 73 => ⟨S32x256x8x128, .f32⟩
  | 74 => ⟨S32x256x4x8, .f32⟩
  | 75 => ⟨S32x256x1x8, .f32⟩
  | 76 => ⟨S32x256x8, .f32⟩
  | 77 => ⟨S32x256x1x8, .f32⟩
  | 78 => ⟨S32x256x8, .f32⟩
  | 79 => ⟨S32x256x8, .f32⟩
  | 80 => ⟨S1x32x256x8, .f32⟩
  | 81 => ⟨S1x32x256x8, .f32⟩
  | 82 => ⟨S2x32x256x8, .f32⟩
  | 83 => ⟨S32x256x1x8, .f32⟩
  | 84 => ⟨S32x256x8, .f32⟩
  | 85 => ⟨S1x8, .f32⟩
  | 86 => ⟨S8, .f32⟩
  | 87 => ⟨S1x1x8, .f32⟩
  | 88 => ⟨S32x256x8, .f32⟩
  | 89 => ⟨S32x256x8, .f32⟩
  | 90 => ⟨S32x256x1x8, .f32⟩
  | 91 => ⟨S32x256x8, .f32⟩
  | 92 => ⟨S1x8, .f32⟩
  | 93 => ⟨S8, .f32⟩
  | 94 => ⟨S1x1x8, .f32⟩
  | 95 => ⟨S32x256x8, .f32⟩
  | 96 => ⟨S32x256x8, .f32⟩
  | 97 => ⟨S32x256x8, .f32⟩
  | 98 => ⟨S1x32x256x8, .f32⟩
  | 99 => ⟨S1x32x256x8, .f32⟩
  | 100 => ⟨S2x32x256x8, .f32⟩
  | 101 => ⟨S2x32x256x8, .f32⟩
  | 102 => ⟨S_, .f32⟩
  | 103 => ⟨S2x32x256x8, .f32⟩
  | 104 => ⟨S2x32x256x8, .f32⟩
  | 105 => ⟨S2x32x256x8, .f32⟩
  | 106 => ⟨S2x32x256x8, .f32⟩
  | 107 => ⟨S2x32x256x8, .i1⟩
  | 108 => ⟨S2x32x256x8, .f32⟩
  | 109 => ⟨S2x32x256x8, .f32⟩
  | 110 => ⟨S2x32x256x8, .f32⟩
  | 111 => ⟨S2x32x256x8, .f32⟩
  | 112 => ⟨S2x32x256x8, .f32⟩
  | 113 => ⟨S2x32x256x8, .f32⟩
  | 114 => ⟨S2x32x256x8, .f32⟩
  | 115 => ⟨S2x32x256x8, .f32⟩
  | 116 => ⟨S2x32x256x8, .f32⟩
  | 117 => ⟨S32x256x8x128, .f32⟩
  | 118 => ⟨S1x32x256x8x128, .f32⟩
  | 119 => ⟨S1x32x256x8x128, .f32⟩
  | 120 => ⟨S2x32x256x8x128, .f32⟩
  | 121 => ⟨S32x256x8x128, .f32⟩
  | 122 => ⟨S1x32x256x8x128, .f32⟩
  | 123 => ⟨S1x32x256x8x128, .f32⟩
  | 124 => ⟨S2x32x256x8x128, .f32⟩
  | 125 => ⟨S32x256x8x128, .f32⟩
  | 126 => ⟨S1x32x256x8x128, .f32⟩
  | 127 => ⟨S1x32x256x8x128, .f32⟩
  | _ => ⟨S32x256x1024, .f32⟩

abbrev hbmTy0_1 (i : Nat) : BufTy := match i % 128 with
  | 0 => ⟨S2x32x256x8x128, .f32⟩
  | 1 => ⟨S2x32x8x128x128, .f32⟩
  | 2 => ⟨S2x32x8x128, .f32⟩
  | 3 => ⟨S2x32x8, .f32⟩
  | 4 => ⟨S_, .i1⟩
  | 5 => ⟨S64x64, .i1⟩
  | 6 => ⟨S64x64, .i32⟩
  | 7 => ⟨S_, .i32⟩
  | 8 => ⟨S64x64, .i32⟩
  | 9 => ⟨S64x64, .i32⟩
  | 10 => ⟨S64x64, .i32⟩
  | 11 => ⟨S64x64, .i1⟩
  | 12 => ⟨S_, .i1⟩
  | 13 => ⟨S64x64, .i1⟩
  | 14 => ⟨S64x64, .i1⟩
  | 15 => ⟨S2x32x4x64x8x128, .f32⟩
  | 16 => ⟨S2x4x32x64x8x128, .f32⟩
  | 17 => ⟨S2x4x32x8x64x128, .f32⟩
  | 18 => ⟨S2x32x4x64x8x128, .f32⟩
  | 19 => ⟨S2x4x32x64x8x128, .f32⟩
  | 20 => ⟨S2x4x32x8x64x128, .f32⟩
  | 21 => ⟨S2x32x4x64x8x128, .f32⟩
  | 22 => ⟨S2x4x32x64x8x128, .f32⟩
  | 23 => ⟨S2x4x32x8x64x128, .f32⟩
  | 24 => ⟨S2x32x4x64x8, .f32⟩
  | 25 => ⟨S2x4x32x64x8, .f32⟩
  | 26 => ⟨S2x4x32x8x64, .f32⟩
  | 27 => ⟨S2x32x4x64x8, .f32⟩
  | 28 => ⟨S2x4x32x64x8, .f32⟩
  | 29 => ⟨S2x4x32x8x64, .f32⟩
  | 30 => ⟨S4x2x32x8x64x128, .f32⟩
  | 31 => ⟨S4x2x32x8x64x128, .f32⟩
  | 32 => ⟨S4x2x32x8x64x128, .f32⟩
  | 33 => ⟨S4x2x32x8x64, .f32⟩
  | 34 => ⟨S4x2x32x8x64, .f32⟩
  | 35 => ⟨S_, .f32⟩
  | 36 => ⟨S4x2x32x8x64x128, .f32⟩
  | 37 => ⟨S_, .i32⟩
  | 38 => ⟨S4x2x32x8x64x128, .f32⟩
  | 39 => ⟨S4x2x32x8x64x128, .f32⟩
  | 40 => ⟨S4x2x32x8x64x128, .f32⟩
  | 41 => ⟨S4x2x32x8x64, .f32⟩
  | 42 => ⟨S4x2x32x8x64, .f32⟩
  | 43 => ⟨S64x64, .i1⟩
  | 44 => ⟨S_, .i32⟩
  | 45 => ⟨S2x32x8x128x128, .f32⟩
  | 46 => ⟨S2x32x8x128, .f32⟩
  | 47 => ⟨S2x32x8, .f32⟩
  | 48 => ⟨S4x2x32x8x64x128, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S1x2x32x8x64x128, .f32⟩
  | 57 => ⟨S2x32x8x64x128, .f32⟩
  | 58 => ⟨S_, .i32⟩
  | 59 => ⟨S_, .i32⟩
  | 60 => ⟨S_, .i32⟩
  | 61 => ⟨S_, .i32⟩
  | 62 => ⟨S_, .i32⟩
  | 63 => ⟨S1x2x32x8x64x128, .f32⟩
  | 64 => ⟨S2x32x8x64x128, .f32⟩
  | 65 => ⟨S_, .i32⟩
  | 66 => ⟨S_, .i32⟩
  | 67 => ⟨S_, .i32⟩
  | 68 => ⟨S_, .i32⟩
  | 69 => ⟨S_, .i32⟩
  | 70 => ⟨S1x2x32x8x64x128, .f32⟩
  | 71 => ⟨S2x32x8x64x128, .f32⟩
  | 72 => ⟨S_, .i32⟩
  | 73 => ⟨S_, .i32⟩
  | 74 => ⟨S_, .i32⟩
  | 75 => ⟨S_, .i32⟩
  | 76 => ⟨S1x2x32x8x64, .f32⟩
  | 77 => ⟨S2x32x8x64, .f32⟩
  | 78 => ⟨S_, .i32⟩
  | 79 => ⟨S_, .i32⟩
  | 80 => ⟨S_, .i32⟩
  | 81 => ⟨S_, .i32⟩
  | 82 => ⟨S1x2x32x8x64, .f32⟩
  | 83 => ⟨S2x32x8x64, .f32⟩
  | 84 => ⟨S_, .f32⟩
  | 85 => ⟨S_, .f32⟩
  | 86 => ⟨S2x32x8x64, .f32⟩
  | 87 => ⟨S2x32x8x64x1, .f32⟩
  | 88 => ⟨S2x32x8x1x64, .f32⟩
  | 89 => ⟨S2x32x8x64x64, .f32⟩
  | 90 => ⟨S2x32x8x64x64, .f32⟩
  | 91 => ⟨S2x32x8x64x64, .f32⟩
  | 92 => ⟨S2x32x8x1x64, .f32⟩
  | 93 => ⟨S2x32x8x64x64, .f32⟩
  | 94 => ⟨S2x32x8x64x64, .f32⟩
  | 95 => ⟨S_, .f32⟩
  | 96 => ⟨S_, .f32⟩
  | 97 => ⟨S32x8x64x64, .i1⟩
  | 98 => ⟨S32x8x64x64, .f32⟩
  | 99 => ⟨S2x32x8x64x64, .i1⟩
  | 100 => ⟨S2x32x8x64x64, .f32⟩
  | 101 => ⟨S2x32x8x64x64, .f32⟩
  | 102 => ⟨S2x32x8x1, .f32⟩
  | 103 => ⟨S2x32x8x64, .f32⟩
  | 104 => ⟨S2x32x8x64, .f32⟩
  | 105 => ⟨S_, .f32⟩
  | 106 => ⟨S2x32x8x64, .f32⟩
  | 107 => ⟨S2x32x8x64, .f32⟩
  | 108 => ⟨S2x32x8x64x1, .f32⟩
  | 109 => ⟨S2x32x8x64x64, .f32⟩
  | 110 => ⟨S2x32x8x64x64, .f32⟩
  | 111 => ⟨S2x32x8x64x64, .f32⟩
  | 112 => ⟨S2x32x8x64, .f32⟩
  | 113 => ⟨S2x32x8x64, .f32⟩
  | 114 => ⟨S2x32x8x64x1x128, .f32⟩
  | 115 => ⟨S2x32x8x1x64x128, .f32⟩
  | 116 => ⟨S2x32x8x64x64x128, .f32⟩
  | 117 => ⟨S2x32x8x64x64x128, .f32⟩
  | 118 => ⟨S2x32x8x64x64x128, .f32⟩
  | 119 => ⟨S_, .f32⟩
  | 120 => ⟨S2x32x8x64x64, .f32⟩
  | 121 => ⟨S2x32x8x64x64, .f32⟩
  | 122 => ⟨S2x32x8x64x1, .f32⟩
  | 123 => ⟨S2x32x8x64x128x1, .f32⟩
  | 124 => ⟨S2x32x8x1x128x128, .f32⟩
  | 125 => ⟨S2x32x8x64x128x128, .f32⟩
  | 126 => ⟨S2x32x8x64x128x128, .f32⟩
  | 127 => ⟨S2x32x8x64x128x128, .f32⟩
  | _ => ⟨S32x256x1024, .f32⟩

abbrev hbmTy0_2 (i : Nat) : BufTy := match i % 128 with
  | 0 => ⟨S_, .f32⟩
  | 1 => ⟨S2x32x8x64x128, .f32⟩
  | 2 => ⟨S2x32x8x64x128, .f32⟩
  | 3 => ⟨S2x32x8x64x128, .f32⟩
  | 4 => ⟨S2x32x8x64x64x1, .f32⟩
  | 5 => ⟨S2x32x8x1x64x128, .f32⟩
  | 6 => ⟨S2x32x8x64x64x128, .f32⟩
  | 7 => ⟨S2x32x8x64x64x128, .f32⟩
  | 8 => ⟨S2x32x8x64x64x128, .f32⟩
  | 9 => ⟨S_, .f32⟩
  | 10 => ⟨S2x32x8x64x128, .f32⟩
  | 11 => ⟨S2x32x8x64x128, .f32⟩
  | 12 => ⟨S2x32x8x1x128, .f32⟩
  | 13 => ⟨S2x32x8x64x128, .f32⟩
  | 14 => ⟨S2x32x8x64x128, .f32⟩
  | 15 => ⟨S_, .f32⟩
  | 16 => ⟨S2x32x8x64, .f32⟩
  | 17 => ⟨S2x32x8x64, .f32⟩
  | 18 => ⟨S_, .f32⟩
  | 19 => ⟨S2x32x8x64, .f32⟩
  | 20 => ⟨S2x32x8x64, .f32⟩
  | 21 => ⟨S2x32x8x64, .f32⟩
  | 22 => ⟨S2x32x8x64, .f32⟩
  | 23 => ⟨S2x32x8x64, .f32⟩
  | 24 => ⟨S2x32x8x64, .f32⟩
  | 25 => ⟨S2x32x8x64x1, .f32⟩
  | 26 => ⟨S2x32x8x64x128, .f32⟩
  | 27 => ⟨S2x32x8x64x128, .f32⟩
  | 28 => ⟨S2x32x8x1, .f32⟩
  | 29 => ⟨S2x32x8, .f32⟩
  | 30 => ⟨S2x32x8x1, .f32⟩
  | 31 => ⟨S2x32x8x64, .f32⟩
  | 32 => ⟨S2x32x8x64, .f32⟩
  | 33 => ⟨S2x32x8x64, .f32⟩
  | 34 => ⟨S2x32x8, .f32⟩
  | 35 => ⟨S_, .f32⟩
  | 36 => ⟨S2x32x8, .f32⟩
  | 37 => ⟨S2x32x8, .f32⟩
  | 38 => ⟨S2x32x8x1, .f32⟩
  | 39 => ⟨S2x32x8x64, .f32⟩
  | 40 => ⟨S2x32x8x64, .f32⟩
  | 41 => ⟨S2x32x8x64, .f32⟩
  | 42 => ⟨S2x32x8, .f32⟩
  | 43 => ⟨S2x32x8, .f32⟩
  | 44 => ⟨S2x32x8, .f32⟩
  | 45 => ⟨S2x32x8x1x1, .f32⟩
  | 46 => ⟨S2x32x8x128x128, .f32⟩
  | 47 => ⟨S2x32x8x128x128, .f32⟩
  | 48 => ⟨S2x32x8x64x1, .f32⟩
  | 49 => ⟨S2x32x8x64x128, .f32⟩
  | 50 => ⟨S2x32x8x64x128, .f32⟩
  | 51 => ⟨S2x32x8x64x128x1, .f32⟩
  | 52 => ⟨S2x32x8x64x1x128, .f32⟩
  | 53 => ⟨S2x32x8x64x128x128, .f32⟩
  | 54 => ⟨S2x32x8x64x128x128, .f32⟩
  | 55 => ⟨S2x32x8x64x128x128, .f32⟩
  | 56 => ⟨S_, .f32⟩
  | 57 => ⟨S2x32x8x128x128, .f32⟩
  | 58 => ⟨S2x32x8x128x128, .f32⟩
  | 59 => ⟨S2x32x8x1, .f32⟩
  | 60 => ⟨S2x32x8x128, .f32⟩
  | 61 => ⟨S2x32x8x128, .f32⟩
  | 62 => ⟨S2x32x8x64x1, .f32⟩
  | 63 => ⟨S2x32x8x64x128, .f32⟩
  | 64 => ⟨S2x32x8x64x128, .f32⟩
  | 65 => ⟨S_, .f32⟩
  | 66 => ⟨S2x32x8x128, .f32⟩
  | 67 => ⟨S2x32x8x128, .f32⟩
  | 68 => ⟨S1x2x32x8x64x128, .f32⟩
  | 69 => ⟨S_, .i32⟩
  | 70 => ⟨S_, .i32⟩
  | 71 => ⟨S_, .i32⟩
  | 72 => ⟨S_, .i32⟩
  | 73 => ⟨S_, .i32⟩
  | 74 => ⟨S4x2x32x8x64x128, .f32⟩
  | 75 => ⟨S_, .i32⟩
  | 76 => ⟨S_, .i32⟩
  | 77 => ⟨S2x4x32x64x8x128, .f32⟩
  | 78 => ⟨S2x32x4x64x8x128, .f32⟩
  | 79 => ⟨S2x32x256x8x128, .f32⟩
  | 80 => ⟨S1x32x256x8x128, .f32⟩
  | 81 => ⟨S32x256x8x128, .f32⟩
  | 82 => ⟨S1x32x256x8x128, .f32⟩
  | 83 => ⟨S32x256x8x128, .f32⟩
  | 84 => ⟨S32x256x8x128, .f32⟩
  | 85 => ⟨S32x256x8x128, .f32⟩
  | 86 => ⟨S_, .f32⟩
  | 87 => ⟨S32x256x8, .f32⟩
  | 88 => ⟨S32x256x8x1, .f32⟩
  | 89 => ⟨S_, .f32⟩
  | 90 => ⟨S32x256x8x1, .f32⟩
  | 91 => ⟨S32x256x8x1, .f32⟩
  | 92 => ⟨S32x256x8x128, .f32⟩
  | 93 => ⟨S32x256x8x128, .f32⟩
  | 94 => ⟨S32x256x8x128, .f32⟩
  | 95 => ⟨S_, .f32⟩
  | 96 => ⟨S32x256x8, .f32⟩
  | 97 => ⟨S32x256x8x1, .f32⟩
  | 98 => ⟨S_, .f32⟩
  | 99 => ⟨S32x256x8x1, .f32⟩
  | 100 => ⟨S32x256x8x1, .f32⟩
  | 101 => ⟨S32x256x8x128, .f32⟩
  | 102 => ⟨S32x256x8x128, .f32⟩
  | 103 => ⟨S_, .f32⟩
  | 104 => ⟨S32x256x8x1, .f32⟩
  | 105 => ⟨S32x256x8x1, .f32⟩
  | 106 => ⟨S32x256x8x1, .f32⟩
  | 107 => ⟨S32x256x8x128, .f32⟩
  | 108 => ⟨S32x256x8x128, .f32⟩
  | 109 => ⟨S1x1x1x128, .f32⟩
  | 110 => ⟨S32x256x8x128, .f32⟩
  | 111 => ⟨S32x256x8x128, .f32⟩
  | 112 => ⟨S32x256x8x128, .f32⟩
  | 113 => ⟨S32x256x8x128, .f32⟩
  | 114 => ⟨S32x256x8x128, .f32⟩
  | 115 => ⟨S_, .f32⟩
  | 116 => ⟨S32x256x8x128, .f32⟩
  | 117 => ⟨S32x256x8x128, .f32⟩
  | 118 => ⟨S_, .f32⟩
  | 119 => ⟨S32x256x8x128, .f32⟩
  | 120 => ⟨S32x256x8x128, .f32⟩
  | 121 => ⟨S32x256x8x128, .f32⟩
  | 122 => ⟨S32x256x1024, .f32⟩
  | 123 => ⟨S32x2x8x128x128, .f32⟩
  | 124 => ⟨S32x2x8x128, .f32⟩
  | 125 => ⟨S32x2x8, .f32⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_1 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call4_v0 : Ref sig .tc := ⟨.hbm, 101, rfl⟩
abbrev main_call4_call0_cst : Ref sig .tc := ⟨.hbm, 102, rfl⟩
abbrev main_call4_call0_v0 : Ref sig .tc := ⟨.hbm, 103, rfl⟩
abbrev main_call4_call0_v1 : Ref sig .tc := ⟨.hbm, 104, rfl⟩
abbrev main_call4_call0_v2 : Ref sig .tc := ⟨.hbm, 105, rfl⟩
abbrev main_call4_call0_v3 : Ref sig .tc := ⟨.hbm, 106, rfl⟩
abbrev main_call4_call0_v4 : Ref sig .tc := ⟨.hbm, 107, rfl⟩
abbrev main_call4_call0_v5 : Ref sig .tc := ⟨.hbm, 108, rfl⟩
abbrev main_call4_call0_v6 : Ref sig .tc := ⟨.hbm, 109, rfl⟩
abbrev main_call4_call0_v7 : Ref sig .tc := ⟨.hbm, 110, rfl⟩
abbrev main_call4_call0_v8 : Ref sig .tc := ⟨.hbm, 111, rfl⟩
abbrev main_call4_call0_v9 : Ref sig .tc := ⟨.hbm, 112, rfl⟩
abbrev main_call4_call0_v10 : Ref sig .tc := ⟨.hbm, 113, rfl⟩
abbrev main_call4_call0_v11 : Ref sig .tc := ⟨.hbm, 114, rfl⟩
abbrev main_call4_v1 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_3 : Ref sig .tc := ⟨.hbm, 132, rfl⟩
abbrev main_v90 : Ref sig .tc := ⟨.hbm, 133, rfl⟩
abbrev main_call8_v0 : Ref sig .tc := ⟨.hbm, 134, rfl⟩
abbrev main_call8_c : Ref sig .tc := ⟨.hbm, 135, rfl⟩
abbrev main_call8_v1 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_call8_c_0 : Ref sig .tc := ⟨.hbm, 140, rfl⟩
abbrev main_call8_v5 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_4 : Ref sig .tc := ⟨.hbm, 163, rfl⟩
abbrev main_v112 : Ref sig .tc := ⟨.hbm, 164, rfl⟩
abbrev main_c_5 : Ref sig .tc := ⟨.hbm, 165, rfl⟩
abbrev main_v113_0 : Ref sig .tc := ⟨.hbm, 166, rfl⟩
abbrev main_v113_1 : Ref sig .tc := ⟨.hbm, 167, rfl⟩
abbrev main_v113_2 : Ref sig .tc := ⟨.hbm, 168, rfl⟩
abbrev main_v113_3 : Ref sig .tc := ⟨.hbm, 169, rfl⟩
abbrev main_v113_4 : Ref sig .tc := ⟨.hbm, 170, rfl⟩
abbrev main_v113_5 : Ref sig .tc := ⟨.hbm, 171, rfl⟩
abbrev main_v113_6 : Ref sig .tc := ⟨.hbm, 172, rfl⟩
abbrev main_v113_7 : Ref sig .tc := ⟨.hbm, 173, rfl⟩
abbrev main_v113_8 : Ref sig .tc := ⟨.hbm, 174, rfl⟩
abbrev main_v113_9 : Ref sig .tc := ⟨.hbm, 175, rfl⟩
abbrev main_v113_10 : Ref sig .tc := ⟨.hbm, 176, rfl⟩
abbrev main_while0c_c_23 : Ref sig .tc := ⟨.hbm, 177, rfl⟩
abbrev main_while0c_v156 : Ref sig .tc := ⟨.hbm, 178, rfl⟩
abbrev main_while0b_call9_c : Ref sig .tc := ⟨.hbm, 179, rfl⟩
abbrev main_while0b_call9_c_0 : Ref sig .tc := ⟨.hbm, 180, rfl⟩
abbrev main_while0b_call9_c_1 : Ref sig .tc := ⟨.hbm, 181, rfl⟩
abbrev main_while0b_call9_c_2 : Ref sig .tc := ⟨.hbm, 182, rfl⟩
abbrev main_while0b_call9_c_3 : Ref sig .tc := ⟨.hbm, 183, rfl⟩
abbrev main_while0b_call9_v0 : Ref sig .tc := ⟨.hbm, 184, rfl⟩
abbrev main_while0b_v156 : Ref sig .tc := ⟨.hbm, 185, rfl⟩
abbrev main_while0b_call10_c : Ref sig .tc := ⟨.hbm, 186, rfl⟩
abbrev main_while0b_call10_c_0 : Ref sig .tc := ⟨.hbm, 187, rfl⟩
abbrev main_while0b_call10_c_1 : Ref sig .tc := ⟨.hbm, 188, rfl⟩
abbrev main_while0b_call10_c_2 : Ref sig .tc := ⟨.hbm, 189, rfl⟩
abbrev main_while0b_call10_c_3 : Ref sig .tc := ⟨.hbm, 190, rfl⟩
abbrev main_while0b_call10_v0 : Ref sig .tc := ⟨.hbm, 191, rfl⟩
abbrev main_while0b_v157 : Ref sig .tc := ⟨.hbm, 192, rfl⟩
abbrev main_while0b_call11_c : Ref sig .tc := ⟨.hbm, 193, rfl⟩
abbrev main_while0b_call11_c_0 : Ref sig .tc := ⟨.hbm, 194, rfl⟩
abbrev main_while0b_call11_c_1 : Ref sig .tc := ⟨.hbm, 195, rfl⟩
abbrev main_while0b_call11_c_2 : Ref sig .tc := ⟨.hbm, 196, rfl⟩
abbrev main_while0b_call11_c_3 : Ref sig .tc := ⟨.hbm, 197, rfl⟩
abbrev main_while0b_call11_v0 : Ref sig .tc := ⟨.hbm, 198, rfl⟩
abbrev main_while0b_v158 : Ref sig .tc := ⟨.hbm, 199, rfl⟩
abbrev main_while0b_call12_c : Ref sig .tc := ⟨.hbm, 200, rfl⟩
abbrev main_while0b_call12_c_0 : Ref sig .tc := ⟨.hbm, 201, rfl⟩
abbrev main_while0b_call12_c_1 : Ref sig .tc := ⟨.hbm, 202, rfl⟩
abbrev main_while0b_call12_c_2 : Ref sig .tc := ⟨.hbm, 203, rfl⟩
abbrev main_while0b_call12_v0 : Ref sig .tc := ⟨.hbm, 204, rfl⟩
abbrev main_while0b_v159 : Ref sig .tc := ⟨.hbm, 205, rfl⟩
abbrev main_while0b_call13_c : Ref sig .tc := ⟨.hbm, 206, rfl⟩
abbrev main_while0b_call13_c_0 : Ref sig .tc := ⟨.hbm, 207, rfl⟩
abbrev main_while0b_call13_c_1 : Ref sig .tc := ⟨.hbm, 208, rfl⟩
abbrev main_while0b_call13_c_2 : Ref sig .tc := ⟨.hbm, 209, rfl⟩
abbrev main_while0b_call13_v0 : Ref sig .tc := ⟨.hbm, 210, rfl⟩
abbrev main_while0b_v160 : Ref sig .tc := ⟨.hbm, 211, rfl⟩
abbrev main_while0b_call14_call0_cst : Ref sig .tc := ⟨.hbm, 212, rfl⟩
abbrev main_while0b_call14_call0_v0 : Ref sig .tc := ⟨.hbm, 213, rfl⟩
abbrev main_while0b_v161 : Ref sig .tc := ⟨.hbm, 214, rfl⟩
abbrev main_while0b_v162 : Ref sig .tc := ⟨.hbm, 215, rfl⟩
abbrev main_while0b_v163 : Ref sig .tc := ⟨.hbm, 216, rfl⟩
abbrev main_while0b_v164 : Ref sig .tc := ⟨.hbm, 217, rfl⟩
abbrev main_while0b_v165 : Ref sig .tc := ⟨.hbm, 218, rfl⟩
abbrev main_while0b_v166 : Ref sig .tc := ⟨.hbm, 219, rfl⟩
abbrev main_while0b_v167 : Ref sig .tc := ⟨.hbm, 220, rfl⟩
abbrev main_while0b_v168 : Ref sig .tc := ⟨.hbm, 221, rfl⟩
abbrev main_while0b_v169 : Ref sig .tc := ⟨.hbm, 222, rfl⟩
abbrev main_while0b_cst_23 : Ref sig .tc := ⟨.hbm, 223, rfl⟩
abbrev main_while0b_call15_v0 : Ref sig .tc := ⟨.hbm, 224, rfl⟩
abbrev main_while0b_call15_v1 : Ref sig .tc := ⟨.hbm, 225, rfl⟩
abbrev main_while0b_call15_v2 : Ref sig .tc := ⟨.hbm, 226, rfl⟩
abbrev main_while0b_call15_v3 : Ref sig .tc := ⟨.hbm, 227, rfl⟩
abbrev main_while0b_call15_v4 : Ref sig .tc := ⟨.hbm, 228, rfl⟩
abbrev main_while0b_v170 : Ref sig .tc := ⟨.hbm, 229, rfl⟩
abbrev main_while0b_v171 : Ref sig .tc := ⟨.hbm, 230, rfl⟩
abbrev main_while0b_v172 : Ref sig .tc := ⟨.hbm, 231, rfl⟩
abbrev main_while0b_v173 : Ref sig .tc := ⟨.hbm, 232, rfl⟩
abbrev main_while0b_cst_24 : Ref sig .tc := ⟨.hbm, 233, rfl⟩
abbrev main_while0b_v174 : Ref sig .tc := ⟨.hbm, 234, rfl⟩
abbrev main_while0b_v175 : Ref sig .tc := ⟨.hbm, 235, rfl⟩
abbrev main_while0b_v176 : Ref sig .tc := ⟨.hbm, 236, rfl⟩
abbrev main_while0b_v177 : Ref sig .tc := ⟨.hbm, 237, rfl⟩
abbrev main_while0b_v178 : Ref sig .tc := ⟨.hbm, 238, rfl⟩
abbrev main_while0b_v179 : Ref sig .tc := ⟨.hbm, 239, rfl⟩
abbrev main_while0b_v180 : Ref sig .tc := ⟨.hbm, 240, rfl⟩
abbrev main_while0b_v181 : Ref sig .tc := ⟨.hbm, 241, rfl⟩
abbrev main_while0b_v182 : Ref sig .tc := ⟨.hbm, 242, rfl⟩
abbrev main_while0b_v183 : Ref sig .tc := ⟨.hbm, 243, rfl⟩
abbrev main_while0b_v184 : Ref sig .tc := ⟨.hbm, 244, rfl⟩
abbrev main_while0b_v185 : Ref sig .tc := ⟨.hbm, 245, rfl⟩
abbrev main_while0b_v186 : Ref sig .tc := ⟨.hbm, 246, rfl⟩
abbrev main_while0b_cst_25 : Ref sig .tc := ⟨.hbm, 247, rfl⟩
abbrev main_while0b_v187 : Ref sig .tc := ⟨.hbm, 248, rfl⟩
abbrev main_while0b_v188 : Ref sig .tc := ⟨.hbm, 249, rfl⟩
abbrev main_while0b_v189 : Ref sig .tc := ⟨.hbm, 250, rfl⟩
abbrev main_while0b_v190 : Ref sig .tc := ⟨.hbm, 251, rfl⟩
abbrev main_while0b_v191 : Ref sig .tc := ⟨.hbm, 252, rfl⟩
abbrev main_while0b_v192 : Ref sig .tc := ⟨.hbm, 253, rfl⟩
abbrev main_while0b_v193 : Ref sig .tc := ⟨.hbm, 254, rfl⟩
abbrev main_while0b_v194 : Ref sig .tc := ⟨.hbm, 255, rfl⟩
abbrev main_while0b_cst_26 : Ref sig .tc := ⟨.hbm, 256, rfl⟩
abbrev main_while0b_v195 : Ref sig .tc := ⟨.hbm, 257, rfl⟩
abbrev main_while0b_v196 : Ref sig .tc := ⟨.hbm, 258, rfl⟩
abbrev main_while0b_v197 : Ref sig .tc := ⟨.hbm, 259, rfl⟩
abbrev main_while0b_v198 : Ref sig .tc := ⟨.hbm, 260, rfl⟩
abbrev main_while0b_v199 : Ref sig .tc := ⟨.hbm, 261, rfl⟩
abbrev main_while0b_v200 : Ref sig .tc := ⟨.hbm, 262, rfl⟩
abbrev main_while0b_v201 : Ref sig .tc := ⟨.hbm, 263, rfl⟩
abbrev main_while0b_v202 : Ref sig .tc := ⟨.hbm, 264, rfl⟩
abbrev main_while0b_cst_27 : Ref sig .tc := ⟨.hbm, 265, rfl⟩
abbrev main_while0b_v203 : Ref sig .tc := ⟨.hbm, 266, rfl⟩
abbrev main_while0b_v204 : Ref sig .tc := ⟨.hbm, 267, rfl⟩
abbrev main_while0b_v205 : Ref sig .tc := ⟨.hbm, 268, rfl⟩
abbrev main_while0b_v206 : Ref sig .tc := ⟨.hbm, 269, rfl⟩
abbrev main_while0b_v207 : Ref sig .tc := ⟨.hbm, 270, rfl⟩
abbrev main_while0b_cst_28 : Ref sig .tc := ⟨.hbm, 271, rfl⟩
abbrev main_while0b_v208 : Ref sig .tc := ⟨.hbm, 272, rfl⟩
abbrev main_while0b_v209 : Ref sig .tc := ⟨.hbm, 273, rfl⟩
abbrev main_while0b_cst_29 : Ref sig .tc := ⟨.hbm, 274, rfl⟩
abbrev main_while0b_v210 : Ref sig .tc := ⟨.hbm, 275, rfl⟩
abbrev main_while0b_v211 : Ref sig .tc := ⟨.hbm, 276, rfl⟩
abbrev main_while0b_v212 : Ref sig .tc := ⟨.hbm, 277, rfl⟩
abbrev main_while0b_v213 : Ref sig .tc := ⟨.hbm, 278, rfl⟩
abbrev main_while0b_v214 : Ref sig .tc := ⟨.hbm, 279, rfl⟩
abbrev main_while0b_v215 : Ref sig .tc := ⟨.hbm, 280, rfl⟩
abbrev main_while0b_v216 : Ref sig .tc := ⟨.hbm, 281, rfl⟩
abbrev main_while0b_v217 : Ref sig .tc := ⟨.hbm, 282, rfl⟩
abbrev main_while0b_v218 : Ref sig .tc := ⟨.hbm, 283, rfl⟩
abbrev main_while0b_v219 : Ref sig .tc := ⟨.hbm, 284, rfl⟩
abbrev main_while0b_v220 : Ref sig .tc := ⟨.hbm, 285, rfl⟩
abbrev main_while0b_v221 : Ref sig .tc := ⟨.hbm, 286, rfl⟩
abbrev main_while0b_v222 : Ref sig .tc := ⟨.hbm, 287, rfl⟩
abbrev main_while0b_v223 : Ref sig .tc := ⟨.hbm, 288, rfl⟩
abbrev main_while0b_v224 : Ref sig .tc := ⟨.hbm, 289, rfl⟩
abbrev main_while0b_v225 : Ref sig .tc := ⟨.hbm, 290, rfl⟩
abbrev main_while0b_cst_30 : Ref sig .tc := ⟨.hbm, 291, rfl⟩
abbrev main_while0b_v226 : Ref sig .tc := ⟨.hbm, 292, rfl⟩
abbrev main_while0b_v227 : Ref sig .tc := ⟨.hbm, 293, rfl⟩
abbrev main_while0b_v228 : Ref sig .tc := ⟨.hbm, 294, rfl⟩
abbrev main_while0b_v229 : Ref sig .tc := ⟨.hbm, 295, rfl⟩
abbrev main_while0b_v230 : Ref sig .tc := ⟨.hbm, 296, rfl⟩
abbrev main_while0b_v231 : Ref sig .tc := ⟨.hbm, 297, rfl⟩
abbrev main_while0b_v232 : Ref sig .tc := ⟨.hbm, 298, rfl⟩
abbrev main_while0b_v233 : Ref sig .tc := ⟨.hbm, 299, rfl⟩
abbrev main_while0b_v234 : Ref sig .tc := ⟨.hbm, 300, rfl⟩
abbrev main_while0b_v235 : Ref sig .tc := ⟨.hbm, 301, rfl⟩
abbrev main_while0b_v236 : Ref sig .tc := ⟨.hbm, 302, rfl⟩
abbrev main_while0b_v237 : Ref sig .tc := ⟨.hbm, 303, rfl⟩
abbrev main_while0b_v238 : Ref sig .tc := ⟨.hbm, 304, rfl⟩
abbrev main_while0b_v239 : Ref sig .tc := ⟨.hbm, 305, rfl⟩
abbrev main_while0b_v240 : Ref sig .tc := ⟨.hbm, 306, rfl⟩
abbrev main_while0b_v241 : Ref sig .tc := ⟨.hbm, 307, rfl⟩
abbrev main_while0b_v242 : Ref sig .tc := ⟨.hbm, 308, rfl⟩
abbrev main_while0b_v243 : Ref sig .tc := ⟨.hbm, 309, rfl⟩
abbrev main_while0b_v244 : Ref sig .tc := ⟨.hbm, 310, rfl⟩
abbrev main_while0b_v245 : Ref sig .tc := ⟨.hbm, 311, rfl⟩
abbrev main_while0b_cst_31 : Ref sig .tc := ⟨.hbm, 312, rfl⟩
abbrev main_while0b_v246 : Ref sig .tc := ⟨.hbm, 313, rfl⟩
abbrev main_while0b_v247 : Ref sig .tc := ⟨.hbm, 314, rfl⟩
abbrev main_while0b_v248 : Ref sig .tc := ⟨.hbm, 315, rfl⟩
abbrev main_while0b_v249 : Ref sig .tc := ⟨.hbm, 316, rfl⟩
abbrev main_while0b_v250 : Ref sig .tc := ⟨.hbm, 317, rfl⟩
abbrev main_while0b_v251 : Ref sig .tc := ⟨.hbm, 318, rfl⟩
abbrev main_while0b_v252 : Ref sig .tc := ⟨.hbm, 319, rfl⟩
abbrev main_while0b_v253 : Ref sig .tc := ⟨.hbm, 320, rfl⟩
abbrev main_while0b_cst_32 : Ref sig .tc := ⟨.hbm, 321, rfl⟩
abbrev main_while0b_v254 : Ref sig .tc := ⟨.hbm, 322, rfl⟩
abbrev main_while0b_v255 : Ref sig .tc := ⟨.hbm, 323, rfl⟩
abbrev main_while0b_call16_v0 : Ref sig .tc := ⟨.hbm, 324, rfl⟩
abbrev main_while0b_call16_c : Ref sig .tc := ⟨.hbm, 325, rfl⟩
abbrev main_while0b_call16_c_0 : Ref sig .tc := ⟨.hbm, 326, rfl⟩
abbrev main_while0b_call16_c_1 : Ref sig .tc := ⟨.hbm, 327, rfl⟩
abbrev main_while0b_call16_c_2 : Ref sig .tc := ⟨.hbm, 328, rfl⟩
abbrev main_while0b_call16_c_3 : Ref sig .tc := ⟨.hbm, 329, rfl⟩
abbrev main_while0b_v256 : Ref sig .tc := ⟨.hbm, 330, rfl⟩
abbrev main_while0b_c_33 : Ref sig .tc := ⟨.hbm, 331, rfl⟩
abbrev main_while0b_v257 : Ref sig .tc := ⟨.hbm, 332, rfl⟩
abbrev main_v114 : Ref sig .tc := ⟨.hbm, 333, rfl⟩
abbrev main_v115 : Ref sig .tc := ⟨.hbm, 334, rfl⟩
abbrev main_v116 : Ref sig .tc := ⟨.hbm, 335, rfl⟩
abbrev main_v117 : Ref sig .tc := ⟨.hbm, 336, rfl⟩
abbrev main_v118 : Ref sig .tc := ⟨.hbm, 337, rfl⟩
abbrev main_v119 : Ref sig .tc := ⟨.hbm, 338, rfl⟩
abbrev main_v120 : Ref sig .tc := ⟨.hbm, 339, rfl⟩
abbrev main_v121 : Ref sig .tc := ⟨.hbm, 340, rfl⟩
abbrev main_v122 : Ref sig .tc := ⟨.hbm, 341, rfl⟩
abbrev main_cst_6 : Ref sig .tc := ⟨.hbm, 342, rfl⟩
abbrev main_v123 : Ref sig .tc := ⟨.hbm, 343, rfl⟩
abbrev main_v124 : Ref sig .tc := ⟨.hbm, 344, rfl⟩
abbrev main_cst_7 : Ref sig .tc := ⟨.hbm, 345, rfl⟩
abbrev main_v125 : Ref sig .tc := ⟨.hbm, 346, rfl⟩
abbrev main_v126 : Ref sig .tc := ⟨.hbm, 347, rfl⟩
abbrev main_v127 : Ref sig .tc := ⟨.hbm, 348, rfl⟩
abbrev main_v128 : Ref sig .tc := ⟨.hbm, 349, rfl⟩
abbrev main_v129 : Ref sig .tc := ⟨.hbm, 350, rfl⟩
abbrev main_cst_8 : Ref sig .tc := ⟨.hbm, 351, rfl⟩
abbrev main_v130 : Ref sig .tc := ⟨.hbm, 352, rfl⟩
abbrev main_v131 : Ref sig .tc := ⟨.hbm, 353, rfl⟩
abbrev main_cst_9 : Ref sig .tc := ⟨.hbm, 354, rfl⟩
abbrev main_v132 : Ref sig .tc := ⟨.hbm, 355, rfl⟩
abbrev main_v133 : Ref sig .tc := ⟨.hbm, 356, rfl⟩
abbrev main_v134 : Ref sig .tc := ⟨.hbm, 357, rfl⟩
abbrev main_v135 : Ref sig .tc := ⟨.hbm, 358, rfl⟩
abbrev main_cst_10 : Ref sig .tc := ⟨.hbm, 359, rfl⟩
abbrev main_v136 : Ref sig .tc := ⟨.hbm, 360, rfl⟩
abbrev main_v137 : Ref sig .tc := ⟨.hbm, 361, rfl⟩
abbrev main_v138 : Ref sig .tc := ⟨.hbm, 362, rfl⟩
abbrev main_v139 : Ref sig .tc := ⟨.hbm, 363, rfl⟩
abbrev main_v140 : Ref sig .tc := ⟨.hbm, 364, rfl⟩
abbrev main_v141 : Ref sig .tc := ⟨.hbm, 365, rfl⟩
abbrev main_v142 : Ref sig .tc := ⟨.hbm, 366, rfl⟩
abbrev main_v143 : Ref sig .tc := ⟨.hbm, 367, rfl⟩
abbrev main_v144 : Ref sig .tc := ⟨.hbm, 368, rfl⟩
abbrev main_v145 : Ref sig .tc := ⟨.hbm, 369, rfl⟩
abbrev main_v146 : Ref sig .tc := ⟨.hbm, 370, rfl⟩
abbrev main_cst_11 : Ref sig .tc := ⟨.hbm, 371, rfl⟩
abbrev main_v147 : Ref sig .tc := ⟨.hbm, 372, rfl⟩
abbrev main_v148 : Ref sig .tc := ⟨.hbm, 373, rfl⟩
abbrev main_cst_12 : Ref sig .tc := ⟨.hbm, 374, rfl⟩
abbrev main_v149 : Ref sig .tc := ⟨.hbm, 375, rfl⟩
abbrev main_v150 : Ref sig .tc := ⟨.hbm, 376, rfl⟩
abbrev main_v151 : Ref sig .tc := ⟨.hbm, 377, rfl⟩
abbrev main_v152 : Ref sig .tc := ⟨.hbm, 378, rfl⟩
abbrev main_v153 : Ref sig .tc := ⟨.hbm, 379, rfl⟩
abbrev main_v154 : Ref sig .tc := ⟨.hbm, 380, rfl⟩
abbrev main_v155 : Ref sig .tc := ⟨.hbm, 381, rfl⟩

abbrev nD : Nat := 1
abbrev τ : Topo := Topo.v7x

variable {F : FTy → Type} [FloatOps F]

abbrev main_while0_count : Scf.Loop 32 := ⟨0#32, 4#32, 1#32⟩
-- ==== Reference7Ideal.lean ====
abbrev S32x256x1024 : Shape := ⟨3, ![32, 256, 1024]⟩
abbrev S32x256x32 : Shape := ⟨3, ![32, 256, 32]⟩
abbrev S32x2x8x128x128 : Shape := ⟨5, ![32, 2, 8, 128, 128]⟩
abbrev S32x2x8x128 : Shape := ⟨4, ![32, 2, 8, 128]⟩
abbrev S32x2x8 : Shape := ⟨3, ![32, 2, 8]⟩
abbrev S3x3x1024 : Shape := ⟨3, ![3, 3, 1024]⟩
abbrev S1024 : Shape := ⟨1, ![1024]⟩
abbrev S8x128x128 : Shape := ⟨3, ![8, 128, 128]⟩
abbrev S2x8 : Shape := ⟨2, ![2, 8]⟩
abbrev S128 : Shape := ⟨1, ![128]⟩
abbrev S32x1x256x1024 : Shape := ⟨4, ![32, 1, 256, 1024]⟩
abbrev S1x3x1024 : Shape := ⟨3, ![1, 3, 1024]⟩
abbrev S1x3x1x1024 : Shape := ⟨4, ![1, 3, 1, 1024]⟩
abbrev S_ : Shape := ⟨0, ![]⟩
abbrev S32x1x258x1024 : Shape := ⟨4, ![32, 1, 258, 1024]⟩
abbrev S1x1x1x1024 : Shape := ⟨4, ![1, 1, 1, 1024]⟩
abbrev S32x256x8x128 : Shape := ⟨4, ![32, 256, 8, 128]⟩
abbrev S32x256x8x128x1 : Shape := ⟨5, ![32, 256, 8, 128, 1]⟩
abbrev S1x1x8x128x128 : Shape := ⟨5, ![1, 1, 8, 128, 128]⟩
abbrev S32x256x8x128x128 : Shape := ⟨5, ![32, 256, 8, 128, 128]⟩
abbrev S32x256x4x8 : Shape := ⟨4, ![32, 256, 4, 8]⟩
abbrev S32x256x1x8 : Shape := ⟨4, ![32, 256, 1, 8]⟩
abbrev S32x256x8 : Shape := ⟨3, ![32, 256, 8]⟩
abbrev S1x32x256x8 : Shape := ⟨4, ![1, 32, 256, 8]⟩
abbrev S2x32x256x8 : Shape := ⟨4, ![2, 32, 256, 8]⟩
abbrev S1x8 : Shape := ⟨2, ![1, 8]⟩
abbrev S8 : Shape := ⟨1, ![8]⟩
abbrev S1x1x8 : Shape := ⟨3, ![1, 1, 8]⟩
abbrev S1x32x256x8x128 : Shape := ⟨5, ![1, 32, 256, 8, 128]⟩
abbrev S2x32x256x8x128 : Shape := ⟨5, ![2, 32, 256, 8, 128]⟩
abbrev S2x32x8x128x128 : Shape := ⟨5, ![2, 32, 8, 128, 128]⟩
abbrev S2x32x8x128 : Shape := ⟨4, ![2, 32, 8, 128]⟩
abbrev S2x32x8 : Shape := ⟨3, ![2, 32, 8]⟩
abbrev S64x64 : Shape := ⟨2, ![64, 64]⟩
abbrev S2x32x4x64x8x128 : Shape := ⟨6, ![2, 32, 4, 64, 8, 128]⟩
abbrev S2x4x32x64x8x128 : Shape := ⟨6, ![2, 4, 32, 64, 8, 128]⟩
abbrev S2x4x32x8x64x128 : Shape := ⟨6, ![2, 4, 32, 8, 64, 128]⟩
abbrev S2x32x4x64x8 : Shape := ⟨5, ![2, 32, 4, 64, 8]⟩
abbrev S2x4x32x64x8 : Shape := ⟨5, ![2, 4, 32, 64, 8]⟩
abbrev S2x4x32x8x64 : Shape := ⟨5, ![2, 4, 32, 8, 64]⟩
abbrev S4x2x32x8x64x128 : Shape := ⟨6, ![4, 2, 32, 8, 64, 128]⟩
abbrev S4x2x32x8x64 : Shape := ⟨5, ![4, 2, 32, 8, 64]⟩
abbrev S1x2x32x8x64x128 : Shape := ⟨6, ![1, 2, 32, 8, 64, 128]⟩
abbrev S2x32x8x64x128 : Shape := ⟨5, ![2, 32, 8, 64, 128]⟩
abbrev S1x2x32x8x64 : Shape := ⟨5, ![1, 2, 32, 8, 64]⟩
abbrev S2x32x8x64 : Shape := ⟨4, ![2, 32, 8, 64]⟩
abbrev S2x32x8x64x1 : Shape := ⟨5, ![2, 32, 8, 64, 1]⟩
abbrev S2x32x8x1x64 : Shape := ⟨5, ![2, 32, 8, 1, 64]⟩
abbrev S2x32x8x64x64 : Shape := ⟨5, ![2, 32, 8, 64, 64]⟩
abbrev S32x8x64x64 : Shape := ⟨4, ![32, 8, 64, 64]⟩
abbrev S2x32x8x1 : Shape := ⟨4, ![2, 32, 8, 1]⟩
abbrev S2x32x8x64x1x128 : Shape := ⟨6, ![2, 32, 8, 64, 1, 128]⟩
abbrev S2x32x8x1x64x128 : Shape := ⟨6, ![2, 32, 8, 1, 64, 128]⟩
abbrev S2x32x8x64x64x128 : Shape := ⟨6, ![2, 32, 8, 64, 64, 128]⟩
abbrev S2x32x8x64x128x1 : Shape := ⟨6, ![2, 32, 8, 64, 128, 1]⟩
abbrev S2x32x8x1x128x128 : Shape := ⟨6, ![2, 32, 8, 1, 128, 128]⟩
abbrev S2x32x8x64x128x128 : Shape := ⟨6, ![2, 32, 8, 64, 128, 128]⟩
abbrev S2x32x8x64x64x1 : Shape := ⟨6, ![2, 32, 8, 64, 64, 1]⟩
abbrev S2x32x8x1x128 : Shape := ⟨5, ![2, 32, 8, 1, 128]⟩
abbrev S2x32x8x1x1 : Shape := ⟨5, ![2, 32, 8, 1, 1]⟩
abbrev S32x256x8x1 : Shape := ⟨4, ![32, 256, 8, 1]⟩
abbrev S1x1x1x128 : Shape := ⟨4, ![1, 1, 1, 128]⟩

abbrev nBuf : Space → Nat
  | .hbm => 382
  | .vmem => 0
  | .smem => 0
  | _ => 0

abbrev hbmTy0_0 (i : Nat) : BufTy := match i % 128 with
  | 0 => ⟨S32x256x1024, .f32⟩
  | 1 => ⟨S32x256x1024, .f32⟩
  | 2 => ⟨S32x256x1024, .f32⟩
  | 3 => ⟨S32x256x32, .f32⟩
  | 4 => ⟨S32x2x8x128x128, .f32⟩
  | 5 => ⟨S32x2x8x128, .f32⟩
  | 6 => ⟨S32x2x8, .f32⟩
  | 7 => ⟨S3x3x1024, .f32⟩
  | 8 => ⟨S1024, .f32⟩
  | 9 => ⟨S8x128x128, .f32⟩
  | 10 => ⟨S8x128x128, .f32⟩
  | 11 => ⟨S2x8, .f32⟩
  | 12 => ⟨S128, .f32⟩
  | 13 => ⟨S32x1x256x1024, .f32⟩
  | 14 => ⟨S1x3x1024, .f32⟩
  | 15 => ⟨S1x3x1x1024, .f32⟩
  | 16 => ⟨S_, .i32⟩
  | 17 => ⟨S_, .f32⟩
  | 18 => ⟨S32x1x258x1024, .f32⟩
  | 19 => ⟨S32x1x256x1024, .f32⟩
  | 20 => ⟨S1x1x1x1024, .f32⟩
  | 21 => ⟨S1024, .f32⟩
  | 22 => ⟨S1x1x1x1024, .f32⟩
  | 23 => ⟨S32x1x256x1024, .f32⟩
  | 24 => ⟨S32x1x256x1024, .f32⟩
  | 25 => ⟨S_, .f32⟩
  | 26 => ⟨S32x1x256x1024, .f32⟩
  | 27 => ⟨S32x1x256x1024, .f32⟩
  | 28 => ⟨S32x1x256x1024, .f32⟩
  | 29 => ⟨S1x1x1x1024, .f32⟩
  | 30 => ⟨S1024, .f32⟩
  | 31 => ⟨S1x1x1x1024, .f32⟩
  | 32 => ⟨S32x1x256x1024, .f32⟩
  | 33 => ⟨S32x1x256x1024, .f32⟩
  | 34 => ⟨S32x1x256x1024, .f32⟩
  | 35 => ⟨S32x1x256x1024, .f32⟩
  | 36 => ⟨S1x1x1x1024, .f32⟩
  | 37 => ⟨S1024, .f32⟩
  | 38 => ⟨S1x1x1x1024, .f32⟩
  | 39 => ⟨S32x1x256x1024, .f32⟩
  | 40 => ⟨S32x1x256x1024, .f32⟩
  | 41 => ⟨S32x1x256x1024, .f32⟩
  | 42 => ⟨S1x1x1x1024, .f32⟩
  | 43 => ⟨S32x1x256x1024, .f32⟩
  | 44 => ⟨S32x1x256x1024, .f32⟩
  | 45 => ⟨S32x256x1024, .f32⟩
  | 46 => ⟨S32x256x1024, .f32⟩
  | 47 => ⟨S32x256x1024, .f32⟩
  | 48 => ⟨S_, .f32⟩
  | 49 => ⟨S32x256x1024, .f32⟩
  | 50 => ⟨S32x256x1024, .f32⟩
  | 51 => ⟨S_, .f32⟩
  | 52 => ⟨S32x256x1024, .f32⟩
  | 53 => ⟨S32x256x1024, .f32⟩
  | 54 => ⟨S32x256x1024, .f32⟩
  | 55 => ⟨S32x256x8x128, .f32⟩
  | 56 => ⟨S32x256x8x128x1, .f32⟩
  | 57 => ⟨S1x1x8x128x128, .f32⟩
  | 58 => ⟨S32x256x8x128x128, .f32⟩
  | 59 => ⟨S32x256x8x128x128, .f32⟩
  | 60 => ⟨S32x256x8x128x128, .f32⟩
  | 61 => ⟨S_, .f32⟩
  | 62 => ⟨S32x256x8x128, .f32⟩
  | 63 => ⟨S32x256x8x128x1, .f32⟩
  | 64 => ⟨S1x1x8x128x128, .f32⟩
  | 65 => ⟨S32x256x8x128x128, .f32⟩
  | 66 => ⟨S32x256x8x128x128, .f32⟩
  | 67 => ⟨S32x256x8x128x128, .f32⟩
  | 68 => ⟨S_, .f32⟩
  | 69 => ⟨S32x256x8x128, .f32⟩
  | 70 => ⟨S_, .f32⟩
  | 71 => ⟨S32x256x8x128, .f32⟩
  | 72 => ⟨S32x256x8x128, .f32⟩
  | 73 => ⟨S32x256x8x128, .f32⟩
  | 74 => ⟨S32x256x4x8, .f32⟩
  | 75 => ⟨S32x256x1x8, .f32⟩
  | 76 => ⟨S32x256x8, .f32⟩
  | 77 => ⟨S32x256x1x8, .f32⟩
  | 78 => ⟨S32x256x8, .f32⟩
  | 79 => ⟨S32x256x8, .f32⟩
  | 80 => ⟨S1x32x256x8, .f32⟩
  | 81 => ⟨S1x32x256x8, .f32⟩
  | 82 => ⟨S2x32x256x8, .f32⟩
  | 83 => ⟨S32x256x1x8, .f32⟩
  | 84 => ⟨S32x256x8, .f32⟩
  | 85 => ⟨S1x8, .f32⟩
  | 86 => ⟨S8, .f32⟩
  | 87 => ⟨S1x1x8, .f32⟩
  | 88 => ⟨S32x256x8, .f32⟩
  | 89 => ⟨S32x256x8, .f32⟩
  | 90 => ⟨S32x256x1x8, .f32⟩
  | 91 => ⟨S32x256x8, .f32⟩
  | 92 => ⟨S1x8, .f32⟩
  | 93 => ⟨S8, .f32⟩
  | 94 => ⟨S1x1x8, .f32⟩
  | 95 => ⟨S32x256x8, .f32⟩
  | 96 => ⟨S32x256x8, .f32⟩
  | 97 => ⟨S32x256x8, .f32⟩
  | 98 => ⟨S1x32x256x8, .f32⟩
  | 99 => ⟨S1x32x256x8, .f32⟩
  | 100 => ⟨S2x32x256x8, .f32⟩
  | 101 => ⟨S2x32x256x8, .f32⟩
  | 102 => ⟨S_, .f32⟩
  | 103 => ⟨S2x32x256x8, .f32⟩
  | 104 => ⟨S2x32x256x8, .f32⟩
  | 105 => ⟨S2x32x256x8, .f32⟩
  | 106 => ⟨S2x32x256x8, .f32⟩
  | 107 => ⟨S2x32x256x8, .i1⟩
  | 108 => ⟨S2x32x256x8, .f32⟩
  | 109 => ⟨S2x32x256x8, .f32⟩
  | 110 => ⟨S2x32x256x8, .f32⟩
  | 111 => ⟨S2x32x256x8, .f32⟩
  | 112 => ⟨S2x32x256x8, .f32⟩
  | 113 => ⟨S2x32x256x8, .f32⟩
  | 114 => ⟨S2x32x256x8, .f32⟩
  | 115 => ⟨S2x32x256x8, .f32⟩
  | 116 => ⟨S2x32x256x8, .f32⟩
  | 117 => ⟨S32x256x8x128, .f32⟩
  | 118 => ⟨S1x32x256x8x128, .f32⟩
  | 119 => ⟨S1x32x256x8x128, .f32⟩
  | 120 => ⟨S2x32x256x8x128, .f32⟩
  | 121 => ⟨S32x256x8x128, .f32⟩
  | 122 => ⟨S1x32x256x8x128, .f32⟩
  | 123 => ⟨S1x32x256x8x128, .f32⟩
  | 124 => ⟨S2x32x256x8x128, .f32⟩
  | 125 => ⟨S32x256x8x128, .f32⟩
  | 126 => ⟨S1x32x256x8x128, .f32⟩
  | 127 => ⟨S1x32x256x8x128, .f32⟩
  | _ => ⟨S32x256x1024, .f32⟩

abbrev hbmTy0_1 (i : Nat) : BufTy := match i % 128 with
  | 0 => ⟨S2x32x256x8x128, .f32⟩
  | 1 => ⟨S2x32x8x128x128, .f32⟩
  | 2 => ⟨S2x32x8x128, .f32⟩
  | 3 => ⟨S2x32x8, .f32⟩
  | 4 => ⟨S_, .i1⟩
  | 5 => ⟨S64x64, .i1⟩
  | 6 => ⟨S64x64, .i32⟩
  | 7 => ⟨S_, .i32⟩
  | 8 => ⟨S64x64, .i32⟩
  | 9 => ⟨S64x64, .i32⟩
  | 10 => ⟨S64x64, .i32⟩
  | 11 => ⟨S64x64, .i1⟩
  | 12 => ⟨S_, .i1⟩
  | 13 => ⟨S64x64, .i1⟩
  | 14 => ⟨S64x64, .i1⟩
  | 15 => ⟨S2x32x4x64x8x128, .f32⟩
  | 16 => ⟨S2x4x32x64x8x128, .f32⟩
  | 17 => ⟨S2x4x32x8x64x128, .f32⟩
  | 18 => ⟨S2x32x4x64x8x128, .f32⟩
  | 19 => ⟨S2x4x32x64x8x128, .f32⟩
  | 20 => ⟨S2x4x32x8x64x128, .f32⟩
  | 21 => ⟨S2x32x4x64x8x128, .f32⟩
  | 22 => ⟨S2x4x32x64x8x128, .f32⟩
  | 23 => ⟨S2x4x32x8x64x128, .f32⟩
  | 24 => ⟨S2x32x4x64x8, .f32⟩
  | 25 => ⟨S2x4x32x64x8, .f32⟩
  | 26 => ⟨S2x4x32x8x64, .f32⟩
  | 27 => ⟨S2x32x4x64x8, .f32⟩
  | 28 => ⟨S2x4x32x64x8, .f32⟩
  | 29 => ⟨S2x4x32x8x64, .f32⟩
  | 30 => ⟨S4x2x32x8x64x128, .f32⟩
  | 31 => ⟨S4x2x32x8x64x128, .f32⟩
  | 32 => ⟨S4x2x32x8x64x128, .f32⟩
  | 33 => ⟨S4x2x32x8x64, .f32⟩
  | 34 => ⟨S4x2x32x8x64, .f32⟩
  | 35 => ⟨S_, .f32⟩
  | 36 => ⟨S4x2x32x8x64x128, .f32⟩
  | 37 => ⟨S_, .i32⟩
  | 38 => ⟨S4x2x32x8x64x128, .f32⟩
  | 39 => ⟨S4x2x32x8x64x128, .f32⟩
  | 40 => ⟨S4x2x32x8x64x128, .f32⟩
  | 41 => ⟨S4x2x32x8x64, .f32⟩
  | 42 => ⟨S4x2x32x8x64, .f32⟩
  | 43 => ⟨S64x64, .i1⟩
  | 44 => ⟨S_, .i32⟩
  | 45 => ⟨S2x32x8x128x128, .f32⟩
  | 46 => ⟨S2x32x8x128, .f32⟩
  | 47 => ⟨S2x32x8, .f32⟩
  | 48 => ⟨S4x2x32x8x64x128, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S1x2x32x8x64x128, .f32⟩
  | 57 => ⟨S2x32x8x64x128, .f32⟩
  | 58 => ⟨S_, .i32⟩
  | 59 => ⟨S_, .i32⟩
  | 60 => ⟨S_, .i32⟩
  | 61 => ⟨S_, .i32⟩
  | 62 => ⟨S_, .i32⟩
  | 63 => ⟨S1x2x32x8x64x128, .f32⟩
  | 64 => ⟨S2x32x8x64x128, .f32⟩
  | 65 => ⟨S_, .i32⟩
  | 66 => ⟨S_, .i32⟩
  | 67 => ⟨S_, .i32⟩
  | 68 => ⟨S_, .i32⟩
  | 69 => ⟨S_, .i32⟩
  | 70 => ⟨S1x2x32x8x64x128, .f32⟩
  | 71 => ⟨S2x32x8x64x128, .f32⟩
  | 72 => ⟨S_, .i32⟩
  | 73 => ⟨S_, .i32⟩
  | 74 => ⟨S_, .i32⟩
  | 75 => ⟨S_, .i32⟩
  | 76 => ⟨S1x2x32x8x64, .f32⟩
  | 77 => ⟨S2x32x8x64, .f32⟩
  | 78 => ⟨S_, .i32⟩
  | 79 => ⟨S_, .i32⟩
  | 80 => ⟨S_, .i32⟩
  | 81 => ⟨S_, .i32⟩
  | 82 => ⟨S1x2x32x8x64, .f32⟩
  | 83 => ⟨S2x32x8x64, .f32⟩
  | 84 => ⟨S_, .f32⟩
  | 85 => ⟨S_, .f32⟩
  | 86 => ⟨S2x32x8x64, .f32⟩
  | 87 => ⟨S2x32x8x64x1, .f32⟩
  | 88 => ⟨S2x32x8x1x64, .f32⟩
  | 89 => ⟨S2x32x8x64x64, .f32⟩
  | 90 => ⟨S2x32x8x64x64, .f32⟩
  | 91 => ⟨S2x32x8x64x64, .f32⟩
  | 92 => ⟨S2x32x8x1x64, .f32⟩
  | 93 => ⟨S2x32x8x64x64, .f32⟩
  | 94 => ⟨S2x32x8x64x64, .f32⟩
  | 95 => ⟨S_, .f32⟩
  | 96 => ⟨S_, .f32⟩
  | 97 => ⟨S32x8x64x64, .i1⟩
  | 98 => ⟨S32x8x64x64, .f32⟩
  | 99 => ⟨S2x32x8x64x64, .i1⟩
  | 100 => ⟨S2x32x8x64x64, .f32⟩
  | 101 => ⟨S2x32x8x64x64, .f32⟩
  | 102 => ⟨S2x32x8x1, .f32⟩
  | 103 => ⟨S2x32x8x64, .f32⟩
  | 104 => ⟨S2x32x8x64, .f32⟩
  | 105 => ⟨S_, .f32⟩
  | 106 => ⟨S2x32x8x64, .f32⟩
  | 107 => ⟨S2x32x8x64, .f32⟩
  | 108 => ⟨S2x32x8x64x1, .f32⟩
  | 109 => ⟨S2x32x8x64x64, .f32⟩
  | 110 => ⟨S2x32x8x64x64, .f32⟩
  | 111 => ⟨S2x32x8x64x64, .f32⟩
  | 112 => ⟨S2x32x8x64, .f32⟩
  | 113 => ⟨S2x32x8x64, .f32⟩
  | 114 => ⟨S2x32x8x64x1x128, .f32⟩
  | 115 => ⟨S2x32x8x1x64x128, .f32⟩
  | 116 => ⟨S2x32x8x64x64x128, .f32⟩
  | 117 => ⟨S2x32x8x64x64x128, .f32⟩
  | 118 => ⟨S2x32x8x64x64x128, .f32⟩
  | 119 => ⟨S_, .f32⟩
  | 120 => ⟨S2x32x8x64x64, .f32⟩
  | 121 => ⟨S2x32x8x64x64, .f32⟩
  | 122 => ⟨S2x32x8x64x1, .f32⟩
  | 123 => ⟨S2x32x8x64x128x1, .f32⟩
  | 124 => ⟨S2x32x8x1x128x128, .f32⟩
  | 125 => ⟨S2x32x8x64x128x128, .f32⟩
  | 126 => ⟨S2x32x8x64x128x128, .f32⟩
  | 127 => ⟨S2x32x8x64x128x128, .f32⟩
  | _ => ⟨S32x256x1024, .f32⟩

abbrev hbmTy0_2 (i : Nat) : BufTy := match i % 128 with
  | 0 => ⟨S_, .f32⟩
  | 1 => ⟨S2x32x8x64x128, .f32⟩
  | 2 => ⟨S2x32x8x64x128, .f32⟩
  | 3 => ⟨S2x32x8x64x128, .f32⟩
  | 4 => ⟨S2x32x8x64x64x1, .f32⟩
  | 5 => ⟨S2x32x8x1x64x128, .f32⟩
  | 6 => ⟨S2x32x8x64x64x128, .f32⟩
  | 7 => ⟨S2x32x8x64x64x128, .f32⟩
  | 8 => ⟨S2x32x8x64x64x128, .f32⟩
  | 9 => ⟨S_, .f32⟩
  | 10 => ⟨S2x32x8x64x128, .f32⟩
  | 11 => ⟨S2x32x8x64x128, .f32⟩
  | 12 => ⟨S2x32x8x1x128, .f32⟩
  | 13 => ⟨S2x32x8x64x128, .f32⟩
  | 14 => ⟨S2x32x8x64x128, .f32⟩
  | 15 => ⟨S_, .f32⟩
  | 16 => ⟨S2x32x8x64, .f32⟩
  | 17 => ⟨S2x32x8x64, .f32⟩
  | 18 => ⟨S_, .f32⟩
  | 19 => ⟨S2x32x8x64, .f32⟩
  | 20 => ⟨S2x32x8x64, .f32⟩
  | 21 => ⟨S2x32x8x64, .f32⟩
  | 22 => ⟨S2x32x8x64, .f32⟩
  | 23 => ⟨S2x32x8x64, .f32⟩
  | 24 => ⟨S2x32x8x64, .f32⟩
  | 25 => ⟨S2x32x8x64x1, .f32⟩
  | 26 => ⟨S2x32x8x64x128, .f32⟩
  | 27 => ⟨S2x32x8x64x128, .f32⟩
  | 28 => ⟨S2x32x8x1, .f32⟩
  | 29 => ⟨S2x32x8, .f32⟩
  | 30 => ⟨S2x32x8x1, .f32⟩
  | 31 => ⟨S2x32x8x64, .f32⟩
  | 32 => ⟨S2x32x8x64, .f32⟩
  | 33 => ⟨S2x32x8x64, .f32⟩
  | 34 => ⟨S2x32x8, .f32⟩
  | 35 => ⟨S_, .f32⟩
  | 36 => ⟨S2x32x8, .f32⟩
  | 37 => ⟨S2x32x8, .f32⟩
  | 38 => ⟨S2x32x8x1, .f32⟩
  | 39 => ⟨S2x32x8x64, .f32⟩
  | 40 => ⟨S2x32x8x64, .f32⟩
  | 41 => ⟨S2x32x8x64, .f32⟩
  | 42 => ⟨S2x32x8, .f32⟩
  | 43 => ⟨S2x32x8, .f32⟩
  | 44 => ⟨S2x32x8, .f32⟩
  | 45 => ⟨S2x32x8x1x1, .f32⟩
  | 46 => ⟨S2x32x8x128x128, .f32⟩
  | 47 => ⟨S2x32x8x128x128, .f32⟩
  | 48 => ⟨S2x32x8x64x1, .f32⟩
  | 49 => ⟨S2x32x8x64x128, .f32⟩
  | 50 => ⟨S2x32x8x64x128, .f32⟩
  | 51 => ⟨S2x32x8x64x128x1, .f32⟩
  | 52 => ⟨S2x32x8x64x1x128, .f32⟩
  | 53 => ⟨S2x32x8x64x128x128, .f32⟩
  | 54 => ⟨S2x32x8x64x128x128, .f32⟩
  | 55 => ⟨S2x32x8x64x128x128, .f32⟩
  | 56 => ⟨S_, .f32⟩
  | 57 => ⟨S2x32x8x128x128, .f32⟩
  | 58 => ⟨S2x32x8x128x128, .f32⟩
  | 59 => ⟨S2x32x8x1, .f32⟩
  | 60 => ⟨S2x32x8x128, .f32⟩
  | 61 => ⟨S2x32x8x128, .f32⟩
  | 62 => ⟨S2x32x8x64x1, .f32⟩
  | 63 => ⟨S2x32x8x64x128, .f32⟩
  | 64 => ⟨S2x32x8x64x128, .f32⟩
  | 65 => ⟨S_, .f32⟩
  | 66 => ⟨S2x32x8x128, .f32⟩
  | 67 => ⟨S2x32x8x128, .f32⟩
  | 68 => ⟨S1x2x32x8x64x128, .f32⟩
  | 69 => ⟨S_, .i32⟩
  | 70 => ⟨S_, .i32⟩
  | 71 => ⟨S_, .i32⟩
  | 72 => ⟨S_, .i32⟩
  | 73 => ⟨S_, .i32⟩
  | 74 => ⟨S4x2x32x8x64x128, .f32⟩
  | 75 => ⟨S_, .i32⟩
  | 76 => ⟨S_, .i32⟩
  | 77 => ⟨S2x4x32x64x8x128, .f32⟩
  | 78 => ⟨S2x32x4x64x8x128, .f32⟩
  | 79 => ⟨S2x32x256x8x128, .f32⟩
  | 80 => ⟨S1x32x256x8x128, .f32⟩
  | 81 => ⟨S32x256x8x128, .f32⟩
  | 82 => ⟨S1x32x256x8x128, .f32⟩
  | 83 => ⟨S32x256x8x128, .f32⟩
  | 84 => ⟨S32x256x8x128, .f32⟩
  | 85 => ⟨S32x256x8x128, .f32⟩
  | 86 => ⟨S_, .f32⟩
  | 87 => ⟨S32x256x8, .f32⟩
  | 88 => ⟨S32x256x8x1, .f32⟩
  | 89 => ⟨S_, .f32⟩
  | 90 => ⟨S32x256x8x1, .f32⟩
  | 91 => ⟨S32x256x8x1, .f32⟩
  | 92 => ⟨S32x256x8x128, .f32⟩
  | 93 => ⟨S32x256x8x128, .f32⟩
  | 94 => ⟨S32x256x8x128, .f32⟩
  | 95 => ⟨S_, .f32⟩
  | 96 => ⟨S32x256x8, .f32⟩
  | 97 => ⟨S32x256x8x1, .f32⟩
  | 98 => ⟨S_, .f32⟩
  | 99 => ⟨S32x256x8x1, .f32⟩
  | 100 => ⟨S32x256x8x1, .f32⟩
  | 101 => ⟨S32x256x8x128, .f32⟩
  | 102 => ⟨S32x256x8x128, .f32⟩
  | 103 => ⟨S_, .f32⟩
  | 104 => ⟨S32x256x8x1, .f32⟩
  | 105 => ⟨S32x256x8x1, .f32⟩
  | 106 => ⟨S32x256x8x1, .f32⟩
  | 107 => ⟨S32x256x8x128, .f32⟩
  | 108 => ⟨S32x256x8x128, .f32⟩
  | 109 => ⟨S1x1x1x128, .f32⟩
  | 110 => ⟨S32x256x8x128, .f32⟩
  | 111 => ⟨S32x256x8x128, .f32⟩
  | 112 => ⟨S32x256x8x128, .f32⟩
  | 113 => ⟨S32x256x8x128, .f32⟩
  | 114 => ⟨S32x256x8x128, .f32⟩
  | 115 => ⟨S_, .f32⟩
  | 116 => ⟨S32x256x8x128, .f32⟩
  | 117 => ⟨S32x256x8x128, .f32⟩
  | 118 => ⟨S_, .f32⟩
  | 119 => ⟨S32x256x8x128, .f32⟩
  | 120 => ⟨S32x256x8x128, .f32⟩
  | 121 => ⟨S32x256x8x128, .f32⟩
  | 122 => ⟨S32x256x1024, .f32⟩
  | 123 => ⟨S32x2x8x128x128, .f32⟩
  | 124 => ⟨S32x2x8x128, .f32⟩
  | 125 => ⟨S32x2x8, .f32⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_1 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call4_v0 : Ref sig .tc := ⟨.hbm, 101, rfl⟩
abbrev main_call4_call0_cst : Ref sig .tc := ⟨.hbm, 102, rfl⟩
abbrev main_call4_call0_v0 : Ref sig .tc := ⟨.hbm, 103, rfl⟩
abbrev main_call4_call0_v1 : Ref sig .tc := ⟨.hbm, 104, rfl⟩
abbrev main_call4_call0_v2 : Ref sig .tc := ⟨.hbm, 105, rfl⟩
abbrev main_call4_call0_v3 : Ref sig .tc := ⟨.hbm, 106, rfl⟩
abbrev main_call4_call0_v4 : Ref sig .tc := ⟨.hbm, 107, rfl⟩
abbrev main_call4_call0_v5 : Ref sig .tc := ⟨.hbm, 108, rfl⟩
abbrev main_call4_call0_v6 : Ref sig .tc := ⟨.hbm, 109, rfl⟩
abbrev main_call4_call0_v7 : Ref sig .tc := ⟨.hbm, 110, rfl⟩
abbrev main_call4_call0_v8 : Ref sig .tc := ⟨.hbm, 111, rfl⟩
abbrev main_call4_call0_v9 : Ref sig .tc := ⟨.hbm, 112, rfl⟩
abbrev main_call4_call0_v10 : Ref sig .tc := ⟨.hbm, 113, rfl⟩
abbrev main_call4_call0_v11 : Ref sig .tc := ⟨.hbm, 114, rfl⟩
abbrev main_call4_v1 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_3 : Ref sig .tc := ⟨.hbm, 132, rfl⟩
abbrev main_v90 : Ref sig .tc := ⟨.hbm, 133, rfl⟩
abbrev main_call8_v0 : Ref sig .tc := ⟨.hbm, 134, rfl⟩
abbrev main_call8_c : Ref sig .tc := ⟨.hbm, 135, rfl⟩
abbrev main_call8_v1 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_call8_c_0 : Ref sig .tc := ⟨.hbm, 140, rfl⟩
abbrev main_call8_v5 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_4 : Ref sig .tc := ⟨.hbm, 163, rfl⟩
abbrev main_v112 : Ref sig .tc := ⟨.hbm, 164, rfl⟩
abbrev main_c_5 : Ref sig .tc := ⟨.hbm, 165, rfl⟩
abbrev main_v113_0 : Ref sig .tc := ⟨.hbm, 166, rfl⟩
abbrev main_v113_1 : Ref sig .tc := ⟨.hbm, 167, rfl⟩
abbrev main_v113_2 : Ref sig .tc := ⟨.hbm, 168, rfl⟩
abbrev main_v113_3 : Ref sig .tc := ⟨.hbm, 169, rfl⟩
abbrev main_v113_4 : Ref sig .tc := ⟨.hbm, 170, rfl⟩
abbrev main_v113_5 : Ref sig .tc := ⟨.hbm, 171, rfl⟩
abbrev main_v113_6 : Ref sig .tc := ⟨.hbm, 172, rfl⟩
abbrev main_v113_7 : Ref sig .tc := ⟨.hbm, 173, rfl⟩
abbrev main_v113_8 : Ref sig .tc := ⟨.hbm, 174, rfl⟩
abbrev main_v113_9 : Ref sig .tc := ⟨.hbm, 175, rfl⟩
abbrev main_v113_10 : Ref sig .tc := ⟨.hbm, 176, rfl⟩
abbrev main_while0c_c_23 : Ref sig .tc := ⟨.hbm, 177, rfl⟩
abbrev main_while0c_v156 : Ref sig .tc := ⟨.hbm, 178, rfl⟩
abbrev main_while0b_call9_c : Ref sig .tc := ⟨.hbm, 179, rfl⟩
abbrev main_while0b_call9_c_0 : Ref sig .tc := ⟨.hbm, 180, rfl⟩
abbrev main_while0b_call9_c_1 : Ref sig .tc := ⟨.hbm, 181, rfl⟩
abbrev main_while0b_call9_c_2 : Ref sig .tc := ⟨.hbm, 182, rfl⟩
abbrev main_while0b_call9_c_3 : Ref sig .tc := ⟨.hbm, 183, rfl⟩
abbrev main_while0b_call9_v0 : Ref sig .tc := ⟨.hbm, 184, rfl⟩
abbrev main_while0b_v156 : Ref sig .tc := ⟨.hbm, 185, rfl⟩
abbrev main_while0b_call10_c : Ref sig .tc := ⟨.hbm, 186, rfl⟩
abbrev main_while0b_call10_c_0 : Ref sig .tc := ⟨.hbm, 187, rfl⟩
abbrev main_while0b_call10_c_1 : Ref sig .tc := ⟨.hbm, 188, rfl⟩
abbrev main_while0b_call10_c_2 : Ref sig .tc := ⟨.hbm, 189, rfl⟩
abbrev main_while0b_call10_c_3 : Ref sig .tc := ⟨.hbm, 190, rfl⟩
abbrev main_while0b_call10_v0 : Ref sig .tc := ⟨.hbm, 191, rfl⟩
abbrev main_while0b_v157 : Ref sig .tc := ⟨.hbm, 192, rfl⟩
abbrev main_while0b_call11_c : Ref sig .tc := ⟨.hbm, 193, rfl⟩
abbrev main_while0b_call11_c_0 : Ref sig .tc := ⟨.hbm, 194, rfl⟩
abbrev main_while0b_call11_c_1 : Ref sig .tc := ⟨.hbm, 195, rfl⟩
abbrev main_while0b_call11_c_2 : Ref sig .tc := ⟨.hbm, 196, rfl⟩
abbrev main_while0b_call11_c_3 : Ref sig .tc := ⟨.hbm, 197, rfl⟩
abbrev main_while0b_call11_v0 : Ref sig .tc := ⟨.hbm, 198, rfl⟩
abbrev main_while0b_v158 : Ref sig .tc := ⟨.hbm, 199, rfl⟩
abbrev main_while0b_call12_c : Ref sig .tc := ⟨.hbm, 200, rfl⟩
abbrev main_while0b_call12_c_0 : Ref sig .tc := ⟨.hbm, 201, rfl⟩
abbrev main_while0b_call12_c_1 : Ref sig .tc := ⟨.hbm, 202, rfl⟩
abbrev main_while0b_call12_c_2 : Ref sig .tc := ⟨.hbm, 203, rfl⟩
abbrev main_while0b_call12_v0 : Ref sig .tc := ⟨.hbm, 204, rfl⟩
abbrev main_while0b_v159 : Ref sig .tc := ⟨.hbm, 205, rfl⟩
abbrev main_while0b_call13_c : Ref sig .tc := ⟨.hbm, 206, rfl⟩
abbrev main_while0b_call13_c_0 : Ref sig .tc := ⟨.hbm, 207, rfl⟩
abbrev main_while0b_call13_c_1 : Ref sig .tc := ⟨.hbm, 208, rfl⟩
abbrev main_while0b_call13_c_2 : Ref sig .tc := ⟨.hbm, 209, rfl⟩
abbrev main_while0b_call13_v0 : Ref sig .tc := ⟨.hbm, 210, rfl⟩
abbrev main_while0b_v160 : Ref sig .tc := ⟨.hbm, 211, rfl⟩
abbrev main_while0b_call14_call0_cst : Ref sig .tc := ⟨.hbm, 212, rfl⟩
abbrev main_while0b_call14_call0_v0 : Ref sig .tc := ⟨.hbm, 213, rfl⟩
abbrev main_while0b_v161 : Ref sig .tc := ⟨.hbm, 214, rfl⟩
abbrev main_while0b_v162 : Ref sig .tc := ⟨.hbm, 215, rfl⟩
abbrev main_while0b_v163 : Ref sig .tc := ⟨.hbm, 216, rfl⟩
abbrev main_while0b_v164 : Ref sig .tc := ⟨.hbm, 217, rfl⟩
abbrev main_while0b_v165 : Ref sig .tc := ⟨.hbm, 218, rfl⟩
abbrev main_while0b_v166 : Ref sig .tc := ⟨.hbm, 219, rfl⟩
abbrev main_while0b_v167 : Ref sig .tc := ⟨.hbm, 220, rfl⟩
abbrev main_while0b_v168 : Ref sig .tc := ⟨.hbm, 221, rfl⟩
abbrev main_while0b_v169 : Ref sig .tc := ⟨.hbm, 222, rfl⟩
abbrev main_while0b_cst_23 : Ref sig .tc := ⟨.hbm, 223, rfl⟩
abbrev main_while0b_call15_v0 : Ref sig .tc := ⟨.hbm, 224, rfl⟩
abbrev main_while0b_call15_v1 : Ref sig .tc := ⟨.hbm, 225, rfl⟩
abbrev main_while0b_call15_v2 : Ref sig .tc := ⟨.hbm, 226, rfl⟩
abbrev main_while0b_call15_v3 : Ref sig .tc := ⟨.hbm, 227, rfl⟩
abbrev main_while0b_call15_v4 : Ref sig .tc := ⟨.hbm, 228, rfl⟩
abbrev main_while0b_v170 : Ref sig .tc := ⟨.hbm, 229, rfl⟩
abbrev main_while0b_v171 : Ref sig .tc := ⟨.hbm, 230, rfl⟩
abbrev main_while0b_v172 : Ref sig .tc := ⟨.hbm, 231, rfl⟩
abbrev main_while0b_v173 : Ref sig .tc := ⟨.hbm, 232, rfl⟩
abbrev main_while0b_cst_24 : Ref sig .tc := ⟨.hbm, 233, rfl⟩
abbrev main_while0b_v174 : Ref sig .tc := ⟨.hbm, 234, rfl⟩
abbrev main_while0b_v175 : Ref sig .tc := ⟨.hbm, 235, rfl⟩
abbrev main_while0b_v176 : Ref sig .tc := ⟨.hbm, 236, rfl⟩
abbrev main_while0b_v177 : Ref sig .tc := ⟨.hbm, 237, rfl⟩
abbrev main_while0b_v178 : Ref sig .tc := ⟨.hbm, 238, rfl⟩
abbrev main_while0b_v179 : Ref sig .tc := ⟨.hbm, 239, rfl⟩
abbrev main_while0b_v180 : Ref sig .tc := ⟨.hbm, 240, rfl⟩
abbrev main_while0b_v181 : Ref sig .tc := ⟨.hbm, 241, rfl⟩
abbrev main_while0b_v182 : Ref sig .tc := ⟨.hbm, 242, rfl⟩
abbrev main_while0b_v183 : Ref sig .tc := ⟨.hbm, 243, rfl⟩
abbrev main_while0b_v184 : Ref sig .tc := ⟨.hbm, 244, rfl⟩
abbrev main_while0b_v185 : Ref sig .tc := ⟨.hbm, 245, rfl⟩
abbrev main_while0b_v186 : Ref sig .tc := ⟨.hbm, 246, rfl⟩
abbrev main_while0b_cst_25 : Ref sig .tc := ⟨.hbm, 247, rfl⟩
abbrev main_while0b_v187 : Ref sig .tc := ⟨.hbm, 248, rfl⟩
abbrev main_while0b_v188 : Ref sig .tc := ⟨.hbm, 249, rfl⟩
abbrev main_while0b_v189 : Ref sig .tc := ⟨.hbm, 250, rfl⟩
abbrev main_while0b_v190 : Ref sig .tc := ⟨.hbm, 251, rfl⟩
abbrev main_while0b_v191 : Ref sig .tc := ⟨.hbm, 252, rfl⟩
abbrev main_while0b_v192 : Ref sig .tc := ⟨.hbm, 253, rfl⟩
abbrev main_while0b_v193 : Ref sig .tc := ⟨.hbm, 254, rfl⟩
abbrev main_while0b_v194 : Ref sig .tc := ⟨.hbm, 255, rfl⟩
abbrev main_while0b_cst_26 : Ref sig .tc := ⟨.hbm, 256, rfl⟩
abbrev main_while0b_v195 : Ref sig .tc := ⟨.hbm, 257, rfl⟩
abbrev main_while0b_v196 : Ref sig .tc := ⟨.hbm, 258, rfl⟩
abbrev main_while0b_v197 : Ref sig .tc := ⟨.hbm, 259, rfl⟩
abbrev main_while0b_v198 : Ref sig .tc := ⟨.hbm, 260, rfl⟩
abbrev main_while0b_v199 : Ref sig .tc := ⟨.hbm, 261, rfl⟩
abbrev main_while0b_v200 : Ref sig .tc := ⟨.hbm, 262, rfl⟩
abbrev main_while0b_v201 : Ref sig .tc := ⟨.hbm, 263, rfl⟩
abbrev main_while0b_v202 : Ref sig .tc := ⟨.hbm, 264, rfl⟩
abbrev main_while0b_cst_27 : Ref sig .tc := ⟨.hbm, 265, rfl⟩
abbrev main_while0b_v203 : Ref sig .tc := ⟨.hbm, 266, rfl⟩
abbrev main_while0b_v204 : Ref sig .tc := ⟨.hbm, 267, rfl⟩
abbrev main_while0b_v205 : Ref sig .tc := ⟨.hbm, 268, rfl⟩
abbrev main_while0b_v206 : Ref sig .tc := ⟨.hbm, 269, rfl⟩
abbrev main_while0b_v207 : Ref sig .tc := ⟨.hbm, 270, rfl⟩
abbrev main_while0b_cst_28 : Ref sig .tc := ⟨.hbm, 271, rfl⟩
abbrev main_while0b_v208 : Ref sig .tc := ⟨.hbm, 272, rfl⟩
abbrev main_while0b_v209 : Ref sig .tc := ⟨.hbm, 273, rfl⟩
abbrev main_while0b_cst_29 : Ref sig .tc := ⟨.hbm, 274, rfl⟩
abbrev main_while0b_v210 : Ref sig .tc := ⟨.hbm, 275, rfl⟩
abbrev main_while0b_v211 : Ref sig .tc := ⟨.hbm, 276, rfl⟩
abbrev main_while0b_v212 : Ref sig .tc := ⟨.hbm, 277, rfl⟩
abbrev main_while0b_v213 : Ref sig .tc := ⟨.hbm, 278, rfl⟩
abbrev main_while0b_v214 : Ref sig .tc := ⟨.hbm, 279, rfl⟩
abbrev main_while0b_v215 : Ref sig .tc := ⟨.hbm, 280, rfl⟩
abbrev main_while0b_v216 : Ref sig .tc := ⟨.hbm, 281, rfl⟩
abbrev main_while0b_v217 : Ref sig .tc := ⟨.hbm, 282, rfl⟩
abbrev main_while0b_v218 : Ref sig .tc := ⟨.hbm, 283, rfl⟩
abbrev main_while0b_v219 : Ref sig .tc := ⟨.hbm, 284, rfl⟩
abbrev main_while0b_v220 : Ref sig .tc := ⟨.hbm, 285, rfl⟩
abbrev main_while0b_v221 : Ref sig .tc := ⟨.hbm, 286, rfl⟩
abbrev main_while0b_v222 : Ref sig .tc := ⟨.hbm, 287, rfl⟩
abbrev main_while0b_v223 : Ref sig .tc := ⟨.hbm, 288, rfl⟩
abbrev main_while0b_v224 : Ref sig .tc := ⟨.hbm, 289, rfl⟩
abbrev main_while0b_v225 : Ref sig .tc := ⟨.hbm, 290, rfl⟩
abbrev main_while0b_cst_30 : Ref sig .tc := ⟨.hbm, 291, rfl⟩
abbrev main_while0b_v226 : Ref sig .tc := ⟨.hbm, 292, rfl⟩
abbrev main_while0b_v227 : Ref sig .tc := ⟨.hbm, 293, rfl⟩
abbrev main_while0b_v228 : Ref sig .tc := ⟨.hbm, 294, rfl⟩
abbrev main_while0b_v229 : Ref sig .tc := ⟨.hbm, 295, rfl⟩
abbrev main_while0b_v230 : Ref sig .tc := ⟨.hbm, 296, rfl⟩
abbrev main_while0b_v231 : Ref sig .tc := ⟨.hbm, 297, rfl⟩
abbrev main_while0b_v232 : Ref sig .tc := ⟨.hbm, 298, rfl⟩
abbrev main_while0b_v233 : Ref sig .tc := ⟨.hbm, 299, rfl⟩
abbrev main_while0b_v234 : Ref sig .tc := ⟨.hbm, 300, rfl⟩
abbrev main_while0b_v235 : Ref sig .tc := ⟨.hbm, 301, rfl⟩
abbrev main_while0b_v236 : Ref sig .tc := ⟨.hbm, 302, rfl⟩
abbrev main_while0b_v237 : Ref sig .tc := ⟨.hbm, 303, rfl⟩
abbrev main_while0b_v238 : Ref sig .tc := ⟨.hbm, 304, rfl⟩
abbrev main_while0b_v239 : Ref sig .tc := ⟨.hbm, 305, rfl⟩
abbrev main_while0b_v240 : Ref sig .tc := ⟨.hbm, 306, rfl⟩
abbrev main_while0b_v241 : Ref sig .tc := ⟨.hbm, 307, rfl⟩
abbrev main_while0b_v242 : Ref sig .tc := ⟨.hbm, 308, rfl⟩
abbrev main_while0b_v243 : Ref sig .tc := ⟨.hbm, 309, rfl⟩
abbrev main_while0b_v244 : Ref sig .tc := ⟨.hbm, 310, rfl⟩
abbrev main_while0b_v245 : Ref sig .tc := ⟨.hbm, 311, rfl⟩
abbrev main_while0b_cst_31 : Ref sig .tc := ⟨.hbm, 312, rfl⟩
abbrev main_while0b_v246 : Ref sig .tc := ⟨.hbm, 313, rfl⟩
abbrev main_while0b_v247 : Ref sig .tc := ⟨.hbm, 314, rfl⟩
abbrev main_while0b_v248 : Ref sig .tc := ⟨.hbm, 315, rfl⟩
abbrev main_while0b_v249 : Ref sig .tc := ⟨.hbm, 316, rfl⟩
abbrev main_while0b_v250 : Ref sig .tc := ⟨.hbm, 317, rfl⟩
abbrev main_while0b_v251 : Ref sig .tc := ⟨.hbm, 318, rfl⟩
abbrev main_while0b_v252 : Ref sig .tc := ⟨.hbm, 319, rfl⟩
abbrev main_while0b_v253 : Ref sig .tc := ⟨.hbm, 320, rfl⟩
abbrev main_while0b_cst_32 : Ref sig .tc := ⟨.hbm, 321, rfl⟩
abbrev main_while0b_v254 : Ref sig .tc := ⟨.hbm, 322, rfl⟩
abbrev main_while0b_v255 : Ref sig .tc := ⟨.hbm, 323, rfl⟩
abbrev main_while0b_call16_v0 : Ref sig .tc := ⟨.hbm, 324, rfl⟩
abbrev main_while0b_call16_c : Ref sig .tc := ⟨.hbm, 325, rfl⟩
abbrev main_while0b_call16_c_0 : Ref sig .tc := ⟨.hbm, 326, rfl⟩
abbrev main_while0b_call16_c_1 : Ref sig .tc := ⟨.hbm, 327, rfl⟩
abbrev main_while0b_call16_c_2 : Ref sig .tc := ⟨.hbm, 328, rfl⟩
abbrev main_while0b_call16_c_3 : Ref sig .tc := ⟨.hbm, 329, rfl⟩
abbrev main_while0b_v256 : Ref sig .tc := ⟨.hbm, 330, rfl⟩
abbrev main_while0b_c_33 : Ref sig .tc := ⟨.hbm, 331, rfl⟩
abbrev main_while0b_v257 : Ref sig .tc := ⟨.hbm, 332, rfl⟩
abbrev main_v114 : Ref sig .tc := ⟨.hbm, 333, rfl⟩
abbrev main_v115 : Ref sig .tc := ⟨.hbm, 334, rfl⟩
abbrev main_v116 : Ref sig .tc := ⟨.hbm, 335, rfl⟩
abbrev main_v117 : Ref sig .tc := ⟨.hbm, 336, rfl⟩
abbrev main_v118 : Ref sig .tc := ⟨.hbm, 337, rfl⟩
abbrev main_v119 : Ref sig .tc := ⟨.hbm, 338, rfl⟩
abbrev main_v120 : Ref sig .tc := ⟨.hbm, 339, rfl⟩
abbrev main_v121 : Ref sig .tc := ⟨.hbm, 340, rfl⟩
abbrev main_v122 : Ref sig .tc := ⟨.hbm, 341, rfl⟩
abbrev main_cst_6 : Ref sig .tc := ⟨.hbm, 342, rfl⟩
abbrev main_v123 : Ref sig .tc := ⟨.hbm, 343, rfl⟩
abbrev main_v124 : Ref sig .tc := ⟨.hbm, 344, rfl⟩
abbrev main_cst_7 : Ref sig .tc := ⟨.hbm, 345, rfl⟩
abbrev main_v125 : Ref sig .tc := ⟨.hbm, 346, rfl⟩
abbrev main_v126 : Ref sig .tc := ⟨.hbm, 347, rfl⟩
abbrev main_v127 : Ref sig .tc := ⟨.hbm, 348, rfl⟩
abbrev main_v128 : Ref sig .tc := ⟨.hbm, 349, rfl⟩
abbrev main_v129 : Ref sig .tc := ⟨.hbm, 350, rfl⟩
abbrev main_cst_8 : Ref sig .tc := ⟨.hbm, 351, rfl⟩
abbrev main_v130 : Ref sig .tc := ⟨.hbm, 352, rfl⟩
abbrev main_v131 : Ref sig .tc := ⟨.hbm, 353, rfl⟩
abbrev main_cst_9 : Ref sig .tc := ⟨.hbm, 354, rfl⟩
abbrev main_v132 : Ref sig .tc := ⟨.hbm, 355, rfl⟩
abbrev main_v133 : Ref sig .tc := ⟨.hbm, 356, rfl⟩
abbrev main_v134 : Ref sig .tc := ⟨.hbm, 357, rfl⟩
abbrev main_v135 : Ref sig .tc := ⟨.hbm, 358, rfl⟩
abbrev main_cst_10 : Ref sig .tc := ⟨.hbm, 359, rfl⟩
abbrev main_v136 : Ref sig .tc := ⟨.hbm, 360, rfl⟩
abbrev main_v137 : Ref sig .tc := ⟨.hbm, 361, rfl⟩
abbrev main_v138 : Ref sig .tc := ⟨.hbm, 362, rfl⟩
abbrev main_v139 : Ref sig .tc := ⟨.hbm, 363, rfl⟩
abbrev main_v140 : Ref sig .tc := ⟨.hbm, 364, rfl⟩
abbrev main_v141 : Ref sig .tc := ⟨.hbm, 365, rfl⟩
abbrev main_v142 : Ref sig .tc := ⟨.hbm, 366, rfl⟩
abbrev main_v143 : Ref sig .tc := ⟨.hbm, 367, rfl⟩
abbrev main_v144 : Ref sig .tc := ⟨.hbm, 368, rfl⟩
abbrev main_v145 : Ref sig .tc := ⟨.hbm, 369, rfl⟩
abbrev main_v146 : Ref sig .tc := ⟨.hbm, 370, rfl⟩
abbrev main_cst_11 : Ref sig .tc := ⟨.hbm, 371, rfl⟩
abbrev main_v147 : Ref sig .tc := ⟨.hbm, 372, rfl⟩
abbrev main_v148 : Ref sig .tc := ⟨.hbm, 373, rfl⟩
abbrev main_cst_12 : Ref sig .tc := ⟨.hbm, 374, rfl⟩
abbrev main_v149 : Ref sig .tc := ⟨.hbm, 375, rfl⟩
abbrev main_v150 : Ref sig .tc := ⟨.hbm, 376, rfl⟩
abbrev main_v151 : Ref sig .tc := ⟨.hbm, 377, rfl⟩
abbrev main_v152 : Ref sig .tc := ⟨.hbm, 378, rfl⟩
abbrev main_v153 : Ref sig .tc := ⟨.hbm, 379, rfl⟩
abbrev main_v154 : Ref sig .tc := ⟨.hbm, 380, rfl⟩
abbrev main_v155 : Ref sig .tc := ⟨.hbm, 381, rfl⟩

abbrev nD : Nat := 1
abbrev τ : Topo := Topo.v7x

variable {F : FTy → Type} [FloatOps F]

abbrev main_while0_count : Scf.Loop 32 := ⟨0#32, 4#32, 1#32⟩
-- ==== Proof.Mm.lean ====
module

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

/-!
# One tiled matrix product, as a pipelined kernel

Every `pallas_call` of the layer is the same kernel: on the grid (row tiles, column tiles, inner tiles) it
multiplies a block of the left operand by a block of the right one, stores the product in the output block at the
first inner tile and adds it to the output block at the later ones.  This file states that kernel once, for blocks
of any extents and any signature of buffers, and proves what its body does at every grid point.
-/

@[expose] public section

noncomputable section

namespace Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] {nD : Nat} {τ : Topo} {sig : RefSig} {Lb : Type} {Ar : Lb → Type}

/-- The labels of the kernels' bodies: none returns a value. -/
abbrev Lbs (Lb : Type) (Ar : Lb → Type) : Labels := ⟨Lb, Ar, fun _ => PUnit⟩

local notation "𝕄" => MT nD τ sig Unit (Elt F) ℕ (UR sig nD τ) ℕ

/-- A matrix's shape. -/
abbrev Sh (a b : ℕ) : Shape := ⟨2, ![a, b]⟩

/-- The whole rectangle of a matrix. -/
theorem inb (a b : ℕ) : ∀ i, (![0, 0] : Fin 2 → Nat) i + (Sh a b).size i ≤ (Sh a b).size i := by
  intro i; fin_cases i <;> simp

/-! ## The body -/

/-- The kernel's body with its two tests as parameters (`c₁`: this is the first inner tile; `c₂`: it is not), and the
    product of two blocks and its sum onto an earlier block as functions. -/
def body {bm bk bn : ℕ} (h0 : 0 < (Sh bm bk).numel) (h1 : 0 < (Sh bk bn).numel) (h2 : 0 < (Sh bm bn).numel)
    (c₁ c₂ : BitVec 1)
    (p₁ : Vec F (Sh bm bk) .f32 → Vec F (Sh bk bn) .f32 → Vec F (Sh bm bn) .f32)
    (p₂ : Vec F (Sh bm bk) .f32 → Vec F (Sh bk bn) .f32 → Vec F (Sh bm bn) .f32 → Vec F (Sh bm bn) .f32)
    (a0 : Memref sig .tc .vmem (Sh bm bk) .f32) (a1 : Memref sig .tc .vmem (Sh bk bn) .f32)
    (a2 : Memref sig .tc .vmem (Sh bm bn) .f32) : Prog (TpuEff nD τ sig (Elt F) (Lbs Lb Ar) .tc) PUnit := do
  let v0 : Vec F (Sh bm bk) .f32 ← Prog.lift (.load a0 (Rect.unit (s := Sh bm bk) ![0, 0] (Sh bm bk).size (inb bm bk)).toLoadRect (View.loadsAt_vmem h0))
  let v3 : Vec F (Sh bk bn) .f32 ← Prog.lift (.load a1 (Rect.unit (s := Sh bk bn) ![0, 0] (Sh bk bn).size (inb bk bn)).toLoadRect (View.loadsAt_vmem h1))
  if k1 : c₁ = 1#1 then do
    let v12 : Vec F (Sh bm bn) .f32 ← Prog.lift (.load a2 (Rect.unit (s := Sh bm bn) ![0, 0] (Sh bm bn).size (inb bm bn)).toLoadRect (View.loadsAt_vmem h2))
    Prog.lift (.store a2 (Rect.unit (s := Sh bm bn) ![0, 0] (Sh bm bn).size (inb bm bn)) (p₁ v0 v3) Finset.univ (View.stores_vmem_bits_univ h2 rfl) (.inl rfl))
    pure ⟨⟩
  else do
    pure ⟨⟩
  if k2 : c₂ = 1#1 then do
    let v12 : Vec F (Sh bm bn) .f32 ← Prog.lift (.load a2 (Rect.unit (s := Sh bm bn) ![0, 0] (Sh bm bn).size (inb bm bn)).toLoadRect (View.loadsAt_vmem h2))
    let v15 : Vec F (Sh bm bn) .f32 ← Prog.lift (.load a2 (Rect.unit (s := Sh bm bn) ![0, 0] (Sh bm bn).size (inb bm bn)).toLoadRect (View.loadsAt_vmem h2))
    Prog.lift (.store a2 (Rect.unit (s := Sh bm bn) ![0, 0] (Sh bm bn).size (inb bm bn)) (p₂ v0 v3 v12) Finset.univ (View.stores_vmem_bits_univ h2 rfl) (.inl rfl))
    pure ⟨⟩
  else do
    pure ⟨⟩
  pure ⟨⟩

theorem zz : (![0, 0] : Fin 2 → Nat) = fun _ => 0 := by funext i; fin_cases i <;> rfl

/-- What a whole-block store leaves in the block: its payload. -/
theorem read_store {a b : ℕ} (v : View sig .tc .vmem (Sh a b) .f32) (f : v.ty.Contents (Elt F)) (w : Vec F (Sh a b) .f32) :
    v.read (Elt F) (v.writes (Elt F) f [⟨Rect.unit (s := Sh a b) ![0, 0] (Sh a b).size (inb a b), w⟩]) = w := by
  rw [View.read_writes_eq_canon]
  · exact View.canon_unit_zero zz (inb a b) w
  · intro y
    refine ⟨_, List.mem_singleton.2 rfl, ?_⟩
    have : Rect.unit (s := Sh a b) ![0, 0] (Sh a b).size (inb a b) = Rect.whole (Sh a b) := by
      unfold Rect.whole; congr 1
      exact zz
    change y ∈ (Rect.unit (s := Sh a b) ![0, 0] (Sh a b).size (inb a b)).set
    rw [this, Rect.set_whole]; exact Finset.mem_univ _

section Triple

variable (defs₀ : Defs nD τ sig (Elt F) (Lbs Lb Ar)) (c : Dev nD) (E : Set ℕ) {bm bk bn : ℕ}
  (h0 : 0 < (Sh bm bk).numel) (h1 : 0 < (Sh bk bn).numel) (h2 : 0 < (Sh bm bn).numel)
  {c₁ c₂ : BitVec 1}
  (p₁ : Vec F (Sh bm bk) .f32 → Vec F (Sh bk bn) .f32 → Vec F (Sh bm bn) .f32)
  (p₂ : Vec F (Sh bm bk) .f32 → Vec F (Sh bk bn) .f32 → Vec F (Sh bm bn) .f32 → Vec F (Sh bm bn) .f32)
  (a0 : Memref sig .tc .vmem (Sh bm bk) .f32) (a1 : Memref sig .tc .vmem (Sh bk bn) .f32)
  (a2 : Memref sig .tc .vmem (Sh bm bn) .f32)
  (x0 : Vec F (Sh bm bk) .f32) (x1 : Vec F (Sh bk bn) .f32) (x2 : Vec F (Sh bm bn) .f32)

/-- At the first inner tile the body leaves the blocks' product in the output block, whatever that held. -/
theorem body_first (hc1 : c₁ = 1#1) (hc2 : ¬ c₂ = 1#1) (K : PUnit → sProp 𝕄) :
    iprop(owns (c : Thread nD τ) a0 fullShare x0 ∗ owns (c : Thread nD τ) a1 fullShare x1 ∗ owns (c : Thread nD τ) a2 fullShare x2
        ∗ (iprop(owns (c : Thread nD τ) a0 fullShare x0 ∗ owns (c : Thread nD τ) a1 fullShare x1 ∗ owns (c : Thread nD τ) a2 fullShare (p₁ x0 x1)) -∗ K ⟨⟩))
      ⊢ wp frame (wpE (Ix := Unit) (Name := ℕ) (U := UR sig nD τ) (Lvl := ℕ) defs₀ Variants.none c none) E (body h0 h1 h2 c₁ c₂ p₁ p₂ a0 a1 a2) K := by
  unfold body
  unfold owns
  iintro ⟨⟨%f0, %hf0, H0⟩, ⟨%f1, %hf1, H1⟩, ⟨%f2, -, H2⟩, Hk⟩
  subst hf0 hf1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_store _ _ _).trans ?_
  exact congrArg₂ p₁ (View.ld_unit_zero zz (inb bm bk) _) (View.ld_unit_zero zz (inb bk bn) _)

/-- At a later inner tile the body adds the blocks' product to what the output block held. -/
theorem body_later (hc1 : ¬ c₁ = 1#1) (hc2 : c₂ = 1#1) (K : PUnit → sProp 𝕄) :
    iprop(owns (c : Thread nD τ) a0 fullShare x0 ∗ owns (c : Thread nD τ) a1 fullShare x1 ∗ owns (c : Thread nD τ) a2 fullShare x2
        ∗ (iprop(owns (c : Thread nD τ) a0 fullShare x0 ∗ owns (c : Thread nD τ) a1 fullShare x1 ∗ owns (c : Thread nD τ) a2 fullShare (p₂ x0 x1 x2)) -∗ K ⟨⟩))
      ⊢ wp frame (wpE (Ix := Unit) (Name := ℕ) (U := UR sig nD τ) (Lvl := ℕ) defs₀ Variants.none c none) E (body h0 h1 h2 c₁ c₂ p₁ p₂ a0 a1 a2) K := by
  unfold body
  unfold owns
  iintro ⟨⟨%f0, %hf0, H0⟩, ⟨%f1, %hf1, H1⟩, ⟨%f2, %hf2, H2⟩, Hk⟩
  subst hf0 hf1 hf2
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_store _ _ _).trans ?_
  have e0 := View.ld_unit_zero zz (inb bm bk) (a0.view.read (Elt F) f0)
  have e1 := View.ld_unit_zero zz (inb bk bn) (a1.view.read (Elt F) f1)
  have e2 := View.ld_unit_zero zz (inb bm bn) (a2.view.read (Elt F) f2)
  exact (congrArg₂ (fun u v => p₂ u v _) e0 e1).trans (congrArg _ e2)

end Triple

/-! ## The pipelined kernel -/

/-- One call of the kernel: the grid's extents (`nI` row tiles, `nN` column tiles, `nJ` inner tiles), the arrays' and
    the blocks' extents (`W` columns of the right operand, of which the output's `N` are read), the three arrays, the maps
    from grid point to block, the staging buffers, and the two tests. The right operand's last block may overhang its
    array, but no block that is read does (`uncut1`); `ls` marks the staging buffers of a window that may be cut. -/
structure Call (sig : RefSig) where
  (nI nN nJ M K N W bm bk bn : ℕ)
  x : Memref sig .tc .hbm (Sh M K) .f32
  w : Memref sig .tc .hbm (Sh K W) .f32
  y : Memref sig .tc .hbm (Sh M N) .f32
  hx : x.IsWhole
  hw : w.IsWhole
  hy : y.IsWhole
  ix0 : (⟨3, ![nI, nN, nJ], ![false, false, false]⟩ : Pipeline.Grid).Coords → Fin 2 → ℕ
  ix1 : (⟨3, ![nI, nN, nJ], ![false, false, false]⟩ : Pipeline.Grid).Coords → Fin 2 → ℕ
  ix2 : (⟨3, ![nI, nN, nJ], ![false, false, false]⟩ : Pipeline.Grid).Coords → Fin 2 → ℕ
  (rd0 rd1 rd2 : Fin 3 → Bool)
  (nb0 nb1 nb2 : ℕ)
  st0 : Fin nb0 → Memref sig .tc .vmem (Sh bm bk) .f32
  st1 : Fin nb1 → Memref sig .tc .vmem (Sh bk bn) .f32
  st2 : Fin nb2 → Memref sig .tc .vmem (Sh bm bn) .f32
  se0 : Fin nb0 → DmaSem sig
  se1 : Fin nb1 → DmaSem sig
  se2 : Fin nb2 → DmaSem sig
  hreads0 : ∀ i i', (∀ a, rd0 a = true → i a = i' a) → ix0 i = ix0 i'
  hreads1 : ∀ i i', (∀ a, rd1 a = true → i a = i' a) → ix1 i = ix1 i'
  hreads2 : ∀ i i', (∀ a, rd2 a = true → i a = i' a) → ix2 i = ix2 i'
  hinb0 : ∀ i a, (ix0 i a + 1) * (Sh bm bk).size a ≤ (Sh M K).size a
  cl1 : (⟨3, ![nI, nN, nJ], ![false, false, false]⟩ : Pipeline.Grid).Coords → Fin 2 → Pipeline.Clip
  hcl1 : ∀ i a, Pipeline.Clip.Ok (ix1 i a) ((Sh bk bn).size a) ((Sh K W).size a) (cl1 i a)
  uncut1 : ∀ i a, cl1 i a = none
  ls : Fin 3 → Bool
  hinb2 : ∀ i a, (ix2 i a + 1) * (Sh bm bn).size a ≤ (Sh M N).size a
  hnb0 : (⟨3, ![nI, nN, nJ], ![false, false, false]⟩ : Pipeline.Grid).bufCount rd0 false = nb0
  hnb1 : (⟨3, ![nI, nN, nJ], ![false, false, false]⟩ : Pipeline.Grid).bufCount rd1 false = nb1
  hnb2 : (⟨3, ![nI, nN, nJ], ![false, false, false]⟩ : Pipeline.Grid).bufCount rd2 false = nb2
  hst0 : ∀ j, (st0 j).IsWhole
  hst1 : ∀ j, (st1 j).IsWhole
  hst2 : ∀ j, (st2 j).IsWhole
  c1 : (⟨3, ![nI, nN, nJ], ![false, false, false]⟩ : Pipeline.Grid).Coords → BitVec 1
  c2 : (⟨3, ![nI, nN, nJ], ![false, false, false]⟩ : Pipeline.Grid).Coords → BitVec 1
  h0 : 0 < (Sh bm bk).numel
  h1 : 0 < (Sh bk bn).numel
  h2 : 0 < (Sh bm bn).numel

namespace Call

variable (R : Call sig)

/-- The call's grid. -/
abbrev grid : Pipeline.Grid := ⟨3, ![R.nI, R.nN, R.nJ], ![false, false, false]⟩

/-- The left operand's window. -/
abbrev win0 : Window sig R.grid :=
  Window.ofSpec R.x (Sh R.bm R.bk).size R.ix0 R.rd0 false false R.nb0 R.st0 R.se0 (Nat.succ_pos 2) R.hreads0 R.hinb0 R.hnb0 R.hx (fun _ => .inl rfl) R.hst0
/-- The right operand's window. -/
abbrev win1 : Window sig R.grid :=
  (Pipeline.WinSpec.ofSpec R.w (Sh R.bk R.bn).size R.rd1 false false R.nb1 R.st1 R.se1 R.hnb1 R.hst1).pin (G := R.grid) R.hnb1 R.ix1 R.hreads1
    (fun h => absurd h (Nat.ne_of_gt (Nat.succ_pos 2))) R.cl1 R.hcl1 (fun _ => View.wordExact_bits rfl) (fun _ _ => View.wordExact_bits rfl)
/-- The output's window. -/
abbrev win2 : Window sig R.grid :=
  Window.ofSpec R.y (Sh R.bm R.bn).size R.ix2 R.rd2 true false R.nb2 R.st2 R.se2 (Nat.succ_pos 2) R.hreads2 R.hinb2 R.hnb2 R.hy (fun _ => .inl rfl) R.hst2

/-- A block of the right operand is read whole. -/
theorem size1 (t : Fin R.grid.N) (a : Fin 2) : R.win1.xsize (R.grid.coords t) a = (Sh R.bk R.bn).size a := by
  show (R.cl1 (R.grid.coords t) a).extent _ = _
  rw [R.uncut1]
/-- The index of what is read that a block's index names. -/
def whole1 (t : Fin R.grid.N) (j : (Sh R.bk R.bn).Idx) : (R.win1.xblock (R.grid.coords t)).Idx := fun a =>
  ⟨(j a).val, Nat.lt_of_lt_of_eq (j a).isLt (R.size1 t a).symm⟩

/-- The three windows. -/
abbrev win : Fin 3 → Window sig R.grid := fun | 0 => R.win0 | 1 => R.win1 | 2 => R.win2 | ⟨_ + 3, h⟩ => absurd h (Nat.not_lt.2 (Nat.le_add_left _ _))

/-- The points at which the body stores nothing in a window: none for the output if one of the tests holds. -/
abbrev idle : Fin 3 → R.grid.Coords → Bool := fun | 0 => fun _ => false | 1 => fun _ => false | 2 => fun i => !(R.c1 i == 1#1) && !(R.c2 i == 1#1) | ⟨_ + 3, h⟩ => absurd h (Nat.not_lt.2 (Nat.le_add_left _ _))

/-- The call as a pipeline whose body has label `b`. -/
abbrev cfg (b : Lb) (ba : Fin R.grid.N → ((w : Fin 3) → Fin (R.win w).nbuf) → Ar b) : Cfg sig (Lbs Lb Ar) where
  grid := R.grid
  W := 3
  win := R.win
  body := b
  bodyArgs t s := ba t s
  loose := R.ls
  idle := R.idle

/-- What is read off the call's tests and maps: the tests tell the first inner tile from the later ones, and the output
    block is written back at the last. -/
structure Ok : Prop where
  hJ : 0 < R.nJ
  test1 : ∀ t : Fin R.grid.N, R.c1 (R.grid.coords t) = 1#1 ↔ t.val % R.nJ = 0
  test2 : ∀ t : Fin R.grid.N, R.c2 (R.grid.coords t) = 1#1 ↔ ¬ t.val % R.nJ = 0
  live : ∀ i : R.grid.Coords, R.idle 2 i = false
  flush : ∀ t : Fin R.grid.N, R.win2.flush t = true ↔ t.val % R.nJ = R.nJ - 1

section Data

variable (p₁ : Vec F (Sh R.bm R.bk) .f32 → Vec F (Sh R.bk R.bn) .f32 → Vec F (Sh R.bm R.bn) .f32)
  (p₂ : Vec F (Sh R.bm R.bk) .f32 → Vec F (Sh R.bk R.bn) .f32 → Vec F (Sh R.bm R.bn) .f32 → Vec F (Sh R.bm R.bn) .f32)
  (b : Lb) (ba : Fin R.grid.N → ((w : Fin 3) → Fin (R.win w).nbuf) → Ar b)
  (V : (c : Dev nD) → (r : Ref sig .tc) → Buf (Elt F) ((c : Thread nD τ).loc r))

/-- The left operand's block at a point, read off its array. -/
def blk0 (c : Dev nD) (t : Fin R.grid.N) : Vec F (Sh R.bm R.bk) .f32 :=
  (R.win0.blk t).view.read (Elt F) (V c (Pipeline.arrRef (fun w => (R.win w).toWinSpec) 0))
/-- The right operand's block at a point, read off its array. -/
def blk1 (c : Dev nD) (t : Fin R.grid.N) : Vec F (Sh R.bk R.bn) .f32 :=
  fun j => (R.win1.blk t).view.read (Elt F) (V c (Pipeline.arrRef (fun w => (R.win w).toWinSpec) 1)) (R.whole1 t j)

/-- The output block after a point: the product of the blocks there at a first inner tile, and the sum onto the block
    after the point before at a later one. -/
def acc (c : Dev nD) : (n : ℕ) → n < R.grid.N → Vec F (Sh R.bm R.bn) .f32
  | 0, h => p₁ (R.blk0 V c ⟨0, h⟩) (R.blk1 V c ⟨0, h⟩)
  | n + 1, h =>
    if (n + 1) % R.nJ = 0 then p₁ (R.blk0 V c ⟨n + 1, h⟩) (R.blk1 V c ⟨n + 1, h⟩)
    else p₂ (R.blk0 V c ⟨n + 1, h⟩) (R.blk1 V c ⟨n + 1, h⟩) (acc c n (Nat.lt_of_succ_lt h))

theorem acc_first (c : Dev nD) (n : ℕ) (h : n < R.grid.N) (h0 : n % R.nJ = 0) :
    R.acc p₁ p₂ V c n h = p₁ (R.blk0 V c ⟨n, h⟩) (R.blk1 V c ⟨n, h⟩) := by
  cases n with
  | zero => rfl
  | succ n => exact if_pos h0

theorem acc_later (c : Dev nD) (n : ℕ) (h : n + 1 < R.grid.N) (h0 : ¬ (n + 1) % R.nJ = 0) :
    R.acc p₁ p₂ V c (n + 1) h
      = p₂ (R.blk0 V c ⟨n + 1, h⟩) (R.blk1 V c ⟨n + 1, h⟩) (R.acc p₁ p₂ V c n (Nat.lt_of_succ_lt h)) := if_neg h0

/-- The pipeline's proof data: the arrays as found, the operands' blocks kept, the output block `acc`. -/
def dat (c : Dev nD) : Dat τ (Elt F) Unit ℕ (UR sig nD τ) ℕ (R.cfg b ba) c where
  A w := V c (Pipeline.arrRef (fun w => (R.win w).toWinSpec) w)
  after w t := match w with
    | ⟨0, _⟩ => R.blk0 V c t
    | ⟨1, _⟩ => R.blk1 V c t
    | ⟨2, _⟩ => R.acc p₁ p₂ V c t.val t.isLt
  Φ _ := Pipeline.ΦA (fun w => (R.win w).toWinSpec) c
  q _ := fullShare
  owed _ := 0

theorem dat_A (c : Dev nD) (w : Fin 3) : (R.dat p₁ p₂ b ba V c).A w = V c (Pipeline.arrRef (fun w => (R.win w).toWinSpec) w) := rfl
theorem after0 (c : Dev nD) (t : Fin R.grid.N) : (R.dat p₁ p₂ b ba V c).after 0 t = R.blk0 V c t := rfl
theorem after1 (c : Dev nD) (t : Fin R.grid.N) : (R.dat p₁ p₂ b ba V c).after 1 t = R.blk1 V c t := rfl
theorem after2 (c : Dev nD) (t : Fin R.grid.N) : (R.dat p₁ p₂ b ba V c).after 2 t = R.acc p₁ p₂ V c t.val t.isLt := rfl

/-- The left operand's staging buffer holds its block at every point. -/
theorem before0 (c : Dev nD) (t : Fin R.grid.N) (d) : (R.dat p₁ p₂ b ba V c).before 0 t d = R.blk0 V c t :=
  ((R.dat p₁ p₂ b ba V c).before_in_eq_fetched 0 rfl (fun _ => rfl) (fun _ _ _ => rfl)
    (fun t => by rw [after0]; unfold Dat.blockOf blk0; rw [dat_A]; rfl) t d).trans
    (by unfold Dat.fetched Dat.blockOf blk0; rw [dat_A]; rfl)
/-- The right operand's staging buffer holds its block at every point. -/
theorem before1 (c : Dev nD) (t : Fin R.grid.N) (d) : (R.dat p₁ p₂ b ba V c).before 1 t d = R.blk1 V c t :=
  ((R.dat p₁ p₂ b ba V c).before_in_eq_fetched 1 rfl (fun _ => rfl)
    (fun t t' _ => funext fun a => (R.uncut1 (R.grid.coords t) a).trans (R.uncut1 (R.grid.coords t') a).symm)
    (fun t => by rw [after1]; unfold Dat.blockOf blk1; rw [dat_A]; rfl) t d).trans
    (by
      funext j
      have hm : R.win1.moved (R.grid.coords t) j = true := (R.win1.moved_iff _ j).mpr fun a => Nat.lt_of_lt_of_eq (j a).isLt (R.size1 t a).symm
      unfold Dat.fetched Window.fill
      refine (dif_pos hm).trans ?_
      unfold Dat.blockOf blk1; rw [dat_A]; rfl)
/-- At a later inner tile the output's staging buffer holds what the point before left. -/
theorem before2 (hR : R.Ok) (c : Dev nD) (n : ℕ) (h : n + 1 < R.grid.N) (h0 : ¬ (n + 1) % R.nJ = 0) (d) :
    (R.dat p₁ p₂ b ba V c).before 2 ⟨n + 1, h⟩ d = R.acc p₁ p₂ V c n (Nat.lt_of_succ_lt h) := by
  have hfl : R.win2.flush ⟨n, Nat.lt_of_succ_lt h⟩ = false := by
    rw [← Bool.not_eq_true, hR.flush]
    intro e
    apply h0
    have hJ := hR.hJ
    change n % R.nJ = R.nJ - 1 at e
    have := Nat.div_add_mod n R.nJ
    have e2 : n + 1 = R.nJ * (n / R.nJ + 1) := by rw [Nat.mul_add, Nat.mul_one]; omega
    rw [e2, Nat.mul_mod_right]
  exact ((R.dat p₁ p₂ b ba V c).before_out_kept 2 rfl ⟨n + 1, h⟩ (Nat.succ_ne_zero n) hfl hR.live (fun _ _ => rfl) d).trans
    (R.after2 p₁ p₂ b ba V c _)

/-- THE BODY at every point, for a body table whose row for the call is `Mm.body`. -/
theorem obligation (hR : R.Ok) (defs₀ : Defs nD τ sig (Elt F) (Lbs Lb Ar))
    (hrow : ∀ (t : Fin R.grid.N) (s : (w : Fin 3) → Fin (R.win w).nbuf),
      defs₀ .tc b (ba t s) = body (F := F) (nD := nD) (τ := τ) R.h0 R.h1 R.h2 (R.c1 (R.grid.coords t)) (R.c2 (R.grid.coords t)) p₁ p₂
            (R.st0 (s 0)) (R.st1 (s 1)) (R.st2 (s 2)))
    (c : Dev nD) : BodyObligation (R.dat p₁ p₂ b ba V c) defs₀ Variants.none () Set.univ := fun t => by
  have three : ∀ {M : Type} [URA M] (Φ : Fin 3 → sProp M),
      bigSep Finset.univ Φ = iprop(Φ (0 : Fin 3) ∗ Φ (1 : Fin 3) ∗ Φ (2 : Fin 3)) := fun Φ =>
    bigSep_univ_eq_bigSepL [(0 : Fin 3), (1 : Fin 3), (2 : Fin 3)] (by decide) (by decide) Φ
  rw [three, three]
  change _ ⊢ wp frame _ _ (defs₀ .tc b (ba t ((R.cfg b ba).slots t))) _
  rw [hrow]
  have hpre : ∀ d, (R.dat p₁ p₂ b ba V c).before 0 t d = R.blk0 V c t := R.before0 p₁ p₂ b ba V c t
  have hpre1 : ∀ d, (R.dat p₁ p₂ b ba V c).before 1 t d = R.blk1 V c t := R.before1 p₁ p₂ b ba V c t
  have hlive : (R.cfg b ba).idle 2 ((R.cfg b ba).grid.coords t) = false := hR.live _
  simp only [hR.live]
  change iprop((R.dat p₁ p₂ b ba V c).Φ t.castSucc ∗ (R.dat p₁ p₂ b ba V c).owesAt () t.castSucc
    ∗ (∃ d, owns (c : Thread nD τ) (R.st0 ((R.cfg b ba).slots t 0)) fullShare ((R.dat p₁ p₂ b ba V c).before 0 t d))
    ∗ (∃ d, owns (c : Thread nD τ) (R.st1 ((R.cfg b ba).slots t 1)) fullShare ((R.dat p₁ p₂ b ba V c).before 1 t d))
    ∗ (∃ d, owns (c : Thread nD τ) (R.st2 ((R.cfg b ba).slots t 2)) fullShare ((R.dat p₁ p₂ b ba V c).before 2 t d)))
    ⊢ wp frame _ _ _ fun _ => iprop((R.dat p₁ p₂ b ba V c).Φ t.castSucc ∗ (R.dat p₁ p₂ b ba V c).owesAt () t.castSucc
    ∗ owns (c : Thread nD τ) (R.st0 ((R.cfg b ba).slots t 0)) fullShare (R.blk0 V c t)
    ∗ owns (c : Thread nD τ) (R.st1 ((R.cfg b ba).slots t 1)) fullShare (R.blk1 V c t)
    ∗ owns (c : Thread nD τ) (R.st2 ((R.cfg b ba).slots t 2)) fullShare (R.acc p₁ p₂ V c t.val t.isLt))
  simp only [hpre, hpre1]
  by_cases h0 : t.val % R.nJ = 0
  · rw [R.acc_first p₁ p₂ V c t.val t.isLt h0]
    iintro ⟨HΦ, Ho, ⟨%d0, H0⟩, ⟨%d1, H1⟩, ⟨%d2, H2⟩⟩
    iapply (body_first defs₀ c Set.univ R.h0 R.h1 R.h2 p₁ p₂ _ _ _ (R.blk0 V c t) (R.blk1 V c t) _
      ((hR.test1 t).2 h0) (fun e => (hR.test2 t).1 e h0) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · obtain ⟨n, hn⟩ : ∃ n, t.val = n + 1 := Nat.exists_eq_succ_of_ne_zero fun e => h0 (by rw [e, Nat.zero_mod])
    obtain ⟨t, ht⟩ := t
    obtain rfl : t = n + 1 := hn
    rw [R.acc_later p₁ p₂ V c n ht h0]
    simp only [R.before2 p₁ p₂ b ba V hR c n ht h0]
    iintro ⟨HΦ, Ho, ⟨%d0, H0⟩, ⟨%d1, H1⟩, ⟨%d2, H2⟩⟩
    iapply (body_later defs₀ c Set.univ R.h0 R.h1 R.h2 p₁ p₂ _ _ _ (R.blk0 V c ⟨n + 1, ht⟩) (R.blk1 V c ⟨n + 1, ht⟩) _
      (fun e => h0 ((hR.test1 ⟨n + 1, ht⟩).1 e)) ((hR.test2 ⟨n + 1, ht⟩).2 h0) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Data
end Call

end Mm

end
-- ==== Proof.Chain.lean ====
module

public import proofs.«01_k».proof.Proof.Mm

/-!
# A program of tiled matrix products among stretches of host operations

The buffers' contents are folded through the program's items: a stretch of host operations leaves
`StableHlo.after` of them, a product leaves its three arrays at what its pipeline writes back.  `run` is the launch:
every execution terminates with every unscoped buffer at the fold's last contents and every semaphore at zero.
-/

@[expose] public section

noncomputable section

namespace Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One product of a program: the call, its body's label and arguments, and the two values its body stores. -/
structure Row (F : FTy → Type) (sig : RefSig) (Lb : Type) (Ar : Lb → Type) where
  R : Call sig
  b : Lb
  ba : Fin R.grid.N → ((w : Fin 3) → Fin (R.win w).nbuf) → Ar b
  p₁ : Vec F (Sh R.bm R.bk) .f32 → Vec F (Sh R.bk R.bn) .f32 → Vec F (Sh R.bm R.bn) .f32
  p₂ : Vec F (Sh R.bm R.bk) .f32 → Vec F (Sh R.bk R.bn) .f32 → Vec F (Sh R.bm R.bn) .f32 → Vec F (Sh R.bm R.bn) .f32

variable {F : FTy → Type} [FloatOps F] {nD : Nat} {τ : Topo} {sig : RefSig} {Lb : Type} {Ar : Lb → Type} {n : ℕ}

local notation "𝕄" => MT nD τ sig Unit (Elt F) ℕ (UR sig nD τ) ℕ

/-- The product's pipeline. -/
abbrev Row.cfg (r : Row F sig Lb Ar) : Cfg sig (Lbs Lb Ar) := r.R.cfg r.b r.ba
/-- Its windows' arrays and staging buffers. -/
abbrev Row.spec (r : Row F sig Lb Ar) : Fin 3 → Pipeline.WinSpec sig r.R.grid.rank := fun w => (r.R.win w).toWinSpec
/-- Its proof data at the contents `W` it is entered from. -/
abbrev Row.dat (r : Row F sig Lb Ar) (W : Dev nD → Valuation τ sig (Elt F)) (c : Dev nD) :
    Dat τ (Elt F) Unit ℕ (UR sig nD τ) ℕ r.cfg c :=
  r.R.dat r.p₁ r.p₂ r.b r.ba (fun c b => W c b) c

/-- The pipelines of a table of products. -/
abbrev cfgOf (rows : Fin n → Row F sig Lb Ar) : Fin n → Cfg sig (Lbs Lb Ar) := fun p => (rows p).cfg
/-- The same, with no prefetched table. -/
abbrev pcf (cfgs : Fin n → Cfg sig (Lbs Lb Ar)) : Fin n → Pipeline.PCfg sig (Lbs Lb Ar) (Elt F) := fun p => (cfgs p).toPCfg

/-- An item of a program: a stretch of host operations, or the product of a table's row. -/
inductive Item (F : FTy → Type) (τ : Topo) (sig : RefSig) (n : ℕ) where
  | ops (l : List (HloOp τ sig (Elt F)))
  | call (p : Fin n)

/-- The row an item calls. -/
def Item.call? : Item F τ sig n → Option (Fin n)
  | .ops _ => none
  | .call p => some p
/-- The item's fragment of the program. -/
def Item.prog (cfgs : Fin n → Cfg sig (Lbs Lb Ar)) : Item F τ sig n →
    Prog (TpuEff nD τ sig (Elt F) (Pipeline.Sig (Lbs Lb Ar) (Fin n) fun p => (pcf (F := F) cfgs p).Adm) .tc) PUnit
  | .ops l => StableHlo.seq l
  | .call p => Prog.lift (.customCall (Pipeline.entry p) ())
/-- What is asked of a stretch of host operations: they touch the core's own buffers and allocate none. -/
def Item.Ok : Item F τ sig n → Prop
  | .ops l => (l.Forall fun op => op.bufs ⊆ StableHlo.tcRefs τ sig) ∧ l.Forall fun op => op.fresh = ∅
  | .call _ => True

section Fold
variable (rows : Fin n → Row F sig Lb Ar)

/-- The contents after a product entered at `W`. -/
def Row.out (r : Row F sig Lb Ar) (W : Dev nD → Valuation τ sig (Elt F)) : Dev nD → Valuation τ sig (Elt F) := fun c =>
  Pipeline.withArrays r.spec c (W c) fun w => (r.dat W c).arrAt w r.cfg.N
/-- The contents after an item. -/
def step (W : Dev nD → Valuation τ sig (Elt F)) : Item F τ sig n → Dev nD → Valuation τ sig (Elt F)
  | .ops l => fun c => StableHlo.after l (W c)
  | .call p => (rows p).out W
/-- The contents after a list of items. -/
def fold : (Dev nD → Valuation τ sig (Elt F)) → List (Item F τ sig n) → Dev nD → Valuation τ sig (Elt F)
  | W, [] => W
  | W, i :: l => fold (step rows W i) l
/-- The contents a row's product is entered from. -/
def entry : (Dev nD → Valuation τ sig (Elt F)) → List (Item F τ sig n) → Fin n → Dev nD → Valuation τ sig (Elt F)
  | W, [], _ => W
  | W, .ops l :: t, p => entry (step rows W (.ops l)) t p
  | W, .call q :: t, p => if q = p then W else entry (step rows W (.call q)) t p

end Fold

/-- What rides beside the buffers: the generator register at some state, and the core owing nothing. -/
abbrev Rest (c : Dev nD) : sProp 𝕄 := iprop((∃ r, prngReg c r) ∗ ∃ W, owes (c : Thread nD τ) (0 : CellTallies nD τ sig Unit) W)
/-- The thread state at a boundary: every unscoped buffer at the contents `W`, and what rides along. -/
abbrev Held (W : Dev nD → Valuation τ sig (Elt F)) (c : Dev nD) : sProp 𝕄 :=
  iprop(StableHlo.held (c : Thread nD τ) (Pipeline.ucRefs τ sig) (W c) ∗ Rest c)

abbrev noLevels : GSem nD τ sig → Finset Unit := fun _ => ∅
abbrev level0 : GSem nD τ sig → Unit → ℕ := fun _ _ => 0

section Segments
variable (rows : Fin n → Row F sig Lb Ar) (defs₀ : Defs nD τ sig (Elt F) (Lbs Lb Ar)) (E : Fin n → Dev nD → Valuation τ sig (Elt F))

/-- Every product's proof data, at the contents `E` it is entered from. -/
abbrev dats : (p : Fin n) → (c : Dev nD) → Dat τ (Elt F) Unit ℕ (UR sig nD τ) ℕ (Pipeline.pin (pcf (F := F) (cfgOf rows)) (fun p => (cfgOf rows p).toPCfg_adm) p) c :=
  fun p c => (rows p).dat (E p) c

/-- A row's facts: its windows laid out for the launch, its tests, and the body its label names. -/
structure Row.Ok (cfgs : Fin n → Cfg sig (Lbs Lb Ar)) (p : Fin n) : Prop where
  launch : Pipeline.LaunchFacts (nD := nD) (τ := τ) cfgs p
  call : (rows p).R.Ok
  row : ∀ (t : Fin (rows p).R.grid.N) (s : (w : Fin 3) → Fin ((rows p).R.win w).nbuf),
    defs₀ .tc (rows p).b ((rows p).ba t s) = body (F := F) (nD := nD) (τ := τ) (rows p).R.h0 (rows p).R.h1 (rows p).R.h2
      ((rows p).R.c1 ((rows p).R.grid.coords t)) ((rows p).R.c2 ((rows p).R.grid.coords t)) (rows p).p₁ (rows p).p₂
      ((rows p).R.st0 (s 0)) ((rows p).R.st1 (s 1)) ((rows p).R.st2 (s 2))

theorem out_arr (r : Row F sig Lb Ar) (hi : Function.Injective (Pipeline.arrRef r.spec)) (W : Dev nD → Valuation τ sig (Elt F)) (c : Dev nD) (w : Fin 3) :
    r.out W c (Proc.devRef .tc (Pipeline.arrRef r.spec w)) = (r.dat W c).arrAt w r.cfg.N := by
  unfold Row.out; exact Pipeline.withArrays_arr r.spec hi c _ _ w
theorem out_of_ne (r : Row F sig Lb Ar) (W : Dev nD → Valuation τ sig (Elt F)) (c : Dev nD) (b : Ref sig .tc) (hb : ∀ w, Pipeline.arrRef r.spec w ≠ b) :
    r.out W c (Proc.devRef .tc b) = W c (Proc.devRef .tc b) := by
  unfold Row.out; exact Pipeline.withArrays_of_ne r.spec c _ _ b hb

-- the library's lemmas are stated over a pinned configuration, which unification has to unfold
set_option backward.isDefEq.respectTransparency.types false in
/-- A product as a segment: entered from every unscoped buffer at `W`, left at `Row.out`. -/
def region (p : Fin n) (hp : Row.Ok (τ := τ) rows defs₀ (cfgOf rows) p) (W : Dev nD → Valuation τ sig (Elt F)) (hE : E p = W) :
    Pipeline.RegionSeg (pcf (F := F) (cfgOf rows)) (fun p => (cfgOf rows p).toPCfg_adm) (dats rows E) () defs₀ Variants.none noLevels level0 p where
  win := hp.launch.win.to₀
  block_pos := hp.launch.block_pos
  stage_whole := hp.launch.stage_whole
  K := PEmpty
  osem k := k.elim
  ho := Pipeline.OwnSemFacts.none _
  hbody c := ((rows p).R.obligation (rows p).p₁ (rows p).p₂ (rows p).b (rows p).ba _ hp.call defs₀ hp.row c).loose
  hwaits := Pipeline.hwaits_of_owed_zero _ _ _ _ noLevels level0 p fun _ _ => rfl
  pre := Held W
  post := Held ((rows p).out W)
  X c := iprop(∃ r, prngReg c r)
  Y c := iprop(∃ r, prngReg c r)
  Z c := Pipeline.unscopedRest (Ix := Unit) (Name := ℕ) (U := UR sig nD τ) (Lvl := ℕ) (rows p).spec c (fun b => W c b)
  hentry c := by
    rw [Pipeline.ownSems0_none]
    have hsplit := Pipeline.arrays_of_unscopedBufs (p := p) (pcf (F := F) (cfgOf rows)) (fun p => (cfgOf rows p).toPCfg_adm) (dats rows E) hp.launch.win hp.launch.arr_whole c
      ((dats rows E p c).share_full fun _ => rfl) (fun b => W c b) (fun w => by rw [← hE]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats rows E p c).Φ 0 = Pipeline.ΦA (rows p).spec c from rfl]; unfold Pipeline.ΦA
    iintro ⟨Hp, -, Hr⟩
    isplitl [Hr]; · iexact Hr
    iexact Hp
  hout c := by
    rw [Pipeline.ownSems0_none, show (dats rows E p c).Φ (Fin.last _) = Pipeline.ΦA (rows p).spec c from rfl]; unfold Pipeline.ΦA
    iintro ⟨Hr, Hp⟩
    isplitl [Hp]; · iexact Hp
    isplitr; · iempintro
    iexact Hr
  hexit c := by
    have hjoin := Pipeline.unscopedBufs_of_arrays (p := p) (pcf (F := F) (cfgOf rows)) (fun p => (cfgOf rows p).toPCfg_adm) (Ix := Unit) (Name := ℕ) (U := UR sig nD τ) (Lvl := ℕ)
      hp.launch.win hp.launch.arr_whole c (dats rows E) ((dats rows E p c).share_full fun _ => rfl)
      (fun b => W c b) (fun b => (rows p).out W c b) ((dats rows E p c).arrAt · (rows p).cfg.N)
      (fun w => by rw [← hE]; exact (out_arr (rows p) hp.launch.win.arr_inj (E p) c w).symm)
      (fun b hb => out_of_ne (rows p) W c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A program's items as segments, from the contents `W`. -/
def segs (hp : ∀ p, Row.Ok (τ := τ) rows defs₀ (cfgOf rows) p) : (l : List (Item F τ sig n)) → (W : Dev nD → Valuation τ sig (Elt F)) →
    (∀ i ∈ l, i.Ok) → (l.filterMap Item.call?).Nodup → (∀ p ∈ l.filterMap Item.call?, E p = entry rows W l p) →
    List (Pipeline.Seg (pcf (F := F) (cfgOf rows)) (fun p => (cfgOf rows p).toPCfg_adm) (dats rows E) () defs₀ Variants.none noLevels level0)
  | [], _, _, _, _ => []
  | .ops o :: t, W, hok, hnd, hE =>
    .host (Pipeline.HostSeg.ofOps _ _ _ _ _ (Pipeline.ucRefs τ sig) o
      (fun op h => Pipeline.sub_ucRefs op (List.forall_iff_forall_mem.mp (hok (.ops o) List.mem_cons_self).1 op h))
      (fun op h => List.forall_iff_forall_mem.mp (hok (.ops o) List.mem_cons_self).2 op h) W Rest)
    :: segs hp t (step rows W (.ops o)) (fun i hi => hok i (List.mem_cons_of_mem _ hi)) hnd hE
  | .call q :: t, W, hok, hnd, hE =>
    .region (region rows defs₀ E q (hp q) W ((hE q List.mem_cons_self).trans (if_pos rfl)))
    :: segs hp t (step rows W (.call q)) (fun i hi => hok i (List.mem_cons_of_mem _ hi)) (List.nodup_cons.mp hnd).2
      (fun p hm => (hE p (List.mem_cons_of_mem _ hm)).trans (if_neg fun e : q = p => (List.nodup_cons.mp hnd).1 (e ▸ hm)))

variable (hp : ∀ p, Row.Ok (τ := τ) rows defs₀ (cfgOf rows) p)

/-- The segments' fragments are the items'. -/
theorem segs_prog : ∀ (l : List (Item F τ sig n)) (W : Dev nD → Valuation τ sig (Elt F)) (h1) (h2) (h3),
    (segs rows defs₀ E hp l W h1 h2 h3).map Pipeline.Seg.prog = l.map (Item.prog (cfgOf rows))
  | [], _, _, _, _ => rfl
  | .ops o :: t, W, h1, h2, h3 => congrArg (_ :: ·) (segs_prog t _ _ _ _)
  | .call q :: t, W, h1, h2, h3 => congrArg (_ :: ·) (segs_prog t _ _ _ _)
/-- The segments call the items' rows. -/
theorem segs_pipes : ∀ (l : List (Item F τ sig n)) (W : Dev nD → Valuation τ sig (Elt F)) (h1) (h2) (h3),
    Pipeline.Seg.pipes (segs rows defs₀ E hp l W h1 h2 h3) = l.filterMap Item.call?
  | [], _, _, _, _ => rfl
  | .ops o :: t, W, h1, h2, h3 => segs_pipes t _ _ _ _
  | .call q :: t, W, h1, h2, h3 => congrArg (q :: ·) (segs_pipes t _ _ _ _)
/-- The thread states chain from the first contents to the fold's last. -/
theorem segs_chain (T : Dev nD → sProp 𝕄) : ∀ (l : List (Item F τ sig n)) (W : Dev nD → Valuation τ sig (Elt F)) (h1) (h2) (h3),
    (∀ c, Held (fold rows W l) c ⊢ T c) → Pipeline.Seg.Chains (Held W) (segs rows defs₀ E hp l W h1 h2 h3) T
  | [], _, _, _, _, h => h
  | .ops o :: t, W, h1, h2, h3, h => ⟨fun _ => .rfl, segs_chain T t _ _ _ _ h⟩
  | .call q :: t, W, h1, h2, h3, h => ⟨fun _ => .rfl, segs_chain T t _ _ _ _ h⟩

end Segments

section Launch
variable (rows : Fin n → Row F sig Lb Ar) (defs₀ : Defs nD τ sig (Elt F) (Lbs Lb Ar))
  (items : List (Item F τ sig n)) (m : (ℓ : Loc nD τ sig) → Buf (Elt F) ℓ) (ρ : Dev nD → PrngReg)

/-- The buffers at launch. -/
abbrev launched : Dev nD → Valuation τ sig (Elt F) := fun c b => m (c, b)

-- the kit's implicit arguments are found by unfolding definitions in a metavariable's type
set_option backward.isDefEq.respectTransparency.types false in
theorem run_rows (hp : ∀ p, Row.Ok (τ := τ) rows defs₀ (cfgOf rows) p) (hok : ∀ i ∈ items, i.Ok)
    (hnd : (items.filterMap Item.call?).Nodup) (hinj : Function.Injective (cellOf (nD := nD) (τ := τ) (cfgOf rows)))
    (hsem : ∀ sm : SemLoc sig, sm.isScoped .tc = true)
    (main : Dev nD → Prog (TpuEff nD τ sig (Elt F) (Pipeline.Sig (Lbs Lb Ar) (Fin n) fun p => (pcf (F := F) (cfgOf rows) p).Adm) .tc) PUnit)
    (hmain : ∀ c, main c = Pipeline.chain (items.map (Item.prog (cfgOf rows)))) :
    θ_run (Pipeline.defs (pcf (F := F) (cfgOf rows)) defs₀) (onTc (τ := τ) main) ⟨m, fun _ => 0, ρ⟩ (fun r =>
      (∀ c : Dev nD, ∀ b ∈ Pipeline.ucRefs τ sig, r.2.mem (c, b) = fold rows (launched m) items c b) ∧ r.2.sem = fun _ => 0) :=
  Pipeline.θ_run_regions_kit_sems (pcf (F := F) (cfgOf rows)) (fun p => (cfgOf rows p).toPCfg_adm)
    (dats rows (entry rows (launched m) items)) () hinj emb₁ defs₀ Variants.none noLevels level0 m ρ main
    (segs rows defs₀ (entry rows (launched m) items) hp items (launched m) hok hnd (fun _ _ => rfl))
    (fun c Q => by rw [Pipeline.Seg.run_eq_chain, segs_prog, hmain])
    (by rw [segs_pipes]; exact hnd)
    (O₀ := 0) (hL := fun _ _ => rfl) (G := fun _ => iprop(emp))
    (u₀ := initOf (Pipeline.cells (cfgOf rows) hinj) (Pipeline.launchToks (cfgOf rows) hinj))
    (hu₀ := by
      iintro Hu; imodintro
      isplitl [Hu]
      · iapply (show (ownU (initOf (Pipeline.cells (cfgOf rows) hinj) (Pipeline.launchToks (cfgOf rows) hinj)) : sProp 𝕄)
            ⊢ BI.own (emb₁ (initOf (Pipeline.cells (cfgOf rows) hinj) (Pipeline.launchToks (cfgOf rows) hinj))) from .rfl)
        iexact Hu
      iapply (show (BI.emp : sProp 𝕄) ⊢ bigSep Finset.univ (fun _ : Dev nD => (BI.emp : sProp 𝕄)) from by rw [BI.bigSep_emp_const])
      iempintro)
    (T₀ := Held (launched m))
    (Tₙ := fun c => iprop(StableHlo.held (c : Thread nD τ) (Pipeline.ucRefs τ sig) (fold rows (launched m) items c) ∗ ∃ r, prngReg c r))
    (hch := segs_chain rows defs₀ _ hp _ items _ hok hnd _ fun c => by
      iintro ⟨Hh, Hp, HO⟩
      isplitl [Hh Hp]; · isplitl [Hh]; · iexact Hh
                         iexact Hp
      iexact HO)
    (hinit := by
      refine Pipeline.initEach noLevels level0 fun c => ?_
      rw [show unscopedBufs c (fun b => m ((c : Thread nD τ).loc b)) = StableHlo.held (c : Thread nD τ) (Pipeline.ucRefs τ sig) (launched m c)
        from Pipeline.unscopedBufs_held c (launched m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = fold rows (launched m) items c b)
    (hfin := fun c s' => by
      iintro ⟨⟨Hh, -⟩, HSI⟩
      unfold StableHlo.held
      imodintro
      iapply (pointsTo_read_all (Pipeline.ucRefs τ sig) (fun b => (((c : Thread nD τ)).1, b)) (fold rows (launched m) items c) s')
      isplitl [Hh] <;> iassumption)
    (hQ := fun s h hz => ⟨fun c => h c, funext fun g => hz g (.inr (hsem g.2))⟩)

/-- THE RUN of a program whose pipelines are a table's products and whose @main is the chain of the items. -/
theorem run (cfgs : Fin n → Cfg sig (Lbs Lb Ar)) (hc : cfgs = cfgOf rows)
    (hp : ∀ p, Row.Ok (τ := τ) rows defs₀ cfgs p) (hok : ∀ i ∈ items, i.Ok)
    (hnd : (items.filterMap Item.call?).Nodup) (hinj : Function.Injective (cellOf (nD := nD) (τ := τ) cfgs))
    (hsem : ∀ sm : SemLoc sig, sm.isScoped .tc = true)
    (main : Dev nD → Prog (TpuEff nD τ sig (Elt F) (Pipeline.Sig (Lbs Lb Ar) (Fin n) fun p => (pcf (F := F) cfgs p).Adm) .tc) PUnit)
    (hmain : ∀ c, main c = Pipeline.chain (items.map (Item.prog cfgs))) :
    θ_run (Pipeline.defs (pcf (F := F) cfgs) defs₀) (onTc (τ := τ) main) ⟨m, fun _ => 0, ρ⟩ (fun r =>
      (∀ c : Dev nD, ∀ b ∈ Pipeline.ucRefs τ sig, r.2.mem (c, b) = fold rows (launched m) items c b) ∧ r.2.sem = fun _ => 0) := by
  subst hc
  exact run_rows rows defs₀ items m ρ hp hok hnd hinj hsem main hmain

end Launch
end Mm
end
-- ==== Proof.MmValue.lean ====
module

public import proofs.«01_k».proof.Proof.Chain
public import Idealize.ShloMosaic.Lib.MatmulPlain
public import Idealize.ShloMosaic.Lib.KernelVsHost
public import Idealize.ShloMosaic.Lib.Pipeline.ValueKit.Geometry
public import Idealize.ShloMosaic.Lib.Pipeline.ValueKit.Acc

/-!
# What a tiled matrix product leaves, over the extended reals

The output array of a product whose tiles are laid out by the grid (row tile, column tile, inner tile) ends holding
the plain product of the two operands' arrays, and the operands' arrays keep what they held.
-/

@[expose] public section

noncomputable section

namespace Mm

open Idealize.ShloMosaic Idealize.ShloMosaic.TcCoe Idealize.ShloMosaic.ValueIdx
open Idealize.SL Idealize.SL.RA Idealize.SL.Sem
open Idealize.ShloMosaic.Pipeline (Dat Cfg Window)
open scoped BigOperators

/-- A matrix read at two natural coordinates: zero outside its extents. -/
def at2 {a b : ℕ} (X : (Sh a b).Idx → EReal) (i j : ℕ) : EReal := if h : i < a ∧ j < b then X (ix2 ⟨i, h.1⟩ ⟨j, h.2⟩) else 0

theorem at2_of {a b : ℕ} (X : (Sh a b).Idx → EReal) (i : (Sh a b).Idx) (p q : ℕ) (hp : (i 0 : ℕ) = p) (hq : (i 1 : ℕ) = q) : at2 X p q = X i := by
  subst hp hq
  have h0 : (i 0 : ℕ) < a := (i 0).isLt
  have h1 : (i 1 : ℕ) < b := (i 1).isLt
  unfold at2; rw [dif_pos ⟨h0, h1⟩]
  refine congrArg X ?_
  funext k; apply Fin.ext
  match k with
  | ⟨0, _⟩ => rfl
  | ⟨1, _⟩ => rfl

/-- The plain matrix product. -/
def mm {M K N : ℕ} (X : (Sh M K).Idx → EReal) (Y : (Sh K N).Idx → EReal) : (Sh M N).Idx → EReal := fun i =>
  ∑ k ∈ Finset.range K, at2 X (i 0) k * at2 Y k (i 1)

/-- The first columns of a matrix. -/
def cols {K W N : ℕ} (Y : (Sh K W).Idx → EReal) : (Sh K N).Idx → EReal := fun i => at2 Y (i 0) (i 1)

theorem at2_cols {K W N : ℕ} (Y : (Sh K W).Idx → EReal) (k j : ℕ) (hj : j < N) : at2 (cols Y : (Sh K N).Idx → EReal) k j = at2 Y k j := by
  by_cases hk : k < K
  · exact at2_of (cols Y : (Sh K N).Idx → EReal) (ix2 ⟨k, hk⟩ ⟨j, hj⟩) k j rfl rfl
  · unfold at2; rw [dif_neg fun h => hk h.1, dif_neg fun h => hk h.1]

/-- The kernel's product of two blocks, started from zero, is the plain product. -/
theorem matmul_plain_eq_mm {M K N : ℕ} {φ₁ φ₂ : FTy} (prec : Option ContractPrecision)
    (X : FVec Ideal (Sh M K) φ₁) (Y : FVec Ideal (Sh K N) φ₂) :
    FloatOps.matmul (DotDims.plain M K N) prec X Y (constant (Sh M N) .f32 0x00000000#32) = mm X Y := by
  have key : ∀ (r : Fin M) (c : Fin N), FloatOps.matmul (DotDims.plain M K N) prec X Y (constant (Sh M N) .f32 0x00000000#32) (ix2 r c)
      = mm X Y (ix2 r c) := fun r c => by
    refine (Ideal.matmul_plain_apply prec X Y _ r c).trans ?_
    have h0 : (constant (F := Ideal) (Sh M N) .f32 0x00000000#32) (ix2 r c) = (0 : EReal) := Ideal.ofBits_zero_f32
    rw [h0, zero_add]
    unfold mm
    rw [Finset.sum_range]
    refine Finset.sum_congr rfl fun k _ => ?_
    exact congrArg₂ (· * ·) (at2_of X (ix2 r k) _ _ rfl rfl).symm (at2_of Y (ix2 k c) _ _ rfl rfl).symm
  funext i
  have hi : i = (ix2 ⟨(i 0).val, (i 0).isLt⟩ ⟨(i 1).val, (i 1).isLt⟩ : (Sh M N).Idx) := by
    funext k; apply Fin.ext
    match k with
    | ⟨0, _⟩ => rfl
    | ⟨1, _⟩ => rfl
  rw [hi]; exact key _ _

/-- The host's product is the plain product. -/
theorem dotGeneral_plain_eq_mm {M K N : ℕ} {φ₁ φ₂ : FTy} (prec : Option ContractPrecision)
    (X : FVec Ideal (Sh M K) φ₁) (Y : FVec Ideal (Sh K N) φ₂) :
    Host.dotGeneral (DotDims.plain M K N) prec X Y = mm X Y :=
  (matmul_zero_eq_dotGeneral (DotDims.plain M K N) prec X Y).symm.trans (matmul_plain_eq_mm prec X Y)

/-- A sum over tiles of a sum over a tile is the sum over all. -/
theorem sum_tiles {α : Type} [AddCommMonoid α] (f : ℕ → α) (b : ℕ) : ∀ J : ℕ,
    ∑ j ∈ Finset.range J, ∑ q ∈ Finset.range b, f (j * b + q) = ∑ k ∈ Finset.range (J * b), f k
  | 0 => by rw [Nat.zero_mul]; rfl
  | J + 1 => by rw [Finset.sum_range_succ, sum_tiles f b J, Nat.succ_mul, Finset.sum_range_add]

variable {nD : Nat} {τ : Topo} {sig : RefSig} {Lb : Type} {Ar : Lb → Type} {n : ℕ}

/-- A call's tiles: the operands' and the output's block indices at the grid's coordinates, and the tiles' extents. -/
structure Call.Tiles (R : Call sig) : Prop where
  hK : R.nJ * R.bk = R.K
  at0 : ∀ t : Fin R.grid.N, R.ix0 (R.grid.coords t) 0 = t.val / (R.nJ * R.nN) ∧ R.ix0 (R.grid.coords t) 1 = t.val % R.nJ
  at1 : ∀ t : Fin R.grid.N, R.ix1 (R.grid.coords t) 0 = t.val % R.nJ ∧ R.ix1 (R.grid.coords t) 1 = t.val / R.nJ % R.nN
  at2 : ∀ t : Fin R.grid.N, R.ix2 (R.grid.coords t) 0 = t.val / (R.nJ * R.nN) ∧ R.ix2 (R.grid.coords t) 1 = t.val / R.nJ % R.nN
  cover : R.win2.Covers

section Value
variable (R : Call sig)
  (V : (c : Dev nD) → (r : Ref sig .tc) → Buf (Elt Ideal) ((c : Thread nD τ).loc r))

/-- The left operand. -/
def Call.X (c : Dev nD) : (Sh R.M R.K).Idx → EReal := R.x.view.read (Elt Ideal) (V c (Pipeline.arrRef (fun w => (R.win w).toWinSpec) 0))
/-- The right operand. -/
def Call.Y (c : Dev nD) : (Sh R.K R.W).Idx → EReal := R.w.view.read (Elt Ideal) (V c (Pipeline.arrRef (fun w => (R.win w).toWinSpec) 1))

variable (hT : R.Tiles)
include hT

theorem Call.blk0_at (c : Dev nD) (t : Fin R.grid.N) (i q : ℕ) (hi : i < R.bm) (hq : q < R.bk) :
    at2 (R.blk0 V c t) i q = at2 (R.X V c) (t.val / (R.nJ * R.nN) * R.bm + i) (t.val % R.nJ * R.bk + q) := by
  rw [at2_of (R.blk0 V c t) (ValueIdx.ix2 ⟨i, hi⟩ ⟨q, hq⟩) i q rfl rfl]
  refine Eq.symm (at2_of (R.X V c) ((R.win0.rect t).emb (ValueIdx.ix2 ⟨i, hi⟩ ⟨q, hq⟩)) _ _ ?_ ?_)
  · rw [← (hT.at0 t).1]; exact R.win0.rect_emb_val t _ 0
  · rw [← (hT.at0 t).2]; exact R.win0.rect_emb_val t _ 1

theorem Call.blk1_at (c : Dev nD) (t : Fin R.grid.N) (q j : ℕ) (hq : q < R.bk) (hj : j < R.bn) :
    at2 (R.blk1 V c t) q j = at2 (R.Y V c) (t.val % R.nJ * R.bk + q) (t.val / R.nJ % R.nN * R.bn + j) := by
  rw [at2_of (R.blk1 V c t) (ValueIdx.ix2 ⟨q, hq⟩ ⟨j, hj⟩) q j rfl rfl]
  refine Eq.symm (at2_of (R.Y V c) ((R.win1.rect t).emb (R.whole1 t (ValueIdx.ix2 ⟨q, hq⟩ ⟨j, hj⟩))) _ _ ?_ ?_)
  · rw [← (hT.at1 t).1]; exact R.win1.rect_emb_val t _ 0
  · rw [← (hT.at1 t).2]; exact R.win1.rect_emb_val t _ 1

variable (p₁ : Vec Ideal (Sh R.bm R.bk) .f32 → Vec Ideal (Sh R.bk R.bn) .f32 → Vec Ideal (Sh R.bm R.bn) .f32)
  (p₂ : Vec Ideal (Sh R.bm R.bk) .f32 → Vec Ideal (Sh R.bk R.bn) .f32 → Vec Ideal (Sh R.bm R.bn) .f32 → Vec Ideal (Sh R.bm R.bn) .f32)
  (h₁ : ∀ l r, p₁ l r = mm l r) (h₂ : ∀ l r o i, p₂ l r o i = o i + mm l r i) (hJ : 0 < R.nJ)
include h₁ h₂ hJ

/-- The output block at the last inner tile is its part of the whole product. -/
theorem Call.acc_last (c : Dev nD) (t : Fin R.grid.N) (ht : t.val % R.nJ = R.nJ - 1) (i : (Sh R.bm R.bn).Idx) :
    R.acc p₁ p₂ V c t.val t.isLt i
      = ∑ k ∈ Finset.range R.K, at2 (R.X V c) (t.val / (R.nJ * R.nN) * R.bm + (i 0 : ℕ)) k
          * at2 (R.Y V c) k (t.val / R.nJ % R.nN * R.bn + (i 1 : ℕ)) := by
  have h0 : (i 0 : ℕ) < R.bm := (i 0).isLt
  have h1 : (i 1 : ℕ) < R.bn := (i 1).isLt
  have hmm : ∀ t : Fin R.grid.N, ∀ i : (Sh R.bm R.bn).Idx, mm (R.blk0 V c t) (R.blk1 V c t) i
      = ∑ q ∈ Finset.range R.bk, at2 (R.X V c) (t.val / R.nJ / R.nN * R.bm + (i 0 : ℕ)) (t.val % R.nJ * R.bk + q)
          * at2 (R.Y V c) (t.val % R.nJ * R.bk + q) (t.val / R.nJ % R.nN * R.bn + (i 1 : ℕ)) := fun t i => by
    unfold mm
    refine Finset.sum_congr rfl fun q hq => ?_
    rw [R.blk0_at V hT c t _ _ (i 0).isLt (Finset.mem_range.mp hq), R.blk1_at V hT c t _ _ (Finset.mem_range.mp hq) (i 1).isLt,
      Nat.div_div_eq_div_mul]
  have key := Pipeline.eq_sum_of_reset_step_apply_divmod (fun n h => R.acc p₁ p₂ V c n h) R.nJ (fun _ => (0 : EReal))
    (fun p k i => ∑ q ∈ Finset.range R.bk, at2 (R.X V c) (p / R.nN * R.bm + (i 0 : ℕ)) (k * R.bk + q)
          * at2 (R.Y V c) (k * R.bk + q) (p % R.nN * R.bn + (i 1 : ℕ)))
    (fun t h0 i => by
      show R.acc p₁ p₂ V c t.val t.isLt i = _
      rw [R.acc_first p₁ p₂ V c t.val t.isLt h0, h₁, zero_add]; exact hmm t i)
    (fun t h0 i => by
      obtain ⟨n, hn⟩ : ∃ n, t.val = n + 1 := Nat.exists_eq_succ_of_ne_zero fun e => h0 (by rw [e, Nat.zero_mod])
      obtain ⟨t, ht⟩ := t
      obtain rfl : t = n + 1 := hn
      show R.acc p₁ p₂ V c (n + 1) ht i = R.acc p₁ p₂ V c n _ i + _
      rw [R.acc_later p₁ p₂ V c n ht h0, h₂]
      exact congrArg (_ + ·) (hmm ⟨n + 1, ht⟩ i))
    t i
  refine key.trans ?_
  rw [zero_add, ht, Nat.sub_add_cancel hJ, sum_tiles (fun k => at2 (R.X V c) (t.val / R.nJ / R.nN * R.bm + (i 0 : ℕ)) k
          * at2 (R.Y V c) k (t.val / R.nJ % R.nN * R.bn + (i 1 : ℕ))), hT.hK, Nat.div_div_eq_div_mul]

variable (b : Lb) (ba : Fin R.grid.N → ((w : Fin 3) → Fin (R.win w).nbuf) → Ar b) (hok : R.Ok)
include hok

/-- The output array ends at the product `G` of the left operand's array and the right one's columns `Y'`. -/
theorem Call.arrAt_out (c : Dev nD) (G : Buf (Elt Ideal) ((R.win2).arr.view.loc (c : Thread nD τ)))
    (Y' : (Sh R.K R.N).Idx → EReal) (hY : ∀ k j, j < R.N → Mm.at2 Y' k j = Mm.at2 (R.Y V c) k j)
    (hG : R.y.view.read (Elt Ideal) G = mm (R.X V c) Y') :
    (R.dat p₁ p₂ b ba V c).arrAt 2 (R.cfg b ba).N = G := by
  refine (R.dat p₁ p₂ b ba V c).arrAt_eq_of_cover 2 G (fun t hf => ?_) (hT.cover.cover _ R.hy)
  have hl := (hok.flush t).mp hf
  refine funext fun (y : (Sh R.bm R.bn).Idx) => ?_
  show R.acc p₁ p₂ V c t.val t.isLt y = _
  rw [R.acc_last V hT p₁ p₂ h₁ h₂ hJ c t hl y]
  have e := congrFun hG ((R.win2.rect t).emb y)
  refine Eq.trans ?_ e.symm
  unfold mm
  refine Finset.sum_congr rfl fun k _ => ?_
  have e0 : ((R.win2.rect t).emb y 0 : ℕ) = t.val / (R.nJ * R.nN) * R.bm + (y 0 : ℕ) := by
    rw [← (hT.at2 t).1]; exact R.win2.rect_emb_val t y 0
  have e1 : ((R.win2.rect t).emb y 1 : ℕ) = t.val / R.nJ % R.nN * R.bn + (y 1 : ℕ) := by
    rw [← (hT.at2 t).2]; exact R.win2.rect_emb_val t y 1
  refine Eq.trans ?_ (congrArg (at2 (R.X V c) _ k * ·) (hY k _ ((R.win2.rect t).emb y 1).isLt).symm)
  exact (congrArg₂ (fun p q => at2 (R.X V c) p k * at2 (R.Y V c) k q) e0 e1).symm

end Value
end Mm
end
-- ==== Proof.Shape.lean ====
module

public import proofs.«01_k».proof.Proof.MmValue
public import Idealize.ShloMosaic.Lib.Pipeline.Covers

/-!
# Calls of one tiling

The facts of a call depend on its extents alone: the numbers of tiles and the tiles' sizes. They are stated once here, for
the index maps and the two tests as the kernel computes them, so that a program's table of calls has only to name the
buffers.
-/

@[expose] public section

noncomputable section

namespace Mm

open Idealize.ShloMosaic Idealize.ShloMosaic.TcCoe Idealize.ShloMosaic.ValueIdx
open Idealize.SL Idealize.SL.RA Idealize.SL.Sem
open Idealize.ShloMosaic.Pipeline (Dat Cfg Window)

/-- A tiling: the numbers of row, column and inner tiles, the matrices' extents, a tile's, the number of columns of the
    right operand's array, and whether that is other than a whole number of tiles. -/
structure Dims where
  (nI nN nJ M K N bm bk bn W : ℕ)
  over : Bool

namespace Dims
variable (D : Dims)

/-- The grid of a tiling. -/
abbrev G : Pipeline.Grid := ⟨3, ![D.nI, D.nN, D.nJ], ![false, false, false]⟩
/-- The left operand's tile at a point. -/
def ix0 (i : D.G.Coords) : Fin 2 → ℕ := ![(BitVec.ofNat 32 (i 0).val).toNat, (BitVec.ofNat 32 (i 2).val).toNat]
/-- The right operand's tile at a point. -/
def ix1 (i : D.G.Coords) : Fin 2 → ℕ := ![(BitVec.ofNat 32 (i 2).val).toNat, (BitVec.ofNat 32 (i 1).val).toNat]
/-- The output's tile at a point. -/
def ix2 (i : D.G.Coords) : Fin 2 → ℕ := ![(BitVec.ofNat 32 (i 0).val).toNat, (BitVec.ofNat 32 (i 1).val).toNat]
/-- How the right operand's tile is cut at its array's end. -/
def cl1 (i : D.G.Coords) : Fin 2 → Pipeline.Clip := fun a => match D.over with
  | false => none
  | true => Pipeline.Clip.of (D.ix1 i a) ((Sh D.bk D.bn).size a) ((Sh D.K D.W).size a)
/-- Which staging buffers are described on the part a transfer moves alone: the right operand's, where a tile may be cut. -/
def ls : Fin 3 → Bool := match D.over with
  | false => fun _ => false
  | true => fun | 0 => false | 1 => true | 2 => false | ⟨_ + 3, h⟩ => absurd h (Nat.not_lt.2 (Nat.le_add_left _ _))
/-- The kernel's test that this is the first inner tile. -/
def c1 (i : D.G.Coords) : BitVec 1 := Scalar.cmpi .ne (Scalar.extui (Scalar.cmpi .eq (BitVec.ofNat 32 (i 2).val) 0#32) : BitVec 32) 0#32
/-- The kernel's test that this is a later one. -/
def c2 (i : D.G.Coords) : BitVec 1 := Scalar.cmpi .ne (Scalar.extui (Scalar.cmpi .ne (BitVec.ofNat 32 (i 2).val) 0#32) : BitVec 32) 0#32

/-- What is asked of a tiling's numbers, all of it decidable. -/
structure Facts : Prop where
  hM : D.nI * D.bm = D.M
  hN : D.nN * D.bn = D.N
  hK : D.nJ * D.bk = D.K
  hW : D.N ≤ D.W
  pos : 0 < D.bm ∧ 0 < D.bk ∧ 0 < D.bn ∧ 0 < D.nJ
  nb0 : D.G.bufCount ![true, false, true] false = 2
  nb1 : D.G.bufCount ![false, true, true] false = 2
  nb2 : D.G.bufCount ![true, true, false] false = 2
  small : D.nI < 2 ^ 32 ∧ D.nN < 2 ^ 32 ∧ D.nJ < 2 ^ 32
  test1 : ∀ t : Fin D.G.N, D.c1 (D.G.coords t) = 1#1 ↔ t.val % D.nJ = 0
  test2 : ∀ t : Fin D.G.N, D.c2 (D.G.coords t) = 1#1 ↔ ¬ t.val % D.nJ = 0
  flush : ∀ t : Fin D.G.N, Window.flushOf D.G true D.ix2 t = true ↔ t.val % D.nJ = D.nJ - 1
  at0 : ∀ t : Fin D.G.N, D.ix0 (D.G.coords t) 0 = t.val / (D.nJ * D.nN) ∧ D.ix0 (D.G.coords t) 1 = t.val % D.nJ
  at1 : ∀ t : Fin D.G.N, D.ix1 (D.G.coords t) 0 = t.val % D.nJ ∧ D.ix1 (D.G.coords t) 1 = t.val / D.nJ % D.nN
  at2 : ∀ t : Fin D.G.N, D.ix2 (D.G.coords t) 0 = t.val / (D.nJ * D.nN) ∧ D.ix2 (D.G.coords t) 1 = t.val / D.nJ % D.nN

variable {D}

theorem word_le (n : ℕ) : (BitVec.ofNat 32 n).toNat ≤ n := by
  rw [BitVec.toNat_ofNat]; exact Nat.mod_le _ _

theorem fits {c n b m : ℕ} (hc : c < n) (h : n * b = m) : ((BitVec.ofNat 32 c).toNat + 1) * b ≤ m :=
  h ▸ Nat.mul_le_mul_right b (Nat.lt_of_le_of_lt (word_le c) hc)

/-- The buffers of one call: its operands, its output, and the staging buffers and semaphores of each. -/
structure Bufs (sig : RefSig) (D : Dims) where
  x : Memref sig .tc .hbm (Sh D.M D.K) .f32
  w : Memref sig .tc .hbm (Sh D.K D.W) .f32
  y : Memref sig .tc .hbm (Sh D.M D.N) .f32
  st0 : Fin 2 → Memref sig .tc .vmem (Sh D.bm D.bk) .f32
  st1 : Fin 2 → Memref sig .tc .vmem (Sh D.bk D.bn) .f32
  st2 : Fin 2 → Memref sig .tc .vmem (Sh D.bm D.bn) .f32
  se0 : Fin 2 → DmaSem sig
  se1 : Fin 2 → DmaSem sig
  se2 : Fin 2 → DmaSem sig
  hx : x.IsWhole
  hw : w.IsWhole
  hy : y.IsWhole
  hst0 : ∀ j, (st0 j).IsWhole
  hst1 : ∀ j, (st1 j).IsWhole
  hst2 : ∀ j, (st2 j).IsWhole

theorem numel_pos {a b : ℕ} (ha : 0 < a) (hb : 0 < b) : 0 < (Sh a b).numel := by
  unfold Shape.numel
  refine Finset.prod_pos fun k _ => ?_
  match k with
  | ⟨0, _⟩ => exact ha
  | ⟨1, _⟩ => exact hb

variable {sig : RefSig}

theorem inb1 (h : D.Facts) (i : D.G.Coords) (a : Fin 2) : (D.ix1 i a + 1) * (Sh D.bk D.bn).size a ≤ (Sh D.K D.W).size a :=
  match a with
  | ⟨0, _⟩ => fits (i 2).isLt h.hK
  | ⟨1, _⟩ => (fits (i 1).isLt h.hN).trans h.hW

/-- No tile of the right operand is cut. -/
theorem uncut1 (h : D.Facts) (i : D.G.Coords) (a : Fin 2) : D.cl1 i a = none := by
  unfold cl1
  match D.over with
  | false => rfl
  | true => exact if_pos (inb1 h i a)

/-- The call of a tiling over given buffers. -/
def call (h : D.Facts) (B : Bufs sig D) : Call sig where
  nI := D.nI
  nN := D.nN
  nJ := D.nJ
  M := D.M
  K := D.K
  N := D.N
  W := D.W
  bm := D.bm
  bk := D.bk
  bn := D.bn
  x := B.x
  w := B.w
  y := B.y
  hx := B.hx
  hw := B.hw
  hy := B.hy
  ix0 := D.ix0
  ix1 := D.ix1
  ix2 := D.ix2
  rd0 := ![true, false, true]
  rd1 := ![false, true, true]
  rd2 := ![true, true, false]
  nb0 := 2
  nb1 := 2
  nb2 := 2
  st0 := B.st0
  st1 := B.st1
  st2 := B.st2
  se0 := B.se0
  se1 := B.se1
  se2 := B.se2
  hreads0 i i' h := by unfold ix0; rw [h 0 rfl, h 2 rfl]
  hreads1 i i' h := by unfold ix1; rw [h 2 rfl, h 1 rfl]
  hreads2 i i' h := by unfold ix2; rw [h 0 rfl, h 1 rfl]
  hinb0 i a := match a with
    | ⟨0, _⟩ => fits (i 0).isLt h.hM
    | ⟨1, _⟩ => fits (i 2).isLt h.hK
  cl1 := D.cl1
  hcl1 i a := by rw [uncut1 h]; exact inb1 h i a
  uncut1 := uncut1 h
  ls := D.ls
  hinb2 i a := match a with
    | ⟨0, _⟩ => fits (i 0).isLt h.hM
    | ⟨1, _⟩ => fits (i 1).isLt h.hN
  hnb0 := h.nb0
  hnb1 := h.nb1
  hnb2 := h.nb2
  hst0 := B.hst0
  hst1 := B.hst1
  hst2 := B.hst2
  c1 := D.c1
  c2 := D.c2
  h0 := numel_pos h.pos.1 h.pos.2.1
  h1 := numel_pos h.pos.2.1 h.pos.2.2.1
  h2 := numel_pos h.pos.1 h.pos.2.2.1

/-- One of the two tests holds at every point. -/
theorem some_test (h : D.Facts) (i : D.G.Coords) : (!(D.c1 i == 1#1) && !(D.c2 i == 1#1)) = false := by
  obtain ⟨t, rfl⟩ := D.G.coords_surjective i
  by_cases e : t.val % D.nJ = 0
  · rw [(h.test1 t).mpr e]; rfl
  · rw [(h.test2 t).mpr e]; exact Bool.and_false _

theorem call_ok (h : D.Facts) (B : Bufs sig D) : (call h B).Ok where
  hJ := h.pos.2.2.2
  test1 := h.test1
  test2 := h.test2
  live i := some_test h i
  flush t := h.flush t

theorem word_eq {n c : ℕ} (hn : n < 2 ^ 32) (hc : c < n) : (BitVec.ofNat 32 c).toNat = c := by
  rw [BitVec.toNat_ofNat]; exact Nat.mod_eq_of_lt (hc.trans hn)

theorem call_tiles (h : D.Facts) (B : Bufs sig D) : (call h B).Tiles where
  hK := h.hK
  at0 := h.at0
  at1 := h.at1
  at2 := h.at2
  cover := Window.covers_of_indexMap_surj _ rfl (fun a => match a with
      | ⟨0, _⟩ => h.pos.1
      | ⟨1, _⟩ => h.pos.2.2.1) fun β => by
    have e0 : (β 0).val < D.nI := (β 0).isLt.trans_le (by
      show (D.M + D.bm - 1) / D.bm ≤ D.nI
      rw [← h.hM]; have := h.pos.1
      rw [Nat.div_le_iff_le_mul_add_pred this, Nat.mul_comm]; omega)
    have e1 : (β 1).val < D.nN := (β 1).isLt.trans_le (by
      show (D.N + D.bn - 1) / D.bn ≤ D.nN
      rw [← h.hN]; have := h.pos.2.2.1
      rw [Nat.div_le_iff_le_mul_add_pred this, Nat.mul_comm]; omega)
    refine ⟨fun a => match a with
      | ⟨0, _⟩ => ⟨(β 0).val, e0⟩
      | ⟨1, _⟩ => ⟨(β 1).val, e1⟩
      | ⟨2, _⟩ => ⟨0, h.pos.2.2.2⟩, fun a => ?_⟩
    match a with
    | ⟨0, _⟩ => exact word_eq h.small.1 e0
    | ⟨1, _⟩ => exact word_eq h.small.2.1 e1

end Dims

section Rows
variable {F : FTy → Type} [FloatOps F] {nD : Nat} {τ : Topo} {sig : RefSig} {Lb : Type} {Ar : Lb → Type} {n : ℕ}

/-- A block, or the block cast to its own shape: some calls print that cast for the right operand, others do not. -/
def again (k : Bool) {a b : ℕ} (v : FVec F (Sh a b) .f32) : FVec F (Sh a b) .f32 :=
  match k with
  | true => shapeCast (Sh a b) v rfl
  | false => v

theorem again_eq (k : Bool) {a b : ℕ} (v : FVec F (Sh a b) .f32) : again k v = v := by
  match k with
  | true => exact shapeCast_self _ _
  | false => rfl

/-- What the kernel stores at a first inner tile: the product of the two blocks, rounded to the narrow format. -/
def pay1 (k : Bool) (bm bk bn : ℕ) (l : Vec F (Sh bm bk) .f32) (r : Vec F (Sh bk bn) .f32) : FVec F (Sh bm bn) .f32 :=
  matmul (DotDims.plain bm bk bn) none
    (truncf .bf16 (shapeCast (Sh bm bk) (l : FVec F (Sh bm bk) .f32) rfl : FVec F (Sh bm bk) .f32) (by decide))
    (truncf .bf16 (again k (r : FVec F (Sh bk bn) .f32)) (by decide)) (constant (Sh bm bn) .f32 0x00000000#32)
/-- What it stores at a later one: that product added to what the block held. -/
def pay2 (k : Bool) (bm bk bn : ℕ) (l : Vec F (Sh bm bk) .f32) (r : Vec F (Sh bk bn) .f32) (o : Vec F (Sh bm bn) .f32) : FVec F (Sh bm bn) .f32 :=
  addf (shapeCast (Sh bm bn) (o : FVec F (Sh bm bn) .f32) rfl) (pay1 k bm bk bn l r)

/-- The table row of a call: the body's label is `b`, its arguments `ba`; `k` says whether
    its right block is cast to its own shape. -/
def Dims.row (k : Bool) {D : Dims} (h : D.Facts) (B : Dims.Bufs sig D) (b : Lb)
    (ba : Fin (Dims.call h B).grid.N → ((w : Fin 3) → Fin ((Dims.call h B).win w).nbuf) → Ar b) : Row F sig Lb Ar where
  R := Dims.call h B
  b := b
  ba := ba
  p₁ := pay1 k D.bm D.bk D.bn
  p₂ := pay2 k D.bm D.bk D.bn

theorem pay1_ideal (k : Bool) {bm bk bn : ℕ} (l : Vec Ideal (Sh bm bk) .f32) (r : Vec Ideal (Sh bk bn) .f32) : pay1 k bm bk bn l r = mm l r := by
  have e : (shapeCast (Sh bm bk) (l : FVec Ideal (Sh bm bk) .f32) rfl : FVec Ideal (Sh bm bk) .f32) = l := shapeCast_self _ _
  refine Eq.trans (matmul_plain_eq_mm (φ₁ := .bf16) (φ₂ := .bf16) none _ _) ?_
  rw [e, again_eq]; rfl

theorem pay2_ideal (k : Bool) {bm bk bn : ℕ} (l : Vec Ideal (Sh bm bk) .f32) (r : Vec Ideal (Sh bk bn) .f32) (o : Vec Ideal (Sh bm bn) .f32)
    (i : (Sh bm bn).Idx) : pay2 k bm bk bn l r o i = o i + mm l r i := by
  have e : (shapeCast (Sh bm bn) (o : FVec Ideal (Sh bm bn) .f32) rfl : FVec Ideal (Sh bm bn) .f32) = o := shapeCast_self _ _
  show (shapeCast (Sh bm bn) (o : FVec Ideal (Sh bm bn) .f32) rfl : FVec Ideal (Sh bm bn) .f32) i + pay1 k bm bk bn l r i = _
  rw [e, pay1_ideal]

section Out
variable (k : Bool) {D : Dims} (h : D.Facts) (B : Dims.Bufs sig D) (b : Lb)
    (ba : Fin (Dims.call h B).grid.N → ((w : Fin 3) → Fin ((Dims.call h B).win w).nbuf) → Ar b)

/-- Over the extended reals a call is one host operation: if `op` writes the call's output and leaves the product of
    the left operand and the right one's columns `Y'` there, then a call leaves what `op` leaves. -/
theorem Dims.row_out (hi : Function.Injective (Pipeline.arrRef (Dims.row (F := Ideal) k h B b ba).spec))
    (W : Dev nD → Valuation τ sig (Elt Ideal)) (c : Dev nD) (op : HloOp τ sig (Elt Ideal))
    (hw : op.writes = {Proc.devRef .tc (Pipeline.arrRef (Dims.row (F := Ideal) k h B b ba).spec 2)})
    (Y' : (Sh D.K D.N).Idx → EReal)
    (hY : ∀ q j, j < D.N → at2 Y' q j = at2 (B.w.view.read (Elt Ideal) (W c (Proc.devRef .tc (Pipeline.arrRef (Dims.row (F := Ideal) k h B b ba).spec 1)))) q j)
    (hv : B.y.view.read (Elt Ideal) (StableHlo.after [op] (W c) (Proc.devRef .tc (Pipeline.arrRef (Dims.row (F := Ideal) k h B b ba).spec 2)))
      = mm (B.x.view.read (Elt Ideal) (W c (Proc.devRef .tc (Pipeline.arrRef (Dims.row (F := Ideal) k h B b ba).spec 0)))) Y') :
    (Dims.row (F := Ideal) k h B b ba).out W c = StableHlo.after [op] (W c) := by
  have keep : ∀ b', b' ∉ op.writes → StableHlo.after [op] (W c) b' = W c b' := fun b' hb =>
    StableHlo.after_of_forall_not_mem [op] (W c) fun o ho => by rw [List.mem_singleton.mp ho]; exact hb
  have other : ∀ w : Fin 3, w ≠ 2 → Proc.devRef .tc (Pipeline.arrRef (Dims.row (F := Ideal) k h B b ba).spec w) ∉ op.writes := fun w hne hm => by
    rw [hw] at hm
    exact hne (hi (Proc.devRef_injective _ (Finset.mem_singleton.mp hm)))
  funext b'
  by_cases hb : ∃ w, Proc.devRef .tc (Pipeline.arrRef (Dims.row (F := Ideal) k h B b ba).spec w) = b'
  · obtain ⟨w, rfl⟩ := hb
    refine (out_arr _ hi W c w).trans ?_
    match w with
    | ⟨0, _⟩ =>
      refine Eq.trans ?_ (keep _ (other 0 (by decide))).symm
      exact Dat.arrAt_in _ 0 rfl _
    | ⟨1, _⟩ =>
      refine Eq.trans ?_ (keep _ (other 1 (by decide))).symm
      exact Dat.arrAt_in _ 1 rfl _
    | ⟨2, _⟩ =>
      exact (Dims.call h B).arrAt_out (fun c b => W c b) (Dims.call_tiles h B) _ _ (pay1_ideal k) (pay2_ideal k) h.pos.2.2.2 b ba (Dims.call_ok h B) c _ Y' hY hv
  · have hne : b' ∉ op.writes := fun hm => hb ⟨2, by rw [hw] at hm; exact (Finset.mem_singleton.mp hm).symm⟩
    rw [keep b' hne]
    unfold Row.out Pipeline.withArrays
    exact dif_neg hb

end Out
end Rows

end Mm
end
-- ==== Proof.Fold.lean ====
module

public import proofs.«01_k».proof.Proof.Shape

/-!
# Contents after a program of host operations and products

What a program's items leave untouched, and, over the extended reals, the items as one line of host operations.
-/

@[expose] public section

noncomputable section

namespace Mm

open Idealize.ShloMosaic Idealize.ShloMosaic.TcCoe
open Idealize.SL Idealize.SL.RA Idealize.SL.Sem
open Idealize.ShloMosaic.Pipeline (Dat Cfg Window cellOf)

variable {F : FTy → Type} [FloatOps F] {nD : Nat} {τ : Topo} {sig : RefSig} {Lb : Type} {Ar : Lb → Type} {n : ℕ}

/-- The three arrays of a row that fits the program are distinct. -/
theorem Row.Ok.arr_inj {nD : Nat} {τ : Topo} {rows : Fin n → Row F sig Lb Ar} {defs₀ : Defs nD τ sig (Elt F) (Lbs Lb Ar)}
    {cfgs : Fin n → Cfg sig (Lbs Lb Ar)} {p : Fin n} (h : Row.Ok (τ := τ) rows defs₀ cfgs p) (hc : cfgs = cfgOf rows) :
    Function.Injective (Pipeline.arrRef (rows p).spec) := by
  subst hc
  exact h.launch.win.arr_inj

/-- A product changes its output's array only. -/
theorem Row.out_keep (r : Row F sig Lb Ar) (hi : Function.Injective (Pipeline.arrRef r.spec)) (W : Dev nD → Valuation τ sig (Elt F))
    (c : Dev nD) (b : Ref sig .tc) (hb : Pipeline.arrRef r.spec 2 ≠ b) : r.out W c (Proc.devRef .tc b) = W c (Proc.devRef .tc b) := by
  by_cases h : ∃ w, Pipeline.arrRef r.spec w = b
  · obtain ⟨w, rfl⟩ := h
    refine (out_arr r hi W c w).trans ?_
    match w, hb with
    | ⟨0, _⟩, _ => exact Dat.arrAt_in _ 0 rfl _
    | ⟨1, _⟩, _ => exact Dat.arrAt_in _ 1 rfl _
    | ⟨2, _⟩, hb => exact absurd rfl hb
  · exact out_of_ne r W c b fun w e => h ⟨w, e⟩

/-- Every buffer an item writes satisfies `q`. -/
def Item.Writes (rows : Fin n → Row F sig Lb Ar) (q : Ref sig .tc → Bool) : Item F τ sig n → Prop
  | .ops l => l.Forall fun op => ∃ y, op.writes = {Proc.devRef .tc y} ∧ q y = true
  | .call p => q (Pipeline.arrRef (rows p).spec 2) = true

/-- A buffer that fails `q` is kept by items that write only buffers satisfying it. -/
theorem fold_keep (rows : Fin n → Row F sig Lb Ar) (hi : ∀ p, Function.Injective (Pipeline.arrRef (rows p).spec)) (q : Ref sig .tc → Bool)
    (b : Ref sig .tc) (hb : q b = false) (c : Dev nD) : ∀ (items : List (Item F τ sig n)) (W : Dev nD → Valuation τ sig (Elt F)),
    (∀ i ∈ items, i.Writes rows q) → fold rows W items c (Proc.devRef .tc b) = W c (Proc.devRef .tc b)
  | [], _, _ => rfl
  | i :: t, W, h => by
    refine (fold_keep rows hi q b hb c t _ fun j hj => h j (List.mem_cons_of_mem _ hj)).trans ?_
    have h0 := h i List.mem_cons_self
    match i, h0 with
    | .ops l, h0 =>
      refine StableHlo.after_of_forall_not_mem l (W c) fun op ho hm => ?_
      obtain ⟨y, hy, hq⟩ := List.forall_iff_forall_mem.mp h0 op ho
      rw [hy] at hm
      rw [← Proc.devRef_injective _ (Finset.mem_singleton.mp hm), hb] at hq
      exact absurd hq (by decide)
    | .call p, h0 =>
      exact (rows p).out_keep (hi p) W c b fun e => by
        have h1 : q (Pipeline.arrRef (rows p).spec 2) = true := h0
        rw [e, hb] at h1; exact absurd h1 (by decide)

/-- A line of operations after another. -/
theorem after_two (l₂ : List (HloOp τ sig (Elt F))) : ∀ (l₁ : List (HloOp τ sig (Elt F))) (V : Valuation τ sig (Elt F)),
    StableHlo.after (l₁ ++ l₂) V = StableHlo.after l₂ (StableHlo.after l₁ V)
  | [], _ => rfl
  | op :: l₁, V => after_two l₂ l₁ (op.result V)

/-- An item as host operations, a product being one of them. -/
def Item.host (op : Fin n → HloOp τ sig (Elt F)) : Item F τ sig n → List (HloOp τ sig (Elt F))
  | .ops l => l
  | .call p => [op p]

/-- If every product leaves what a host operation leaves, a program leaves what a line of host operations leaves. -/
theorem fold_host (rows : Fin n → Row F sig Lb Ar) (op : Fin n → HloOp τ sig (Elt F))
    (h : ∀ p (W : Dev nD → Valuation τ sig (Elt F)) c, (rows p).out W c = StableHlo.after [op p] (W c)) (c : Dev nD) :
    ∀ (items : List (Item F τ sig n)) (W : Dev nD → Valuation τ sig (Elt F)),
      fold rows W items c = StableHlo.after (items.flatMap (Item.host op)) (W c)
  | [], _ => rfl
  | i :: t, W => by
    rw [List.flatMap_cons, after_two]
    refine (fold_host rows op h c t _).trans (congrArg _ ?_)
    match i with
    | .ops l => rfl
    | .call p => exact h p W c

/-- From any memory a program of host operations and products ends with its result `o` at the contents the items leave,
    its arguments unchanged and all counters zero; `q` holds of every buffer an item writes, and of no argument. -/
theorem run_out (rows : Fin n → Row F sig Lb Ar) (defs₀ : Defs nD τ sig (Elt F) (Lbs Lb Ar)) (items : List (Item F τ sig n))
    (m : (ℓ : Loc nD τ sig) → Buf (Elt F) ℓ) (ρ : Dev nD → PrngReg) (cfgs : Fin n → Cfg sig (Lbs Lb Ar)) (hc : cfgs = cfgOf rows)
    (hp : ∀ p, Row.Ok (τ := τ) rows defs₀ cfgs p) (hok : ∀ i ∈ items, i.Ok)
    (hnd : (items.filterMap Item.call?).Nodup) (hinj : Function.Injective (cellOf (nD := nD) (τ := τ) cfgs))
    (hsem : ∀ sm : SemLoc sig, sm.isScoped .tc = true)
    (main : Dev nD → Prog (TpuEff nD τ sig (Elt F) (Pipeline.Sig (Lbs Lb Ar) (Fin n) fun p => (pcf (F := F) cfgs p).Adm) .tc) PUnit)
    (hmain : ∀ c, main c = Pipeline.chain (items.map (Item.prog cfgs)))
    (q : Ref sig .tc → Bool) (hw : ∀ i ∈ items, i.Writes rows q) (o : Ref sig .tc) (ho : ¬ (Proc.devRef (τ := τ) .tc o).isScoped)
    (args : List (Ref sig .tc)) (ha : ∀ b ∈ args, q b = false ∧ ¬ (Proc.devRef (τ := τ) .tc b).isScoped) :
    θ_run (Pipeline.defs (pcf (F := F) cfgs) defs₀) (onTc (τ := τ) main) ⟨m, fun _ => 0, ρ⟩ (fun r =>
      (∀ c : Dev nD, r.2.mem ((c.tc : Thread nD τ).loc o) = fold rows (launched m) items c (Proc.devRef .tc o)
        ∧ args.Forall fun b => r.2.mem ((c.tc : Thread nD τ).loc b) = m ((c.tc : Thread nD τ).loc b)) ∧ r.2.sem = fun _ => 0) := by
  have mem : ∀ b : Ref sig .tc, ¬ (Proc.devRef (τ := τ) .tc b).isScoped → Proc.devRef .tc b ∈ Pipeline.ucRefs τ sig :=
    fun b h => Finset.mem_filter.mpr ⟨StableHlo.devRef_mem_tcRefs b, h⟩
  refine (θ_run _ _ _).mono (fun _ h => ⟨fun c => ⟨h.1 c _ (mem o ho), List.forall_iff_forall_mem.mpr fun b hb => ?_⟩, h.2⟩)
    (run rows defs₀ items m ρ cfgs hc hp hok hnd hinj hsem main hmain)
  exact (h.1 c _ (mem b (ha b hb).2)).trans (fold_keep rows (fun p => (hp p).arr_inj hc) q b (ha b hb).1 c items (launched m) hw)

end Mm
end
-- ==== Proof.FfnTable.lean ====
module

public import proofs.«01_k».proof.Proof.Gen.KernelIdeal
public import proofs.«01_k».proof.Proof.Gen.KernelIdeal.Launch
public import proofs.«01_k».proof.Proof.Fold

/-!
# The dense feed-forward block as a table of products

Its three products (`w1`, `w3`, `w2`) as rows of a table, and its program as a list of items.
-/

@[expose] public section

noncomputable section

namespace Mm

/-- The tiling of the products with `w1` and `w3`. -/
abbrev up : Dims := ⟨16, 11, 1, 8192, 1024, 2816, 512, 1024, 256, 2816, false⟩
/-- The tiling of the product with `w2`. -/
abbrev down : Dims := ⟨16, 2, 2, 8192, 2816, 1024, 512, 1408, 512, 1024, false⟩

theorem up_facts : up.Facts := by
  constructor <;> decide +kernel
theorem down_facts : down.Facts := by
  constructor <;> decide +kernel

end Mm

namespace Ffn

open Idealize.ShloMosaic Idealize.ShloMosaic.TcCoe Idealize.SL Idealize.SL.Sem Cert.KernelIdeal Cert.KernelIdeal.Gen Mm

variable {F : FTy → Type} [FloatOps F]

/-- The buffers of the product with `w1`. -/
abbrev bufs0 : Dims.Bufs sig up :=
  ⟨Memref.whole main_v18, Memref.whole main_arg4, Memref.whole main_v19, stage0_0, stage0_1, stage0_2, sem0_0, sem0_1, sem0_2,
    Memref.isWhole_whole _, Memref.isWhole_whole _, Memref.isWhole_whole _, hstage0_0, hstage0_1, hstage0_2⟩
/-- The buffers of the product with `w3`. -/
abbrev bufs1 : Dims.Bufs sig up :=
  ⟨Memref.whole main_v18, Memref.whole main_arg5, Memref.whole main_v20, stage1_0, stage1_1, stage1_2, sem1_0, sem1_1, sem1_2,
    Memref.isWhole_whole _, Memref.isWhole_whole _, Memref.isWhole_whole _, hstage1_0, hstage1_1, hstage1_2⟩
/-- The buffers of the product with `w2`. -/
abbrev bufs2 : Dims.Bufs sig down :=
  ⟨Memref.whole main_v22, Memref.whole main_arg6, Memref.whole main_v23, stage2_0, stage2_1, stage2_2, sem2_0, sem2_1, sem2_2,
    Memref.isWhole_whole _, Memref.isWhole_whole _, Memref.isWhole_whole _, hstage2_0, hstage2_1, hstage2_2⟩

abbrev row0 : Row F sig Λ₀.Label Λ₀.Args := Dims.row false up_facts bufs0 (0 : Fin 3) fun t s => (t, s)
abbrev row1 : Row F sig Λ₀.Label Λ₀.Args := Dims.row false up_facts bufs1 (1 : Fin 3) fun t s => (t, s)
abbrev row2 : Row F sig Λ₀.Label Λ₀.Args := Dims.row false down_facts bufs2 (2 : Fin 3) fun t s => (t, s)

/-- The table. -/
abbrev rows : Fin 3 → Row F sig Λ₀.Label Λ₀.Args := fun
  | ⟨0, _⟩ => row0
  | ⟨1, _⟩ => row1
  | ⟨2, _⟩ => row2

/-- The program. -/
abbrev items : List (Item F τ sig 3) :=
  [.ops hostOps0, .ops hostOps0_1, .call 0, .call 1, .ops hostOps2, .ops hostOps2_1, .call 2, .ops hostOps3]

set_option maxHeartbeats 2000000 in
theorem cfgs_eq : cfgs = cfgOf (rows (F := F)) := by
  funext p
  match p with
  | ⟨0, _⟩ => rfl
  | ⟨1, _⟩ => rfl
  | ⟨2, _⟩ => rfl

set_option maxHeartbeats 2000000 in
theorem row_ok : ∀ p, Row.Ok (τ := τ) (rows (F := F)) defs₀ cfgs p := fun
  | ⟨0, _⟩ => ⟨launch0, Dims.call_ok up_facts bufs0, fun t s => rfl⟩
  | ⟨1, _⟩ => ⟨launch1, Dims.call_ok up_facts bufs1, fun t s => rfl⟩
  | ⟨2, _⟩ => ⟨launch2, Dims.call_ok down_facts bufs2, fun t s => rfl⟩

theorem arr_inj : ∀ p, Function.Injective (Pipeline.arrRef (rows (F := F) p).spec) := fun
  | ⟨0, _⟩ => launch0.win.arr_inj
  | ⟨1, _⟩ => launch1.win.arr_inj
  | ⟨2, _⟩ => launch2.win.arr_inj

theorem fresh_none : ∀ i ∈ items (F := F) , i.Ok := by
  refine List.forall_iff_forall_mem.mp ?_
  refine ⟨⟨hostOps0_sub, ?_⟩, ⟨hostOps0_1_sub, ?_⟩, trivial, trivial, ⟨hostOps2_sub, ?_⟩, ⟨hostOps2_1_sub, ?_⟩, trivial, ⟨hostOps3_sub, ?_⟩⟩ <;>
    (simp only [List.Forall]; repeat' constructor)

/-- A buffer of @main's that is not one of its nine arguments. -/
abbrev notArg (b : Ref sig .tc) : Bool := !(b.space == .hbm && b.idx.val < 9)

theorem writes : ∀ i ∈ items (F := F), i.Writes rows notArg := by
  refine List.forall_iff_forall_mem.mp ?_
  simp only [items, List.Forall, Item.Writes]
  repeat' (first | exact ⟨_, rfl, by decide⟩ | exact rfl | apply And.intro)

/-- From any memory the program ends with every buffer of @main's at the contents the items leave, all counters zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c, ∀ b ∈ Pipeline.ucRefs τ sig, r.2.mem (c, b) = fold rows (launched m) items c b) ∧ r.2.sem = fun _ => 0) :=
  Mm.run rows defs₀ items m ρ cfgs cfgs_eq row_ok fresh_none (show ([0, 1, 2] : List (Fin 3)).Nodup by decide) cellOf_inj (by decide) main main_chain

theorem mem_uc (b : Ref sig .tc) (h : ¬ (Proc.devRef (τ := τ) .tc b).isScoped) : Proc.devRef .tc b ∈ Pipeline.ucRefs τ sig :=
  Finset.mem_filter.mpr ⟨StableHlo.devRef_mem_tcRefs b, h⟩

/-- An argument ends as it was launched. -/
theorem arg_kept (m : (ℓ : Loc nD τ sig) → Buf (Elt F) ℓ) (c : Dev nD) (b : Ref sig .tc) (hb : notArg b = false) :
    fold (rows (F := F)) (launched m) items c (Proc.devRef .tc b) = m (c, Proc.devRef .tc b) :=
  fold_keep rows arr_inj notArg b hb c items (launched m) writes

/-- The nine arguments. -/
abbrev args : List (Ref sig .tc) := [main_arg0, main_arg1, main_arg2, main_arg3, main_arg4, main_arg5, main_arg6, main_arg7, main_arg8]

theorem args_facts : ∀ b ∈ args, notArg b = false ∧ ¬ (Proc.devRef (τ := τ) .tc b).isScoped := by decide

/-- From any memory the program ends with its result at the contents the items leave, its arguments unchanged and all
    counters zero. -/
theorem run_out (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v53) = fold rows (launched m) items c (Proc.devRef .tc main_v53)
        ∧ args.Forall fun b => r.2.mem ((c.tc : Thread nD τ).loc b) = m ((c.tc : Thread nD τ).loc b)) ∧ r.2.sem = fun _ => 0) :=
  (θ_run _ _ _).mono (fun _ h => ⟨fun c => ⟨h.1 c _ (mem_uc _ (by decide)), List.forall_iff_forall_mem.mpr fun b hb =>
    (h.1 c _ (mem_uc b (args_facts b hb).2)).trans (arg_kept m c b (args_facts b hb).1)⟩, h.2⟩) (run m ρ)

end Ffn
end
-- ==== Proof.FfnBits.lean ====
module

public import proofs.«01_k».proof.Proof.Gen.Kernel
public import proofs.«01_k».proof.Proof.FfnTable

/-!
# The dense feed-forward block as printed

The printed program and the one over the extended reals are one text; what is proved of the second at any float values
holds of the first.
-/

@[expose] public section

noncomputable section

namespace Ffn

open Idealize.ShloMosaic Idealize.ShloMosaic.TcCoe Idealize.SL Idealize.SL.Sem Cert.Kernel.Gen Cert.KernelIdeal.Gen

variable {F : FTy → Type} [FloatOps F]

set_option maxHeartbeats 2000000 in
theorem main_same : Cert.Kernel.main (F := F) = Cert.KernelIdeal.main (F := F) := rfl

set_option maxHeartbeats 4000000 in
theorem bodies_same : Cert.Kernel.defs₀ (F := F) = Cert.KernelIdeal.defs₀ (F := F) := by
  refine congrArg Defs.onTc ?_
  funext l a
  match l, a with
  | 0, (t, s) => rfl
  | 1, (t, s) => rfl
  | 2, (t, s) => rfl

theorem defs_same : Cert.Kernel.defs (F := F) = Cert.KernelIdeal.defs (F := F) := congrArg (Pipeline.defs Cert.Kernel.pcfgs) bodies_same

/-- The printed program's run, from the other's. -/
theorem run_printed (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, args.Forall fun b => r.2.mem ((c.tc : Thread Cert.Kernel.nD Cert.Kernel.τ).loc b) = m ((c.tc : Thread Cert.Kernel.nD Cert.Kernel.τ).loc b))
        ∧ r.2.sem = fun _ => 0) := by
  rw [main_same, defs_same]
  exact (θ_run _ _ _).mono (fun _ h => ⟨fun c => (h.1 c).2, h.2⟩) (run_out (F := F) m ρ)

end Ffn
end
-- ==== Proof.Flat.lean ====
module

public import proofs.«01_k».proof.Proof.MmValue
public import Idealize.ShloMosaic.Lib.Pipeline.Value
public import Idealize.ShloMosaic.Lib.KernelVsHost
public import Idealize.ShloMosaic.Lib.ValueLayout

/-!
# Sequences laid end to end

A batch of `a` sequences of `b` rows is a matrix of `a * b` rows. A product of the flattened rows, and an elementwise
function of them, is the flattened product, and the flattened function, of the batch. A product taken in two parts, the
right operand's first columns and the rest of them, is the product.
-/

@[expose] public section

noncomputable section

namespace Mm

open Idealize.ShloMosaic Idealize.ShloMosaic.TcCoe Idealize.ShloMosaic.ValueIdx
open scoped BigOperators

/-- A batch of `a` matrices of `b` rows. -/
abbrev S3 (a b n : ℕ) : Shape := ⟨3, ![a, b, n]⟩

variable {a b n k M : ℕ} {α : Type}

theorem flat_apply (X : (S3 a b n).Idx → α) (h : (S3 a b n).ShapeCasts (Sh M n)) (i : (S3 a b n).Idx) (j : (Sh M n).Idx)
    (h0 : (j 0).val = (i 0).val * b + (i 1).val) (h1 : (j 1).val = (i 2).val) : shapeCast (Sh M n) X h j = X i := by
  refine shapeCast_apply X h j i ?_
  rw [Shape.rowMajor_val_two, Shape.rowMajor_val_three, h0, h1]
  rfl

/-- The index of the batch that a flattened index names. -/
def unflat (hM : M = a * b) (j : (Sh M n).Idx) : (S3 a b n).Idx := fun d => match d with
  | ⟨0, _⟩ => ⟨(j 0).val / b, Nat.div_lt_of_lt_mul (by show (j 0).val < b * a; rw [Nat.mul_comm, ← hM]; exact (j 0).isLt)⟩
  | ⟨1, _⟩ => ⟨(j 0).val % b, Nat.mod_lt _ (Nat.pos_of_ne_zero fun e => by
      have := (j 0).isLt; subst hM; subst e; exact Nat.not_lt_zero _ this)⟩
  | ⟨2, _⟩ => ⟨(j 1).val, (j 1).isLt⟩

theorem flat_unflat (hM : M = a * b) (X : (S3 a b n).Idx → α) (h : (S3 a b n).ShapeCasts (Sh M n)) (j : (Sh M n).Idx) :
    shapeCast (Sh M n) X h j = X (unflat hM j) :=
  flat_apply X h _ j (Nat.div_add_mod' _ _).symm rfl

/-- A product row by row, flattened. -/
theorem mm_flat (hM : M = a * b) (X : (S3 a b k).Idx → EReal) (Y : (Sh k n).Idx → EReal) (Z : (S3 a b n).Idx → EReal)
    (hX : (S3 a b k).ShapeCasts (Sh M k)) (hZ : (S3 a b n).ShapeCasts (Sh M n))
    (l : (S3 a b n).Idx → Fin k → (S3 a b k).Idx) (r : (S3 a b n).Idx → Fin k → (Sh k n).Idx)
    (hl : ∀ i q, (l i q 0).val = (i 0).val ∧ (l i q 1).val = (i 1).val ∧ (l i q 2).val = q.val)
    (hr : ∀ i q, (r i q 0).val = q.val ∧ (r i q 1).val = (i 2).val)
    (h : ∀ i, Z i = ∑ q : Fin k, X (l i q) * Y (r i q)) :
    mm (shapeCast (Sh M k) X hX) Y = shapeCast (Sh M n) Z hZ := by
  funext j
  rw [flat_unflat hM Z hZ j, h]
  unfold mm
  rw [Finset.sum_range]
  refine Finset.sum_congr rfl fun q _ => ?_
  refine congrArg₂ (· * ·) ?_ ?_
  · have hj : (j 0).val < M := (j 0).isLt
    refine (at2_of _ (ix2 ⟨(j 0).val, hj⟩ q) _ _ rfl rfl).trans (flat_apply X hX _ _ ?_ ?_)
    · rw [(hl _ q).1, (hl _ q).2.1]
      exact (Nat.div_add_mod' _ _).symm
    · exact (hl _ q).2.2.symm
  · exact at2_of _ _ _ _ (hr _ q).1 (hr _ q).2

/-- Two products side by side, the first over the right operand's first columns and the second (`B`) over the rest, are
    the product over all of them. -/
theorem mm_glue {M K N T W : ℕ} (X : (Sh M K).Idx → EReal) (Y : (Sh K W).Idx → EReal) (B : (Sh M T).Idx → EReal)
    (h : Shape.Concatenates [Sh M N, Sh M T] (Sh M W) 1)
    (hB : ∀ i : (Sh M T).Idx, B i = ∑ q ∈ Finset.range K, at2 X (i 0) q * at2 Y q (N + (i 1).val)) :
    concatenate (Sh M W) 1 [⟨Sh M N, mm X (cols Y)⟩, ⟨Sh M T, B⟩] h = mm X Y := by
  have hW : N + T = W := by
    have e := h.2.2
    simpa using e
  funext j
  have h0 : (j 0).val < M := (j 0).isLt
  have h1 : (j 1).val < W := (j 1).isLt
  by_cases hj : (j 1).val < N
  · refine (concatenate_pair_apply_left 1 _ _ h j rfl (ix2 ⟨(j 0).val, h0⟩ ⟨(j 1).val, hj⟩) fun b => ?_).trans ?_
    · match b with
      | ⟨0, _⟩ => rfl
      | ⟨1, _⟩ => rfl
    · exact Finset.sum_congr rfl fun q _ => congrArg (at2 X (j 0).val q * ·) (at2_cols Y q _ hj)
  · refine (concatenate_pair_apply_right 1 _ _ h j rfl rfl (ix2 ⟨(j 0).val, h0⟩ ⟨(j 1).val - N, by omega⟩) (fun b hb => ?_) ?_).trans ?_
    · match b with
      | ⟨0, _⟩ => rfl
      | ⟨1, _⟩ => exact absurd rfl hb
    · show (j 1).val - N + N = (j 1).val
      omega
    · refine (hB _).trans (Finset.sum_congr rfl fun q _ => congrArg (fun p => at2 X (j 0).val q * at2 Y q p) ?_)
      show N + ((j 1).val - N) = (j 1).val
      omega

/-- The product over a right operand's columns from `N` on, cut out, padded and the product cut back: each entry is the
    whole product's. -/
theorem mm_tail {M K N T P W : ℕ} {u : Shape} {hi : Fin 2 → ℕ} (X : (Sh M K).Idx → EReal) (Y : (Sh K W).Idx → EReal) (v : u.Idx → EReal)
    (hs : (Sh K W).Slices ![0, N] (Sh K T)) (hp : (Sh K T).Pads ![0, 0] hi ![0, 0] (Sh K P)) (hu : 0 < u.numel)
    (hc : (Sh M P).Slices ![0, 0] (Sh M T)) (hW : N + T ≤ W) (hP : T ≤ P) (i : (Sh M T).Idx) :
    extractStridedSlice (Sh M T) ![0, 0]
        (mm X (pad (Sh K P) ![0, 0] hi ![0, 0] (extractStridedSlice (Sh K T) ![0, N] Y hs) v hp hu)) hc i
      = ∑ q ∈ Finset.range K, at2 X (i 0) q * at2 Y q (N + (i 1).val) := by
  have h0 : (i 0).val < M := (i 0).isLt
  have h1 : (i 1).val < T := (i 1).isLt
  refine (extractStridedSlice_apply _ _ hc i (ix2 ⟨(i 0).val, h0⟩ ⟨(i 1).val, h1.trans_le hP⟩) fun d => ?_).trans ?_
  · match d with
    | ⟨0, _⟩ => exact (Nat.zero_add _).symm
    | ⟨1, _⟩ => exact (Nat.zero_add _).symm
  · refine Finset.sum_congr rfl fun q hq => congrArg (at2 X (i 0).val q * ·) ?_
    have hq : q < K := Finset.mem_range.mp hq
    refine (at2_of _ (ix2 ⟨q, hq⟩ ⟨(i 1).val, h1.trans_le hP⟩) _ _ rfl rfl).trans ?_
    refine (pad_apply_of_inside _ _ _ _ v hp hu _ (ix2 ⟨q, hq⟩ ⟨(i 1).val, h1⟩) fun d => ?_).trans ?_
    · match d with
      | ⟨0, _⟩ => show q = 0 + q * (0 + 1); omega
      | ⟨1, _⟩ => show (i 1).val = 0 + (i 1).val * (0 + 1); omega
    · exact (slice2_axis1_apply N Y hs ⟨q, hq⟩ ⟨(i 1).val, h1⟩ ⟨N + (i 1).val, by omega⟩ rfl).trans (at2_of Y (ix2 _ _) _ _ rfl rfl).symm

/-- A scalar spread over a shape. -/
theorem spread {t : Shape} (d : Fin (⟨0, ![]⟩ : Shape).rank → Fin t.rank) (h : (⟨0, ![]⟩ : Shape).BroadcastsInDim t d) (x : (⟨0, ![]⟩ : Shape).Idx → α) :
    broadcastInDim t d h x = fun _ => x fun e => e.elim0 :=
  funext fun i => broadcastInDim_apply d h x i _ fun e => e.elim0

/-- `z / (1 + exp (-z))` as the host spells it. -/
def silu {t : Shape} (h : (⟨0, ![]⟩ : Shape).BroadcastsInDim t ![]) (z : FVec Ideal t .f32) : FVec Ideal t .f32 :=
  mulf z (Host.divf (broadcastInDim t ![] h (constant (F := Ideal) ⟨0, ![]⟩ .f32 0x3F800000#32))
    (addf (broadcastInDim t ![] h (constant (F := Ideal) ⟨0, ![]⟩ .f32 0x3F800000#32)) (Host.exp (Host.negf z))))

/-- It is elementwise: the flattened values' is the flattened values of it. -/
theorem silu_flat {s t : Shape} (hs : (⟨0, ![]⟩ : Shape).BroadcastsInDim s ![]) (ht : (⟨0, ![]⟩ : Shape).BroadcastsInDim t ![])
    (z : FVec Ideal s .f32) (h : s.ShapeCasts t) : silu ht (shapeCast t z h) = shapeCast t (silu hs z) h := by
  unfold silu
  rw [spread, spread]
  rfl

end Mm
end
-- ==== Proof.FfnValue.lean ====
module

public import proofs.«01_k».proof.Proof.FfnTable
public import proofs.«01_k».proof.Proof.Flat
public import proofs.«01_k».proof.Proof.Gen.ReferenceIdeal.Read

/-!
# The dense feed-forward block's value over the extended reals

Each product leaves the plain matrix product of its operands, so the program leaves what a line of host operations
leaves; that is the reference's value, its sequences laid end to end.
-/

@[expose] public section

noncomputable section

namespace Ffn

open Idealize.ShloMosaic Idealize.ShloMosaic.TcCoe Idealize.SL Idealize.SL.Sem Cert.KernelIdeal Cert.KernelIdeal.Gen Mm

/-- Each product as one host operation. -/
abbrev op : Fin 3 → HloOp τ sig (Elt Ideal) := fun
  | ⟨0, _⟩ => StableHlo.binary main_v18 main_arg4 main_v19 (mm : (⟨S8192x1024, .f32⟩ : BufTy).Contents (Elt Ideal) → (⟨S1024x2816, .f32⟩ : BufTy).Contents (Elt Ideal) → (⟨S8192x2816, .f32⟩ : BufTy).Contents (Elt Ideal))
  | ⟨1, _⟩ => StableHlo.binary main_v18 main_arg5 main_v20 (mm : (⟨S8192x1024, .f32⟩ : BufTy).Contents (Elt Ideal) → (⟨S1024x2816, .f32⟩ : BufTy).Contents (Elt Ideal) → (⟨S8192x2816, .f32⟩ : BufTy).Contents (Elt Ideal))
  | ⟨2, _⟩ => StableHlo.binary main_v22 main_arg6 main_v23 (mm : (⟨S8192x2816, .f32⟩ : BufTy).Contents (Elt Ideal) → (⟨S2816x1024, .f32⟩ : BufTy).Contents (Elt Ideal) → (⟨S8192x1024, .f32⟩ : BufTy).Contents (Elt Ideal))

/-- Each product leaves what its host operation leaves. -/
theorem out_op (p : Fin 3) (W : Dev nD → Valuation τ sig (Elt Ideal)) (c : Dev nD) : (rows p).out W c = StableHlo.after [op p] (W c) := by
  match p with
  | ⟨0, _⟩ => refine Dims.row_out _ _ _ _ _ launch0.win.arr_inj W c _ ?_ _ (fun _ _ _ => rfl) ?_ <;> rfl
  | ⟨1, _⟩ => refine Dims.row_out _ _ _ _ _ launch1.win.arr_inj W c _ ?_ _ (fun _ _ _ => rfl) ?_ <;> rfl
  | ⟨2, _⟩ => refine Dims.row_out _ _ _ _ _ launch2.win.arr_inj W c _ ?_ _ (fun _ _ _ => rfl) ?_ <;> rfl

open Cert.ReferenceIdeal.Read in
/-- The flattened products are the reference's products. -/
theorem swiglu (x0 : (⟨S32x256x1024, .f32⟩ : BufTy).Contents (Elt Ideal)) (x1 : (⟨S32x1024, .f32⟩ : BufTy).Contents (Elt Ideal)) (x2 : (⟨S1024x6144, .f32⟩ : BufTy).Contents (Elt Ideal)) (x3 : (⟨S6144, .f32⟩ : BufTy).Contents (Elt Ideal))
    (x4 x5 : (⟨S1024x2816, .f32⟩ : BufTy).Contents (Elt Ideal)) (x6 : (⟨S2816x1024, .f32⟩ : BufTy).Contents (Elt Ideal)) :
    shapeCast S32x256x1024 (mm (mulf (silu bcast_S_S8192x2816 (mm (shapeCast S8192x1024 (val_main_v17 (F := Ideal) x0 x1 x2 x3) shapeCasts_S32x256x1024_S8192x1024) x4))
        (mm (shapeCast S8192x1024 (val_main_v17 (F := Ideal) x0 x1 x2 x3) shapeCasts_S32x256x1024_S8192x1024) x5) : FVec Ideal S8192x2816 .f32) x6 : FVec Ideal S8192x1024 .f32) shapeCasts_S8192x1024_S32x256x1024
      = val_main_v22 (F := Ideal) x0 x1 x2 x3 x4 x5 x6 := by
  have hs : (S3 32 256 2816).ShapeCasts (Sh 8192 2816) := by decide
  have e1 := mm_flat (M := 8192) rfl (val_main_v17 (F := Ideal) x0 x1 x2 x3) x4 (val_main_v18 (F := Ideal) x0 x1 x2 x3 x4) shapeCasts_S32x256x1024_S8192x1024 hs
    lidx_main_v18 ridx_main_v18 (fun i q => ⟨rfl, rfl, rfl⟩) (fun i q => ⟨rfl, rfl⟩) (val_main_v18_apply x0 x1 x2 x3 x4)
  have e2 := mm_flat (M := 8192) rfl (val_main_v17 (F := Ideal) x0 x1 x2 x3) x5 (val_main_v20 (F := Ideal) x0 x1 x2 x3 x5) shapeCasts_S32x256x1024_S8192x1024 hs
    lidx_main_v20 ridx_main_v20 (fun i q => ⟨rfl, rfl, rfl⟩) (fun i q => ⟨rfl, rfl⟩) (val_main_v20_apply x0 x1 x2 x3 x5)
  have e3 := mm_flat (M := 8192) rfl (val_main_v21 (F := Ideal) x0 x1 x2 x3 x4 x5) x6 (val_main_v22 (F := Ideal) x0 x1 x2 x3 x4 x5 x6) hs shapeCasts_S32x256x1024_S8192x1024
    lidx_main_v22 ridx_main_v22 (fun i q => ⟨rfl, rfl, rfl⟩) (fun i q => ⟨rfl, rfl⟩) (val_main_v22_apply x0 x1 x2 x3 x4 x5 x6)
  rw [e1, e2, silu_flat Cert.ReferenceIdeal.Gen.bcast_S_S32x256x2816]
  refine (congrArg (fun Z => shapeCast S32x256x1024 Z shapeCasts_S8192x1024_S32x256x1024) e3).trans ?_
  exact shapeCast_shapeCast _ _ _

open Cert.ReferenceIdeal.Read in
set_option maxRecDepth 8192 in
set_option maxHeartbeats 8000000 in
/-- What the line of host operations leaves is the reference's value. -/
theorem value (V : Valuation τ sig (Elt Ideal)) :
    StableHlo.after ((items (F := Ideal)).flatMap (Item.host op)) V (Proc.devRef .tc main_v53)
      = val_main_v51 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [val_main_v51, val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, ← swiglu]
  simp only [items, List.flatMap_cons, List.flatMap_nil, Item.host, List.cons_append, List.nil_append, List.append_nil, StableHlo.TRef.binary, StableHlo.TRef.nullary, StableHlo.TRef.unary, StableHlo.TRef.toBuf, StableHlo.TRef.ofBuf, cast_eq]
  after_results_simp
  rfl

end Ffn
end
-- ==== Proof.FfnClaims.lean ====
module

public import proofs.«01_k».proof.Defs
public import proofs.«01_k».proof.Proof.FfnBits
public import proofs.«01_k».proof.Proof.FfnValue

/-!
# The claims about the dense feed-forward block
-/

@[expose] public section

noncomputable section

namespace Ffn

open Idealize.ShloMosaic Idealize.ShloMosaic.TcCoe Idealize.SL Idealize.SL.Sem Mm

/-- The printed program ends, its arguments unchanged, every counter at zero. -/
theorem frame_printed : Cert.quiescent_Kernel (hKernel := Cert.Kernel.Gen.facts) := fun m ρ _ =>
  (θ_run _ _ _).mono (fun _ h => ⟨fun c => h.1 c, h.2⟩) (run_printed (F := Bits) m ρ)

/-- So does the program over the extended reals. -/
theorem frame_ideal : Cert.quiescent_KernelIdeal (hKernelIdeal := Cert.KernelIdeal.Gen.facts) := fun m ρ _ =>
  (θ_run _ _ _).mono (fun _ h => ⟨fun c => (h.1 c).2, h.2⟩) (run_out (F := Ideal) m ρ)

/-- So does the reference, which declares no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- From memories that agree on the arguments the program and its reference end with equal results. -/
theorem equal : Cert.algebraic_KernelIdeal_ReferenceIdeal (hKernelIdeal := Cert.KernelIdeal.Gen.facts) (hReferenceIdeal := Cert.ReferenceIdeal.Gen.facts) := by
  intro m ρ m' ρ' _ hag
  refine ⟨fun c => fold rows (launched m) items c (Proc.devRef .tc Cert.KernelIdeal.main_v53),
    (θ_run _ _ _).mono (fun _ h c => h.1 c) (run_out (F := Ideal) m ρ),
    (θ_run _ _ _).mono (fun _ h c => ⟨(h c).1.trans ?_, (h c).2⟩) (Cert.ReferenceIdeal.Value.run (F := Ideal) m' ρ')⟩
  obtain ⟨h0, h1, h2, h3, h4, h5, h6, h7, h8⟩ := hag c
  show _ = fold rows (launched m) items c (Proc.devRef .tc Cert.KernelIdeal.main_v53)
  rw [fold_host rows op out_op c items (launched m), value, Cert.ReferenceIdeal.Read.val_main_v51_eq, h0, h1, h2, h3, h4, h5, h6, h7, h8]

end Ffn
end
-- ==== Proof.MoeTable.lean ====
module

public import proofs.«01_k».proof.Proof.Gen.Kernel2Ideal
public import proofs.«01_k».proof.Proof.Gen.Kernel2Ideal.Launch
public import proofs.«01_k».proof.Proof.FfnTable

/-!
# The mixture of experts as a table of products

The three products (`w1`, `w3`, `w2`) of each of the eight experts as the rows of a table, and the program as a list of
items: the tilings are the dense block's.
-/

@[expose] public section

noncomputable section

namespace Moe

open Idealize.ShloMosaic Idealize.ShloMosaic.TcCoe Idealize.SL Idealize.SL.Sem Cert.Kernel2Ideal Cert.Kernel2Ideal.Gen Mm

variable {F : FTy → Type} [FloatOps F]

/-! The buffers of each product: the operands, the output, the staging buffers and their counters. -/

abbrev bufs0 : Dims.Bufs sig up := ⟨Memref.whole main_v18, Memref.whole main_v45, Memref.whole main_v50, stage0_0, stage0_1, stage0_2, sem0_0, sem0_1, sem0_2, Memref.isWhole_whole _, Memref.isWhole_whole _, Memref.isWhole_whole _, hstage0_0, hstage0_1, hstage0_2⟩
abbrev bufs1 : Dims.Bufs sig up := ⟨Memref.whole main_v18, Memref.whole main_v47, Memref.whole main_v51, stage1_0, stage1_1, stage1_2, sem1_0, sem1_1, sem1_2, Memref.isWhole_whole _, Memref.isWhole_whole _, Memref.isWhole_whole _, hstage1_0, hstage1_1, hstage1_2⟩
abbrev bufs2 : Dims.Bufs sig down := ⟨Memref.whole main_v53, Memref.whole main_v49, Memref.whole main_v54, stage2_0, stage2_1, stage2_2, sem2_0, sem2_1, sem2_2, Memref.isWhole_whole _, Memref.isWhole_whole _, Memref.isWhole_whole _, hstage2_0, hstage2_1, hstage2_2⟩
abbrev bufs3 : Dims.Bufs sig up := ⟨Memref.whole main_v18, Memref.whole main_v60, Memref.whole main_v65, stage3_0, stage3_1, stage3_2, sem3_0, sem3_1, sem3_2, Memref.isWhole_whole _, Memref.isWhole_whole _, Memref.isWhole_whole _, hstage3_0, hstage3_1, hstage3_2⟩
abbrev bufs4 : Dims.Bufs sig up := ⟨Memref.whole main_v18, Memref.whole main_v62, Memref.whole main_v66, stage4_0, stage4_1, stage4_2, sem4_0, sem4_1, sem4_2, Memref.isWhole_whole _, Memref.isWhole_whole _, Memref.isWhole_whole _, hstage4_0, hstage4_1, hstage4_2⟩
abbrev bufs5 : Dims.Bufs sig down := ⟨Memref.whole main_v68, Memref.whole main_v64, Memref.whole main_v69, stage5_0, stage5_1, stage5_2, sem5_0, sem5_1, sem5_2, Memref.isWhole_whole _, Memref.isWhole_whole _, Memref.isWhole_whole _, hstage5_0, hstage5_1, hstage5_2⟩
abbrev bufs6 : Dims.Bufs sig up := ⟨Memref.whole main_v18, Memref.whole main_v75, Memref.whole main_v80, stage6_0, stage6_1, stage6_2, sem6_0, sem6_1, sem6_2, Memref.isWhole_whole _, Memref.isWhole_whole _, Memref.isWhole_whole _, hstage6_0, hstage6_1, hstage6_2⟩
abbrev bufs7 : Dims.Bufs sig up := ⟨Memref.whole main_v18, Memref.whole main_v77, Memref.whole main_v81, stage7_0, stage7_1, stage7_2, sem7_0, sem7_1, sem7_2, Memref.isWhole_whole _, Memref.isWhole_whole _, Memref.isWhole_whole _, hstage7_0, hstage7_1, hstage7_2⟩
abbrev bufs8 : Dims.Bufs sig down := ⟨Memref.whole main_v83, Memref.whole main_v79, Memref.whole main_v84, stage8_0, stage8_1, stage8_2, sem8_0, sem8_1, sem8_2, Memref.isWhole_whole _, Memref.isWhole_whole _, Memref.isWhole_whole _, hstage8_0, hstage8_1, hstage8_2⟩
abbrev bufs9 : Dims.Bufs sig up := ⟨Memref.whole main_v18, Memref.whole main_v90, Memref.whole main_v95, stage9_0, stage9_1, stage9_2, sem9_0, sem9_1, sem9_2, Memref.isWhole_whole _, Memref.isWhole_whole _, Memref.isWhole_whole _, hstage9_0, hstage9_1, hstage9_2⟩
abbrev bufs10 : Dims.Bufs sig up := ⟨Memref.whole main_v18, Memref.whole main_v92, Memref.whole main_v96, stage10_0, stage10_1, stage10_2, sem10_0, sem10_1, sem10_2, Memref.isWhole_whole _, Memref.isWhole_whole _, Memref.isWhole_whole _, hstage10_0, hstage10_1, hstage10_2⟩
abbrev bufs11 : Dims.Bufs sig down := ⟨Memref.whole main_v98, Memref.whole main_v94, Memref.whole main_v99, stage11_0, stage11_1, stage11_2, sem11_0, sem11_1, sem11_2, Memref.isWhole_whole _, Memref.isWhole_whole _, Memref.isWhole_whole _, hstage11_0, hstage11_1, hstage11_2⟩
abbrev bufs12 : Dims.Bufs sig up := ⟨Memref.whole main_v18, Memref.whole main_v105, Memref.whole main_v110, stage12_0, stage12_1, stage12_2, sem12_0, sem12_1, sem12_2, Memref.isWhole_whole _, Memref.isWhole_whole _, Memref.isWhole_whole _, hstage12_0, hstage12_1, hstage12_2⟩
abbrev bufs13 : Dims.Bufs sig up := ⟨Memref.whole main_v18, Memref.whole main_v107, Memref.whole main_v111, stage13_0, stage13_1, stage13_2, sem13_0, sem13_1, sem13_2, Memref.isWhole_whole _, Memref.isWhole_whole _, Memref.isWhole_whole _, hstage13_0, hstage13_1, hstage13_2⟩
abbrev bufs14 : Dims.Bufs sig down := ⟨Memref.whole main_v113, Memref.whole main_v109, Memref.whole main_v114, stage14_0, stage14_1, stage14_2, sem14_0, sem14_1, sem14_2, Memref.isWhole_whole _, Memref.isWhole_whole _, Memref.isWhole_whole _, hstage14_0, hstage14_1, hstage14_2⟩
abbrev bufs15 : Dims.Bufs sig up := ⟨Memref.whole main_v18, Memref.whole main_v120, Memref.whole main_v125, stage15_0, stage15_1, stage15_2, sem15_0, sem15_1, sem15_2, Memref.isWhole_whole _, Memref.isWhole_whole _, Memref.isWhole_whole _, hstage15_0, hstage15_1, hstage15_2⟩
abbrev bufs16 : Dims.Bufs sig up := ⟨Memref.whole main_v18, Memref.whole main_v122, Memref.whole main_v126, stage16_0, stage16_1, stage16_2, sem16_0, sem16_1, sem16_2, Memref.isWhole_whole _, Memref.isWhole_whole _, Memref.isWhole_whole _, hstage16_0, hstage16_1, hstage16_2⟩
abbrev bufs17 : Dims.Bufs sig down := ⟨Memref.whole main_v128, Memref.whole main_v124, Memref.whole main_v129, stage17_0, stage17_1, stage17_2, sem17_0, sem17_1, sem17_2, Memref.isWhole_whole _, Memref.isWhole_whole _, Memref.isWhole_whole _, hstage17_0, hstage17_1, hstage17_2⟩
abbrev bufs18 : Dims.Bufs sig up := ⟨Memref.whole main_v18, Memref.whole main_v135, Memref.whole main_v140, stage18_0, stage18_1, stage18_2, sem18_0, sem18_1, sem18_2, Memref.isWhole_whole _, Memref.isWhole_whole _, Memref.isWhole_whole _, hstage18_0, hstage18_1, hstage18_2⟩
abbrev bufs19 : Dims.Bufs sig up := ⟨Memref.whole main_v18, Memref.whole main_v137, Memref.whole main_v141, stage19_0, stage19_1, stage19_2, sem19_0, sem19_1, sem19_2, Memref.isWhole_whole _, Memref.isWhole_whole _, Memref.isWhole_whole _, hstage19_0, hstage19_1, hstage19_2⟩
abbrev bufs20 : Dims.Bufs sig down := ⟨Memref.whole main_v143, Memref.whole main_v139, Memref.whole main_v144, stage20_0, stage20_1, stage20_2, sem20_0, sem20_1, sem20_2, Memref.isWhole_whole _, Memref.isWhole_whole _, Memref.isWhole_whole _, hstage20_0, hstage20_1, hstage20_2⟩
abbrev bufs21 : Dims.Bufs sig up := ⟨Memref.whole main_v18, Memref.whole main_v150, Memref.whole main_v155, stage21_0, stage21_1, stage21_2, sem21_0, sem21_1, sem21_2, Memref.isWhole_whole _, Memref.isWhole_whole _, Memref.isWhole_whole _, hstage21_0, hstage21_1, hstage21_2⟩
abbrev bufs22 : Dims.Bufs sig up := ⟨Memref.whole main_v18, Memref.whole main_v152, Memref.whole main_v156, stage22_0, stage22_1, stage22_2, sem22_0, sem22_1, sem22_2, Memref.isWhole_whole _, Memref.isWhole_whole _, Memref.isWhole_whole _, hstage22_0, hstage22_1, hstage22_2⟩
abbrev bufs23 : Dims.Bufs sig down := ⟨Memref.whole main_v158, Memref.whole main_v154, Memref.whole main_v159, stage23_0, stage23_1, stage23_2, sem23_0, sem23_1, sem23_2, Memref.isWhole_whole _, Memref.isWhole_whole _, Memref.isWhole_whole _, hstage23_0, hstage23_1, hstage23_2⟩

/-! The rows. -/

abbrev row0 : Row F sig Λ₀.Label Λ₀.Args := Dims.row true up_facts bufs0 (0 : Fin 24) fun t s => (t, s)
abbrev row1 : Row F sig Λ₀.Label Λ₀.Args := Dims.row true up_facts bufs1 (1 : Fin 24) fun t s => (t, s)
abbrev row2 : Row F sig Λ₀.Label Λ₀.Args := Dims.row true down_facts bufs2 (2 : Fin 24) fun t s => (t, s)
abbrev row3 : Row F sig Λ₀.Label Λ₀.Args := Dims.row true up_facts bufs3 (3 : Fin 24) fun t s => (t, s)
abbrev row4 : Row F sig Λ₀.Label Λ₀.Args := Dims.row true up_facts bufs4 (4 : Fin 24) fun t s => (t, s)
abbrev row5 : Row F sig Λ₀.Label Λ₀.Args := Dims.row true down_facts bufs5 (5 : Fin 24) fun t s => (t, s)
abbrev row6 : Row F sig Λ₀.Label Λ₀.Args := Dims.row true up_facts bufs6 (6 : Fin 24) fun t s => (t, s)
abbrev row7 : Row F sig Λ₀.Label Λ₀.Args := Dims.row true up_facts bufs7 (7 : Fin 24) fun t s => (t, s)
abbrev row8 : Row F sig Λ₀.Label Λ₀.Args := Dims.row true down_facts bufs8 (8 : Fin 24) fun t s => (t, s)
abbrev row9 : Row F sig Λ₀.Label Λ₀.Args := Dims.row true up_facts bufs9 (9 : Fin 24) fun t s => (t, s)
abbrev row10 : Row F sig Λ₀.Label Λ₀.Args := Dims.row true up_facts bufs10 (10 : Fin 24) fun t s => (t, s)
abbrev row11 : Row F sig Λ₀.Label Λ₀.Args := Dims.row true down_facts bufs11 (11 : Fin 24) fun t s => (t, s)
abbrev row12 : Row F sig Λ₀.Label Λ₀.Args := Dims.row true up_facts bufs12 (12 : Fin 24) fun t s => (t, s)
abbrev row13 : Row F sig Λ₀.Label Λ₀.Args := Dims.row true up_facts bufs13 (13 : Fin 24) fun t s => (t, s)
abbrev row14 : Row F sig Λ₀.Label Λ₀.Args := Dims.row true down_facts bufs14 (14 : Fin 24) fun t s => (t, s)
abbrev row15 : Row F sig Λ₀.Label Λ₀.Args := Dims.row true up_facts bufs15 (15 : Fin 24) fun t s => (t, s)
abbrev row16 : Row F sig Λ₀.Label Λ₀.Args := Dims.row true up_facts bufs16 (16 : Fin 24) fun t s => (t, s)
abbrev row17 : Row F sig Λ₀.Label Λ₀.Args := Dims.row true down_facts bufs17 (17 : Fin 24) fun t s => (t, s)
abbrev row18 : Row F sig Λ₀.Label Λ₀.Args := Dims.row true up_facts bufs18 (18 : Fin 24) fun t s => (t, s)
abbrev row19 : Row F sig Λ₀.Label Λ₀.Args := Dims.row true up_facts bufs19 (19 : Fin 24) fun t s => (t, s)
abbrev row20 : Row F sig Λ₀.Label Λ₀.Args := Dims.row true down_facts bufs20 (20 : Fin 24) fun t s => (t, s)
abbrev row21 : Row F sig Λ₀.Label Λ₀.Args := Dims.row true up_facts bufs21 (21 : Fin 24) fun t s => (t, s)
abbrev row22 : Row F sig Λ₀.Label Λ₀.Args := Dims.row true up_facts bufs22 (22 : Fin 24) fun t s => (t, s)
abbrev row23 : Row F sig Λ₀.Label Λ₀.Args := Dims.row true down_facts bufs23 (23 : Fin 24) fun t s => (t, s)

/-- The table. -/
abbrev rows : Fin 24 → Row F sig Λ₀.Label Λ₀.Args := fun
  | ⟨0, _⟩ => row0
  | ⟨1, _⟩ => row1
  | ⟨2, _⟩ => row2
  | ⟨3, _⟩ => row3
  | ⟨4, _⟩ => row4
  | ⟨5, _⟩ => row5
  | ⟨6, _⟩ => row6
  | ⟨7, _⟩ => row7
  | ⟨8, _⟩ => row8
  | ⟨9, _⟩ => row9
  | ⟨10, _⟩ => row10
  | ⟨11, _⟩ => row11
  | ⟨12, _⟩ => row12
  | ⟨13, _⟩ => row13
  | ⟨14, _⟩ => row14
  | ⟨15, _⟩ => row15
  | ⟨16, _⟩ => row16
  | ⟨17, _⟩ => row17
  | ⟨18, _⟩ => row18
  | ⟨19, _⟩ => row19
  | ⟨20, _⟩ => row20
  | ⟨21, _⟩ => row21
  | ⟨22, _⟩ => row22
  | ⟨23, _⟩ => row23
  | ⟨_ + 24, h⟩ => absurd h (by omega)

/-- The program. -/
abbrev items : List (Item F τ sig 24) :=
  [.ops hostOps0, .ops hostOps0_1, .ops hostOps0_2, .ops hostOps0_3, .call 0, .call 1, .ops hostOps2, .ops hostOps2_1, .call 2, .ops hostOps3, .call 3, .call 4,
    .ops hostOps5, .ops hostOps5_1, .call 5, .ops hostOps6, .call 6, .call 7, .ops hostOps8, .ops hostOps8_1, .call 8, .ops hostOps9, .call 9, .call 10,
    .ops hostOps11, .ops hostOps11_1, .call 11, .ops hostOps12, .call 12, .call 13, .ops hostOps14, .ops hostOps14_1, .call 14, .ops hostOps15, .call 15, .call 16,
    .ops hostOps17, .ops hostOps17_1, .call 17, .ops hostOps18, .call 18, .call 19, .ops hostOps20, .ops hostOps20_1, .call 20, .ops hostOps21, .call 21, .call 22,
    .ops hostOps23, .ops hostOps23_1, .call 23, .ops hostOps24]

set_option maxHeartbeats 4000000 in
theorem cfgs_eq : cfgs = cfgOf (rows (F := F)) := by
  funext p
  match p with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨_ + 24, h⟩ => exact absurd h (by omega)

set_option maxHeartbeats 4000000 in
theorem row_ok : ∀ p, Row.Ok (τ := τ) (rows (F := F)) defs₀ cfgs p := fun
  | ⟨0, _⟩ => ⟨launch0, Dims.call_ok up_facts bufs0, fun t s => rfl⟩
  | ⟨1, _⟩ => ⟨launch1, Dims.call_ok up_facts bufs1, fun t s => rfl⟩
  | ⟨2, _⟩ => ⟨launch2, Dims.call_ok down_facts bufs2, fun t s => rfl⟩
  | ⟨3, _⟩ => ⟨launch3, Dims.call_ok up_facts bufs3, fun t s => rfl⟩
  | ⟨4, _⟩ => ⟨launch4, Dims.call_ok up_facts bufs4, fun t s => rfl⟩
  | ⟨5, _⟩ => ⟨launch5, Dims.call_ok down_facts bufs5, fun t s => rfl⟩
  | ⟨6, _⟩ => ⟨launch6, Dims.call_ok up_facts bufs6, fun t s => rfl⟩
  | ⟨7, _⟩ => ⟨launch7, Dims.call_ok up_facts bufs7, fun t s => rfl⟩
  | ⟨8, _⟩ => ⟨launch8, Dims.call_ok down_facts bufs8, fun t s => rfl⟩
  | ⟨9, _⟩ => ⟨launch9, Dims.call_ok up_facts bufs9, fun t s => rfl⟩
  | ⟨10, _⟩ => ⟨launch10, Dims.call_ok up_facts bufs10, fun t s => rfl⟩
  | ⟨11, _⟩ => ⟨launch11, Dims.call_ok down_facts bufs11, fun t s => rfl⟩
  | ⟨12, _⟩ => ⟨launch12, Dims.call_ok up_facts bufs12, fun t s => rfl⟩
  | ⟨13, _⟩ => ⟨launch13, Dims.call_ok up_facts bufs13, fun t s => rfl⟩
  | ⟨14, _⟩ => ⟨launch14, Dims.call_ok down_facts bufs14, fun t s => rfl⟩
  | ⟨15, _⟩ => ⟨launch15, Dims.call_ok up_facts bufs15, fun t s => rfl⟩
  | ⟨16, _⟩ => ⟨launch16, Dims.call_ok up_facts bufs16, fun t s => rfl⟩
  | ⟨17, _⟩ => ⟨launch17, Dims.call_ok down_facts bufs17, fun t s => rfl⟩
  | ⟨18, _⟩ => ⟨launch18, Dims.call_ok up_facts bufs18, fun t s => rfl⟩
  | ⟨19, _⟩ => ⟨launch19, Dims.call_ok up_facts bufs19, fun t s => rfl⟩
  | ⟨20, _⟩ => ⟨launch20, Dims.call_ok down_facts bufs20, fun t s => rfl⟩
  | ⟨21, _⟩ => ⟨launch21, Dims.call_ok up_facts bufs21, fun t s => rfl⟩
  | ⟨22, _⟩ => ⟨launch22, Dims.call_ok up_facts bufs22, fun t s => rfl⟩
  | ⟨23, _⟩ => ⟨launch23, Dims.call_ok down_facts bufs23, fun t s => rfl⟩
  | ⟨_ + 24, h⟩ => absurd h (by omega)

set_option maxHeartbeats 4000000 in
theorem fresh_none : ∀ i ∈ items (F := F), i.Ok := by
  refine List.forall_iff_forall_mem.mp ?_
  refine ⟨⟨hostOps0_sub, ?_⟩, ⟨hostOps0_1_sub, ?_⟩, ⟨hostOps0_2_sub, ?_⟩, ⟨hostOps0_3_sub, ?_⟩, trivial, trivial,
    ⟨hostOps2_sub, ?_⟩, ⟨hostOps2_1_sub, ?_⟩, trivial, ⟨hostOps3_sub, ?_⟩, trivial, trivial,
    ⟨hostOps5_sub, ?_⟩, ⟨hostOps5_1_sub, ?_⟩, trivial, ⟨hostOps6_sub, ?_⟩, trivial, trivial,
    ⟨hostOps8_sub, ?_⟩, ⟨hostOps8_1_sub, ?_⟩, trivial, ⟨hostOps9_sub, ?_⟩, trivial, trivial,
    ⟨hostOps11_sub, ?_⟩, ⟨hostOps11_1_sub, ?_⟩, trivial, ⟨hostOps12_sub, ?_⟩, trivial, trivial,
    ⟨hostOps14_sub, ?_⟩, ⟨hostOps14_1_sub, ?_⟩, trivial, ⟨hostOps15_sub, ?_⟩, trivial, trivial,
    ⟨hostOps17_sub, ?_⟩, ⟨hostOps17_1_sub, ?_⟩, trivial, ⟨hostOps18_sub, ?_⟩, trivial, trivial,
    ⟨hostOps20_sub, ?_⟩, ⟨hostOps20_1_sub, ?_⟩, trivial, ⟨hostOps21_sub, ?_⟩, trivial, trivial,
    ⟨hostOps23_sub, ?_⟩, ⟨hostOps23_1_sub, ?_⟩, trivial, ⟨hostOps24_sub, ?_⟩⟩ <;>
    (simp only [List.Forall]; repeat' constructor)

/-- A buffer of @main's that is not one of its eleven arguments. -/
abbrev notArg (b : Ref sig .tc) : Bool := !(b.space == .hbm && b.idx.val < 11)

set_option maxHeartbeats 4000000 in
theorem writes : ∀ i ∈ items (F := F), i.Writes rows notArg := by
  refine List.forall_iff_forall_mem.mp ?_
  simp only [items, List.Forall, Item.Writes]
  repeat' (first | exact ⟨_, rfl, by decide⟩ | exact rfl | apply And.intro)

/-- The eleven arguments. -/
abbrev args : List (Ref sig .tc) := [main_arg0, main_arg1, main_arg2, main_arg3, main_arg4, main_arg5, main_arg6, main_arg7, main_arg8, main_arg9, main_arg10]

set_option maxHeartbeats 4000000 in
/-- From any memory the program ends with its result at the contents the items leave, its arguments unchanged and all
    counters zero. -/
theorem run_out (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v193) = fold rows (launched m) items c (Proc.devRef .tc main_v193)
        ∧ args.Forall fun b => r.2.mem ((c.tc : Thread nD τ).loc b) = m ((c.tc : Thread nD τ).loc b)) ∧ r.2.sem = fun _ => 0) :=
  Mm.run_out rows defs₀ items m ρ cfgs cfgs_eq row_ok fresh_none (show ([0, 1, 2, 3, 4, 5, 6, 7, 8, 9, 10, 11, 12, 13, 14, 15, 16, 17, 18, 19, 20, 21, 22, 23] : List (Fin 24)).Nodup by decide)
    cellOf_inj (by decide) main main_chain notArg writes main_v193 (by decide) args (by decide)

end Moe
end
-- ==== Proof.MoeMain.lean ====
module

public import proofs.«01_k».proof.Proof.Gen.Kernel2
public import proofs.«01_k».proof.Proof.MoeTable

/-!
# The mixture of experts: the printed program's text

The printed program's text is that of the program over the extended reals.
-/

@[expose] public section

noncomputable section

namespace Moe

open Idealize.ShloMosaic Idealize.ShloMosaic.TcCoe Idealize.SL Idealize.SL.Sem Cert.Kernel2.Gen Cert.Kernel2Ideal.Gen

variable {F : FTy → Type} [FloatOps F]

/-! The four stretches of the program's text. -/

set_option maxHeartbeats 4000000 in
theorem part0_same : Cert.Kernel2.main_part0 (F := F) = Cert.Kernel2Ideal.main_part0 (F := F) := by exact rfl
set_option maxHeartbeats 4000000 in
theorem part1_same : Cert.Kernel2.main_part1 (F := F) = Cert.Kernel2Ideal.main_part1 (F := F) := by exact rfl
set_option maxHeartbeats 4000000 in
theorem part2_same : Cert.Kernel2.main_part2 (F := F) = Cert.Kernel2Ideal.main_part2 (F := F) := by exact rfl
set_option maxHeartbeats 4000000 in
theorem part3_same : Cert.Kernel2.main_part3 (F := F) = Cert.Kernel2Ideal.main_part3 (F := F) := by exact rfl

set_option maxHeartbeats 40000000 in
/-- The whole text. -/
theorem main_same : Cert.Kernel2.main (F := F) = Cert.Kernel2Ideal.main (F := F) := by
  unfold Cert.Kernel2.main Cert.Kernel2Ideal.main
  rw [part0_same, part1_same, part2_same, part3_same]
  rfl

end Moe
end
-- ==== Proof.MoeBits.lean ====
module

public import proofs.«01_k».proof.Proof.Gen.Kernel2
public import proofs.«01_k».proof.Proof.MoeMain

/-!
# The mixture of experts as printed

The printed program and the one over the extended reals are one text; what is proved of the second at any float values
holds of the first.
-/

@[expose] public section

noncomputable section

namespace Moe

open Idealize.ShloMosaic Idealize.ShloMosaic.TcCoe Idealize.SL Idealize.SL.Sem Cert.Kernel2.Gen Cert.Kernel2Ideal.Gen

variable {F : FTy → Type} [FloatOps F]

set_option maxHeartbeats 8000000 in
theorem bodies_same : Cert.Kernel2.defs₀ (F := F) = Cert.Kernel2Ideal.defs₀ (F := F) := by
  refine congrArg Defs.onTc ?_
  funext l a
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl
  | 8, (t, s) => rfl
  | 9, (t, s) => rfl
  | 10, (t, s) => rfl
  | 11, (t, s) => rfl
  | 12, (t, s) => rfl
  | 13, (t, s) => rfl
  | 14, (t, s) => rfl
  | 15, (t, s) => rfl
  | 16, (t, s) => rfl
  | 17, (t, s) => rfl
  | 18, (t, s) => rfl
  | 19, (t, s) => rfl
  | 20, (t, s) => rfl
  | 21, (t, s) => rfl
  | 22, (t, s) => rfl
  | 23, (t, s) => rfl
  | ⟨_ + 24, h⟩, _ => exact absurd h (by omega)

set_option maxHeartbeats 40000000 in
theorem defs_same : Cert.Kernel2.defs (F := F) = Cert.Kernel2Ideal.defs (F := F) := congrArg (Pipeline.defs Cert.Kernel2.pcfgs) bodies_same

set_option maxHeartbeats 40000000 in
/-- The printed program's run, from the other's. -/
theorem run_printed (m : (ℓ : Loc Cert.Kernel2.nD Cert.Kernel2.τ Cert.Kernel2.sig) → Buf (Elt F) ℓ) (ρ : Dev Cert.Kernel2.nD → PrngReg) :
    θ_run (Cert.Kernel2.defs (F := F)) (onTc (τ := Cert.Kernel2.τ) (Cert.Kernel2.main (F := F))) ⟨m, fun _ => 0, ρ⟩ (fun r =>
      (∀ c : Dev Cert.Kernel2.nD, args.Forall fun b => r.2.mem ((c.tc : Thread Cert.Kernel2.nD Cert.Kernel2.τ).loc b) = m ((c.tc : Thread Cert.Kernel2.nD Cert.Kernel2.τ).loc b))
        ∧ r.2.sem = fun _ => 0) := by
  rw [main_same, defs_same]
  exact (θ_run _ _ _).mono (fun _ h => ⟨fun c => (h.1 c).2, h.2⟩) (run_out (F := F) m ρ)

end Moe
end
-- ==== Proof.MoeOps.lean ====
module

public import proofs.«01_k».proof.Proof.MoeTable
public import proofs.«01_k».proof.Proof.Gen.Reference2Ideal.Read

/-!
# The mixture of experts' value over the extended reals

Each product leaves the plain matrix product of its operands, so the program leaves what a line of host operations
leaves; that line is the reference's.
-/

@[expose] public section

noncomputable section

namespace Moe

open Idealize.ShloMosaic Idealize.ShloMosaic.TcCoe Idealize.SL Idealize.SL.Sem Cert.Kernel2Ideal Cert.Kernel2Ideal.Gen Mm

/-- A product of the tokens' shapes. -/
abbrev Up : Type := FVec Ideal S8192x1024 .f32 → FVec Ideal S1024x2816 .f32 → FVec Ideal S8192x2816 .f32
/-- A product of the hidden values' shapes. -/
abbrev Down : Type := FVec Ideal S8192x2816 .f32 → FVec Ideal S2816x1024 .f32 → FVec Ideal S8192x1024 .f32

/-- A product of the tokens with one expert's `w1` or `w3` as one host operation. -/
abbrev upOp (f : Up) (w : StableHlo.TRef sig ⟨S1024x2816, .f32⟩) (y : StableHlo.TRef sig ⟨S8192x2816, .f32⟩) : HloOp τ sig (Elt Ideal) :=
  StableHlo.TRef.binary (.of main_v18 : StableHlo.TRef sig ⟨S8192x1024, .f32⟩) w y f

/-- A product of an expert's hidden values with its `w2` as one host operation. -/
abbrev downOp (g : Down) (x : StableHlo.TRef sig ⟨S8192x2816, .f32⟩) (w : StableHlo.TRef sig ⟨S2816x1024, .f32⟩)
    (y : StableHlo.TRef sig ⟨S8192x1024, .f32⟩) : HloOp τ sig (Elt Ideal) :=
  StableHlo.TRef.binary x w y g

/-- Each product as one host operation. -/
abbrev op (f : Up) (g : Down) : Fin 24 → HloOp τ sig (Elt Ideal) := fun
  | ⟨0, _⟩ => upOp f (.of main_v45) (.of main_v50)
  | ⟨1, _⟩ => upOp f (.of main_v47) (.of main_v51)
  | ⟨2, _⟩ => downOp g (.of main_v53) (.of main_v49) (.of main_v54)
  | ⟨3, _⟩ => upOp f (.of main_v60) (.of main_v65)
  | ⟨4, _⟩ => upOp f (.of main_v62) (.of main_v66)
  | ⟨5, _⟩ => downOp g (.of main_v68) (.of main_v64) (.of main_v69)
  | ⟨6, _⟩ => upOp f (.of main_v75) (.of main_v80)
  | ⟨7, _⟩ => upOp f (.of main_v77) (.of main_v81)
  | ⟨8, _⟩ => downOp g (.of main_v83) (.of main_v79) (.of main_v84)
  | ⟨9, _⟩ => upOp f (.of main_v90) (.of main_v95)
  | ⟨10, _⟩ => upOp f (.of main_v92) (.of main_v96)
  | ⟨11, _⟩ => downOp g (.of main_v98) (.of main_v94) (.of main_v99)
  | ⟨12, _⟩ => upOp f (.of main_v105) (.of main_v110)
  | ⟨13, _⟩ => upOp f (.of main_v107) (.of main_v111)
  | ⟨14, _⟩ => downOp g (.of main_v113) (.of main_v109) (.of main_v114)
  | ⟨15, _⟩ => upOp f (.of main_v120) (.of main_v125)
  | ⟨16, _⟩ => upOp f (.of main_v122) (.of main_v126)
  | ⟨17, _⟩ => downOp g (.of main_v128) (.of main_v124) (.of main_v129)
  | ⟨18, _⟩ => upOp f (.of main_v135) (.of main_v140)
  | ⟨19, _⟩ => upOp f (.of main_v137) (.of main_v141)
  | ⟨20, _⟩ => downOp g (.of main_v143) (.of main_v139) (.of main_v144)
  | ⟨21, _⟩ => upOp f (.of main_v150) (.of main_v155)
  | ⟨22, _⟩ => upOp f (.of main_v152) (.of main_v156)
  | ⟨23, _⟩ => downOp g (.of main_v158) (.of main_v154) (.of main_v159)
  | ⟨_ + 24, h⟩ => absurd h (by omega)

set_option maxHeartbeats 4000000 in
/-- Each product leaves what its host operation leaves. -/
theorem out_mm (p : Fin 24) (W : Dev nD → Valuation τ sig (Elt Ideal)) (c : Dev nD) : (rows p).out W c = StableHlo.after [op mm mm p] (W c) := by
  match p with
  | ⟨0, _⟩ => exact Dims.row_out _ _ _ _ _ launch0.win.arr_inj W c _ rfl _ (fun _ _ _ => rfl) rfl
  | ⟨1, _⟩ => exact Dims.row_out _ _ _ _ _ launch1.win.arr_inj W c _ rfl _ (fun _ _ _ => rfl) rfl
  | ⟨2, _⟩ => exact Dims.row_out _ _ _ _ _ launch2.win.arr_inj W c _ rfl _ (fun _ _ _ => rfl) rfl
  | ⟨3, _⟩ => exact Dims.row_out _ _ _ _ _ launch3.win.arr_inj W c _ rfl _ (fun _ _ _ => rfl) rfl
  | ⟨4, _⟩ => exact Dims.row_out _ _ _ _ _ launch4.win.arr_inj W c _ rfl _ (fun _ _ _ => rfl) rfl
  | ⟨5, _⟩ => exact Dims.row_out _ _ _ _ _ launch5.win.arr_inj W c _ rfl _ (fun _ _ _ => rfl) rfl
  | ⟨6, _⟩ => exact Dims.row_out _ _ _ _ _ launch6.win.arr_inj W c _ rfl _ (fun _ _ _ => rfl) rfl
  | ⟨7, _⟩ => exact Dims.row_out _ _ _ _ _ launch7.win.arr_inj W c _ rfl _ (fun _ _ _ => rfl) rfl
  | ⟨8, _⟩ => exact Dims.row_out _ _ _ _ _ launch8.win.arr_inj W c _ rfl _ (fun _ _ _ => rfl) rfl
  | ⟨9, _⟩ => exact Dims.row_out _ _ _ _ _ launch9.win.arr_inj W c _ rfl _ (fun _ _ _ => rfl) rfl
  | ⟨10, _⟩ => exact Dims.row_out _ _ _ _ _ launch10.win.arr_inj W c _ rfl _ (fun _ _ _ => rfl) rfl
  | ⟨11, _⟩ => exact Dims.row_out _ _ _ _ _ launch11.win.arr_inj W c _ rfl _ (fun _ _ _ => rfl) rfl
  | ⟨12, _⟩ => exact Dims.row_out _ _ _ _ _ launch12.win.arr_inj W c _ rfl _ (fun _ _ _ => rfl) rfl
  | ⟨13, _⟩ => exact Dims.row_out _ _ _ _ _ launch13.win.arr_inj W c _ rfl _ (fun _ _ _ => rfl) rfl
  | ⟨14, _⟩ => exact Dims.row_out _ _ _ _ _ launch14.win.arr_inj W c _ rfl _ (fun _ _ _ => rfl) rfl
  | ⟨15, _⟩ => exact Dims.row_out _ _ _ _ _ launch15.win.arr_inj W c _ rfl _ (fun _ _ _ => rfl) rfl
  | ⟨16, _⟩ => exact Dims.row_out _ _ _ _ _ launch16.win.arr_inj W c _ rfl _ (fun _ _ _ => rfl) rfl
  | ⟨17, _⟩ => exact Dims.row_out _ _ _ _ _ launch17.win.arr_inj W c _ rfl _ (fun _ _ _ => rfl) rfl
  | ⟨18, _⟩ => exact Dims.row_out _ _ _ _ _ launch18.win.arr_inj W c _ rfl _ (fun _ _ _ => rfl) rfl
  | ⟨19, _⟩ => exact Dims.row_out _ _ _ _ _ launch19.win.arr_inj W c _ rfl _ (fun _ _ _ => rfl) rfl
  | ⟨20, _⟩ => exact Dims.row_out _ _ _ _ _ launch20.win.arr_inj W c _ rfl _ (fun _ _ _ => rfl) rfl
  | ⟨21, _⟩ => exact Dims.row_out _ _ _ _ _ launch21.win.arr_inj W c _ rfl _ (fun _ _ _ => rfl) rfl
  | ⟨22, _⟩ => exact Dims.row_out _ _ _ _ _ launch22.win.arr_inj W c _ rfl _ (fun _ _ _ => rfl) rfl
  | ⟨23, _⟩ => exact Dims.row_out _ _ _ _ _ launch23.win.arr_inj W c _ rfl _ (fun _ _ _ => rfl) rfl
  | ⟨_ + 24, h⟩ => exact absurd h (by omega)

/-- The products as the reference spells them. -/
abbrev upRef : Up := fun l r => Host.dotGeneral Cert.Reference2Ideal.dot_S8192x1024_S1024x2816_S8192x2816_1_0_0_1_n_n none l r
abbrev downRef : Down := fun l r => Host.dotGeneral Cert.Reference2Ideal.dot_S8192x2816_S2816x1024_S8192x1024_1_0_0_1_n_n none l r

theorem mm_up : (mm : Up) = upRef := funext fun l => funext fun r => (dotGeneral_plain_eq_mm none l r).symm
theorem mm_down : (mm : Down) = downRef := funext fun l => funext fun r => (dotGeneral_plain_eq_mm none l r).symm

theorem out_op (p : Fin 24) (W : Dev nD → Valuation τ sig (Elt Ideal)) (c : Dev nD) : (rows p).out W c = StableHlo.after [op upRef downRef p] (W c) := by
  rw [← mm_up, ← mm_down]
  exact out_mm p W c

end Moe
end
-- ==== Proof.MoeValue.lean ====
module

public import proofs.«01_k».proof.Proof.MoeOps

/-!
# The mixture of experts' value: the program's line of host operations is the reference's
-/

@[expose] public section

noncomputable section

namespace Moe

open Idealize.ShloMosaic Idealize.ShloMosaic.TcCoe Idealize.SL Idealize.SL.Sem Cert.Kernel2Ideal Cert.Kernel2Ideal.Gen Mm

open Cert.Reference2Ideal.Read in
set_option maxRecDepth 32768 in
set_option maxHeartbeats 80000000 in
/-- What the line of host operations leaves is the reference's value. -/
theorem value (V : Valuation τ sig (Elt Ideal)) :
    StableHlo.after ((items (F := Ideal)).flatMap (Item.host (op upRef downRef))) V (Proc.devRef .tc main_v193)
      = val_main_v193 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp only [items, List.flatMap_cons, List.flatMap_nil, Item.host, List.cons_append, List.nil_append, List.append_nil, StableHlo.TRef.binary, StableHlo.TRef.nullary, StableHlo.TRef.unary, StableHlo.TRef.toBuf, StableHlo.TRef.ofBuf, cast_eq]
  after_results_simp
  rfl

end Moe
end
-- ==== Proof.MoeClaims.lean ====
module

public import proofs.«01_k».proof.Defs
public import proofs.«01_k».proof.Proof.MoeBits
public import proofs.«01_k».proof.Proof.MoeValue

/-!
# The claims about the mixture of experts
-/

@[expose] public section

noncomputable section

namespace Moe

open Idealize.ShloMosaic Idealize.ShloMosaic.TcCoe Idealize.SL Idealize.SL.Sem Mm

/-- The printed program ends, its arguments unchanged, every counter at zero. -/
theorem frame_printed : Cert.quiescent_Kernel2 (hKernel2 := Cert.Kernel2.Gen.facts) := fun m ρ _ =>
  (θ_run _ _ _).mono (fun _ h => ⟨fun c => h.1 c, h.2⟩) (run_printed (F := Bits) m ρ)

/-- So does the program over the extended reals. -/
theorem frame_ideal : Cert.quiescent_Kernel2Ideal (hKernel2Ideal := Cert.Kernel2Ideal.Gen.facts) := fun m ρ _ =>
  (θ_run _ _ _).mono (fun _ h => ⟨fun c => (h.1 c).2, h.2⟩) (run_out (F := Ideal) m ρ)

/-- So does the reference, which declares no semaphore. -/
theorem frame_reference : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run (F := Ideal) m ρ)

/-- From memories that agree on the arguments the program and its reference end with equal results. -/
theorem equal : Cert.algebraic_Kernel2Ideal_Reference2Ideal (hKernel2Ideal := Cert.Kernel2Ideal.Gen.facts) (hReference2Ideal := Cert.Reference2Ideal.Gen.facts) := by
  intro m ρ m' ρ' _ hag
  refine ⟨fun c => fold rows (launched m) items c (Proc.devRef .tc Cert.Kernel2Ideal.main_v193),
    (θ_run _ _ _).mono (fun _ h c => h.1 c) (run_out (F := Ideal) m ρ),
    (θ_run _ _ _).mono (fun _ h c => ⟨(h c).1.trans ?_, (h c).2⟩) (Cert.Reference2Ideal.Value.run (F := Ideal) m' ρ')⟩
  obtain ⟨h0, h1, h2, h3, h4, h5, h6, h7, h8, h9, h10⟩ := hag c
  show _ = fold rows (launched m) items c (Proc.devRef .tc Cert.Kernel2Ideal.main_v193)
  rw [fold_host rows (op upRef downRef) out_op c items (launched m), value, Cert.Reference2Ideal.Read.val_main_v193_eq]
  have e : ∀ (b : Ref Cert.Reference2Ideal.sig .tc), StableHlo.launchContents m' c (Proc.devRef .tc b) = m' ((c.tc : Thread _ _).loc b) := fun b => rfl
  rw [e, e, e, e, e, e, e, e, e, e, e, h0, h1, h2, h3, h4, h5, h6, h7, h8, h9, h10]

end Moe
end
-- ==== Proof.MergeTable.lean ====
module

public import proofs.«01_k».proof.Proof.Gen.Kernel3Ideal
public import proofs.«01_k».proof.Proof.Gen.Kernel3Ideal.Launch
public import proofs.«01_k».proof.Proof.Fold

/-!
# The merge of the mixer's two branches as a table of products

Its three products (`w_ba`, `w_bb`, `w_out`) as rows of a table, and its program as a list of items.
-/

@[expose] public section

noncomputable section

namespace Mm

/-- The tiling of the three products. -/
abbrev side : Dims := ⟨16, 2, 1, 8192, 1024, 1024, 512, 1024, 512, 1024, false⟩

theorem side_facts : side.Facts := by
  constructor <;> decide +kernel

end Mm

namespace Merge

open Idealize.ShloMosaic Idealize.ShloMosaic.TcCoe Idealize.SL Idealize.SL.Sem Cert.Kernel3Ideal Cert.Kernel3Ideal.Gen Mm

variable {F : FTy → Type} [FloatOps F]

/-- The buffers of the product with `w_ba`. -/
abbrev bufs0 : Dims.Bufs sig side :=
  ⟨Memref.whole main_v12, Memref.whole main_arg8, Memref.whole main_v13, stage0_0, stage0_1, stage0_2, sem0_0, sem0_1, sem0_2,
    Memref.isWhole_whole _, Memref.isWhole_whole _, Memref.isWhole_whole _, hstage0_0, hstage0_1, hstage0_2⟩
/-- The buffers of the product with `w_bb`. -/
abbrev bufs1 : Dims.Bufs sig side :=
  ⟨Memref.whole main_v15, Memref.whole main_arg9, Memref.whole main_v16, stage1_0, stage1_1, stage1_2, sem1_0, sem1_1, sem1_2,
    Memref.isWhole_whole _, Memref.isWhole_whole _, Memref.isWhole_whole _, hstage1_0, hstage1_1, hstage1_2⟩
/-- The buffers of the product with `w_out`. -/
abbrev bufs2 : Dims.Bufs sig side :=
  ⟨Memref.whole main_v33, Memref.whole main_arg10, Memref.whole main_v34, stage2_0, stage2_1, stage2_2, sem2_0, sem2_1, sem2_2,
    Memref.isWhole_whole _, Memref.isWhole_whole _, Memref.isWhole_whole _, hstage2_0, hstage2_1, hstage2_2⟩

abbrev row0 : Row F sig Λ₀.Label Λ₀.Args := Dims.row false side_facts bufs0 (0 : Fin 3) fun t s => (t, s)
abbrev row1 : Row F sig Λ₀.Label Λ₀.Args := Dims.row false side_facts bufs1 (1 : Fin 3) fun t s => (t, s)
abbrev row2 : Row F sig Λ₀.Label Λ₀.Args := Dims.row false side_facts bufs2 (2 : Fin 3) fun t s => (t, s)

/-- The table. -/
abbrev rows : Fin 3 → Row F sig Λ₀.Label Λ₀.Args := fun
  | ⟨0, _⟩ => row0
  | ⟨1, _⟩ => row1
  | ⟨2, _⟩ => row2

/-- The program. -/
abbrev items : List (Item F τ sig 3) :=
  [.ops hostOps0, .ops hostOps0_1, .call 0, .ops hostOps1, .call 1, .ops hostOps2, .call 2, .ops hostOps3]

set_option maxHeartbeats 2000000 in
theorem cfgs_eq : cfgs = cfgOf (rows (F := F)) := by
  funext p
  match p with
  | ⟨0, _⟩ => rfl
  | ⟨1, _⟩ => rfl
  | ⟨2, _⟩ => rfl

set_option maxHeartbeats 2000000 in
theorem row_ok : ∀ p, Row.Ok (τ := τ) (rows (F := F)) defs₀ cfgs p := fun
  | ⟨0, _⟩ => ⟨launch0, Dims.call_ok side_facts bufs0, fun t s => rfl⟩
  | ⟨1, _⟩ => ⟨launch1, Dims.call_ok side_facts bufs1, fun t s => rfl⟩
  | ⟨2, _⟩ => ⟨launch2, Dims.call_ok side_facts bufs2, fun t s => rfl⟩

theorem arr_inj : ∀ p, Function.Injective (Pipeline.arrRef (rows (F := F) p).spec) := fun
  | ⟨0, _⟩ => launch0.win.arr_inj
  | ⟨1, _⟩ => launch1.win.arr_inj
  | ⟨2, _⟩ => launch2.win.arr_inj

theorem fresh_none : ∀ i ∈ items (F := F) , i.Ok := by
  refine List.forall_iff_forall_mem.mp ?_
  refine ⟨⟨hostOps0_sub, ?_⟩, ⟨hostOps0_1_sub, ?_⟩, trivial, ⟨hostOps1_sub, ?_⟩, trivial, ⟨hostOps2_sub, ?_⟩, trivial, ⟨hostOps3_sub, ?_⟩⟩ <;>
    (simp only [List.Forall]; repeat' constructor)

/-- A buffer of @main's that is not one of its thirteen arguments. -/
abbrev notArg (b : Ref sig .tc) : Bool := !(b.space == .hbm && b.idx.val < 13)

theorem writes : ∀ i ∈ items (F := F), i.Writes rows notArg := by
  refine List.forall_iff_forall_mem.mp ?_
  simp only [items, List.Forall, Item.Writes]
  repeat' (first | exact ⟨_, rfl, by decide⟩ | exact rfl | apply And.intro)

/-- From any memory the program ends with every buffer of @main's at the contents the items leave, all counters zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c, ∀ b ∈ Pipeline.ucRefs τ sig, r.2.mem (c, b) = fold rows (launched m) items c b) ∧ r.2.sem = fun _ => 0) :=
  Mm.run rows defs₀ items m ρ cfgs cfgs_eq row_ok fresh_none (show ([0, 1, 2] : List (Fin 3)).Nodup by decide) cellOf_inj (by decide) main main_chain

theorem mem_uc (b : Ref sig .tc) (h : ¬ (Proc.devRef (τ := τ) .tc b).isScoped) : Proc.devRef .tc b ∈ Pipeline.ucRefs τ sig :=
  Finset.mem_filter.mpr ⟨StableHlo.devRef_mem_tcRefs b, h⟩

/-- An argument ends as it was launched. -/
theorem arg_kept (m : (ℓ : Loc nD τ sig) → Buf (Elt F) ℓ) (c : Dev nD) (b : Ref sig .tc) (hb : notArg b = false) :
    fold (rows (F := F)) (launched m) items c (Proc.devRef .tc b) = m (c, Proc.devRef .tc b) :=
  fold_keep rows arr_inj notArg b hb c items (launched m) writes

/-- The thirteen arguments. -/
abbrev args : List (Ref sig .tc) := [main_arg0, main_arg1, main_arg2, main_arg3, main_arg4, main_arg5, main_arg6, main_arg7, main_arg8, main_arg9, main_arg10, main_arg11, main_arg12]

theorem args_facts : ∀ b ∈ args, notArg b = false ∧ ¬ (Proc.devRef (τ := τ) .tc b).isScoped := by decide

/-- From any memory the program ends with its result at the contents the items leave, its arguments unchanged and all
    counters zero. -/
theorem run_out (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v64) = fold rows (launched m) items c (Proc.devRef .tc main_v64)
        ∧ args.Forall fun b => r.2.mem ((c.tc : Thread nD τ).loc b) = m ((c.tc : Thread nD τ).loc b)) ∧ r.2.sem = fun _ => 0) :=
  (θ_run _ _ _).mono (fun _ h => ⟨fun c => ⟨h.1 c _ (mem_uc _ (by decide)), List.forall_iff_forall_mem.mpr fun b hb =>
    (h.1 c _ (mem_uc b (args_facts b hb).2)).trans (arg_kept m c b (args_facts b hb).1)⟩, h.2⟩) (run m ρ)

end Merge
end
-- ==== Proof.MergeBits.lean ====
module

public import proofs.«01_k».proof.Proof.Gen.Kernel3
public import proofs.«01_k».proof.Proof.MergeTable

/-!
# The merge of the two branches as printed

The printed program and the one over the extended reals are one text; what is proved of the second at any float values
holds of the first.
-/

@[expose] public section

noncomputable section

namespace Merge

open Idealize.ShloMosaic Idealize.ShloMosaic.TcCoe Idealize.SL Idealize.SL.Sem Cert.Kernel3.Gen Cert.Kernel3Ideal.Gen

variable {F : FTy → Type} [FloatOps F]

set_option maxHeartbeats 2000000 in
theorem main_same : Cert.Kernel3.main (F := F) = Cert.Kernel3Ideal.main (F := F) := rfl

set_option maxHeartbeats 4000000 in
theorem bodies_same : Cert.Kernel3.defs₀ (F := F) = Cert.Kernel3Ideal.defs₀ (F := F) := by
  refine congrArg Defs.onTc ?_
  funext l a
  match l, a with
  | 0, (t, s) => rfl
  | 1, (t, s) => rfl
  | 2, (t, s) => rfl

theorem defs_same : Cert.Kernel3.defs (F := F) = Cert.Kernel3Ideal.defs (F := F) := congrArg (Pipeline.defs Cert.Kernel3.pcfgs) bodies_same

/-- The printed program's run, from the other's. -/
theorem run_printed (m : (ℓ : Loc Cert.Kernel3.nD Cert.Kernel3.τ Cert.Kernel3.sig) → Buf (Elt F) ℓ) (ρ : Dev Cert.Kernel3.nD → PrngReg) :
    θ_run (Cert.Kernel3.defs (F := F)) (onTc (τ := Cert.Kernel3.τ) (Cert.Kernel3.main (F := F))) ⟨m, fun _ => 0, ρ⟩ (fun r =>
      (∀ c : Dev Cert.Kernel3.nD, args.Forall fun b => r.2.mem ((c.tc : Thread Cert.Kernel3.nD Cert.Kernel3.τ).loc b) = m ((c.tc : Thread Cert.Kernel3.nD Cert.Kernel3.τ).loc b))
        ∧ r.2.sem = fun _ => 0) := by
  rw [main_same, defs_same]
  exact (θ_run _ _ _).mono (fun _ h => ⟨fun c => (h.1 c).2, h.2⟩) (run_out (F := F) m ρ)

end Merge
end
-- ==== Proof.MergeValue.lean ====
module

public import proofs.«01_k».proof.Proof.MergeTable
public import proofs.«01_k».proof.Proof.Flat
public import proofs.«01_k».proof.Proof.Gen.Reference3Ideal.Read

/-!
# The value of the merge over the extended reals

Each product leaves the plain matrix product of its operands, so the program leaves what a line of host operations
leaves; that is the reference's value, its sequences laid end to end.
-/

@[expose] public section

noncomputable section

namespace Merge

open Idealize.ShloMosaic Idealize.ShloMosaic.TcCoe Idealize.SL Idealize.SL.Sem Cert.Kernel3Ideal Cert.Kernel3Ideal.Gen Mm

/-- Each product as one host operation. -/
abbrev op : Fin 3 → HloOp τ sig (Elt Ideal) := fun
  | ⟨0, _⟩ => StableHlo.binary main_v12 main_arg8 main_v13 (mm : (⟨S8192x1024, .f32⟩ : BufTy).Contents (Elt Ideal) → (⟨S1024x1024, .f32⟩ : BufTy).Contents (Elt Ideal) → (⟨S8192x1024, .f32⟩ : BufTy).Contents (Elt Ideal))
  | ⟨1, _⟩ => StableHlo.binary main_v15 main_arg9 main_v16 (mm : (⟨S8192x1024, .f32⟩ : BufTy).Contents (Elt Ideal) → (⟨S1024x1024, .f32⟩ : BufTy).Contents (Elt Ideal) → (⟨S8192x1024, .f32⟩ : BufTy).Contents (Elt Ideal))
  | ⟨2, _⟩ => StableHlo.binary main_v33 main_arg10 main_v34 (mm : (⟨S8192x1024, .f32⟩ : BufTy).Contents (Elt Ideal) → (⟨S1024x1024, .f32⟩ : BufTy).Contents (Elt Ideal) → (⟨S8192x1024, .f32⟩ : BufTy).Contents (Elt Ideal))

/-- Each product leaves what its host operation leaves. -/
theorem out_op (p : Fin 3) (W : Dev nD → Valuation τ sig (Elt Ideal)) (c : Dev nD) : (rows p).out W c = StableHlo.after [op p] (W c) := by
  match p with
  | ⟨0, _⟩ => refine Dims.row_out _ _ _ _ _ launch0.win.arr_inj W c _ ?_ _ (fun _ _ _ => rfl) ?_ <;> rfl
  | ⟨1, _⟩ => refine Dims.row_out _ _ _ _ _ launch1.win.arr_inj W c _ ?_ _ (fun _ _ _ => rfl) ?_ <;> rfl
  | ⟨2, _⟩ => refine Dims.row_out _ _ _ _ _ launch2.win.arr_inj W c _ ?_ _ (fun _ _ _ => rfl) ?_ <;> rfl

open Cert.Reference3Ideal.Read in
/-- The flattened products are the reference's products. -/
theorem merged (x4 x5 x6 x7 : (⟨S32x256x1024, .f32⟩ : BufTy).Contents (Elt Ideal))
    (x8 x9 x10 : (⟨S1024x1024, .f32⟩ : BufTy).Contents (Elt Ideal)) :
    shapeCast S32x256x1024 (mm (shapeCast S8192x1024 (addf
        (mulf (val_main_v17 (F := Ideal) x6) (shapeCast S32x256x1024 (mm (shapeCast S8192x1024 x4 shapeCasts_S32x256x1024_S8192x1024) x8 : FVec Ideal S8192x1024 .f32) shapeCasts_S8192x1024_S32x256x1024))
        (mulf (val_main_v25 (F := Ideal) x7) (shapeCast S32x256x1024 (mm (shapeCast S8192x1024 x5 shapeCasts_S32x256x1024_S8192x1024) x9 : FVec Ideal S8192x1024 .f32) shapeCasts_S8192x1024_S32x256x1024)) : FVec Ideal S32x256x1024 .f32)
        shapeCasts_S32x256x1024_S8192x1024) x10 : FVec Ideal S8192x1024 .f32) shapeCasts_S8192x1024_S32x256x1024
      = val_main_v29 (F := Ideal) x4 x5 x6 x7 x8 x9 x10 := by
  have e1 := mm_flat (M := 8192) rfl x4 x8 (val_main_v18 (F := Ideal) x4 x8) shapeCasts_S32x256x1024_S8192x1024 shapeCasts_S32x256x1024_S8192x1024
    lidx_main_v18 ridx_main_v18 (fun i q => ⟨rfl, rfl, rfl⟩) (fun i q => ⟨rfl, rfl⟩) (val_main_v18_apply x4 x8)
  have e2 := mm_flat (M := 8192) rfl x5 x9 (val_main_v26 (F := Ideal) x5 x9) shapeCasts_S32x256x1024_S8192x1024 shapeCasts_S32x256x1024_S8192x1024
    lidx_main_v26 ridx_main_v26 (fun i q => ⟨rfl, rfl, rfl⟩) (fun i q => ⟨rfl, rfl⟩) (val_main_v26_apply x5 x9)
  have e3 := mm_flat (M := 8192) rfl (val_main_v28 (F := Ideal) x4 x5 x6 x7 x8 x9) x10 (val_main_v29 (F := Ideal) x4 x5 x6 x7 x8 x9 x10) shapeCasts_S32x256x1024_S8192x1024 shapeCasts_S32x256x1024_S8192x1024
    lidx_main_v29 ridx_main_v29 (fun i q => ⟨rfl, rfl, rfl⟩) (fun i q => ⟨rfl, rfl⟩) (val_main_v29_apply x4 x5 x6 x7 x8 x9 x10)
  rw [e1, e2, shapeCast_shapeCast, shapeCast_shapeCast]
  refine (congrArg (fun Z => shapeCast S32x256x1024 Z shapeCasts_S8192x1024_S32x256x1024) e3).trans ?_
  exact shapeCast_shapeCast _ _ _

open Cert.Reference3Ideal.Read in
set_option maxRecDepth 8192 in
set_option maxHeartbeats 8000000 in
/-- What the line of host operations leaves is the reference's value. -/
theorem value (V : Valuation τ sig (Elt Ideal)) :
    StableHlo.after ((items (F := Ideal)).flatMap (Item.host op)) V (Proc.devRef .tc main_v64)
      = val_main_v58 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, ← merged]
  simp only [items, List.flatMap_cons, List.flatMap_nil, Item.host, List.cons_append, List.nil_append, List.append_nil, StableHlo.TRef.binary, StableHlo.TRef.nullary, StableHlo.TRef.unary, StableHlo.TRef.toBuf, StableHlo.TRef.ofBuf, cast_eq]
  after_results_simp
  rfl

end Merge
end
-- ==== Proof.MergeClaims.lean ====
module

public import proofs.«01_k».proof.Defs
public import proofs.«01_k».proof.Proof.MergeBits
public import proofs.«01_k».proof.Proof.MergeValue

/-!
# The claims about the merge of the two branches
-/

@[expose] public section

noncomputable section

namespace Merge

open Idealize.ShloMosaic Idealize.ShloMosaic.TcCoe Idealize.SL Idealize.SL.Sem Mm

/-- The printed program ends, its arguments unchanged, every counter at zero. -/
theorem frame_printed : Cert.quiescent_Kernel3 (hKernel3 := Cert.Kernel3.Gen.facts) := fun m ρ _ =>
  (θ_run _ _ _).mono (fun _ h => ⟨fun c => h.1 c, h.2⟩) (run_printed (F := Bits) m ρ)

/-- So does the program over the extended reals. -/
theorem frame_ideal : Cert.quiescent_Kernel3Ideal (hKernel3Ideal := Cert.Kernel3Ideal.Gen.facts) := fun m ρ _ =>
  (θ_run _ _ _).mono (fun _ h => ⟨fun c => (h.1 c).2, h.2⟩) (run_out (F := Ideal) m ρ)

/-- So does the reference, which declares no semaphore. -/
theorem frame_reference : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run (F := Ideal) m ρ)

/-- From memories that agree on the arguments the program and its reference end with equal results. -/
theorem equal : Cert.algebraic_Kernel3Ideal_Reference3Ideal (hKernel3Ideal := Cert.Kernel3Ideal.Gen.facts) (hReference3Ideal := Cert.Reference3Ideal.Gen.facts) := by
  intro m ρ m' ρ' _ hag
  refine ⟨fun c => fold rows (launched m) items c (Proc.devRef .tc Cert.Kernel3Ideal.main_v64),
    (θ_run _ _ _).mono (fun _ h c => h.1 c) (run_out (F := Ideal) m ρ),
    (θ_run _ _ _).mono (fun _ h c => ⟨(h c).1.trans ?_, (h c).2⟩) (Cert.Reference3Ideal.Value.run (F := Ideal) m' ρ')⟩
  obtain ⟨h0, h1, h2, h3, h4, h5, h6, h7, h8, h9, h10, h11, h12⟩ := hag c
  show _ = fold rows (launched m) items c (Proc.devRef .tc Cert.Kernel3Ideal.main_v64)
  rw [fold_host rows op out_op c items (launched m), value, Cert.Reference3Ideal.Read.val_main_v58_eq, h0, h1, h2, h3, h4, h5, h6, h7, h8, h9, h10, h11, h12]

end Merge
end
-- ==== Proof.InTable.lean ====
module

public import proofs.«01_k».proof.Proof.Gen.Kernel4Ideal
public import proofs.«01_k».proof.Proof.Gen.Kernel4Ideal.Launch
public import proofs.«01_k».proof.Proof.Fold

/-!
# The input projection as a table of products

Its two products (with the first 8192 columns of `w_in`, and with the rest) as rows of a table, and its program as a list
of items.
-/

@[expose] public section

noncomputable section

namespace Mm

/-- The tiling of the product with the first 8192 columns. -/
abbrev first : Dims := ⟨16, 16, 1, 8192, 1024, 8192, 512, 1024, 512, 10272, true⟩
/-- The tiling of the product with the rest, padded to 2176 columns. -/
abbrev rest : Dims := ⟨16, 17, 1, 8192, 1024, 2176, 512, 1024, 128, 2176, false⟩

theorem first_facts : first.Facts := by
  constructor <;> decide +kernel

theorem rest_facts : rest.Facts := by
  constructor <;> decide +kernel

end Mm

namespace InProj

open Idealize.ShloMosaic Idealize.ShloMosaic.TcCoe Idealize.SL Idealize.SL.Sem Cert.Kernel4Ideal Cert.Kernel4Ideal.Gen Mm

variable {F : FTy → Type} [FloatOps F]

/-- The buffers of the product with the first columns. -/
abbrev bufs0 : Dims.Bufs sig first :=
  ⟨Memref.whole main_v18, Memref.whole main_arg4, Memref.whole main_v21, stage0_0, stage0_1, stage0_2, sem0_0, sem0_1, sem0_2,
    Memref.isWhole_whole _, Memref.isWhole_whole _, Memref.isWhole_whole _, hstage0_0, hstage0_1, hstage0_2⟩
/-- The buffers of the product with the rest. -/
abbrev bufs1 : Dims.Bufs sig rest :=
  ⟨Memref.whole main_v18, Memref.whole main_v20, Memref.whole main_v22, stage1_0, stage1_1, stage1_2, sem1_0, sem1_1, sem1_2,
    Memref.isWhole_whole _, Memref.isWhole_whole _, Memref.isWhole_whole _, hstage1_0, hstage1_1, hstage1_2⟩

abbrev row0 : Row F sig Λ₀.Label Λ₀.Args := Dims.row false first_facts bufs0 (0 : Fin 2) fun t s => (t, s)
abbrev row1 : Row F sig Λ₀.Label Λ₀.Args := Dims.row true rest_facts bufs1 (1 : Fin 2) fun t s => (t, s)

/-- The table. -/
abbrev rows : Fin 2 → Row F sig Λ₀.Label Λ₀.Args := fun
  | ⟨0, _⟩ => row0
  | ⟨1, _⟩ => row1

/-- The program. -/
abbrev items : List (Item F τ sig 2) :=
  [.ops hostOps0, .ops hostOps0_1, .ops hostOps0_2, .call 0, .call 1, .ops hostOps2]

set_option maxHeartbeats 2000000 in
theorem cfgs_eq : cfgs = cfgOf (rows (F := F)) := by
  funext p
  match p with
  | ⟨0, _⟩ => rfl
  | ⟨1, _⟩ => rfl

set_option maxHeartbeats 2000000 in
theorem row_ok : ∀ p, Row.Ok (τ := τ) (rows (F := F)) defs₀ cfgs p := fun
  | ⟨0, _⟩ => ⟨launch0, Dims.call_ok first_facts bufs0, fun t s => rfl⟩
  | ⟨1, _⟩ => ⟨launch1, Dims.call_ok rest_facts bufs1, fun t s => rfl⟩

theorem arr_inj : ∀ p, Function.Injective (Pipeline.arrRef (rows (F := F) p).spec) := fun
  | ⟨0, _⟩ => launch0.win.arr_inj
  | ⟨1, _⟩ => launch1.win.arr_inj

theorem fresh_none : ∀ i ∈ items (F := F) , i.Ok := by
  refine List.forall_iff_forall_mem.mp ?_
  refine ⟨⟨hostOps0_sub, ?_⟩, ⟨hostOps0_1_sub, ?_⟩, ⟨hostOps0_2_sub, ?_⟩, trivial, trivial, ⟨hostOps2_sub, ?_⟩⟩ <;>
    (simp only [List.Forall]; repeat' constructor)

/-- A buffer of @main's that is not one of its six arguments. -/
abbrev notArg (b : Ref sig .tc) : Bool := !(b.space == .hbm && b.idx.val < 6)

theorem writes : ∀ i ∈ items (F := F), i.Writes rows notArg := by
  refine List.forall_iff_forall_mem.mp ?_
  simp only [items, List.Forall, Item.Writes]
  repeat' (first | exact ⟨_, rfl, by decide⟩ | exact rfl | apply And.intro)

/-- From any memory the program ends with every buffer of @main's at the contents the items leave, all counters zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c, ∀ b ∈ Pipeline.ucRefs τ sig, r.2.mem (c, b) = fold rows (launched m) items c b) ∧ r.2.sem = fun _ => 0) :=
  Mm.run rows defs₀ items m ρ cfgs cfgs_eq row_ok fresh_none (show ([0, 1] : List (Fin 2)).Nodup by decide) cellOf_inj (by decide) main main_chain

theorem mem_uc (b : Ref sig .tc) (h : ¬ (Proc.devRef (τ := τ) .tc b).isScoped) : Proc.devRef .tc b ∈ Pipeline.ucRefs τ sig :=
  Finset.mem_filter.mpr ⟨StableHlo.devRef_mem_tcRefs b, h⟩

/-- An argument ends as it was launched. -/
theorem arg_kept (m : (ℓ : Loc nD τ sig) → Buf (Elt F) ℓ) (c : Dev nD) (b : Ref sig .tc) (hb : notArg b = false) :
    fold (rows (F := F)) (launched m) items c (Proc.devRef .tc b) = m (c, Proc.devRef .tc b) :=
  fold_keep rows arr_inj notArg b hb c items (launched m) writes

/-- The six arguments. -/
abbrev args : List (Ref sig .tc) := [main_arg0, main_arg1, main_arg2, main_arg3, main_arg4, main_arg5]

theorem args_facts : ∀ b ∈ args, notArg b = false ∧ ¬ (Proc.devRef (τ := τ) .tc b).isScoped := by decide

/-- From any memory the program ends with its result at the contents the items leave, its arguments unchanged and all
    counters zero. -/
theorem run_out (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v28) = fold rows (launched m) items c (Proc.devRef .tc main_v28)
        ∧ args.Forall fun b => r.2.mem ((c.tc : Thread nD τ).loc b) = m ((c.tc : Thread nD τ).loc b)) ∧ r.2.sem = fun _ => 0) :=
  (θ_run _ _ _).mono (fun _ h => ⟨fun c => ⟨h.1 c _ (mem_uc _ (by decide)), List.forall_iff_forall_mem.mpr fun b hb =>
    (h.1 c _ (mem_uc b (args_facts b hb).2)).trans (arg_kept m c b (args_facts b hb).1)⟩, h.2⟩) (run m ρ)

end InProj
end
-- ==== Proof.InBits.lean ====
module

public import proofs.«01_k».proof.Proof.Gen.Kernel4
public import proofs.«01_k».proof.Proof.InTable

/-!
# The input projection as printed

The printed program and the one over the extended reals are one text; what is proved of the second at any float values
holds of the first.
-/

@[expose] public section

noncomputable section

namespace InProj

open Idealize.ShloMosaic Idealize.ShloMosaic.TcCoe Idealize.SL Idealize.SL.Sem Cert.Kernel4.Gen Cert.Kernel4Ideal.Gen

variable {F : FTy → Type} [FloatOps F]

set_option maxHeartbeats 2000000 in
theorem main_same : Cert.Kernel4.main (F := F) = Cert.Kernel4Ideal.main (F := F) := rfl

set_option maxHeartbeats 4000000 in
theorem bodies_same : Cert.Kernel4.defs₀ (F := F) = Cert.Kernel4Ideal.defs₀ (F := F) := by
  refine congrArg Defs.onTc ?_
  funext l a
  match l, a with
  | 0, (t, s) => rfl
  | 1, (t, s) => rfl

theorem defs_same : Cert.Kernel4.defs (F := F) = Cert.Kernel4Ideal.defs (F := F) := congrArg (Pipeline.defs Cert.Kernel4.pcfgs) bodies_same

/-- The printed program's run, from the other's. -/
theorem run_printed (m : (ℓ : Loc Cert.Kernel4.nD Cert.Kernel4.τ Cert.Kernel4.sig) → Buf (Elt F) ℓ) (ρ : Dev Cert.Kernel4.nD → PrngReg) :
    θ_run (Cert.Kernel4.defs (F := F)) (onTc (τ := Cert.Kernel4.τ) (Cert.Kernel4.main (F := F))) ⟨m, fun _ => 0, ρ⟩ (fun r =>
      (∀ c : Dev Cert.Kernel4.nD, args.Forall fun b => r.2.mem ((c.tc : Thread Cert.Kernel4.nD Cert.Kernel4.τ).loc b) = m ((c.tc : Thread Cert.Kernel4.nD Cert.Kernel4.τ).loc b))
        ∧ r.2.sem = fun _ => 0) := by
  rw [main_same, defs_same]
  exact (θ_run _ _ _).mono (fun _ h => ⟨fun c => (h.1 c).2, h.2⟩) (run_out (F := F) m ρ)

end InProj
end
-- ==== Proof.InValue.lean ====
module

public import proofs.«01_k».proof.Proof.InTable
public import proofs.«01_k».proof.Proof.Flat
public import proofs.«01_k».proof.Proof.Gen.Reference4Ideal.Read

/-!
# The value of the input projection over the extended reals

The first product leaves the plain matrix product with the right operand's first 8192 columns, the second with its padded
rest; side by side they are the reference's product, its sequences laid end to end.
-/

@[expose] public section

noncomputable section

namespace InProj

open Idealize.ShloMosaic Idealize.ShloMosaic.TcCoe Idealize.SL Idealize.SL.Sem Cert.Kernel4Ideal Cert.Kernel4Ideal.Gen Mm

/-- Each product as one host operation. -/
abbrev op : Fin 2 → HloOp τ sig (Elt Ideal) := fun
  | ⟨0, _⟩ => StableHlo.binary main_v18 main_arg4 main_v21 ((fun x w => mm x (cols w)) : (⟨S8192x1024, .f32⟩ : BufTy).Contents (Elt Ideal) → (⟨S1024x10272, .f32⟩ : BufTy).Contents (Elt Ideal) → (⟨S8192x8192, .f32⟩ : BufTy).Contents (Elt Ideal))
  | ⟨1, _⟩ => StableHlo.binary main_v18 main_v20 main_v22 (mm : (⟨S8192x1024, .f32⟩ : BufTy).Contents (Elt Ideal) → (⟨S1024x2176, .f32⟩ : BufTy).Contents (Elt Ideal) → (⟨S8192x2176, .f32⟩ : BufTy).Contents (Elt Ideal))

/-- Each product leaves what its host operation leaves. -/
theorem out_op (p : Fin 2) (W : Dev nD → Valuation τ sig (Elt Ideal)) (c : Dev nD) : (rows p).out W c = StableHlo.after [op p] (W c) := by
  match p with
  | ⟨0, _⟩ => refine Dims.row_out _ _ _ _ _ launch0.win.arr_inj W c _ ?_ _ (fun q j hj => at2_cols (W c (Proc.devRef .tc main_arg4)) q j hj) ?_ <;> rfl
  | ⟨1, _⟩ => refine Dims.row_out _ _ _ _ _ launch1.win.arr_inj W c _ ?_ _ (fun _ _ _ => rfl) ?_ <;> rfl

open Cert.Reference4Ideal.Read in
/-- The two products side by side are the reference's product. -/
theorem projected (x0 : (⟨S32x256x1024, .f32⟩ : BufTy).Contents (Elt Ideal)) (x1 : (⟨S32x1024, .f32⟩ : BufTy).Contents (Elt Ideal))
    (x2 : (⟨S1024x6144, .f32⟩ : BufTy).Contents (Elt Ideal)) (x3 : (⟨S6144, .f32⟩ : BufTy).Contents (Elt Ideal)) (x4 : (⟨S1024x10272, .f32⟩ : BufTy).Contents (Elt Ideal)) :
    shapeCast S32x256x10272 (concatenate S8192x10272 1
        [⟨S8192x8192, (mm (shapeCast S8192x1024 (val_main_v17 (F := Ideal) x0 x1 x2 x3) shapeCasts_S32x256x1024_S8192x1024) (cols x4) : FVec Ideal S8192x8192 .f32)⟩,
          ⟨S8192x2080, extractStridedSlice S8192x2080 ![0, 0] (mm (shapeCast S8192x1024 (val_main_v17 (F := Ideal) x0 x1 x2 x3) shapeCasts_S32x256x1024_S8192x1024)
            (pad S1024x2176 ![0, 0] ![0, 96] ![0, 0] (extractStridedSlice S1024x2080 ![0, 8192] x4 slices_S1024x10272_S1024x2080_0_8192)
              (sitofp (F := Ideal) .f32 (constantI S_ 32 0#32)) pads_S1024x2080_S1024x2176_000_0960 h_S_) : FVec Ideal S8192x2176 .f32) slices_S8192x2176_S8192x2080_0_0⟩]
        concatenates_S8192x8192_S8192x2080_S8192x10272_d1) shapeCasts_S8192x10272_S32x256x10272
      = val_main_v18 (F := Ideal) x0 x1 x2 x3 x4 := by
  have e := mm_flat (M := 8192) rfl (val_main_v17 (F := Ideal) x0 x1 x2 x3) x4 (val_main_v18 (F := Ideal) x0 x1 x2 x3 x4) shapeCasts_S32x256x1024_S8192x1024 rfl
    lidx_main_v18 ridx_main_v18 (fun i q => ⟨rfl, rfl, rfl⟩) (fun i q => ⟨rfl, rfl⟩) (val_main_v18_apply x0 x1 x2 x3 x4)
  have g := (mm_glue (N := 8192) (T := 2080) (shapeCast S8192x1024 (val_main_v17 (F := Ideal) x0 x1 x2 x3) shapeCasts_S32x256x1024_S8192x1024) x4 _
    concatenates_S8192x8192_S8192x2080_S8192x10272_d1 (mm_tail (P := 2176) (hi := ![0, 96]) _ x4 (sitofp (F := Ideal) .f32 (constantI S_ 32 0#32))
      slices_S1024x10272_S1024x2080_0_8192 pads_S1024x2080_S1024x2176_000_0960 h_S_ slices_S8192x2176_S8192x2080_0_0 (by decide) (by decide))).trans e
  refine (congrArg (fun Z => shapeCast S32x256x10272 Z shapeCasts_S8192x10272_S32x256x10272) g).trans ?_
  exact shapeCast_shapeCast _ _ _

open Cert.Reference4Ideal.Read in
set_option maxRecDepth 8192 in
set_option maxHeartbeats 8000000 in
/-- What the line of host operations leaves is the reference's value. -/
theorem value (V : Valuation τ sig (Elt Ideal)) :
    StableHlo.after ((items (F := Ideal)).flatMap (Item.host op)) V (Proc.devRef .tc main_v28)
      = val_main_v21 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp only [val_main_v21, val_main_v20, val_main_v19, ← projected]
  simp only [items, List.flatMap_cons, List.flatMap_nil, Item.host, List.cons_append, List.nil_append, List.append_nil, StableHlo.TRef.binary, StableHlo.TRef.nullary, StableHlo.TRef.unary, StableHlo.TRef.toBuf, StableHlo.TRef.ofBuf, cast_eq]
  after_results_simp
  rfl

end InProj
end
-- ==== Proof.InClaims.lean ====
module

public import proofs.«01_k».proof.Defs
public import proofs.«01_k».proof.Proof.InBits
public import proofs.«01_k».proof.Proof.InValue

/-!
# The claims about the input projection
-/

@[expose] public section

noncomputable section

namespace InProj

open Idealize.ShloMosaic Idealize.ShloMosaic.TcCoe Idealize.SL Idealize.SL.Sem Mm

/-- The printed program ends, its arguments unchanged, every counter at zero. -/
theorem frame_printed : Cert.quiescent_Kernel4 (hKernel4 := Cert.Kernel4.Gen.facts) := fun m ρ _ =>
  (θ_run _ _ _).mono (fun _ h => ⟨fun c => h.1 c, h.2⟩) (run_printed (F := Bits) m ρ)

/-- So does the program over the extended reals. -/
theorem frame_ideal : Cert.quiescent_Kernel4Ideal (hKernel4Ideal := Cert.Kernel4Ideal.Gen.facts) := fun m ρ _ =>
  (θ_run _ _ _).mono (fun _ h => ⟨fun c => (h.1 c).2, h.2⟩) (run_out (F := Ideal) m ρ)

/-- So does the reference, which declares no semaphore. -/
theorem frame_reference : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run (F := Ideal) m ρ)

/-- From memories that agree on the arguments the program and its reference end with equal results. -/
theorem equal : Cert.algebraic_Kernel4Ideal_Reference4Ideal (hKernel4Ideal := Cert.Kernel4Ideal.Gen.facts) (hReference4Ideal := Cert.Reference4Ideal.Gen.facts) := by
  intro m ρ m' ρ' _ hag
  refine ⟨fun c => fold rows (launched m) items c (Proc.devRef .tc Cert.Kernel4Ideal.main_v28),
    (θ_run _ _ _).mono (fun _ h c => h.1 c) (run_out (F := Ideal) m ρ),
    (θ_run _ _ _).mono (fun _ h c => ⟨(h c).1.trans ?_, (h c).2⟩) (Cert.Reference4Ideal.Value.run (F := Ideal) m' ρ')⟩
  obtain ⟨h0, h1, h2, h3, h4, h5⟩ := hag c
  show _ = fold rows (launched m) items c (Proc.devRef .tc Cert.Kernel4Ideal.main_v28)
  rw [fold_host rows op out_op c items (launched m), value, Cert.Reference4Ideal.Read.val_main_v21_eq, h0, h1, h2, h3, h4, h5]

end InProj
end
-- ==== Proof.SampleTable.lean ====
module

public import proofs.«01_k».proof.Proof.Gen.Kernel5Ideal
public import proofs.«01_k».proof.Proof.Gen.Kernel5Ideal.Launch
public import proofs.«01_k».proof.Proof.FfnTable

/-!
# The mixture of experts on the sample batch as a table of products

The products of the eight experts at the sample's 2048 rows, four row tiles where the prompt has sixteen, as the rows of
a table, and the program as a list of items.
-/

@[expose] public section

noncomputable section

namespace Mm

/-- The tiling of the products with `w1` and `w3` at the sample's 2048 rows. -/
abbrev upSample : Dims := ⟨4, 11, 1, 2048, 1024, 2816, 512, 1024, 256, 2816, false⟩
/-- The tiling of the product with `w2` at the sample's 2048 rows. -/
abbrev downSample : Dims := ⟨4, 2, 2, 2048, 2816, 1024, 512, 1408, 512, 1024, false⟩

theorem upSample_facts : upSample.Facts := by
  constructor <;> decide +kernel
theorem downSample_facts : downSample.Facts := by
  constructor <;> decide +kernel

end Mm

namespace Sample

open Idealize.ShloMosaic Idealize.ShloMosaic.TcCoe Idealize.SL Idealize.SL.Sem Cert.Kernel5Ideal Cert.Kernel5Ideal.Gen Mm

variable {F : FTy → Type} [FloatOps F]

/-! The buffers of each product: the operands, the output, the staging buffers and their counters. -/

abbrev bufs0 : Dims.Bufs sig upSample := ⟨Memref.whole main_v18, Memref.whole main_v45, Memref.whole main_v50, stage0_0, stage0_1, stage0_2, sem0_0, sem0_1, sem0_2, Memref.isWhole_whole _, Memref.isWhole_whole _, Memref.isWhole_whole _, hstage0_0, hstage0_1, hstage0_2⟩
abbrev bufs1 : Dims.Bufs sig upSample := ⟨Memref.whole main_v18, Memref.whole main_v47, Memref.whole main_v51, stage1_0, stage1_1, stage1_2, sem1_0, sem1_1, sem1_2, Memref.isWhole_whole _, Memref.isWhole_whole _, Memref.isWhole_whole _, hstage1_0, hstage1_1, hstage1_2⟩
abbrev bufs2 : Dims.Bufs sig downSample := ⟨Memref.whole main_v53, Memref.whole main_v49, Memref.whole main_v54, stage2_0, stage2_1, stage2_2, sem2_0, sem2_1, sem2_2, Memref.isWhole_whole _, Memref.isWhole_whole _, Memref.isWhole_whole _, hstage2_0, hstage2_1, hstage2_2⟩
abbrev bufs3 : Dims.Bufs sig upSample := ⟨Memref.whole main_v18, Memref.whole main_v60, Memref.whole main_v65, stage3_0, stage3_1, stage3_2, sem3_0, sem3_1, sem3_2, Memref.isWhole_whole _, Memref.isWhole_whole _, Memref.isWhole_whole _, hstage3_0, hstage3_1, hstage3_2⟩
abbrev bufs4 : Dims.Bufs sig upSample := ⟨Memref.whole main_v18, Memref.whole main_v62, Memref.whole main_v66, stage4_0, stage4_1, stage4_2, sem4_0, sem4_1, sem4_2, Memref.isWhole_whole _, Memref.isWhole_whole _, Memref.isWhole_whole _, hstage4_0, hstage4_1, hstage4_2⟩
abbrev bufs5 : Dims.Bufs sig downSample := ⟨Memref.whole main_v68, Memref.whole main_v64, Memref.whole main_v69, stage5_0, stage5_1, stage5_2, sem5_0, sem5_1, sem5_2, Memref.isWhole_whole _, Memref.isWhole_whole _, Memref.isWhole_whole _, hstage5_0, hstage5_1, hstage5_2⟩
abbrev bufs6 : Dims.Bufs sig upSample := ⟨Memref.whole main_v18, Memref.whole main_v75, Memref.whole main_v80, stage6_0, stage6_1, stage6_2, sem6_0, sem6_1, sem6_2, Memref.isWhole_whole _, Memref.isWhole_whole _, Memref.isWhole_whole _, hstage6_0, hstage6_1, hstage6_2⟩
abbrev bufs7 : Dims.Bufs sig upSample := ⟨Memref.whole main_v18, Memref.whole main_v77, Memref.whole main_v81, stage7_0, stage7_1, stage7_2, sem7_0, sem7_1, sem7_2, Memref.isWhole_whole _, Memref.isWhole_whole _, Memref.isWhole_whole _, hstage7_0, hstage7_1, hstage7_2⟩
abbrev bufs8 : Dims.Bufs sig downSample := ⟨Memref.whole main_v83, Memref.whole main_v79, Memref.whole main_v84, stage8_0, stage8_1, stage8_2, sem8_0, sem8_1, sem8_2, Memref.isWhole_whole _, Memref.isWhole_whole _, Memref.isWhole_whole _, hstage8_0, hstage8_1, hstage8_2⟩
abbrev bufs9 : Dims.Bufs sig upSample := ⟨Memref.whole main_v18, Memref.whole main_v90, Memref.whole main_v95, stage9_0, stage9_1, stage9_2, sem9_0, sem9_1, sem9_2, Memref.isWhole_whole _, Memref.isWhole_whole _, Memref.isWhole_whole _, hstage9_0, hstage9_1, hstage9_2⟩
abbrev bufs10 : Dims.Bufs sig upSample := ⟨Memref.whole main_v18, Memref.whole main_v92, Memref.whole main_v96, stage10_0, stage10_1, stage10_2, sem10_0, sem10_1, sem10_2, Memref.isWhole_whole _, Memref.isWhole_whole _, Memref.isWhole_whole _, hstage10_0, hstage10_1, hstage10_2⟩
abbrev bufs11 : Dims.Bufs sig downSample := ⟨Memref.whole main_v98, Memref.whole main_v94, Memref.whole main_v99, stage11_0, stage11_1, stage11_2, sem11_0, sem11_1, sem11_2, Memref.isWhole_whole _, Memref.isWhole_whole _, Memref.isWhole_whole _, hstage11_0, hstage11_1, hstage11_2⟩
abbrev bufs12 : Dims.Bufs sig upSample := ⟨Memref.whole main_v18, Memref.whole main_v105, Memref.whole main_v110, stage12_0, stage12_1, stage12_2, sem12_0, sem12_1, sem12_2, Memref.isWhole_whole _, Memref.isWhole_whole _, Memref.isWhole_whole _, hstage12_0, hstage12_1, hstage12_2⟩
abbrev bufs13 : Dims.Bufs sig upSample := ⟨Memref.whole main_v18, Memref.whole main_v107, Memref.whole main_v111, stage13_0, stage13_1, stage13_2, sem13_0, sem13_1, sem13_2, Memref.isWhole_whole _, Memref.isWhole_whole _, Memref.isWhole_whole _, hstage13_0, hstage13_1, hstage13_2⟩
abbrev bufs14 : Dims.Bufs sig downSample := ⟨Memref.whole main_v113, Memref.whole main_v109, Memref.whole main_v114, stage14_0, stage14_1, stage14_2, sem14_0, sem14_1, sem14_2, Memref.isWhole_whole _, Memref.isWhole_whole _, Memref.isWhole_whole _, hstage14_0, hstage14_1, hstage14_2⟩
abbrev bufs15 : Dims.Bufs sig upSample := ⟨Memref.whole main_v18, Memref.whole main_v120, Memref.whole main_v125, stage15_0, stage15_1, stage15_2, sem15_0, sem15_1, sem15_2, Memref.isWhole_whole _, Memref.isWhole_whole _, Memref.isWhole_whole _, hstage15_0, hstage15_1, hstage15_2⟩
abbrev bufs16 : Dims.Bufs sig upSample := ⟨Memref.whole main_v18, Memref.whole main_v122, Memref.whole main_v126, stage16_0, stage16_1, stage16_2, sem16_0, sem16_1, sem16_2, Memref.isWhole_whole _, Memref.isWhole_whole _, Memref.isWhole_whole _, hstage16_0, hstage16_1, hstage16_2⟩
abbrev bufs17 : Dims.Bufs sig downSample := ⟨Memref.whole main_v128, Memref.whole main_v124, Memref.whole main_v129, stage17_0, stage17_1, stage17_2, sem17_0, sem17_1, sem17_2, Memref.isWhole_whole _, Memref.isWhole_whole _, Memref.isWhole_whole _, hstage17_0, hstage17_1, hstage17_2⟩
abbrev bufs18 : Dims.Bufs sig upSample := ⟨Memref.whole main_v18, Memref.whole main_v135, Memref.whole main_v140, stage18_0, stage18_1, stage18_2, sem18_0, sem18_1, sem18_2, Memref.isWhole_whole _, Memref.isWhole_whole _, Memref.isWhole_whole _, hstage18_0, hstage18_1, hstage18_2⟩
abbrev bufs19 : Dims.Bufs sig upSample := ⟨Memref.whole main_v18, Memref.whole main_v137, Memref.whole main_v141, stage19_0, stage19_1, stage19_2, sem19_0, sem19_1, sem19_2, Memref.isWhole_whole _, Memref.isWhole_whole _, Memref.isWhole_whole _, hstage19_0, hstage19_1, hstage19_2⟩
abbrev bufs20 : Dims.Bufs sig downSample := ⟨Memref.whole main_v143, Memref.whole main_v139, Memref.whole main_v144, stage20_0, stage20_1, stage20_2, sem20_0, sem20_1, sem20_2, Memref.isWhole_whole _, Memref.isWhole_whole _, Memref.isWhole_whole _, hstage20_0, hstage20_1, hstage20_2⟩
abbrev bufs21 : Dims.Bufs sig upSample := ⟨Memref.whole main_v18, Memref.whole main_v150, Memref.whole main_v155, stage21_0, stage21_1, stage21_2, sem21_0, sem21_1, sem21_2, Memref.isWhole_whole _, Memref.isWhole_whole _, Memref.isWhole_whole _, hstage21_0, hstage21_1, hstage21_2⟩
abbrev bufs22 : Dims.Bufs sig upSample := ⟨Memref.whole main_v18, Memref.whole main_v152, Memref.whole main_v156, stage22_0, stage22_1, stage22_2, sem22_0, sem22_1, sem22_2, Memref.isWhole_whole _, Memref.isWhole_whole _, Memref.isWhole_whole _, hstage22_0, hstage22_1, hstage22_2⟩
abbrev bufs23 : Dims.Bufs sig downSample := ⟨Memref.whole main_v158, Memref.whole main_v154, Memref.whole main_v159, stage23_0, stage23_1, stage23_2, sem23_0, sem23_1, sem23_2, Memref.isWhole_whole _, Memref.isWhole_whole _, Memref.isWhole_whole _, hstage23_0, hstage23_1, hstage23_2⟩

/-! The rows. -/

abbrev row0 : Row F sig Λ₀.Label Λ₀.Args := Dims.row true upSample_facts bufs0 (0 : Fin 24) fun t s => (t, s)
abbrev row1 : Row F sig Λ₀.Label Λ₀.Args := Dims.row true upSample_facts bufs1 (1 : Fin 24) fun t s => (t, s)
abbrev row2 : Row F sig Λ₀.Label Λ₀.Args := Dims.row true downSample_facts bufs2 (2 : Fin 24) fun t s => (t, s)
abbrev row3 : Row F sig Λ₀.Label Λ₀.Args := Dims.row true upSample_facts bufs3 (3 : Fin 24) fun t s => (t, s)
abbrev row4 : Row F sig Λ₀.Label Λ₀.Args := Dims.row true upSample_facts bufs4 (4 : Fin 24) fun t s => (t, s)
abbrev row5 : Row F sig Λ₀.Label Λ₀.Args := Dims.row true downSample_facts bufs5 (5 : Fin 24) fun t s => (t, s)
abbrev row6 : Row F sig Λ₀.Label Λ₀.Args := Dims.row true upSample_facts bufs6 (6 : Fin 24) fun t s => (t, s)
abbrev row7 : Row F sig Λ₀.Label Λ₀.Args := Dims.row true upSample_facts bufs7 (7 : Fin 24) fun t s => (t, s)
abbrev row8 : Row F sig Λ₀.Label Λ₀.Args := Dims.row true downSample_facts bufs8 (8 : Fin 24) fun t s => (t, s)
abbrev row9 : Row F sig Λ₀.Label Λ₀.Args := Dims.row true upSample_facts bufs9 (9 : Fin 24) fun t s => (t, s)
abbrev row10 : Row F sig Λ₀.Label Λ₀.Args := Dims.row true upSample_facts bufs10 (10 : Fin 24) fun t s => (t, s)
abbrev row11 : Row F sig Λ₀.Label Λ₀.Args := Dims.row true downSample_facts bufs11 (11 : Fin 24) fun t s => (t, s)
abbrev row12 : Row F sig Λ₀.Label Λ₀.Args := Dims.row true upSample_facts bufs12 (12 : Fin 24) fun t s => (t, s)
abbrev row13 : Row F sig Λ₀.Label Λ₀.Args := Dims.row true upSample_facts bufs13 (13 : Fin 24) fun t s => (t, s)
abbrev row14 : Row F sig Λ₀.Label Λ₀.Args := Dims.row true downSample_facts bufs14 (14 : Fin 24) fun t s => (t, s)
abbrev row15 : Row F sig Λ₀.Label Λ₀.Args := Dims.row true upSample_facts bufs15 (15 : Fin 24) fun t s => (t, s)
abbrev row16 : Row F sig Λ₀.Label Λ₀.Args := Dims.row true upSample_facts bufs16 (16 : Fin 24) fun t s => (t, s)
abbrev row17 : Row F sig Λ₀.Label Λ₀.Args := Dims.row true downSample_facts bufs17 (17 : Fin 24) fun t s => (t, s)
abbrev row18 : Row F sig Λ₀.Label Λ₀.Args := Dims.row true upSample_facts bufs18 (18 : Fin 24) fun t s => (t, s)
abbrev row19 : Row F sig Λ₀.Label Λ₀.Args := Dims.row true upSample_facts bufs19 (19 : Fin 24) fun t s => (t, s)
abbrev row20 : Row F sig Λ₀.Label Λ₀.Args := Dims.row true downSample_facts bufs20 (20 : Fin 24) fun t s => (t, s)
abbrev row21 : Row F sig Λ₀.Label Λ₀.Args := Dims.row true upSample_facts bufs21 (21 : Fin 24) fun t s => (t, s)
abbrev row22 : Row F sig Λ₀.Label Λ₀.Args := Dims.row true upSample_facts bufs22 (22 : Fin 24) fun t s => (t, s)
abbrev row23 : Row F sig Λ₀.Label Λ₀.Args := Dims.row true downSample_facts bufs23 (23 : Fin 24) fun t s => (t, s)

/-- The table. -/
abbrev rows : Fin 24 → Row F sig Λ₀.Label Λ₀.Args := fun
  | ⟨0, _⟩ => row0
  | ⟨1, _⟩ => row1
  | ⟨2, _⟩ => row2
  | ⟨3, _⟩ => row3
  | ⟨4, _⟩ => row4
  | ⟨5, _⟩ => row5
  | ⟨6, _⟩ => row6
  | ⟨7, _⟩ => row7
  | ⟨8, _⟩ => row8
  | ⟨9, _⟩ => row9
  | ⟨10, _⟩ => row10
  | ⟨11, _⟩ => row11
  | ⟨12, _⟩ => row12
  | ⟨13, _⟩ => row13
  | ⟨14, _⟩ => row14
  | ⟨15, _⟩ => row15
  | ⟨16, _⟩ => row16
  | ⟨17, _⟩ => row17
  | ⟨18, _⟩ => row18
  | ⟨19, _⟩ => row19
  | ⟨20, _⟩ => row20
  | ⟨21, _⟩ => row21
  | ⟨22, _⟩ => row22
  | ⟨23, _⟩ => row23
  | ⟨_ + 24, h⟩ => absurd h (by omega)

/-- The program. -/
abbrev items : List (Item F τ sig 24) :=
  [.ops hostOps0, .ops hostOps0_1, .ops hostOps0_2, .ops hostOps0_3, .call 0, .call 1, .ops hostOps2, .ops hostOps2_1, .call 2, .ops hostOps3, .call 3, .call 4,
    .ops hostOps5, .ops hostOps5_1, .call 5, .ops hostOps6, .call 6, .call 7, .ops hostOps8, .ops hostOps8_1, .call 8, .ops hostOps9, .call 9, .call 10,
    .ops hostOps11, .ops hostOps11_1, .call 11, .ops hostOps12, .call 12, .call 13, .ops hostOps14, .ops hostOps14_1, .call 14, .ops hostOps15, .call 15, .call 16,
    .ops hostOps17, .ops hostOps17_1, .call 17, .ops hostOps18, .call 18, .call 19, .ops hostOps20, .ops hostOps20_1, .call 20, .ops hostOps21, .call 21, .call 22,
    .ops hostOps23, .ops hostOps23_1, .call 23, .ops hostOps24]

set_option maxHeartbeats 4000000 in
theorem cfgs_eq : cfgs = cfgOf (rows (F := F)) := by
  funext p
  match p with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨_ + 24, h⟩ => exact absurd h (by omega)

set_option maxHeartbeats 4000000 in
theorem row_ok : ∀ p, Row.Ok (τ := τ) (rows (F := F)) defs₀ cfgs p := fun
  | ⟨0, _⟩ => ⟨launch0, Dims.call_ok upSample_facts bufs0, fun t s => rfl⟩
  | ⟨1, _⟩ => ⟨launch1, Dims.call_ok upSample_facts bufs1, fun t s => rfl⟩
  | ⟨2, _⟩ => ⟨launch2, Dims.call_ok downSample_facts bufs2, fun t s => rfl⟩
  | ⟨3, _⟩ => ⟨launch3, Dims.call_ok upSample_facts bufs3, fun t s => rfl⟩
  | ⟨4, _⟩ => ⟨launch4, Dims.call_ok upSample_facts bufs4, fun t s => rfl⟩
  | ⟨5, _⟩ => ⟨launch5, Dims.call_ok downSample_facts bufs5, fun t s => rfl⟩
  | ⟨6, _⟩ => ⟨launch6, Dims.call_ok upSample_facts bufs6, fun t s => rfl⟩
  | ⟨7, _⟩ => ⟨launch7, Dims.call_ok upSample_facts bufs7, fun t s => rfl⟩
  | ⟨8, _⟩ => ⟨launch8, Dims.call_ok downSample_facts bufs8, fun t s => rfl⟩
  | ⟨9, _⟩ => ⟨launch9, Dims.call_ok upSample_facts bufs9, fun t s => rfl⟩
  | ⟨10, _⟩ => ⟨launch10, Dims.call_ok upSample_facts bufs10, fun t s => rfl⟩
  | ⟨11, _⟩ => ⟨launch11, Dims.call_ok downSample_facts bufs11, fun t s => rfl⟩
  | ⟨12, _⟩ => ⟨launch12, Dims.call_ok upSample_facts bufs12, fun t s => rfl⟩
  | ⟨13, _⟩ => ⟨launch13, Dims.call_ok upSample_facts bufs13, fun t s => rfl⟩
  | ⟨14, _⟩ => ⟨launch14, Dims.call_ok downSample_facts bufs14, fun t s => rfl⟩
  | ⟨15, _⟩ => ⟨launch15, Dims.call_ok upSample_facts bufs15, fun t s => rfl⟩
  | ⟨16, _⟩ => ⟨launch16, Dims.call_ok upSample_facts bufs16, fun t s => rfl⟩
  | ⟨17, _⟩ => ⟨launch17, Dims.call_ok downSample_facts bufs17, fun t s => rfl⟩
  | ⟨18, _⟩ => ⟨launch18, Dims.call_ok upSample_facts bufs18, fun t s => rfl⟩
  | ⟨19, _⟩ => ⟨launch19, Dims.call_ok upSample_facts bufs19, fun t s => rfl⟩
  | ⟨20, _⟩ => ⟨launch20, Dims.call_ok downSample_facts bufs20, fun t s => rfl⟩
  | ⟨21, _⟩ => ⟨launch21, Dims.call_ok upSample_facts bufs21, fun t s => rfl⟩
  | ⟨22, _⟩ => ⟨launch22, Dims.call_ok upSample_facts bufs22, fun t s => rfl⟩
  | ⟨23, _⟩ => ⟨launch23, Dims.call_ok downSample_facts bufs23, fun t s => rfl⟩
  | ⟨_ + 24, h⟩ => absurd h (by omega)

set_option maxHeartbeats 4000000 in
theorem fresh_none : ∀ i ∈ items (F := F), i.Ok := by
  refine List.forall_iff_forall_mem.mp ?_
  refine ⟨⟨hostOps0_sub, ?_⟩, ⟨hostOps0_1_sub, ?_⟩, ⟨hostOps0_2_sub, ?_⟩, ⟨hostOps0_3_sub, ?_⟩, trivial, trivial,
    ⟨hostOps2_sub, ?_⟩, ⟨hostOps2_1_sub, ?_⟩, trivial, ⟨hostOps3_sub, ?_⟩, trivial, trivial,
    ⟨hostOps5_sub, ?_⟩, ⟨hostOps5_1_sub, ?_⟩, trivial, ⟨hostOps6_sub, ?_⟩, trivial, trivial,
    ⟨hostOps8_sub, ?_⟩, ⟨hostOps8_1_sub, ?_⟩, trivial, ⟨hostOps9_sub, ?_⟩, trivial, trivial,
    ⟨hostOps11_sub, ?_⟩, ⟨hostOps11_1_sub, ?_⟩, trivial, ⟨hostOps12_sub, ?_⟩, trivial, trivial,
    ⟨hostOps14_sub, ?_⟩, ⟨hostOps14_1_sub, ?_⟩, trivial, ⟨hostOps15_sub, ?_⟩, trivial, trivial,
    ⟨hostOps17_sub, ?_⟩, ⟨hostOps17_1_sub, ?_⟩, trivial, ⟨hostOps18_sub, ?_⟩, trivial, trivial,
    ⟨hostOps20_sub, ?_⟩, ⟨hostOps20_1_sub, ?_⟩, trivial, ⟨hostOps21_sub, ?_⟩, trivial, trivial,
    ⟨hostOps23_sub, ?_⟩, ⟨hostOps23_1_sub, ?_⟩, trivial, ⟨hostOps24_sub, ?_⟩⟩ <;>
    (simp only [List.Forall]; repeat' constructor)

/-- A buffer of @main's that is not one of its eleven arguments. -/
abbrev notArg (b : Ref sig .tc) : Bool := !(b.space == .hbm && b.idx.val < 11)

set_option maxHeartbeats 4000000 in
theorem writes : ∀ i ∈ items (F := F), i.Writes rows notArg := by
  refine List.forall_iff_forall_mem.mp ?_
  simp only [items, List.Forall, Item.Writes]
  repeat' (first | exact ⟨_, rfl, by decide⟩ | exact rfl | apply And.intro)

/-- The eleven arguments. -/
abbrev args : List (Ref sig .tc) := [main_arg0, main_arg1, main_arg2, main_arg3, main_arg4, main_arg5, main_arg6, main_arg7, main_arg8, main_arg9, main_arg10]

set_option maxHeartbeats 4000000 in
/-- From any memory the program ends with its result at the contents the items leave, its arguments unchanged and all
    counters zero. -/
theorem run_out (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v193) = fold rows (launched m) items c (Proc.devRef .tc main_v193)
        ∧ args.Forall fun b => r.2.mem ((c.tc : Thread nD τ).loc b) = m ((c.tc : Thread nD τ).loc b)) ∧ r.2.sem = fun _ => 0) :=
  Mm.run_out rows defs₀ items m ρ cfgs cfgs_eq row_ok fresh_none (show ([0, 1, 2, 3, 4, 5, 6, 7, 8, 9, 10, 11, 12, 13, 14, 15, 16, 17, 18, 19, 20, 21, 22, 23] : List (Fin 24)).Nodup by decide)
    cellOf_inj (by decide) main main_chain notArg writes main_v193 (by decide) args (by decide)

end Sample
end
-- ==== Proof.SampleMain.lean ====
module

public import proofs.«01_k».proof.Proof.Gen.Kernel5
public import proofs.«01_k».proof.Proof.SampleTable

/-!
# The sample's mixture of experts: the printed program's text

The printed program's text is that of the program over the extended reals.
-/

@[expose] public section

noncomputable section

namespace Sample

open Idealize.ShloMosaic Idealize.ShloMosaic.TcCoe Idealize.SL Idealize.SL.Sem Cert.Kernel5.Gen Cert.Kernel5Ideal.Gen

variable {F : FTy → Type} [FloatOps F]

/-! The four stretches of the program's text. -/

set_option maxHeartbeats 4000000 in
theorem part0_same : Cert.Kernel5.main_part0 (F := F) = Cert.Kernel5Ideal.main_part0 (F := F) := by exact rfl
set_option maxHeartbeats 4000000 in
theorem part1_same : Cert.Kernel5.main_part1 (F := F) = Cert.Kernel5Ideal.main_part1 (F := F) := by exact rfl
set_option maxHeartbeats 4000000 in
theorem part2_same : Cert.Kernel5.main_part2 (F := F) = Cert.Kernel5Ideal.main_part2 (F := F) := by exact rfl
set_option maxHeartbeats 4000000 in
theorem part3_same : Cert.Kernel5.main_part3 (F := F) = Cert.Kernel5Ideal.main_part3 (F := F) := by exact rfl

set_option maxHeartbeats 40000000 in
/-- The whole text. -/
theorem main_same : Cert.Kernel5.main (F := F) = Cert.Kernel5Ideal.main (F := F) := by
  unfold Cert.Kernel5.main Cert.Kernel5Ideal.main
  rw [part0_same, part1_same, part2_same, part3_same]
  rfl

end Sample
end
-- ==== Proof.SampleBits.lean ====
module

public import proofs.«01_k».proof.Proof.Gen.Kernel5
public import proofs.«01_k».proof.Proof.SampleMain

/-!
# The sample's mixture of experts as printed

The printed program and the one over the extended reals are one text; what is proved of the second at any float values
holds of the first.
-/

@[expose] public section

noncomputable section

namespace Sample

open Idealize.ShloMosaic Idealize.ShloMosaic.TcCoe Idealize.SL Idealize.SL.Sem Cert.Kernel5.Gen Cert.Kernel5Ideal.Gen

variable {F : FTy → Type} [FloatOps F]

set_option maxHeartbeats 8000000 in
theorem bodies_same : Cert.Kernel5.defs₀ (F := F) = Cert.Kernel5Ideal.defs₀ (F := F) := by
  refine congrArg Defs.onTc ?_
  funext l a
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl
  | 8, (t, s) => rfl
  | 9, (t, s) => rfl
  | 10, (t, s) => rfl
  | 11, (t, s) => rfl
  | 12, (t, s) => rfl
  | 13, (t, s) => rfl
  | 14, (t, s) => rfl
  | 15, (t, s) => rfl
  | 16, (t, s) => rfl
  | 17, (t, s) => rfl
  | 18, (t, s) => rfl
  | 19, (t, s) => rfl
  | 20, (t, s) => rfl
  | 21, (t, s) => rfl
  | 22, (t, s) => rfl
  | 23, (t, s) => rfl
  | ⟨_ + 24, h⟩, _ => exact absurd h (by omega)

set_option maxHeartbeats 40000000 in
theorem defs_same : Cert.Kernel5.defs (F := F) = Cert.Kernel5Ideal.defs (F := F) := congrArg (Pipeline.defs Cert.Kernel5.pcfgs) bodies_same

set_option maxHeartbeats 40000000 in
/-- The printed program's run, from the other's. -/
theorem run_printed (m : (ℓ : Loc Cert.Kernel5.nD Cert.Kernel5.τ Cert.Kernel5.sig) → Buf (Elt F) ℓ) (ρ : Dev Cert.Kernel5.nD → PrngReg) :
    θ_run (Cert.Kernel5.defs (F := F)) (onTc (τ := Cert.Kernel5.τ) (Cert.Kernel5.main (F := F))) ⟨m, fun _ => 0, ρ⟩ (fun r =>
      (∀ c : Dev Cert.Kernel5.nD, args.Forall fun b => r.2.mem ((c.tc : Thread Cert.Kernel5.nD Cert.Kernel5.τ).loc b) = m ((c.tc : Thread Cert.Kernel5.nD Cert.Kernel5.τ).loc b))
        ∧ r.2.sem = fun _ => 0) := by
  rw [main_same, defs_same]
  exact (θ_run _ _ _).mono (fun _ h => ⟨fun c => (h.1 c).2, h.2⟩) (run_out (F := F) m ρ)

end Sample
end
-- ==== Proof.SampleOps.lean ====
module

public import proofs.«01_k».proof.Proof.SampleTable
public import proofs.«01_k».proof.Proof.Gen.Reference5Ideal.Read

/-!
# The sample's mixture of experts over the extended reals

Each product leaves the plain matrix product of its operands, so the program leaves what a line of host operations
leaves; that line is the reference's.
-/

@[expose] public section

noncomputable section

namespace Sample

open Idealize.ShloMosaic Idealize.ShloMosaic.TcCoe Idealize.SL Idealize.SL.Sem Cert.Kernel5Ideal Cert.Kernel5Ideal.Gen Mm

/-- A product of the sample's tokens with an expert's `w1` or `w3`. -/
abbrev Up : Type := FVec Ideal S2048x1024 .f32 → FVec Ideal S1024x2816 .f32 → FVec Ideal S2048x2816 .f32
/-- A product of the hidden values with an expert's `w2`. -/
abbrev Down : Type := FVec Ideal S2048x2816 .f32 → FVec Ideal S2816x1024 .f32 → FVec Ideal S2048x1024 .f32

/-- A product of the tokens with one expert's `w1` or `w3` as one host operation. -/
abbrev upOp (f : Up) (w : StableHlo.TRef sig ⟨S1024x2816, .f32⟩) (y : StableHlo.TRef sig ⟨S2048x2816, .f32⟩) : HloOp τ sig (Elt Ideal) :=
  StableHlo.TRef.binary (.of main_v18 : StableHlo.TRef sig ⟨S2048x1024, .f32⟩) w y f

/-- A product of an expert's hidden values with its `w2` as one host operation. -/
abbrev downOp (g : Down) (x : StableHlo.TRef sig ⟨S2048x2816, .f32⟩) (w : StableHlo.TRef sig ⟨S2816x1024, .f32⟩)
    (y : StableHlo.TRef sig ⟨S2048x1024, .f32⟩) : HloOp τ sig (Elt Ideal) :=
  StableHlo.TRef.binary x w y g

/-- Each product as one host operation. -/
abbrev op (f : Up) (g : Down) : Fin 24 → HloOp τ sig (Elt Ideal) := fun
  | ⟨0, _⟩ => upOp f (.of main_v45) (.of main_v50)
  | ⟨1, _⟩ => upOp f (.of main_v47) (.of main_v51)
  | ⟨2, _⟩ => downOp g (.of main_v53) (.of main_v49) (.of main_v54)
  | ⟨3, _⟩ => upOp f (.of main_v60) (.of main_v65)
  | ⟨4, _⟩ => upOp f (.of main_v62) (.of main_v66)
  | ⟨5, _⟩ => downOp g (.of main_v68) (.of main_v64) (.of main_v69)
  | ⟨6, _⟩ => upOp f (.of main_v75) (.of main_v80)
  | ⟨7, _⟩ => upOp f (.of main_v77) (.of main_v81)
  | ⟨8, _⟩ => downOp g (.of main_v83) (.of main_v79) (.of main_v84)
  | ⟨9, _⟩ => upOp f (.of main_v90) (.of main_v95)
  | ⟨10, _⟩ => upOp f (.of main_v92) (.of main_v96)
  | ⟨11, _⟩ => downOp g (.of main_v98) (.of main_v94) (.of main_v99)
  | ⟨12, _⟩ => upOp f (.of main_v105) (.of main_v110)
  | ⟨13, _⟩ => upOp f (.of main_v107) (.of main_v111)
  | ⟨14, _⟩ => downOp g (.of main_v113) (.of main_v109) (.of main_v114)
  | ⟨15, _⟩ => upOp f (.of main_v120) (.of main_v125)
  | ⟨16, _⟩ => upOp f (.of main_v122) (.of main_v126)
  | ⟨17, _⟩ => downOp g (.of main_v128) (.of main_v124) (.of main_v129)
  | ⟨18, _⟩ => upOp f (.of main_v135) (.of main_v140)
  | ⟨19, _⟩ => upOp f (.of main_v137) (.of main_v141)
  | ⟨20, _⟩ => downOp g (.of main_v143) (.of main_v139) (.of main_v144)
  | ⟨21, _⟩ => upOp f (.of main_v150) (.of main_v155)
  | ⟨22, _⟩ => upOp f (.of main_v152) (.of main_v156)
  | ⟨23, _⟩ => downOp g (.of main_v158) (.of main_v154) (.of main_v159)
  | ⟨_ + 24, h⟩ => absurd h (by omega)

set_option maxHeartbeats 4000000 in
/-- Each product leaves what its host operation leaves. -/
theorem out_mm (p : Fin 24) (W : Dev nD → Valuation τ sig (Elt Ideal)) (c : Dev nD) : (rows p).out W c = StableHlo.after [op mm mm p] (W c) := by
  match p with
  | ⟨0, _⟩ => exact Dims.row_out _ _ _ _ _ launch0.win.arr_inj W c _ rfl _ (fun _ _ _ => rfl) rfl
  | ⟨1, _⟩ => exact Dims.row_out _ _ _ _ _ launch1.win.arr_inj W c _ rfl _ (fun _ _ _ => rfl) rfl
  | ⟨2, _⟩ => exact Dims.row_out _ _ _ _ _ launch2.win.arr_inj W c _ rfl _ (fun _ _ _ => rfl) rfl
  | ⟨3, _⟩ => exact Dims.row_out _ _ _ _ _ launch3.win.arr_inj W c _ rfl _ (fun _ _ _ => rfl) rfl
  | ⟨4, _⟩ => exact Dims.row_out _ _ _ _ _ launch4.win.arr_inj W c _ rfl _ (fun _ _ _ => rfl) rfl
  | ⟨5, _⟩ => exact Dims.row_out _ _ _ _ _ launch5.win.arr_inj W c _ rfl _ (fun _ _ _ => rfl) rfl
  | ⟨6, _⟩ => exact Dims.row_out _ _ _ _ _ launch6.win.arr_inj W c _ rfl _ (fun _ _ _ => rfl) rfl
  | ⟨7, _⟩ => exact Dims.row_out _ _ _ _ _ launch7.win.arr_inj W c _ rfl _ (fun _ _ _ => rfl) rfl
  | ⟨8, _⟩ => exact Dims.row_out _ _ _ _ _ launch8.win.arr_inj W c _ rfl _ (fun _ _ _ => rfl) rfl
  | ⟨9, _⟩ => exact Dims.row_out _ _ _ _ _ launch9.win.arr_inj W c _ rfl _ (fun _ _ _ => rfl) rfl
  | ⟨10, _⟩ => exact Dims.row_out _ _ _ _ _ launch10.win.arr_inj W c _ rfl _ (fun _ _ _ => rfl) rfl
  | ⟨11, _⟩ => exact Dims.row_out _ _ _ _ _ launch11.win.arr_inj W c _ rfl _ (fun _ _ _ => rfl) rfl
  | ⟨12, _⟩ => exact Dims.row_out _ _ _ _ _ launch12.win.arr_inj W c _ rfl _ (fun _ _ _ => rfl) rfl
  | ⟨13, _⟩ => exact Dims.row_out _ _ _ _ _ launch13.win.arr_inj W c _ rfl _ (fun _ _ _ => rfl) rfl
  | ⟨14, _⟩ => exact Dims.row_out _ _ _ _ _ launch14.win.arr_inj W c _ rfl _ (fun _ _ _ => rfl) rfl
  | ⟨15, _⟩ => exact Dims.row_out _ _ _ _ _ launch15.win.arr_inj W c _ rfl _ (fun _ _ _ => rfl) rfl
  | ⟨16, _⟩ => exact Dims.row_out _ _ _ _ _ launch16.win.arr_inj W c _ rfl _ (fun _ _ _ => rfl) rfl
  | ⟨17, _⟩ => exact Dims.row_out _ _ _ _ _ launch17.win.arr_inj W c _ rfl _ (fun _ _ _ => rfl) rfl
  | ⟨18, _⟩ => exact Dims.row_out _ _ _ _ _ launch18.win.arr_inj W c _ rfl _ (fun _ _ _ => rfl) rfl
  | ⟨19, _⟩ => exact Dims.row_out _ _ _ _ _ launch19.win.arr_inj W c _ rfl _ (fun _ _ _ => rfl) rfl
  | ⟨20, _⟩ => exact Dims.row_out _ _ _ _ _ launch20.win.arr_inj W c _ rfl _ (fun _ _ _ => rfl) rfl
  | ⟨21, _⟩ => exact Dims.row_out _ _ _ _ _ launch21.win.arr_inj W c _ rfl _ (fun _ _ _ => rfl) rfl
  | ⟨22, _⟩ => exact Dims.row_out _ _ _ _ _ launch22.win.arr_inj W c _ rfl _ (fun _ _ _ => rfl) rfl
  | ⟨23, _⟩ => exact Dims.row_out _ _ _ _ _ launch23.win.arr_inj W c _ rfl _ (fun _ _ _ => rfl) rfl
  | ⟨_ + 24, h⟩ => exact absurd h (by omega)

/-- The products as the reference spells them. -/
abbrev upRef : Up := fun l r => Host.dotGeneral Cert.Reference5Ideal.dot_S2048x1024_S1024x2816_S2048x2816_1_0_0_1_n_n none l r
abbrev downRef : Down := fun l r => Host.dotGeneral Cert.Reference5Ideal.dot_S2048x2816_S2816x1024_S2048x1024_1_0_0_1_n_n none l r

theorem mm_up : (mm : Up) = upRef := funext fun l => funext fun r => (dotGeneral_plain_eq_mm none l r).symm
theorem mm_down : (mm : Down) = downRef := funext fun l => funext fun r => (dotGeneral_plain_eq_mm none l r).symm

theorem out_op (p : Fin 24) (W : Dev nD → Valuation τ sig (Elt Ideal)) (c : Dev nD) : (rows p).out W c = StableHlo.after [op upRef downRef p] (W c) := by
  rw [← mm_up, ← mm_down]
  exact out_mm p W c

end Sample
end
-- ==== Proof.SampleValue.lean ====
module

public import proofs.«01_k».proof.Proof.SampleOps

/-!
# The sample's mixture of experts: the program's line of host operations is the reference's
-/

@[expose] public section

noncomputable section

namespace Sample

open Idealize.ShloMosaic Idealize.ShloMosaic.TcCoe Idealize.SL Idealize.SL.Sem Cert.Kernel5Ideal Cert.Kernel5Ideal.Gen Mm

open Cert.Reference5Ideal.Read in
set_option maxRecDepth 32768 in
set_option maxHeartbeats 80000000 in
/-- What the line of host operations leaves is the reference's value. -/
theorem value (V : Valuation τ sig (Elt Ideal)) :
    StableHlo.after ((items (F := Ideal)).flatMap (Item.host (op upRef downRef))) V (Proc.devRef .tc main_v193)
      = val_main_v193 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp only [items, List.flatMap_cons, List.flatMap_nil, Item.host, List.cons_append, List.nil_append, List.append_nil, StableHlo.TRef.binary, StableHlo.TRef.nullary, StableHlo.TRef.unary, StableHlo.TRef.toBuf, StableHlo.TRef.ofBuf, cast_eq]
  after_results_simp
  rfl

end Sample
end
-- ==== Proof.SampleClaims.lean ====
module

public import proofs.«01_k».proof.Defs
public import proofs.«01_k».proof.Proof.SampleBits
public import proofs.«01_k».proof.Proof.SampleValue

/-!
# The claims about the mixture of experts on the sample batch
-/

@[expose] public section

noncomputable section

namespace Sample

open Idealize.ShloMosaic Idealize.ShloMosaic.TcCoe Idealize.SL Idealize.SL.Sem Mm

/-- The printed program ends, its arguments unchanged, every counter at zero. -/
theorem frame_printed : Cert.quiescent_Kernel5 (hKernel5 := Cert.Kernel5.Gen.facts) := fun m ρ _ =>
  (θ_run _ _ _).mono (fun _ h => ⟨fun c => h.1 c, h.2⟩) (run_printed (F := Bits) m ρ)

/-- So does the program over the extended reals. -/
theorem frame_ideal : Cert.quiescent_Kernel5Ideal (hKernel5Ideal := Cert.Kernel5Ideal.Gen.facts) := fun m ρ _ =>
  (θ_run _ _ _).mono (fun _ h => ⟨fun c => (h.1 c).2, h.2⟩) (run_out (F := Ideal) m ρ)

/-- So does the reference, which declares no semaphore. -/
theorem frame_reference : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run (F := Ideal) m ρ)

/-- From memories that agree on the arguments the program and its reference end with equal results. -/
theorem equal : Cert.algebraic_Kernel5Ideal_Reference5Ideal (hKernel5Ideal := Cert.Kernel5Ideal.Gen.facts) (hReference5Ideal := Cert.Reference5Ideal.Gen.facts) := by
  intro m ρ m' ρ' _ hag
  refine ⟨fun c => fold rows (launched m) items c (Proc.devRef .tc Cert.Kernel5Ideal.main_v193),
    (θ_run _ _ _).mono (fun _ h c => h.1 c) (run_out (F := Ideal) m ρ),
    (θ_run _ _ _).mono (fun _ h c => ⟨(h c).1.trans ?_, (h c).2⟩) (Cert.Reference5Ideal.Value.run (F := Ideal) m' ρ')⟩
  obtain ⟨h0, h1, h2, h3, h4, h5, h6, h7, h8, h9, h10⟩ := hag c
  show _ = fold rows (launched m) items c (Proc.devRef .tc Cert.Kernel5Ideal.main_v193)
  rw [fold_host rows (op upRef downRef) out_op c items (launched m), value, Cert.Reference5Ideal.Read.val_main_v193_eq]
  have e : ∀ (b : Ref Cert.Reference5Ideal.sig .tc), StableHlo.launchContents m' c (Proc.devRef .tc b) = m' ((c.tc : Thread _ _).loc b) := fun b => rfl
  rw [e, e, e, e, e, e, e, e, e, e, e, h0, h1, h2, h3, h4, h5, h6, h7, h8, h9, h10]

end Sample
end
-- ==== Proof.HgrnText.lean ====
module

public import proofs.«01_k».proof.Proof.Gen.Kernel6
public import proofs.«01_k».proof.Proof.Gen.Kernel6Ideal
public import proofs.«01_k».proof.Proof.Gen.Reference6Ideal

/-!
# The gated recurrence: the programs' texts

The printed program's text is that of the program over the extended reals, and so is the reference's: the kernel
keeps the reference's recurrence over chunks, operation for operation.
-/

@[expose] public section

noncomputable section

namespace Hgrn

open Idealize.ShloMosaic Idealize.ShloMosaic.TcCoe Idealize.SL Idealize.SL.Sem
open Cert.Kernel6.Gen Cert.Kernel6Ideal.Gen Cert.Reference6Ideal.Gen

variable {F : FTy → Type} [FloatOps F]

/-! The printed program. -/

set_option maxHeartbeats 4000000 in
theorem part0_printed : Cert.Kernel6.main_part0 (F := F) = Cert.Kernel6Ideal.main_part0 (F := F) := by exact rfl
set_option maxHeartbeats 4000000 in
theorem part1_printed : Cert.Kernel6.main_part1 (F := F) = Cert.Kernel6Ideal.main_part1 (F := F) := by exact rfl
set_option maxHeartbeats 4000000 in
theorem cond_printed : Cert.Kernel6.main_while0_cond (F := F) = Cert.Kernel6Ideal.main_while0_cond (F := F) := by exact rfl
set_option maxHeartbeats 4000000 in
theorem body0_printed : Cert.Kernel6.main_while0_body_part0 (F := F) = Cert.Kernel6Ideal.main_while0_body_part0 (F := F) := by exact rfl
set_option maxHeartbeats 4000000 in
theorem body1_printed : Cert.Kernel6.main_while0_body_part1 (F := F) = Cert.Kernel6Ideal.main_while0_body_part1 (F := F) := by exact rfl

set_option maxHeartbeats 4000000 in
theorem main_printed : Cert.Kernel6.main (F := F) = Cert.Kernel6Ideal.main (F := F) := by
  unfold Cert.Kernel6.main Cert.Kernel6Ideal.main
  rw [part0_printed, part1_printed]

set_option maxHeartbeats 4000000 in
theorem loops_printed : Cert.Kernel6.loops (F := F) = Cert.Kernel6Ideal.loops (F := F) := by
  funext l
  match l with
  | 0 =>
    unfold Cert.Kernel6.loops Cert.Kernel6Ideal.loops Cert.Kernel6.main_while0_body Cert.Kernel6Ideal.main_while0_body
    rw [cond_printed, body0_printed, body1_printed]

set_option maxHeartbeats 4000000 in
theorem defs_printed : Cert.Kernel6.defs (F := F) = Cert.Kernel6Ideal.defs (F := F) := by
  unfold Cert.Kernel6.defs Cert.Kernel6Ideal.defs
  rw [loops_printed]
  rfl

/-! The reference. -/

set_option maxHeartbeats 4000000 in
theorem part0_reference : Cert.Reference6Ideal.main_part0 (F := F) = Cert.Kernel6Ideal.main_part0 (F := F) := by exact rfl
set_option maxHeartbeats 4000000 in
theorem part1_reference : Cert.Reference6Ideal.main_part1 (F := F) = Cert.Kernel6Ideal.main_part1 (F := F) := by exact rfl
set_option maxHeartbeats 4000000 in
theorem cond_reference : Cert.Reference6Ideal.main_while0_cond (F := F) = Cert.Kernel6Ideal.main_while0_cond (F := F) := by exact rfl
set_option maxHeartbeats 4000000 in
theorem body0_reference : Cert.Reference6Ideal.main_while0_body_part0 (F := F) = Cert.Kernel6Ideal.main_while0_body_part0 (F := F) := by exact rfl
set_option maxHeartbeats 4000000 in
theorem body1_reference : Cert.Reference6Ideal.main_while0_body_part1 (F := F) = Cert.Kernel6Ideal.main_while0_body_part1 (F := F) := by exact rfl

set_option maxHeartbeats 4000000 in
theorem main_reference : Cert.Reference6Ideal.main (F := F) = Cert.Kernel6Ideal.main (F := F) := by
  unfold Cert.Reference6Ideal.main Cert.Kernel6Ideal.main
  rw [part0_reference, part1_reference]

set_option maxHeartbeats 4000000 in
theorem loops_reference : Cert.Reference6Ideal.loops (F := F) = Cert.Kernel6Ideal.loops (F := F) := by
  funext l
  match l with
  | 0 =>
    unfold Cert.Reference6Ideal.loops Cert.Kernel6Ideal.loops Cert.Reference6Ideal.main_while0_body Cert.Kernel6Ideal.main_while0_body
    rw [cond_reference, body0_reference, body1_reference]

set_option maxHeartbeats 4000000 in
theorem defs_reference : Cert.Reference6Ideal.defs (F := F) = Cert.Kernel6Ideal.defs (F := F) := by
  unfold Cert.Reference6Ideal.defs Cert.Kernel6Ideal.defs
  rw [loops_reference]
  rfl

end Hgrn
end
-- ==== Proof.Loop.lean ====
module

public import Idealize.ShloMosaic.Lib.StableHlo.RunLoop
public import Idealize.ShloMosaic.Lib.StableHlo.RunRead

/-!
# For programs with a host loop: a step iterated, and two arrays put one after the other
-/

@[expose] public section

open Idealize.ShloMosaic

namespace Loop

/-- A step that keeps a relation keeps it however often it is taken. -/
theorem iterate_keeps {α : Type*} {R : α → α → Prop} {f : α → α} (keeps : ∀ {x y}, R x y → R (f x) (f y)) {x y : α} (h : R x y) :
    ∀ k, R (f^[k] x) (f^[k] y)
  | 0 => h
  | k + 1 => by rw [Function.iterate_succ_apply', Function.iterate_succ_apply']; exact keeps (iterate_keeps keeps h k)

/-- Two arrays joined, as a function of the two, so that equal ones can be put for each. -/
def join {α : Type} (t : Shape) (a : Fin t.rank) (s₁ s₂ : Shape) (h : Shape.Concatenates [s₁, s₂] t a) (x : s₁.Idx → α) (y : s₂.Idx → α) :
    t.Idx → α :=
  concatenate t a [⟨s₁, x⟩, ⟨s₂, y⟩] h

theorem join_eq {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = join t a s₁ s₂ h x y :=
  rfl

end Loop

end
-- ==== Proof.HgrnClaims.lean ====
module

public import proofs.«01_k».proof.Defs
public import proofs.«01_k».proof.Proof.Gen.Kernel6Ideal.Run
public import proofs.«01_k».proof.Proof.HgrnText
public import proofs.«01_k».proof.Proof.Loop

/-!
# The claims about the gated recurrence

Reference and program have one text, so one run answers for both: each result is the loop's step, iterated on what
the operations before the loop leave. What they leave in the carried buffers depends on the arguments alone.
-/

@[expose] public section

set_option maxRecDepth 4000

noncomputable section

namespace Hgrn

open Idealize.ShloMosaic Idealize.ShloMosaic.TcCoe Idealize.SL Idealize.SL.Sem
open Idealize.ShloMosaic.StableHlo
open Cert.Kernel6Ideal Cert.Kernel6Ideal.Gen Cert.Kernel6Ideal.Value

/-- The printed program ends, its arguments unchanged, every counter at zero: it declares no semaphore. -/
theorem frame_printed : Cert.quiescent_Kernel6 (hKernel6 := Cert.Kernel6.Gen.facts) := by
  intro m ρ _
  rw [main_printed, defs_printed]
  exact (θ_run _ _ _).mono (fun r h => ⟨fun c => (h c).2.2, sem_eq_zero_of_no_sems (by decide) r.2⟩) (run (F := Bits) m ρ)

/-- So does the program over the extended reals. -/
theorem frame_ideal : Cert.quiescent_Kernel6Ideal (hKernel6Ideal := Cert.Kernel6Ideal.Gen.facts) := fun m ρ _ =>
  (θ_run _ _ _).mono (fun r h => ⟨fun c => (h c).2.2, sem_eq_zero_of_no_sems (by decide) r.2⟩) (run (F := Ideal) m ρ)

/-- So does the reference. -/
theorem frame_reference : Cert.quiescent_Reference6Ideal (hReference6Ideal := Cert.Reference6Ideal.Gen.facts) := by
  intro m ρ _
  rw [main_reference, defs_reference]
  exact (θ_run _ _ _).mono (fun r h => ⟨fun c => (h c).2.2, sem_eq_zero_of_no_sems (by decide) r.2⟩) (run (F := Ideal) m ρ)

variable {F : FTy → Type} [FloatOps F]

set_option maxHeartbeats 2000000 in
/-- Memories that agree on the arguments agree, at the loop's entry, on what it carries. -/
theorem entry_agree (m m' : (ℓ : Loc nD τ sig) → Buf (Elt F) ℓ) (c : Dev nD)
    (h : ∀ b ∈ [main_arg0, main_arg1, main_arg2, main_arg3, main_arg5, main_arg6],
      launchContents m' c (Proc.devRef .tc b) = launchContents m c (Proc.devRef .tc b)) :
    Agree (entryContents preI m' c) (entryContents preI m c) := by
  have h0 := h main_arg0 (by decide)
  have h1 := h main_arg1 (by decide)
  have h2 := h main_arg2 (by decide)
  have h3 := h main_arg3 (by decide)
  have h5 := h main_arg5 (by decide)
  have h6 := h main_arg6 (by decide)
  intro j hj
  simp only [carriedRefs, List.mem_cons, List.not_mem_nil, or_false] at hj
  simp only [entryContents, afterL_cons, afterL_nil]
  rcases hj with rfl | rfl | rfl | rfl | rfl | rfl | rfl | rfl <;> after_reads_simp [unaryIndexed_result', binaryIndexed_result', Loop.join_eq] <;> simp only [h0, h1, h2, h3, h5, h6]

/-- From memories that agree on the arguments the program and its reference end with equal results. -/
theorem equal : Cert.algebraic_Kernel6Ideal_Reference6Ideal (hKernel6Ideal := Cert.Kernel6Ideal.Gen.facts) (hReference6Ideal := Cert.Reference6Ideal.Gen.facts) := by
  intro m ρ m' ρ' _ hag
  refine ⟨fun c => out_main_v93 (STEP^[16] (entryContents preI m c)), fun c => out_main_v94 (STEP^[16] (entryContents preI m c)), run (F := Ideal) m ρ, ?_⟩
  rw [main_reference, defs_reference]
  refine (θ_run _ _ _).mono (fun r h c => ?_) (run (F := Ideal) m' ρ')
  obtain ⟨g0, g1, g2, g3, g4, g5, g6, g7⟩ := hag c
  have e : Agree (STEP^[16] (entryContents preI m' c)) (STEP^[16] (entryContents preI m c)) :=
    Loop.iterate_keeps STEP_congr (entry_agree m m' c (by
      simp only [List.forall_mem_cons, List.not_mem_nil, false_imp_iff, implies_true, and_true]
      exact ⟨g0, g1, g2, g3, g5, g6⟩)) 16
  refine ⟨(h c).1.trans (out_main_v93_congr e ?_ ?_), (h c).2.1.trans (out_main_v94_congr e), (h c).2.2⟩
  · rw [iter_main_arg7, iter_main_arg7]; exact g7
  · rw [iter_main_arg4, iter_main_arg4]; exact g4

end Hgrn
end
-- ==== Proof.MlstmText.lean ====
module

public import proofs.«01_k».proof.Proof.Gen.Kernel7
public import proofs.«01_k».proof.Proof.Gen.Kernel7Ideal
public import proofs.«01_k».proof.Proof.Gen.Reference7Ideal

/-!
# The matrix memory: the programs' texts

The printed program's text is that of the program over the extended reals, and so is the reference's: the kernel
keeps the reference's recurrence over chunks, operation for operation.
-/

@[expose] public section

noncomputable section

namespace Mlstm

open Idealize.ShloMosaic Idealize.ShloMosaic.TcCoe Idealize.SL Idealize.SL.Sem
open Cert.Kernel7.Gen Cert.Kernel7Ideal.Gen Cert.Reference7Ideal.Gen

variable {F : FTy → Type} [FloatOps F]

/-! The printed program. -/

set_option maxHeartbeats 4000000 in
theorem part0_printed : Cert.Kernel7.main_part0 (F := F) = Cert.Kernel7Ideal.main_part0 (F := F) := by exact rfl
set_option maxHeartbeats 4000000 in
theorem part1_printed : Cert.Kernel7.main_part1 (F := F) = Cert.Kernel7Ideal.main_part1 (F := F) := by exact rfl
set_option maxHeartbeats 4000000 in
theorem part2_printed : Cert.Kernel7.main_part2 (F := F) = Cert.Kernel7Ideal.main_part2 (F := F) := by exact rfl
set_option maxHeartbeats 4000000 in
theorem part3_printed : Cert.Kernel7.main_part3 (F := F) = Cert.Kernel7Ideal.main_part3 (F := F) := by exact rfl
set_option maxHeartbeats 4000000 in
theorem cond_printed : Cert.Kernel7.main_while0_cond (F := F) = Cert.Kernel7Ideal.main_while0_cond (F := F) := by exact rfl
set_option maxHeartbeats 4000000 in
theorem body0_printed : Cert.Kernel7.main_while0_body_part0 (F := F) = Cert.Kernel7Ideal.main_while0_body_part0 (F := F) := by exact rfl
set_option maxHeartbeats 4000000 in
theorem body1_printed : Cert.Kernel7.main_while0_body_part1 (F := F) = Cert.Kernel7Ideal.main_while0_body_part1 (F := F) := by exact rfl
set_option maxHeartbeats 4000000 in
theorem body2_printed : Cert.Kernel7.main_while0_body_part2 (F := F) = Cert.Kernel7Ideal.main_while0_body_part2 (F := F) := by exact rfl

set_option maxHeartbeats 4000000 in
theorem main_printed : Cert.Kernel7.main (F := F) = Cert.Kernel7Ideal.main (F := F) := by
  unfold Cert.Kernel7.main Cert.Kernel7Ideal.main
  rw [part0_printed, part1_printed, part2_printed, part3_printed]

set_option maxHeartbeats 4000000 in
theorem loops_printed : Cert.Kernel7.loops (F := F) = Cert.Kernel7Ideal.loops (F := F) := by
  funext l
  match l with
  | 0 =>
    unfold Cert.Kernel7.loops Cert.Kernel7Ideal.loops Cert.Kernel7.main_while0_body Cert.Kernel7Ideal.main_while0_body
    rw [cond_printed, body0_printed, body1_printed, body2_printed]

set_option maxHeartbeats 4000000 in
theorem defs_printed : Cert.Kernel7.defs (F := F) = Cert.Kernel7Ideal.defs (F := F) := by
  unfold Cert.Kernel7.defs Cert.Kernel7Ideal.defs
  rw [loops_printed]
  rfl

/-! The reference. -/

set_option maxHeartbeats 4000000 in
theorem part0_reference : Cert.Reference7Ideal.main_part0 (F := F) = Cert.Kernel7Ideal.main_part0 (F := F) := by exact rfl
set_option maxHeartbeats 4000000 in
theorem part1_reference : Cert.Reference7Ideal.main_part1 (F := F) = Cert.Kernel7Ideal.main_part1 (F := F) := by exact rfl
set_option maxHeartbeats 4000000 in
theorem part2_reference : Cert.Reference7Ideal.main_part2 (F := F) = Cert.Kernel7Ideal.main_part2 (F := F) := by exact rfl
set_option maxHeartbeats 4000000 in
theorem part3_reference : Cert.Reference7Ideal.main_part3 (F := F) = Cert.Kernel7Ideal.main_part3 (F := F) := by exact rfl
set_option maxHeartbeats 4000000 in
theorem cond_reference : Cert.Reference7Ideal.main_while0_cond (F := F) = Cert.Kernel7Ideal.main_while0_cond (F := F) := by exact rfl
set_option maxHeartbeats 4000000 in
theorem body0_reference : Cert.Reference7Ideal.main_while0_body_part0 (F := F) = Cert.Kernel7Ideal.main_while0_body_part0 (F := F) := by exact rfl
set_option maxHeartbeats 4000000 in
theorem body1_reference : Cert.Reference7Ideal.main_while0_body_part1 (F := F) = Cert.Kernel7Ideal.main_while0_body_part1 (F := F) := by exact rfl
set_option maxHeartbeats 4000000 in
theorem body2_reference : Cert.Reference7Ideal.main_while0_body_part2 (F := F) = Cert.Kernel7Ideal.main_while0_body_part2 (F := F) := by exact rfl

set_option maxHeartbeats 4000000 in
theorem main_reference : Cert.Reference7Ideal.main (F := F) = Cert.Kernel7Ideal.main (F := F) := by
  unfold Cert.Reference7Ideal.main Cert.Kernel7Ideal.main
  rw [part0_reference, part1_reference, part2_reference, part3_reference]

set_option maxHeartbeats 4000000 in
theorem loops_reference : Cert.Reference7Ideal.loops (F := F) = Cert.Kernel7Ideal.loops (F := F) := by
  funext l
  match l with
  | 0 =>
    unfold Cert.Reference7Ideal.loops Cert.Kernel7Ideal.loops Cert.Reference7Ideal.main_while0_body Cert.Kernel7Ideal.main_while0_body
    rw [cond_reference, body0_reference, body1_reference, body2_reference]

set_option maxHeartbeats 4000000 in
theorem defs_reference : Cert.Reference7Ideal.defs (F := F) = Cert.Kernel7Ideal.defs (F := F) := by
  unfold Cert.Reference7Ideal.defs Cert.Kernel7Ideal.defs
  rw [loops_reference]
  rfl

end Mlstm
end
-- ==== Proof.MlstmClaims.lean ====
module

public import proofs.«01_k».proof.Defs
public import proofs.«01_k».proof.Proof.Gen.Kernel7Ideal.Run
public import proofs.«01_k».proof.Proof.MlstmText
public import proofs.«01_k».proof.Proof.Loop

/-!
# The claims about the matrix memory

Reference and program have one text, so one run answers for both: each result is the loop's step, iterated on what
the operations before the loop leave. What they leave in the carried buffers depends on the arguments alone.
-/

@[expose] public section

set_option maxRecDepth 4000

noncomputable section

namespace Mlstm

open Idealize.ShloMosaic Idealize.ShloMosaic.TcCoe Idealize.SL Idealize.SL.Sem
open Idealize.ShloMosaic.StableHlo
open Cert.Kernel7Ideal Cert.Kernel7Ideal.Gen Cert.Kernel7Ideal.Value

/-- The printed program ends, its arguments unchanged, every counter at zero: it declares no semaphore. -/
theorem frame_printed : Cert.quiescent_Kernel7 (hKernel7 := Cert.Kernel7.Gen.facts) := by
  intro m ρ _
  rw [main_printed, defs_printed]
  exact (θ_run _ _ _).mono (fun r h => ⟨fun c => (h c).2.2.2.2, sem_eq_zero_of_no_sems (by decide) r.2⟩) (run (F := Bits) m ρ)

/-- So does the program over the extended reals. -/
theorem frame_ideal : Cert.quiescent_Kernel7Ideal (hKernel7Ideal := Cert.Kernel7Ideal.Gen.facts) := fun m ρ _ =>
  (θ_run _ _ _).mono (fun r h => ⟨fun c => (h c).2.2.2.2, sem_eq_zero_of_no_sems (by decide) r.2⟩) (run (F := Ideal) m ρ)

/-- So does the reference. -/
theorem frame_reference : Cert.quiescent_Reference7Ideal (hReference7Ideal := Cert.Reference7Ideal.Gen.facts) := by
  intro m ρ _
  rw [main_reference, defs_reference]
  exact (θ_run _ _ _).mono (fun r h => ⟨fun c => (h c).2.2.2.2, sem_eq_zero_of_no_sems (by decide) r.2⟩) (run (F := Ideal) m ρ)

variable {F : FTy → Type} [FloatOps F]

set_option maxHeartbeats 2000000 in
/-- Memories that agree on the arguments agree, at the loop's entry, on what it carries. -/
theorem entry_agree (m m' : (ℓ : Loc nD τ sig) → Buf (Elt F) ℓ) (c : Dev nD)
    (h : ∀ b ∈ [main_arg0, main_arg1, main_arg3, main_arg4, main_arg5, main_arg6, main_arg7, main_arg8, main_arg9, main_arg10, main_arg11],
      launchContents m' c (Proc.devRef .tc b) = launchContents m c (Proc.devRef .tc b)) :
    Agree (entryContents preI m' c) (entryContents preI m c) := by
  have h0 := h main_arg0 (by decide)
  have h1 := h main_arg1 (by decide)
  have h3 := h main_arg3 (by decide)
  have h4 := h main_arg4 (by decide)
  have h5 := h main_arg5 (by decide)
  have h6 := h main_arg6 (by decide)
  have h7 := h main_arg7 (by decide)
  have h8 := h main_arg8 (by decide)
  have h9 := h main_arg9 (by decide)
  have h10 := h main_arg10 (by decide)
  have h11 := h main_arg11 (by decide)
  intro j hj
  simp only [carriedRefs, List.mem_cons, List.not_mem_nil, or_false] at hj
  simp only [entryContents, afterL_cons, afterL_nil]
  rcases hj with rfl | rfl | rfl | rfl | rfl | rfl | rfl | rfl | rfl | rfl | rfl <;> after_reads_simp [unaryIndexed_result', binaryIndexed_result', Loop.join_eq] <;> simp only [h0, h1, h3, h4, h5, h6, h7, h8, h9, h10, h11]

/-- From memories that agree on the arguments the program and its reference end with equal results. -/
theorem equal : Cert.algebraic_Kernel7Ideal_Reference7Ideal (hKernel7Ideal := Cert.Kernel7Ideal.Gen.facts) (hReference7Ideal := Cert.Reference7Ideal.Gen.facts) := by
  intro m ρ m' ρ' _ hag
  refine ⟨fun c => out_main_v152 (STEP^[4] (entryContents preI m c)), fun c => out_main_v153 (STEP^[4] (entryContents preI m c)),
    fun c => out_main_v154 (STEP^[4] (entryContents preI m c)), fun c => out_main_v155 (STEP^[4] (entryContents preI m c)), run (F := Ideal) m ρ, ?_⟩
  rw [main_reference, defs_reference]
  refine (θ_run _ _ _).mono (fun r h c => ?_) (run (F := Ideal) m' ρ')
  obtain ⟨g0, g1, g2, g3, g4, g5, g6, g7, g8, g9, g10, g11, g12⟩ := hag c
  have e : Agree (STEP^[4] (entryContents preI m' c)) (STEP^[4] (entryContents preI m c)) :=
    Loop.iterate_keeps STEP_congr (entry_agree m m' c (by
      simp only [List.forall_mem_cons, List.not_mem_nil, false_imp_iff, implies_true, and_true]
      exact ⟨g0, g1, g3, g4, g5, g6, g7, g8, g9, g10, g11⟩)) 4
  obtain ⟨h0, h1, h2, h3, kept⟩ := h c
  refine ⟨h0.trans (out_main_v152_congr e ?_ ?_), h1.trans (out_main_v153_congr e), h2.trans (out_main_v154_congr e), h3.trans (out_main_v155_congr e), kept⟩
  · rw [iter_main_arg12, iter_main_arg12]; exact g12
  · rw [iter_main_arg2, iter_main_arg2]; exact g2

end Mlstm
end
-- ==== Proof.lean ====
module

public import proofs.«01_k».proof.Defs
public import proofs.«01_k».proof.Proof.FfnClaims
public import proofs.«01_k».proof.Proof.MoeClaims
public import proofs.«01_k».proof.Proof.MergeClaims
public import proofs.«01_k».proof.Proof.InClaims
public import proofs.«01_k».proof.Proof.SampleClaims
public import proofs.«01_k».proof.Proof.HgrnClaims
public import proofs.«01_k».proof.Proof.MlstmClaims

@[expose] public section

noncomputable section

namespace Cert.Proof

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Ffn.frame_printed, Ffn.frame_ideal, Ffn.frame_reference, Moe.frame_printed, Moe.frame_ideal, Moe.frame_reference,
    Merge.frame_printed, Merge.frame_ideal, Merge.frame_reference, InProj.frame_printed, InProj.frame_ideal, InProj.frame_reference,
    Sample.frame_printed, Sample.frame_ideal, Sample.frame_reference, Hgrn.frame_printed, Hgrn.frame_ideal, Hgrn.frame_reference,
    Mlstm.frame_printed, Mlstm.frame_ideal, Mlstm.frame_reference,
    trivial, Ffn.equal, trivial, Moe.equal, trivial, Merge.equal, trivial, InProj.equal, trivial, Sample.equal,
    trivial, Hgrn.equal, trivial, Mlstm.equal⟩

end Cert.Proof

end
